-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_logits [hPre_finite_logits : Cert.Pre_finite_logits.Facts] (m : (ℓ : Loc Cert.AttnIdeal.nD Cert.AttnIdeal.τ Cert.AttnIdeal.sig) → Buf (Elt Ideal) ℓ) : Prop :=
  ∀ c : Dev Cert.AttnIdeal.nD,
    (Cert.Pre_finite_logits.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_logits [hPre_finite_logits : Cert.Pre_finite_logits.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_logits.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7)) (m ((c.tc : Thread Cert.AttnRefIdeal.nD Cert.AttnRefIdeal.τ).loc Cert.AttnRefIdeal.main_arg8))) = (fun _ => 1#1)

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_MemProj (m : (ℓ : Loc Cert.MemProj.nD Cert.MemProj.τ Cert.MemProj.sig) → Buf (Elt Bits) ℓ) : Prop :=
  True

def Pre_MemProjIdeal (m : (ℓ : Loc Cert.MemProjIdeal.nD Cert.MemProjIdeal.τ Cert.MemProjIdeal.sig) → Buf (Elt Ideal) ℓ) : Prop :=
  True

def Pre_MemProjRefIdeal (m : (ℓ : Loc Cert.MemProjRefIdeal.nD Cert.MemProjRefIdeal.τ Cert.MemProjRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6)
      ∧ r.2.mem ((c.tc : Thread Cert.Attn.nD Cert.Attn.τ).loc Cert.Attn.main_arg7) = m ((c.tc : Thread Cert.Attn.nD Cert.Attn.τ).loc Cert.Attn.main_arg7)
      ∧ r.2.mem ((c.tc : Thread Cert.Attn.nD Cert.Attn.τ).loc Cert.Attn.main_arg8) = m ((c.tc : Thread Cert.Attn.nD Cert.Attn.τ).loc Cert.Attn.main_arg8))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
      ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8))
      ∧ r.2.sem = fun _ => 0)

def quiescent_AttnIdeal_pre_finite_logits [hAttnIdeal : Cert.AttnIdeal.Facts] [hPre_finite_logits : Cert.Pre_finite_logits.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_logits m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
      ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7)
      ∧ r.2.mem ((c.tc : Thread Cert.AttnRefIdeal.nD Cert.AttnRefIdeal.τ).loc Cert.AttnRefIdeal.main_arg8) = m ((c.tc : Thread Cert.AttnRefIdeal.nD Cert.AttnRefIdeal.τ).loc Cert.AttnRefIdeal.main_arg8))
      ∧ r.2.sem = fun _ => 0)

def quiescent_AttnRefIdeal_pre_finite_logits [hAttnRefIdeal : Cert.AttnRefIdeal.Facts] [hPre_finite_logits : Cert.Pre_finite_logits.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_logits m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7)
      ∧ r.2.mem ((c.tc : Thread Cert.AttnRefIdeal.nD Cert.AttnRefIdeal.τ).loc Cert.AttnRefIdeal.main_arg8) = m ((c.tc : Thread Cert.AttnRefIdeal.nD Cert.AttnRefIdeal.τ).loc Cert.AttnRefIdeal.main_arg8))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3))
      ∧ r.2.sem = fun _ => 0)

def quiescent_MemProj [hMemProj : Cert.MemProj.Facts] : Prop :=
  ∀ (m : (ℓ : Loc Cert.MemProj.nD Cert.MemProj.τ Cert.MemProj.sig) → Buf (Elt Bits) ℓ) (g : Dev Cert.MemProj.nD → PrngReg), Pre_MemProj m →
    θ_run (Cert.MemProj.defs (F := Bits)) (onTc (τ := Cert.MemProj.τ) (Cert.MemProj.main (F := Bits))) ⟨m, fun _ => 0, g⟩ (fun r => (∀ c : Dev Cert.MemProj.nD,
      r.2.mem ((c.tc : Thread Cert.MemProj.nD Cert.MemProj.τ).loc Cert.MemProj.main_arg0) = m ((c.tc : Thread Cert.MemProj.nD Cert.MemProj.τ).loc Cert.MemProj.main_arg0)
      ∧ r.2.mem ((c.tc : Thread Cert.MemProj.nD Cert.MemProj.τ).loc Cert.MemProj.main_arg1) = m ((c.tc : Thread Cert.MemProj.nD Cert.MemProj.τ).loc Cert.MemProj.main_arg1)
      ∧ r.2.mem ((c.tc : Thread Cert.MemProj.nD Cert.MemProj.τ).loc Cert.MemProj.main_arg2) = m ((c.tc : Thread Cert.MemProj.nD Cert.MemProj.τ).loc Cert.MemProj.main_arg2)
      ∧ r.2.mem ((c.tc : Thread Cert.MemProj.nD Cert.MemProj.τ).loc Cert.MemProj.main_arg3) = m ((c.tc : Thread Cert.MemProj.nD Cert.MemProj.τ).loc Cert.MemProj.main_arg3))
      ∧ r.2.sem = fun _ => 0)

def quiescent_MemProjIdeal [hMemProjIdeal : Cert.MemProjIdeal.Facts] : Prop :=
  ∀ (m : (ℓ : Loc Cert.MemProjIdeal.nD Cert.MemProjIdeal.τ Cert.MemProjIdeal.sig) → Buf (Elt Ideal) ℓ) (g : Dev Cert.MemProjIdeal.nD → PrngReg), Pre_MemProjIdeal m →
    θ_run (Cert.MemProjIdeal.defs (F := Ideal)) (onTc (τ := Cert.MemProjIdeal.τ) (Cert.MemProjIdeal.main (F := Ideal))) ⟨m, fun _ => 0, g⟩ (fun r => (∀ c : Dev Cert.MemProjIdeal.nD,
      r.2.mem ((c.tc : Thread Cert.MemProjIdeal.nD Cert.MemProjIdeal.τ).loc Cert.MemProjIdeal.main_arg0) = m ((c.tc : Thread Cert.MemProjIdeal.nD Cert.MemProjIdeal.τ).loc Cert.MemProjIdeal.main_arg0)
      ∧ r.2.mem ((c.tc : Thread Cert.MemProjIdeal.nD Cert.MemProjIdeal.τ).loc Cert.MemProjIdeal.main_arg1) = m ((c.tc : Thread Cert.MemProjIdeal.nD Cert.MemProjIdeal.τ).loc Cert.MemProjIdeal.main_arg1)
      ∧ r.2.mem ((c.tc : Thread Cert.MemProjIdeal.nD Cert.MemProjIdeal.τ).loc Cert.MemProjIdeal.main_arg2) = m ((c.tc : Thread Cert.MemProjIdeal.nD Cert.MemProjIdeal.τ).loc Cert.MemProjIdeal.main_arg2)
      ∧ r.2.mem ((c.tc : Thread Cert.MemProjIdeal.nD Cert.MemProjIdeal.τ).loc Cert.MemProjIdeal.main_arg3) = m ((c.tc : Thread Cert.MemProjIdeal.nD Cert.MemProjIdeal.τ).loc Cert.MemProjIdeal.main_arg3))
      ∧ r.2.sem = fun _ => 0)

def quiescent_MemProjRefIdeal [hMemProjRefIdeal : Cert.MemProjRefIdeal.Facts] : Prop :=
  ∀ (m : (ℓ : Loc Cert.MemProjRefIdeal.nD Cert.MemProjRefIdeal.τ Cert.MemProjRefIdeal.sig) → Buf (Elt Ideal) ℓ) (g : Dev Cert.MemProjRefIdeal.nD → PrngReg), Pre_MemProjRefIdeal m →
    θ_run (Cert.MemProjRefIdeal.defs (F := Ideal)) (onTc (τ := Cert.MemProjRefIdeal.τ) (Cert.MemProjRefIdeal.main (F := Ideal))) ⟨m, fun _ => 0, g⟩ (fun r => (∀ c : Dev Cert.MemProjRefIdeal.nD,
      r.2.mem ((c.tc : Thread Cert.MemProjRefIdeal.nD Cert.MemProjRefIdeal.τ).loc Cert.MemProjRefIdeal.main_arg0) = m ((c.tc : Thread Cert.MemProjRefIdeal.nD Cert.MemProjRefIdeal.τ).loc Cert.MemProjRefIdeal.main_arg0)
      ∧ r.2.mem ((c.tc : Thread Cert.MemProjRefIdeal.nD Cert.MemProjRefIdeal.τ).loc Cert.MemProjRefIdeal.main_arg1) = m ((c.tc : Thread Cert.MemProjRefIdeal.nD Cert.MemProjRefIdeal.τ).loc Cert.MemProjRefIdeal.main_arg1)
      ∧ r.2.mem ((c.tc : Thread Cert.MemProjRefIdeal.nD Cert.MemProjRefIdeal.τ).loc Cert.MemProjRefIdeal.main_arg2) = m ((c.tc : Thread Cert.MemProjRefIdeal.nD Cert.MemProjRefIdeal.τ).loc Cert.MemProjRefIdeal.main_arg2)
      ∧ r.2.mem ((c.tc : Thread Cert.MemProjRefIdeal.nD Cert.MemProjRefIdeal.τ).loc Cert.MemProjRefIdeal.main_arg3) = m ((c.tc : Thread Cert.MemProjRefIdeal.nD Cert.MemProjRefIdeal.τ).loc Cert.MemProjRefIdeal.main_arg3))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5)
      ∧ r.2.mem ((c.tc : Thread Cert.InProj.nD Cert.InProj.τ).loc Cert.InProj.main_arg6) = m ((c.tc : Thread Cert.InProj.nD Cert.InProj.τ).loc Cert.InProj.main_arg6)
      ∧ r.2.mem ((c.tc : Thread Cert.InProj.nD Cert.InProj.τ).loc Cert.InProj.main_arg7) = m ((c.tc : Thread Cert.InProj.nD Cert.InProj.τ).loc Cert.InProj.main_arg7)
      ∧ r.2.mem ((c.tc : Thread Cert.InProj.nD Cert.InProj.τ).loc Cert.InProj.main_arg8) = m ((c.tc : Thread Cert.InProj.nD Cert.InProj.τ).loc Cert.InProj.main_arg8)
      ∧ r.2.mem ((c.tc : Thread Cert.InProj.nD Cert.InProj.τ).loc Cert.InProj.main_arg9) = m ((c.tc : Thread Cert.InProj.nD Cert.InProj.τ).loc Cert.InProj.main_arg9)
      ∧ r.2.mem ((c.tc : Thread Cert.InProj.nD Cert.InProj.τ).loc Cert.InProj.main_arg10) = m ((c.tc : Thread Cert.InProj.nD Cert.InProj.τ).loc Cert.InProj.main_arg10))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
      ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7)
      ∧ r.2.mem ((c.tc : Thread Cert.InProjIdeal.nD Cert.InProjIdeal.τ).loc Cert.InProjIdeal.main_arg8) = m ((c.tc : Thread Cert.InProjIdeal.nD Cert.InProjIdeal.τ).loc Cert.InProjIdeal.main_arg8)
      ∧ r.2.mem ((c.tc : Thread Cert.InProjIdeal.nD Cert.InProjIdeal.τ).loc Cert.InProjIdeal.main_arg9) = m ((c.tc : Thread Cert.InProjIdeal.nD Cert.InProjIdeal.τ).loc Cert.InProjIdeal.main_arg9)
      ∧ r.2.mem ((c.tc : Thread Cert.InProjIdeal.nD Cert.InProjIdeal.τ).loc Cert.InProjIdeal.main_arg10) = m ((c.tc : Thread Cert.InProjIdeal.nD Cert.InProjIdeal.τ).loc Cert.InProjIdeal.main_arg10))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5)
      ∧ r.2.mem ((c.tc : Thread Cert.InProjRefIdeal.nD Cert.InProjRefIdeal.τ).loc Cert.InProjRefIdeal.main_arg6) = m ((c.tc : Thread Cert.InProjRefIdeal.nD Cert.InProjRefIdeal.τ).loc Cert.InProjRefIdeal.main_arg6)
      ∧ r.2.mem ((c.tc : Thread Cert.InProjRefIdeal.nD Cert.InProjRefIdeal.τ).loc Cert.InProjRefIdeal.main_arg7) = m ((c.tc : Thread Cert.InProjRefIdeal.nD Cert.InProjRefIdeal.τ).loc Cert.InProjRefIdeal.main_arg7)
      ∧ r.2.mem ((c.tc : Thread Cert.InProjRefIdeal.nD Cert.InProjRefIdeal.τ).loc Cert.InProjRefIdeal.main_arg8) = m ((c.tc : Thread Cert.InProjRefIdeal.nD Cert.InProjRefIdeal.τ).loc Cert.InProjRefIdeal.main_arg8)
      ∧ r.2.mem ((c.tc : Thread Cert.InProjRefIdeal.nD Cert.InProjRefIdeal.τ).loc Cert.InProjRefIdeal.main_arg9) = m ((c.tc : Thread Cert.InProjRefIdeal.nD Cert.InProjRefIdeal.τ).loc Cert.InProjRefIdeal.main_arg9)
      ∧ r.2.mem ((c.tc : Thread Cert.InProjRefIdeal.nD Cert.InProjRefIdeal.τ).loc Cert.InProjRefIdeal.main_arg10) = m ((c.tc : Thread Cert.InProjRefIdeal.nD Cert.InProjRefIdeal.τ).loc Cert.InProjRefIdeal.main_arg10))
      ∧ r.2.sem = fun _ => 0)

def preserves_Attn_AttnIdeal : Prop :=
  True

def algebraic_AttnIdeal_AttnRefIdeal_pre_finite_logits [hAttnIdeal : Cert.AttnIdeal.Facts] [hAttnRefIdeal : Cert.AttnRefIdeal.Facts] [hPre_finite_logits : Cert.Pre_finite_logits.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_logits m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)
      ∧ m' ((c.tc : Thread Cert.AttnRefIdeal.nD Cert.AttnRefIdeal.τ).loc Cert.AttnRefIdeal.main_arg6) = m ((c.tc : Thread Cert.AttnIdeal.nD Cert.AttnIdeal.τ).loc Cert.AttnIdeal.main_arg6)
      ∧ m' ((c.tc : Thread Cert.AttnRefIdeal.nD Cert.AttnRefIdeal.τ).loc Cert.AttnRefIdeal.main_arg7) = m ((c.tc : Thread Cert.AttnIdeal.nD Cert.AttnIdeal.τ).loc Cert.AttnIdeal.main_arg7)
      ∧ m' ((c.tc : Thread Cert.AttnRefIdeal.nD Cert.AttnRefIdeal.τ).loc Cert.AttnRefIdeal.main_arg8) = m ((c.tc : Thread Cert.AttnIdeal.nD Cert.AttnIdeal.τ).loc Cert.AttnIdeal.main_arg8)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
          ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
          ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v63) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5)
          ∧ r.2.mem ((c.tc : Thread Cert.AttnRefIdeal.nD Cert.AttnRefIdeal.τ).loc Cert.AttnRefIdeal.main_arg6) = m' ((c.tc : Thread Cert.AttnRefIdeal.nD Cert.AttnRefIdeal.τ).loc Cert.AttnRefIdeal.main_arg6)
          ∧ r.2.mem ((c.tc : Thread Cert.AttnRefIdeal.nD Cert.AttnRefIdeal.τ).loc Cert.AttnRefIdeal.main_arg7) = m' ((c.tc : Thread Cert.AttnRefIdeal.nD Cert.AttnRefIdeal.τ).loc Cert.AttnRefIdeal.main_arg7)
          ∧ r.2.mem ((c.tc : Thread Cert.AttnRefIdeal.nD Cert.AttnRefIdeal.τ).loc Cert.AttnRefIdeal.main_arg8) = m' ((c.tc : Thread Cert.AttnRefIdeal.nD Cert.AttnRefIdeal.τ).loc Cert.AttnRefIdeal.main_arg8))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v5) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3))

def preserves_MemProj_MemProjIdeal : Prop :=
  True

def algebraic_MemProjIdeal_MemProjRefIdeal [hMemProjIdeal : Cert.MemProjIdeal.Facts] [hMemProjRefIdeal : Cert.MemProjRefIdeal.Facts] : Prop :=
  ∀ (m : (ℓ : Loc Cert.MemProjIdeal.nD Cert.MemProjIdeal.τ Cert.MemProjIdeal.sig) → Buf (Elt Ideal) ℓ) (g : Dev Cert.MemProjIdeal.nD → PrngReg)
    (m' : (ℓ : Loc Cert.MemProjRefIdeal.nD Cert.MemProjRefIdeal.τ Cert.MemProjRefIdeal.sig) → Buf (Elt Ideal) ℓ) (g' : Dev Cert.MemProjRefIdeal.nD → PrngReg), Pre_MemProjIdeal m →
    (∀ c : Dev Cert.MemProjIdeal.nD,
      m' ((c.tc : Thread Cert.MemProjRefIdeal.nD Cert.MemProjRefIdeal.τ).loc Cert.MemProjRefIdeal.main_arg0) = m ((c.tc : Thread Cert.MemProjIdeal.nD Cert.MemProjIdeal.τ).loc Cert.MemProjIdeal.main_arg0)
      ∧ m' ((c.tc : Thread Cert.MemProjRefIdeal.nD Cert.MemProjRefIdeal.τ).loc Cert.MemProjRefIdeal.main_arg1) = m ((c.tc : Thread Cert.MemProjIdeal.nD Cert.MemProjIdeal.τ).loc Cert.MemProjIdeal.main_arg1)
      ∧ m' ((c.tc : Thread Cert.MemProjRefIdeal.nD Cert.MemProjRefIdeal.τ).loc Cert.MemProjRefIdeal.main_arg2) = m ((c.tc : Thread Cert.MemProjIdeal.nD Cert.MemProjIdeal.τ).loc Cert.MemProjIdeal.main_arg2)
      ∧ m' ((c.tc : Thread Cert.MemProjRefIdeal.nD Cert.MemProjRefIdeal.τ).loc Cert.MemProjRefIdeal.main_arg3) = m ((c.tc : Thread Cert.MemProjIdeal.nD Cert.MemProjIdeal.τ).loc Cert.MemProjIdeal.main_arg3)) →
    ∃ (v0 : (c : Dev Cert.MemProjIdeal.nD) → Buf (Elt Ideal) ((c.tc : Thread Cert.MemProjIdeal.nD Cert.MemProjIdeal.τ).loc Cert.MemProjIdeal.main_v10_0)) (v1 : (c : Dev Cert.MemProjIdeal.nD) → Buf (Elt Ideal) ((c.tc : Thread Cert.MemProjIdeal.nD Cert.MemProjIdeal.τ).loc Cert.MemProjIdeal.main_v10_1)),
      θ_run (Cert.MemProjIdeal.defs (F := Ideal)) (onTc (τ := Cert.MemProjIdeal.τ) (Cert.MemProjIdeal.main (F := Ideal))) ⟨m, fun _ => 0, g⟩ (fun r => ∀ c : Dev Cert.MemProjIdeal.nD,
          r.2.mem ((c.tc : Thread Cert.MemProjIdeal.nD Cert.MemProjIdeal.τ).loc Cert.MemProjIdeal.main_v10_0) = v0 c
          ∧ r.2.mem ((c.tc : Thread Cert.MemProjIdeal.nD Cert.MemProjIdeal.τ).loc Cert.MemProjIdeal.main_v10_1) = v1 c
          ∧ r.2.mem ((c.tc : Thread Cert.MemProjIdeal.nD Cert.MemProjIdeal.τ).loc Cert.MemProjIdeal.main_arg0) = m ((c.tc : Thread Cert.MemProjIdeal.nD Cert.MemProjIdeal.τ).loc Cert.MemProjIdeal.main_arg0)
          ∧ r.2.mem ((c.tc : Thread Cert.MemProjIdeal.nD Cert.MemProjIdeal.τ).loc Cert.MemProjIdeal.main_arg1) = m ((c.tc : Thread Cert.MemProjIdeal.nD Cert.MemProjIdeal.τ).loc Cert.MemProjIdeal.main_arg1)
          ∧ r.2.mem ((c.tc : Thread Cert.MemProjIdeal.nD Cert.MemProjIdeal.τ).loc Cert.MemProjIdeal.main_arg2) = m ((c.tc : Thread Cert.MemProjIdeal.nD Cert.MemProjIdeal.τ).loc Cert.MemProjIdeal.main_arg2)
          ∧ r.2.mem ((c.tc : Thread Cert.MemProjIdeal.nD Cert.MemProjIdeal.τ).loc Cert.MemProjIdeal.main_arg3) = m ((c.tc : Thread Cert.MemProjIdeal.nD Cert.MemProjIdeal.τ).loc Cert.MemProjIdeal.main_arg3))
      ∧ θ_run (Cert.MemProjRefIdeal.defs (F := Ideal)) (onTc (τ := Cert.MemProjRefIdeal.τ) (Cert.MemProjRefIdeal.main (F := Ideal))) ⟨m', fun _ => 0, g'⟩ (fun r => ∀ c : Dev Cert.MemProjRefIdeal.nD,
          r.2.mem ((c.tc : Thread Cert.MemProjRefIdeal.nD Cert.MemProjRefIdeal.τ).loc Cert.MemProjRefIdeal.main_v31) = v0 c
          ∧ r.2.mem ((c.tc : Thread Cert.MemProjRefIdeal.nD Cert.MemProjRefIdeal.τ).loc Cert.MemProjRefIdeal.main_v33) = v1 c
          ∧ r.2.mem ((c.tc : Thread Cert.MemProjRefIdeal.nD Cert.MemProjRefIdeal.τ).loc Cert.MemProjRefIdeal.main_arg0) = m' ((c.tc : Thread Cert.MemProjRefIdeal.nD Cert.MemProjRefIdeal.τ).loc Cert.MemProjRefIdeal.main_arg0)
          ∧ r.2.mem ((c.tc : Thread Cert.MemProjRefIdeal.nD Cert.MemProjRefIdeal.τ).loc Cert.MemProjRefIdeal.main_arg1) = m' ((c.tc : Thread Cert.MemProjRefIdeal.nD Cert.MemProjRefIdeal.τ).loc Cert.MemProjRefIdeal.main_arg1)
          ∧ r.2.mem ((c.tc : Thread Cert.MemProjRefIdeal.nD Cert.MemProjRefIdeal.τ).loc Cert.MemProjRefIdeal.main_arg2) = m' ((c.tc : Thread Cert.MemProjRefIdeal.nD Cert.MemProjRefIdeal.τ).loc Cert.MemProjRefIdeal.main_arg2)
          ∧ r.2.mem ((c.tc : Thread Cert.MemProjRefIdeal.nD Cert.MemProjRefIdeal.τ).loc Cert.MemProjRefIdeal.main_arg3) = m' ((c.tc : Thread Cert.MemProjRefIdeal.nD Cert.MemProjRefIdeal.τ).loc Cert.MemProjRefIdeal.main_arg3))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)
      ∧ m' ((c.tc : Thread Cert.InProjRefIdeal.nD Cert.InProjRefIdeal.τ).loc Cert.InProjRefIdeal.main_arg5) = m ((c.tc : Thread Cert.InProjIdeal.nD Cert.InProjIdeal.τ).loc Cert.InProjIdeal.main_arg5)
      ∧ m' ((c.tc : Thread Cert.InProjRefIdeal.nD Cert.InProjRefIdeal.τ).loc Cert.InProjRefIdeal.main_arg6) = m ((c.tc : Thread Cert.InProjIdeal.nD Cert.InProjIdeal.τ).loc Cert.InProjIdeal.main_arg6)
      ∧ m' ((c.tc : Thread Cert.InProjRefIdeal.nD Cert.InProjRefIdeal.τ).loc Cert.InProjRefIdeal.main_arg7) = m ((c.tc : Thread Cert.InProjIdeal.nD Cert.InProjIdeal.τ).loc Cert.InProjIdeal.main_arg7)
      ∧ m' ((c.tc : Thread Cert.InProjRefIdeal.nD Cert.InProjRefIdeal.τ).loc Cert.InProjRefIdeal.main_arg8) = m ((c.tc : Thread Cert.InProjIdeal.nD Cert.InProjIdeal.τ).loc Cert.InProjIdeal.main_arg8)
      ∧ m' ((c.tc : Thread Cert.InProjRefIdeal.nD Cert.InProjRefIdeal.τ).loc Cert.InProjRefIdeal.main_arg9) = m ((c.tc : Thread Cert.InProjIdeal.nD Cert.InProjIdeal.τ).loc Cert.InProjIdeal.main_arg9)
      ∧ m' ((c.tc : Thread Cert.InProjRefIdeal.nD Cert.InProjRefIdeal.τ).loc Cert.InProjRefIdeal.main_arg10) = m ((c.tc : Thread Cert.InProjIdeal.nD Cert.InProjIdeal.τ).loc Cert.InProjIdeal.main_arg10)) →
    ∃ (v0 : (c : Dev Cert.InProjIdeal.nD) → Buf (Elt Ideal) ((c.tc : Thread Cert.InProjIdeal.nD Cert.InProjIdeal.τ).loc Cert.InProjIdeal.main_v37_1)) (v1 : (c : Dev Cert.InProjIdeal.nD) → Buf (Elt Ideal) ((c.tc : Thread Cert.InProjIdeal.nD Cert.InProjIdeal.τ).loc Cert.InProjIdeal.main_v37_2)) (v2 : (c : Dev Cert.InProjIdeal.nD) → Buf (Elt Ideal) ((c.tc : Thread Cert.InProjIdeal.nD Cert.InProjIdeal.τ).loc Cert.InProjIdeal.main_v37_3)) (v3 : (c : Dev Cert.InProjIdeal.nD) → Buf (Elt Ideal) ((c.tc : Thread Cert.InProjIdeal.nD Cert.InProjIdeal.τ).loc Cert.InProjIdeal.main_v37_4)) (v4 : (c : Dev Cert.InProjIdeal.nD) → Buf (Elt Ideal) ((c.tc : Thread Cert.InProjIdeal.nD Cert.InProjIdeal.τ).loc Cert.InProjIdeal.main_v37_5)) (v5 : (c : Dev Cert.InProjIdeal.nD) → Buf (Elt Ideal) ((c.tc : Thread Cert.InProjIdeal.nD Cert.InProjIdeal.τ).loc Cert.InProjIdeal.main_v37_6)) (v6 : (c : Dev Cert.InProjIdeal.nD) → Buf (Elt Ideal) ((c.tc : Thread Cert.InProjIdeal.nD Cert.InProjIdeal.τ).loc Cert.InProjIdeal.main_v37_7)) (v7 : (c : Dev Cert.InProjIdeal.nD) → Buf (Elt Ideal) ((c.tc : Thread Cert.InProjIdeal.nD Cert.InProjIdeal.τ).loc Cert.InProjIdeal.main_v37_8)) (v8 : (c : Dev Cert.InProjIdeal.nD) → Buf (Elt Ideal) ((c.tc : Thread Cert.InProjIdeal.nD Cert.InProjIdeal.τ).loc Cert.InProjIdeal.main_v37_9)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v37_1) = v0 c
          ∧ r.2.mem ((c.tc : Thread Cert.InProjIdeal.nD Cert.InProjIdeal.τ).loc Cert.InProjIdeal.main_v37_2) = v1 c
          ∧ r.2.mem ((c.tc : Thread Cert.InProjIdeal.nD Cert.InProjIdeal.τ).loc Cert.InProjIdeal.main_v37_3) = v2 c
          ∧ r.2.mem ((c.tc : Thread Cert.InProjIdeal.nD Cert.InProjIdeal.τ).loc Cert.InProjIdeal.main_v37_4) = v3 c
          ∧ r.2.mem ((c.tc : Thread Cert.InProjIdeal.nD Cert.InProjIdeal.τ).loc Cert.InProjIdeal.main_v37_5) = v4 c
          ∧ r.2.mem ((c.tc : Thread Cert.InProjIdeal.nD Cert.InProjIdeal.τ).loc Cert.InProjIdeal.main_v37_6) = v5 c
          ∧ r.2.mem ((c.tc : Thread Cert.InProjIdeal.nD Cert.InProjIdeal.τ).loc Cert.InProjIdeal.main_v37_7) = v6 c
          ∧ r.2.mem ((c.tc : Thread Cert.InProjIdeal.nD Cert.InProjIdeal.τ).loc Cert.InProjIdeal.main_v37_8) = v7 c
          ∧ r.2.mem ((c.tc : Thread Cert.InProjIdeal.nD Cert.InProjIdeal.τ).loc Cert.InProjIdeal.main_v37_9) = v8 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
          ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
          ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7)
          ∧ r.2.mem ((c.tc : Thread Cert.InProjIdeal.nD Cert.InProjIdeal.τ).loc Cert.InProjIdeal.main_arg8) = m ((c.tc : Thread Cert.InProjIdeal.nD Cert.InProjIdeal.τ).loc Cert.InProjIdeal.main_arg8)
          ∧ r.2.mem ((c.tc : Thread Cert.InProjIdeal.nD Cert.InProjIdeal.τ).loc Cert.InProjIdeal.main_arg9) = m ((c.tc : Thread Cert.InProjIdeal.nD Cert.InProjIdeal.τ).loc Cert.InProjIdeal.main_arg9)
          ∧ r.2.mem ((c.tc : Thread Cert.InProjIdeal.nD Cert.InProjIdeal.τ).loc Cert.InProjIdeal.main_arg10) = m ((c.tc : Thread Cert.InProjIdeal.nD Cert.InProjIdeal.τ).loc Cert.InProjIdeal.main_arg10))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v190) = v0 c
          ∧ r.2.mem ((c.tc : Thread Cert.InProjRefIdeal.nD Cert.InProjRefIdeal.τ).loc Cert.InProjRefIdeal.main_v51) = v1 c
          ∧ r.2.mem ((c.tc : Thread Cert.InProjRefIdeal.nD Cert.InProjRefIdeal.τ).loc Cert.InProjRefIdeal.main_v53) = v2 c
          ∧ r.2.mem ((c.tc : Thread Cert.InProjRefIdeal.nD Cert.InProjRefIdeal.τ).loc Cert.InProjRefIdeal.main_v191) = v3 c
          ∧ r.2.mem ((c.tc : Thread Cert.InProjRefIdeal.nD Cert.InProjRefIdeal.τ).loc Cert.InProjRefIdeal.main_v192) = v4 c
          ∧ r.2.mem ((c.tc : Thread Cert.InProjRefIdeal.nD Cert.InProjRefIdeal.τ).loc Cert.InProjRefIdeal.main_v193) = v5 c
          ∧ r.2.mem ((c.tc : Thread Cert.InProjRefIdeal.nD Cert.InProjRefIdeal.τ).loc Cert.InProjRefIdeal.main_v194) = v6 c
          ∧ r.2.mem ((c.tc : Thread Cert.InProjRefIdeal.nD Cert.InProjRefIdeal.τ).loc Cert.InProjRefIdeal.main_v195) = v7 c
          ∧ r.2.mem ((c.tc : Thread Cert.InProjRefIdeal.nD Cert.InProjRefIdeal.τ).loc Cert.InProjRefIdeal.main_v196) = v8 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4)
          ∧ r.2.mem ((c.tc : Thread Cert.InProjRefIdeal.nD Cert.InProjRefIdeal.τ).loc Cert.InProjRefIdeal.main_arg5) = m' ((c.tc : Thread Cert.InProjRefIdeal.nD Cert.InProjRefIdeal.τ).loc Cert.InProjRefIdeal.main_arg5)
          ∧ r.2.mem ((c.tc : Thread Cert.InProjRefIdeal.nD Cert.InProjRefIdeal.τ).loc Cert.InProjRefIdeal.main_arg6) = m' ((c.tc : Thread Cert.InProjRefIdeal.nD Cert.InProjRefIdeal.τ).loc Cert.InProjRefIdeal.main_arg6)
          ∧ r.2.mem ((c.tc : Thread Cert.InProjRefIdeal.nD Cert.InProjRefIdeal.τ).loc Cert.InProjRefIdeal.main_arg7) = m' ((c.tc : Thread Cert.InProjRefIdeal.nD Cert.InProjRefIdeal.τ).loc Cert.InProjRefIdeal.main_arg7)
          ∧ r.2.mem ((c.tc : Thread Cert.InProjRefIdeal.nD Cert.InProjRefIdeal.τ).loc Cert.InProjRefIdeal.main_arg8) = m' ((c.tc : Thread Cert.InProjRefIdeal.nD Cert.InProjRefIdeal.τ).loc Cert.InProjRefIdeal.main_arg8)
          ∧ r.2.mem ((c.tc : Thread Cert.InProjRefIdeal.nD Cert.InProjRefIdeal.τ).loc Cert.InProjRefIdeal.main_arg9) = m' ((c.tc : Thread Cert.InProjRefIdeal.nD Cert.InProjRefIdeal.τ).loc Cert.InProjRefIdeal.main_arg9)
          ∧ r.2.mem ((c.tc : Thread Cert.InProjRefIdeal.nD Cert.InProjRefIdeal.τ).loc Cert.InProjRefIdeal.main_arg10) = m' ((c.tc : Thread Cert.InProjRefIdeal.nD Cert.InProjRefIdeal.τ).loc Cert.InProjRefIdeal.main_arg10))

def Claim : Prop :=
  ∃ (hAttn : Cert.Attn.Facts) (hAttnIdeal : Cert.AttnIdeal.Facts) (hAttnRefIdeal : Cert.AttnRefIdeal.Facts) (hOutProj : Cert.OutProj.Facts) (hOutProjIdeal : Cert.OutProjIdeal.Facts) (hOutProjRefIdeal : Cert.OutProjRefIdeal.Facts) (hMemProj : Cert.MemProj.Facts) (hMemProjIdeal : Cert.MemProjIdeal.Facts) (hMemProjRefIdeal : Cert.MemProjRefIdeal.Facts) (hInProj : Cert.InProj.Facts) (hInProjIdeal : Cert.InProjIdeal.Facts) (hInProjRefIdeal : Cert.InProjRefIdeal.Facts) (hPre_finite_logits : Cert.Pre_finite_logits.Facts),
    quiescent_Attn (hAttn := hAttn)
    ∧ quiescent_AttnIdeal (hAttnIdeal := hAttnIdeal)
    ∧ quiescent_AttnIdeal_pre_finite_logits (hAttnIdeal := hAttnIdeal) (hPre_finite_logits := hPre_finite_logits)
    ∧ quiescent_AttnRefIdeal (hAttnRefIdeal := hAttnRefIdeal)
    ∧ quiescent_AttnRefIdeal_pre_finite_logits (hAttnRefIdeal := hAttnRefIdeal) (hPre_finite_logits := hPre_finite_logits)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_MemProj (hMemProj := hMemProj)
    ∧ quiescent_MemProjIdeal (hMemProjIdeal := hMemProjIdeal)
    ∧ quiescent_MemProjRefIdeal (hMemProjRefIdeal := hMemProjRefIdeal)
    ∧ quiescent_InProj (hInProj := hInProj)
    ∧ quiescent_InProjIdeal (hInProjIdeal := hInProjIdeal)
    ∧ quiescent_InProjRefIdeal (hInProjRefIdeal := hInProjRefIdeal)
    ∧ preserves_Attn_AttnIdeal
    ∧ algebraic_AttnIdeal_AttnRefIdeal_pre_finite_logits (hAttnIdeal := hAttnIdeal) (hAttnRefIdeal := hAttnRefIdeal) (hPre_finite_logits := hPre_finite_logits)
    ∧ preserves_OutProj_OutProjIdeal
    ∧ algebraic_OutProjIdeal_OutProjRefIdeal (hOutProjIdeal := hOutProjIdeal) (hOutProjRefIdeal := hOutProjRefIdeal)
    ∧ preserves_MemProj_MemProjIdeal
    ∧ algebraic_MemProjIdeal_MemProjRefIdeal (hMemProjIdeal := hMemProjIdeal) (hMemProjRefIdeal := hMemProjRefIdeal)
    ∧ preserves_InProj_InProjIdeal
    ∧ algebraic_InProjIdeal_InProjRefIdeal (hInProjIdeal := hInProjIdeal) (hInProjRefIdeal := hInProjRefIdeal)
-- ==== Pre_finite_logits.lean ====
abbrev S8 : Shape := ⟨1, ![8]⟩
abbrev S16384x512 : Shape := ⟨2, ![16384, 512]⟩
abbrev S16384x128 : Shape := ⟨2, ![16384, 128]⟩
abbrev S2048x512 : Shape := ⟨2, ![2048, 512]⟩
abbrev S_ : Shape := ⟨0, ![]⟩

class Facts : Prop where
  bcast_S_S8 : S_.BroadcastsInDim S8 (![] : Fin 0 → Fin S8.rank)
  reducesTo_S8_S_d0 : S8.ReducesTo [0] S_
  h_S_ : 0 < S_.numel
  bitsLt_bf16_f32 : FTy.bits .bf16 < FTy.bits .f32
  bcast_S_S16384x512 : S_.BroadcastsInDim S16384x512 (![] : Fin 0 → Fin S16384x512.rank)
  reducesTo_S16384x512_S_d0_1 : S16384x512.ReducesTo [0, 1] S_
  bcast_S_S16384x128 : S_.BroadcastsInDim S16384x128 (![] : Fin 0 → Fin S16384x128.rank)
  reducesTo_S16384x128_S_d0_1 : S16384x128.ReducesTo [0, 1] S_
  bcast_S_S2048x512 : S_.BroadcastsInDim S2048x512 (![] : Fin 0 → Fin S2048x512.rank)
  reducesTo_S2048x512_S_d0_1 : S2048x512.ReducesTo [0, 1] S_

variable [Facts]

def fn_part1 {F : FTy → Type} [FloatOps F] (main_arg6 : FVec F S2048x512 .bf16) (main_v15 : IVec S_ 1) (main_v17 : FVec F S16384x512 .f32) : IVec S_ 1 :=
  let main_cst_4 : FVec F S_ .f32 := constant S_ .f32 0x7F800000#32
  let main_v18 : FVec F S16384x512 .f32 := broadcastInDim S16384x512 ![] bcast_S_S16384x512 main_cst_4
  let main_v19 : IVec S16384x512 1 := cmpf .olt main_v17 main_v18
  let main_c_5 : IVec S_ 1 := constantI S_ 1 1#1
  let main_v20 : IVec S_ 1 := (fun x v => Host.reduce IntOp.andi x v reducesTo_S16384x512_S_d0_1 h_S_) main_v19 main_c_5
  let main_v21 : IVec S_ 1 := andi main_v15 main_v20
  let main_v22 : FVec F S2048x512 .f32 := (extf .f32 · bitsLt_bf16_f32) main_arg6
  let main_v23 : FVec F S2048x512 .f32 := Host.absf main_v22
  let main_cst_6 : FVec F S_ .f32 := constant S_ .f32 0x7F800000#32
  let main_v24 : FVec F S2048x512 .f32 := broadcastInDim S2048x512 ![] bcast_S_S2048x512 main_cst_6
  let main_v25 : IVec S2048x512 1 := cmpf .olt main_v23 main_v24
  let main_c_7 : IVec S_ 1 := constantI S_ 1 1#1
  let main_v26 : IVec S_ 1 := (fun x v => Host.reduce IntOp.andi x v reducesTo_S2048x512_S_d0_1 h_S_) main_v25 main_c_7
  let main_v27 : IVec S_ 1 := andi main_v21 main_v26
  main_v27

def fn {F : FTy → Type} [FloatOps F] (main_arg0 : FVec F S8 .f32) (main_arg1 : FVec F S16384x512 .bf16) (main_arg2 : FVec F S16384x128 .bf16) (main_arg3 : FVec F S16384x128 .bf16) (main_arg4 : FVec F S16384x512 .bf16) (main_arg5 : FVec F S16384x512 .bf16) (main_arg6 : FVec F S2048x512 .bf16) (main_arg7 : FVec F S2048x512 .bf16) (main_arg8 : FVec F S16384x512 .bf16) : IVec S_ 1 :=
  let main_v0 : FVec F S8 .f32 := Host.absf main_arg0
  let main_cst : FVec F S_ .f32 := constant S_ .f32 0x7F800000#32
  let main_v1 : FVec F S8 .f32 := broadcastInDim S8 ![] bcast_S_S8 main_cst
  let main_v2 : IVec S8 1 := cmpf .olt main_v0 main_v1
  let main_c : IVec S_ 1 := constantI S_ 1 1#1
  let main_v3 : IVec S_ 1 := (fun x v => Host.reduce IntOp.andi x v reducesTo_S8_S_d0 h_S_) main_v2 main_c
  let main_v4 : FVec F S16384x512 .f32 := (extf .f32 · bitsLt_bf16_f32) main_arg1
  let main_v5 : FVec F S16384x512 .f32 := Host.absf main_v4
  let main_cst_0 : FVec F S_ .f32 := constant S_ .f32 0x7F800000#32
  let main_v6 : FVec F S16384x512 .f32 := broadcastInDim S16384x512 ![] bcast_S_S16384x512 main_cst_0
  let main_v7 : IVec S16384x512 1 := cmpf .olt main_v5 main_v6
  let main_c_1 : IVec S_ 1 := constantI S_ 1 1#1
  let main_v8 : IVec S_ 1 := (fun x v => Host.reduce IntOp.andi x v reducesTo_S16384x512_S_d0_1 h_S_) main_v7 main_c_1
  let main_v9 : IVec S_ 1 := andi main_v3 main_v8
  let main_v10 : FVec F S16384x128 .f32 := (extf .f32 · bitsLt_bf16_f32) main_arg2
  let main_v11 : FVec F S16384x128 .f32 := Host.absf main_v10
  let main_cst_2 : FVec F S_ .f32 := constant S_ .f32 0x7F800000#32
  let main_v12 : FVec F S16384x128 .f32 := broadcastInDim S16384x128 ![] bcast_S_S16384x128 main_cst_2
  let main_v13 : IVec S16384x128 1 := cmpf .olt main_v11 main_v12
  let main_c_3 : IVec S_ 1 := constantI S_ 1 1#1
  let main_v14 : IVec S_ 1 := (fun x v => Host.reduce IntOp.andi x v reducesTo_S16384x128_S_d0_1 h_S_) main_v13 main_c_3
  let main_v15 : IVec S_ 1 := andi main_v9 main_v14
  let main_v16 : FVec F S16384x512 .f32 := (extf .f32 · bitsLt_bf16_f32) main_arg5
  let main_v17 : FVec F S16384x512 .f32 := Host.absf main_v16
  fn_part1 (F := F) main_arg6 main_v15 main_v17
-- ==== Attn.lean ====
abbrev S8 : Shape := ⟨1, ![8]⟩
abbrev S16384x512 : Shape := ⟨2, ![16384, 512]⟩
abbrev S16384x128 : Shape := ⟨2, ![16384, 128]⟩
abbrev S2048x512 : Shape := ⟨2, ![2048, 512]⟩
abbrev S16384x1024 : Shape := ⟨2, ![16384, 1024]⟩
abbrev S512x512 : Shape := ⟨2, ![512, 512]⟩
abbrev S2048x128 : Shape := ⟨2, ![2048, 128]⟩
abbrev S256x512 : Shape := ⟨2, ![256, 512]⟩
abbrev S512x1024 : Shape := ⟨2, ![512, 1024]⟩
abbrev S128x128 : Shape := ⟨2, ![128, 128]⟩
abbrev S256x128 : Shape := ⟨2, ![256, 128]⟩
abbrev S256x1 : Shape := ⟨2, ![256, 1]⟩
abbrev S1 : Shape := ⟨1, ![1]⟩
abbrev S256 : Shape := ⟨1, ![256]⟩
abbrev S512x128 : Shape := ⟨2, ![512, 128]⟩
abbrev S512x256 : Shape := ⟨2, ![512, 256]⟩
abbrev S512 : Shape := ⟨1, ![512]⟩
abbrev S512x1 : Shape := ⟨2, ![512, 1]⟩

abbrev nBuf : Space → Nat
  | .hbm => 10
  | .vmem => 18
  | .smem => 1
  | _ => 0

abbrev bufTy : (tb : Table) → Fin (tcTables nBuf tb) → BufTy
  | .hbm, ⟨0, _⟩ => ⟨S8, .f32⟩
  | .hbm, ⟨1, _⟩ => ⟨S16384x512, .bf16⟩
  | .hbm, ⟨2, _⟩ => ⟨S16384x128, .bf16⟩
  | .hbm, ⟨3, _⟩ => ⟨S16384x128, .bf16⟩
  | .hbm, ⟨4, _⟩ => ⟨S16384x512, .bf16⟩
  | .hbm, ⟨5, _⟩ => ⟨S16384x512, .bf16⟩
  | .hbm, ⟨6, _⟩ => ⟨S2048x512, .bf16⟩
  | .hbm, ⟨7, _⟩ => ⟨S2048x512, .bf16⟩
  | .hbm, ⟨8, _⟩ => ⟨S16384x512, .bf16⟩
  | .hbm, ⟨9, _⟩ => ⟨S16384x1024, .bf16⟩
  | .local _ .vmem, ⟨0, _⟩ => ⟨S512x512, .bf16⟩
  | .local _ .vmem, ⟨1, _⟩ => ⟨S512x512, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S512x512, .bf16⟩
  | .local _ .vmem, ⟨15, _⟩ => ⟨S512x512, .bf16⟩
  | .local _ .vmem, ⟨16, _⟩ => ⟨S512x1024, .bf16⟩
  | .local _ .vmem, ⟨17, _⟩ => ⟨S512x1024, .bf16⟩
  | .local _ .smem, ⟨0, _⟩ => ⟨S8, .f32⟩
  | _, _ => ⟨S8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let c15_i32 : BitVec 32 := 15#32
  let c0_i32_6 : BitVec 32 := 0#32
  let arg1 : BitVec 32 := BitVec.ofNat 32 (i 1).val
  let c4_i32 : BitVec 32 := 4#32
  let v24 : BitVec 32 := Scalar.muli arg1 c4_i32
  let c1_i32_4 : BitVec 32 := 1#32
  let v25 : BitVec 32 := Scalar.subi v24 c1_i32_4
  let c0_i32_5 : BitVec 32 := 0#32
  let v26 : BitVec 32 := Scalar.addi v25 c0_i32_5
  let v27 : BitVec 32 := Scalar.maxsi c0_i32_6 v26
  let v28 : BitVec 32 := Scalar.minsi c15_i32 v27
  let c128_i32_7 : BitVec 32 := 128#32
  let v29 : BitVec 32 := Scalar.muli v28 c128_i32_7
  v29
def k0_off1 (i : grid0.Coords) (c0_i32_5 : BitVec 32) : Fin 2 → Nat :=
  let c15_i32 : BitVec 32 := 15#32
  let c0_i32_6 : BitVec 32 := 0#32
  let arg1 : BitVec 32 := BitVec.ofNat 32 (i 1).val
  let c4_i32 : BitVec 32 := 4#32
  let v24 : BitVec 32 := Scalar.muli arg1 c4_i32
  let c1_i32_4 : BitVec 32 := 1#32
  let v25 : BitVec 32 := Scalar.subi v24 c1_i32_4
  let v26 : BitVec 32 := Scalar.addi v25 c0_i32_5
  let v27 : BitVec 32 := Scalar.maxsi c0_i32_6 v26
  let v28 : BitVec 32 := Scalar.minsi c15_i32 v27
  let c128_i32_7 : BitVec 32 := 128#32
  let v29 : BitVec 32 := Scalar.muli v28 c128_i32_7
  let v30 : BitVec 32 := v29
  let v31 : Index := Scalar.indexCast v30
  let c0 : Index := 0#32
  ![v31.toNat, 0]
def k0_mult2 (i : grid0.Coords) : BitVec 32 :=
  let c15_i32_23 : BitVec 32 := 15#32
  let c0_i32_22 : BitVec 32 := 0#32
  let arg1 : BitVec 32 := BitVec.ofNat 32 (i 1).val
  let c4_i32 : BitVec 32 := 4#32
  let v24 : BitVec 32 := Scalar.muli arg1 c4_i32
  let c1_i32_4 : BitVec 32 := 1#32
  let v25 : BitVec 32 := Scalar.subi v24 c1_i32_4
  let c1_i32_21 : BitVec 32 := 1#32
  let v68 : BitVec 32 := Scalar.addi v25 c1_i32_21
  let v69 : BitVec 32 := Scalar.maxsi c0_i32_22 v68
  let v70 : BitVec 32 := Scalar.minsi c15_i32_23 v69
  let c128_i32_24 : BitVec 32 := 128#32
  let v71 : BitVec 32 := Scalar.muli v70 c128_i32_24
  v71
def k0_mult3 (i : grid0.Coords) : BitVec 32 :=
  let c15_i32_42 : BitVec 32 := 15#32
  let c0_i32_41 : BitVec 32 := 0#32
  let arg1 : BitVec 32 := BitVec.ofNat 32 (i 1).val
  let c4_i32 : BitVec 32 := 4#32
  let v24 : BitVec 32 := Scalar.muli arg1 c4_i32
  let c1_i32_4 : BitVec 32 := 1#32
  let v25 : BitVec 32 := Scalar.subi v24 c1_i32_4
  let c2_i32 : BitVec 32 := 2#32
  let v110 : BitVec 32 := Scalar.addi v25 c2_i32
  let v111 : BitVec 32 := Scalar.maxsi c0_i32_41 v110
  let v112 : BitVec 32 := Scalar.minsi c15_i32_42 v111
  let c128_i32_43 : BitVec 32 := 128#32
  let v113 : BitVec 32 := Scalar.muli v112 c128_i32_43
  v113
def k0_mult4 (i : grid0.Coords) : BitVec 32 :=
  let c15_i32_61 : BitVec 32 := 15#32
  let c0_i32_60 : BitVec 32 := 0#32
  let arg1 : BitVec 32 := BitVec.ofNat 32 (i 1).val
  let c4_i32 : BitVec 32 := 4#32
  let v24 : BitVec 32 := Scalar.muli arg1 c4_i32
  let c1_i32_4 : BitVec 32 := 1#32
  let v25 : BitVec 32 := Scalar.subi v24 c1_i32_4
  let c3_i32 : BitVec 32 := 3#32
  let v152 : BitVec 32 := Scalar.addi v25 c3_i32
  let v153 : BitVec 32 := Scalar.maxsi c0_i32_60 v152
  let v154 : BitVec 32 := Scalar.minsi c15_i32_61 v153
  let c128_i32_62 : BitVec 32 := 128#32
  let v155 : BitVec 32 := Scalar.muli v154 c128_i32_62
  v155
def k0_mult5 (i : grid0.Coords) : BitVec 32 :=
  let c15_i32_81 : BitVec 32 := 15#32
  let c0_i32_80 : BitVec 32 := 0#32
  let arg1 : BitVec 32 := BitVec.ofNat 32 (i 1).val
  let c4_i32 : BitVec 32 := 4#32
  let v24 : BitVec 32 := Scalar.muli arg1 c4_i32
  let c1_i32_4 : BitVec 32 := 1#32
  let v25 : BitVec 32 := Scalar.subi v24 c1_i32_4
  let c4_i32_79 : BitVec 32 := 4#32
  let v194 : BitVec 32 := Scalar.addi v25 c4_i32_79
  let v195 : BitVec 32 := Scalar.maxsi c0_i32_80 v194
  let v196 : BitVec 32 := Scalar.minsi c15_i32_81 v195
  let c128_i32_82 : BitVec 32 := 128#32
  let v197 : BitVec 32 := Scalar.muli v196 c128_i32_82
  v197
def k0_mult6 (i : grid0.Coords) : BitVec 32 :=
  let c15_i32_100 : BitVec 32 := 15#32
  let c0_i32_99 : BitVec 32 := 0#32
  let arg1 : BitVec 32 := BitVec.ofNat 32 (i 1).val
  let c4_i32 : BitVec 32 := 4#32
  let v24 : BitVec 32 := Scalar.muli arg1 c4_i32
  let c1_i32_4 : BitVec 32 := 1#32
  let v25 : BitVec 32 := Scalar.subi v24 c1_i32_4
  let c5_i32 : BitVec 32 := 5#32
  let v236 : BitVec 32 := Scalar.addi v25 c5_i32
  let v237 : BitVec 32 := Scalar.maxsi c0_i32_99 v236
  let v238 : BitVec 32 := Scalar.minsi c15_i32_100 v237
  let c128_i32_101 : BitVec 32 := 128#32
  let v239 : BitVec 32 := Scalar.muli v238 c128_i32_101
  v239
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== AttnRefIdeal.lean ====
abbrev S8 : Shape := ⟨1, ![8]⟩
abbrev S16384x512 : Shape := ⟨2, ![16384, 512]⟩
abbrev S16384x128 : Shape := ⟨2, ![16384, 128]⟩
abbrev S2048x512 : Shape := ⟨2, ![2048, 512]⟩
abbrev S8x2048x2x4x64 : Shape := ⟨5, ![8, 2048, 2, 4, 64]⟩
abbrev S8x2048x2x64 : Shape := ⟨4, ![8, 2048, 2, 64]⟩
abbrev S8x2x2048x2048x4 : Shape := ⟨5, ![8, 2, 2048, 2048, 4]⟩
abbrev S8x2x4x2048x2048 : Shape := ⟨5, ![8, 2, 4, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S_ : Shape := ⟨0, ![]⟩
abbrev S1x2x4x1x1 : Shape := ⟨5, ![1, 2, 4, 1, 1]⟩
abbrev S8x2x4x2048 : Shape := ⟨4, ![8, 2, 4, 2048]⟩
abbrev S8x2x4x2048x1 : Shape := ⟨5, ![8, 2, 4, 2048, 1]⟩
abbrev S8x2x64x4x2048 : Shape := ⟨5, ![8, 2, 64, 4, 2048]⟩
abbrev S8x2048x4x128 : Shape := ⟨4, ![8, 2048, 4, 128]⟩
abbrev S8x256x4x128 : Shape := ⟨4, ![8, 256, 4, 128]⟩
abbrev S8x4x2048x256 : Shape := ⟨4, ![8, 4, 2048, 256]⟩
abbrev S8x4x2048 : Shape := ⟨3, ![8, 4, 2048]⟩
abbrev S8x4x2048x1 : Shape := ⟨4, ![8, 4, 2048, 1]⟩
abbrev S8x4x128x2048 : Shape := ⟨4, ![8, 4, 128, 2048]⟩
abbrev S16384x1024 : Shape := ⟨2, ![16384, 1024]⟩

abbrev nBuf : Space → Nat
  | .hbm => 83
  | .vmem => 0
  | .smem => 0
  | _ => 0

abbrev bufTy : (tb : Table) → Fin (tcTables nBuf tb) → BufTy
  | .hbm, ⟨0, _⟩ => ⟨S8, .f32⟩
  | .hbm, ⟨1, _⟩ => ⟨S16384x512, .bf16⟩
  | .hbm, ⟨2, _⟩ => ⟨S16384x128, .bf16⟩
  | .hbm, ⟨3, _⟩ => ⟨S16384x128, .bf16⟩
  | .hbm, ⟨4, _⟩ => ⟨S16384x512, .bf16⟩
  | .hbm, ⟨5, _⟩ => ⟨S16384x512, .bf16⟩
  | .hbm, ⟨6, _⟩ => ⟨S2048x512, .bf16⟩
  | .hbm, ⟨7, _⟩ => ⟨S2048x512, .bf16⟩
  | .hbm, ⟨8, _⟩ => ⟨S16384x512, .bf16⟩
  | .hbm, ⟨9, _⟩ => ⟨S16384x512, .f32⟩
  | .hbm, ⟨10, _⟩ => ⟨S8x2048x2x4x64, .f32⟩
  | .hbm, ⟨11, _⟩ => ⟨S16384x128, .f32⟩
  | .hbm, ⟨12, _⟩ => ⟨S8x2048x2x64, .f32⟩
  | .hbm, ⟨13, _⟩ => ⟨S16384x128, .f32⟩
  | .hbm, ⟨14, _⟩ => ⟨S8x2048x2x64, .f32⟩
  | .hbm, ⟨15, _⟩ => ⟨S8x2x2048x2048x4, .f32⟩
  | .hbm, ⟨16, _⟩ => ⟨S8x2x4x2048x2048, .f32⟩
  | .hbm, ⟨17, _⟩ => ⟨S2048, .i32⟩
  | .hbm, ⟨18, _⟩ => ⟨S1x2048, .i32⟩
  | .hbm, ⟨19, _⟩ => ⟨S2048x1, .i32⟩
  | .hbm, ⟨20, _⟩ => ⟨S2048x2048, .i32⟩
  | .hbm, ⟨21, _⟩ => ⟨S2048x2048, .i32⟩
  | .hbm, ⟨22, _⟩ => ⟨S2048x2048, .i32⟩
  | .hbm, ⟨23, _⟩ => ⟨S2048x2048, .i32⟩
  | .hbm, ⟨24, _⟩ => ⟨S_, .i32⟩
  | .hbm, ⟨25, _⟩ => ⟨S2048x2048, .i32⟩
  | .hbm, ⟨26, _⟩ => ⟨S2048x2048, .i1⟩
  | .hbm, ⟨27, _⟩ => ⟨S_, .f32⟩
  | .hbm, ⟨28, _⟩ => ⟨S_, .f32⟩
  | .hbm, ⟨29, _⟩ => ⟨S8x2x4x2048x2048, .i1⟩
  | .hbm, ⟨30, _⟩ => ⟨S8x2x4x2048x2048, .f32⟩
  | .hbm, ⟨31, _⟩ => ⟨S8x2x4x2048x2048, .f32⟩
  | .hbm, ⟨32, _⟩ => ⟨S1x2x4x1x1, .f32⟩
  | .hbm, ⟨33, _⟩ => ⟨S_, .f32⟩
  | .hbm, ⟨34, _⟩ => ⟨S8x2x4x2048, .f32⟩
  | .hbm, ⟨35, _⟩ => ⟨S8x2x4x2048x1, .f32⟩
  | .hbm, ⟨36, _⟩ => ⟨S8x2x4x2048x1, .f32⟩
  | .hbm, ⟨37, _⟩ => ⟨S8x2x4x2048x1, .f32⟩
  | .hbm, ⟨38, _⟩ => ⟨S8x2x4x2048x2048, .f32⟩
  | .hbm, ⟨39, _⟩ => ⟨S8x2x4x2048x2048, .f32⟩
  | .hbm, ⟨40, _⟩ => ⟨S8x2x4x2048x2048, .f32⟩
  | .hbm, ⟨41, _⟩ => ⟨S_, .f32⟩
  | .hbm, ⟨42, _⟩ => ⟨S8x2x4x2048, .f32⟩
  | .hbm, ⟨43, _⟩ => ⟨S8x2x4x2048x1, .f32⟩
  | .hbm, ⟨44, _⟩ => ⟨S8x2x4x2048x1, .f32⟩
  | .hbm, ⟨45, _⟩ => ⟨S8x2x4x2048x1, .f32⟩
  | .hbm, ⟨46, _⟩ => ⟨S8x2x4x2048x1, .f32⟩
  | .hbm, ⟨47, _⟩ => ⟨S8x2x4x2048x1, .f32⟩
  | .hbm, ⟨48, _⟩ => ⟨S8x2x4x2048x2048, .f32⟩
  | .hbm, ⟨49, _⟩ => ⟨S8x2x4x2048x2048, .f32⟩
  | .hbm, ⟨50, _⟩ => ⟨S8x2x64x4x2048, .f32⟩
  | .hbm, ⟨51, _⟩ => ⟨S8x2048x2x4x64, .f32⟩
  | .hbm, ⟨52, _⟩ => ⟨S16384x512, .f32⟩
  | .hbm, ⟨53, _⟩ => ⟨S16384x512, .f32⟩
  | .hbm, ⟨54, _⟩ => ⟨S16384x512, .f32⟩
  | .hbm, ⟨55, _⟩ => ⟨S16384x512, .f32⟩
  | .hbm, ⟨56, _⟩ => ⟨S8x2048x4x128, .f32⟩
  | .hbm, ⟨57, _⟩ => ⟨S2048x512, .f32⟩
  | .hbm, ⟨58, _⟩ => ⟨S8x256x4x128, .f32⟩
  | .hbm, ⟨59, _⟩ => ⟨S2048x512, .f32⟩
  | .hbm, ⟨60, _⟩ => ⟨S8x256x4x128, .f32⟩
  | .hbm, ⟨61, _⟩ => ⟨S8x4x2048x256, .f32⟩
  | .hbm, ⟨62, _⟩ => ⟨S_, .f32⟩
  | .hbm, ⟨63, _⟩ => ⟨S8x4x2048, .f32⟩
  | .hbm, ⟨64, _⟩ => ⟨S_, .f32⟩
  | .hbm, ⟨65, _⟩ => ⟨S8x4x2048, .f32⟩
  | .hbm, ⟨66, _⟩ => ⟨S8x4x2048, .f32⟩
  | .hbm, ⟨67, _⟩ => ⟨S8x4x2048x1, .f32⟩
  | .hbm, ⟨68, _⟩ => ⟨S8x4x2048x256, .f32⟩
  | .hbm, ⟨69, _⟩ => ⟨S8x4x2048x256, .f32⟩
  | .hbm, ⟨70, _⟩ => ⟨S8x4x2048x256, .f32⟩
  | .hbm, ⟨71, _⟩ => ⟨S_, .f32⟩
  | .hbm, ⟨72, _⟩ => ⟨S8x4x2048, .f32⟩
  | .hbm, ⟨73, _⟩ => ⟨S8x4x2048x1, .f32⟩
  | .hbm, ⟨74, _⟩ => ⟨S8x4x2048x256, .f32⟩
  | .hbm, ⟨75, _⟩ => ⟨S8x4x2048x256, .f32⟩
  | .hbm, ⟨76, _⟩ => ⟨S8x4x128x2048, .f32⟩
  | .hbm, ⟨77, _⟩ => ⟨S8x2048x4x128, .f32⟩
  | .hbm, ⟨78, _⟩ => ⟨S16384x512, .f32⟩
  | .hbm, ⟨79, _⟩ => ⟨S16384x512, .f32⟩
  | .hbm, ⟨80, _⟩ => ⟨S16384x512, .f32⟩
  | .hbm, ⟨81, _⟩ => ⟨S16384x1024, .f32⟩
  | .hbm, ⟨82, _⟩ => ⟨S16384x1024, .bf16⟩
  | _, _ => ⟨S8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v17 : Ref sig .tc := ⟨.hbm, 31, rfl⟩
abbrev main_v18 : Ref sig .tc := ⟨.hbm, 32, rfl⟩
abbrev main_cst_0 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_1 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_2 : Ref sig .tc := ⟨.hbm, 62, rfl⟩
abbrev main_v46 : Ref sig .tc := ⟨.hbm, 63, rfl⟩
abbrev main_cst_3 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_4 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩

abbrev nD : Nat := 1
abbrev τ : Topo := Topo.v7x

variable {F : FTy → Type} [FloatOps F]
-- ==== OutProj.lean ====
abbrev S16384x2048 : Shape := ⟨2, ![16384, 2048]⟩
abbrev S16384x1024 : Shape := ⟨2, ![16384, 1024]⟩
abbrev S2048x2048 : Shape := ⟨2, ![2048, 2048]⟩
abbrev S512x2048 : Shape := ⟨2, ![512, 2048]⟩
abbrev S512x1024 : Shape := ⟨2, ![512, 1024]⟩
abbrev S1024x2048 : Shape := ⟨2, ![1024, 2048]⟩

abbrev nBuf : Space → Nat
  | .hbm => 5
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S16384x1024, .bf16⟩
  | .hbm, ⟨2, _⟩ => ⟨S16384x1024, .bf16⟩
  | .hbm, ⟨3, _⟩ => ⟨S2048x2048, .bf16⟩
  | .hbm, ⟨4, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1024x2048, .bf16⟩
  | .local _ .vmem, ⟨7, _⟩ => ⟨S1024x2048, .bf16⟩
  | .local _ .vmem, ⟨8, _⟩ => ⟨S512x2048, .f32⟩
  | .local _ .vmem, ⟨9, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutProjRefIdeal.lean ====
abbrev S16384x2048 : Shape := ⟨2, ![16384, 2048]⟩
abbrev S16384x1024 : Shape := ⟨2, ![16384, 1024]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x1024, .bf16⟩
  | .hbm, ⟨2, _⟩ => ⟨S16384x1024, .bf16⟩
  | .hbm, ⟨3, _⟩ => ⟨S2048x2048, .bf16⟩
  | .hbm, ⟨4, _⟩ => ⟨S16384x1024, .f32⟩
  | .hbm, ⟨5, _⟩ => ⟨S16384x1024, .f32⟩
  | .hbm, ⟨6, _⟩ => ⟨S16384x2048, .f32⟩
  | .hbm, ⟨7, _⟩ => ⟨S2048x2048, .f32⟩
  | .hbm, ⟨8, _⟩ => ⟨S16384x2048, .f32⟩
  | .hbm, ⟨9, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== MemProj.lean ====
abbrev S2048x2048 : Shape := ⟨2, ![2048, 2048]⟩
abbrev S1x2048 : Shape := ⟨2, ![1, 2048]⟩
abbrev S2048x1024 : Shape := ⟨2, ![2048, 1024]⟩
abbrev S1x512 : Shape := ⟨2, ![1, 512]⟩
abbrev S512 : Shape := ⟨1, ![512]⟩
abbrev S_ : Shape := ⟨0, ![]⟩
abbrev S512x1 : Shape := ⟨2, ![512, 1]⟩
abbrev S512x512 : Shape := ⟨2, ![512, 512]⟩
abbrev S2048x512 : Shape := ⟨2, ![2048, 512]⟩
abbrev S256x2048 : Shape := ⟨2, ![256, 2048]⟩
abbrev S256x512 : Shape := ⟨2, ![256, 512]⟩
abbrev S256 : Shape := ⟨1, ![256]⟩
abbrev S256x1 : Shape := ⟨2, ![256, 1]⟩

abbrev nBuf : Space → Nat
  | .hbm => 17
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x1024, .bf16⟩
  | .hbm, ⟨3, _⟩ => ⟨S1x512, .f32⟩
  | .hbm, ⟨4, _⟩ => ⟨S512, .i32⟩
  | .hbm, ⟨5, _⟩ => ⟨S_, .i32⟩
  | .hbm, ⟨6, _⟩ => ⟨S512, .i32⟩
  | .hbm, ⟨7, _⟩ => ⟨S512, .i32⟩
  | .hbm, ⟨8, _⟩ => ⟨S512x1, .i32⟩
  | .hbm, ⟨9, _⟩ => ⟨S1x512, .i32⟩
  | .hbm, ⟨10, _⟩ => ⟨S512x512, .i32⟩
  | .hbm, ⟨11, _⟩ => ⟨S512x512, .i32⟩
  | .hbm, ⟨12, _⟩ => ⟨S512x512, .i1⟩
  | .hbm, ⟨13, _⟩ => ⟨S512x512, .f32⟩
  | .hbm, ⟨14, _⟩ => ⟨S512x512, .bf16⟩
  | .hbm, ⟨15, _⟩ => ⟨S2048x512, .bf16⟩
  | .hbm, ⟨16, _⟩ => ⟨S2048x512, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S2048x1024, .bf16⟩
  | .local _ .vmem, ⟨4, _⟩ => ⟨S1x512, .f32⟩
  | .local _ .vmem, ⟨5, _⟩ => ⟨S512x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MemProjRefIdeal.lean ====
abbrev S2048x2048 : Shape := ⟨2, ![2048, 2048]⟩
abbrev S1x2048 : Shape := ⟨2, ![1, 2048]⟩
abbrev S2048x1024 : Shape := ⟨2, ![2048, 1024]⟩
abbrev S1x512 : Shape := ⟨2, ![1, 512]⟩
abbrev S_ : Shape := ⟨0, ![]⟩
abbrev S2048 : Shape := ⟨1, ![2048]⟩
abbrev S2048x1 : Shape := ⟨2, ![2048, 1]⟩
abbrev S2048x512 : Shape := ⟨2, ![2048, 512]⟩
abbrev S2048x4x128 : Shape := ⟨3, ![2048, 4, 128]⟩
abbrev S4x128 : Shape := ⟨2, ![4, 128]⟩
abbrev S2048x4 : Shape := ⟨2, ![2048, 4]⟩
abbrev S2048x4x1 : Shape := ⟨3, ![2048, 4, 1]⟩
abbrev S1x4x128 : Shape := ⟨3, ![1, 4, 128]⟩

abbrev nBuf : Space → Nat
  | .hbm => 44
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x1024, .bf16⟩
  | .hbm, ⟨3, _⟩ => ⟨S1x512, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x1024, .f32⟩
  | .hbm, ⟨20, _⟩ => ⟨S2048x1024, .f32⟩
  | .hbm, ⟨21, _⟩ => ⟨S2048x512, .f32⟩
  | .hbm, ⟨22, _⟩ => ⟨S2048x4x128, .f32⟩
  | .hbm, ⟨23, _⟩ => ⟨S4x128, .f32⟩
  | .hbm, ⟨24, _⟩ => ⟨S2048x4x128, .f32⟩
  | .hbm, ⟨25, _⟩ => ⟨S_, .f32⟩
  | .hbm, ⟨26, _⟩ => ⟨S2048x4, .f32⟩
  | .hbm, ⟨27, _⟩ => ⟨S2048x4x1, .f32⟩
  | .hbm, ⟨28, _⟩ => ⟨S_, .f32⟩
  | .hbm, ⟨29, _⟩ => ⟨S2048x4x1, .f32⟩
  | .hbm, ⟨30, _⟩ => ⟨S2048x4x1, .f32⟩
  | .hbm, ⟨31, _⟩ => ⟨S_, .f32⟩
  | .hbm, ⟨32, _⟩ => ⟨S2048x4x1, .f32⟩
  | .hbm, ⟨33, _⟩ => ⟨S2048x4x1, .f32⟩
  | .hbm, ⟨34, _⟩ => ⟨S2048x4x1, .f32⟩
  | .hbm, ⟨35, _⟩ => ⟨S2048x4x128, .f32⟩
  | .hbm, ⟨36, _⟩ => ⟨S2048x4x128, .f32⟩
  | .hbm, ⟨37, _⟩ => ⟨S1x4x128, .f32⟩
  | .hbm, ⟨38, _⟩ => ⟨S2048x4x128, .f32⟩
  | .hbm, ⟨39, _⟩ => ⟨S2048x4x128, .f32⟩
  | .hbm, ⟨40, _⟩ => ⟨S2048x512, .f32⟩
  | .hbm, ⟨41, _⟩ => ⟨S2048x512, .bf16⟩
  | .hbm, ⟨42, _⟩ => ⟨S2048x512, .f32⟩
  | .hbm, ⟨43, _⟩ => ⟨S2048x512, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩

abbrev nD : Nat := 1
abbrev τ : Topo := Topo.v7x

variable {F : FTy → Type} [FloatOps F]
-- ==== InProj.lean ====
abbrev S16384x2048 : Shape := ⟨2, ![16384, 2048]⟩
abbrev S1x2048 : Shape := ⟨2, ![1, 2048]⟩
abbrev S2048x4096 : Shape := ⟨2, ![2048, 4096]⟩
abbrev S2048x128 : Shape := ⟨2, ![2048, 128]⟩
abbrev S2048x2304 : Shape := ⟨2, ![2048, 2304]⟩
abbrev S5x1x3072 : Shape := ⟨3, ![5, 1, 3072]⟩
abbrev S1x128 : Shape := ⟨2, ![1, 128]⟩
abbrev S1x512 : Shape := ⟨2, ![1, 512]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S512 : Shape := ⟨1, ![512]⟩
abbrev S512x1 : Shape := ⟨2, ![512, 1]⟩
abbrev S512x512 : Shape := ⟨2, ![512, 512]⟩
abbrev S16640x3072 : Shape := ⟨2, ![16640, 3072]⟩
abbrev S16384x1024 : Shape := ⟨2, ![16384, 1024]⟩
abbrev S16384x128 : Shape := ⟨2, ![16384, 128]⟩
abbrev S64x128x256 : Shape := ⟨3, ![64, 128, 256]⟩
abbrev S16384x512 : Shape := ⟨2, ![16384, 512]⟩
abbrev S256x2048 : Shape := ⟨2, ![256, 2048]⟩
abbrev S256x128 : Shape := ⟨2, ![256, 128]⟩
abbrev S256x3072 : Shape := ⟨2, ![256, 3072]⟩
abbrev S256x1024 : Shape := ⟨2, ![256, 1024]⟩
abbrev S1x128x256 : Shape := ⟨3, ![1, 128, 256]⟩
abbrev S256x512 : Shape := ⟨2, ![256, 512]⟩
abbrev S24x280x128 : Shape := ⟨3, ![24, 280, 128]⟩
abbrev S24x24x128 : Shape := ⟨3, ![24, 24, 128]⟩
abbrev S256 : Shape := ⟨1, ![256]⟩
abbrev S256x1 : Shape := ⟨2, ![256, 1]⟩
abbrev S16x1 : Shape := ⟨2, ![16, 1]⟩
abbrev S2048x256 : Shape := ⟨2, ![2048, 256]⟩
abbrev S256x256 : Shape := ⟨2, ![256, 256]⟩
abbrev S1x256x128 : Shape := ⟨3, ![1, 256, 128]⟩
abbrev S5x1x128 : Shape := ⟨3, ![5, 1, 128]⟩
abbrev S5x128 : Shape := ⟨2, ![5, 128]⟩
abbrev S1x128x128 : Shape := ⟨3, ![1, 128, 128]⟩
abbrev S128x128 : Shape := ⟨2, ![128, 128]⟩
abbrev S1x1x128 : Shape := ⟨3, ![1, 1, 128]⟩
abbrev S16x128 : Shape := ⟨2, ![16, 128]⟩
abbrev S8x128 : Shape := ⟨2, ![8, 128]⟩
abbrev S104x128 : Shape := ⟨2, ![104, 128]⟩
abbrev S128 : Shape := ⟨1, ![128]⟩
abbrev S128x1 : Shape := ⟨2, ![128, 1]⟩
abbrev S2048x512 : Shape := ⟨2, ![2048, 512]⟩
abbrev S128x256 : Shape := ⟨2, ![128, 256]⟩

abbrev nBuf : Space → Nat
  | .hbm => 63
  | .vmem => 38
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2048x4096, .bf16⟩
  | .hbm, ⟨3, _⟩ => ⟨S2048x128, .bf16⟩
  | .hbm, ⟨4, _⟩ => ⟨S2048x2304, .bf16⟩
  | .hbm, ⟨5, _⟩ => ⟨S5x1x3072, .f32⟩
  | .hbm, ⟨6, _⟩ => ⟨S1x128, .f32⟩
  | .hbm, ⟨7, _⟩ => ⟨S1x128, .f32⟩
  | .hbm, ⟨8, _⟩ => ⟨S1x512, .f32⟩
  | .hbm, ⟨9, _⟩ => ⟨S1x128, .f32⟩
  | .hbm, ⟨10, _⟩ => ⟨S1x512, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S2048, .f32⟩
  | .hbm, ⟨26, _⟩ => ⟨S2048x1, .f32⟩
  | .hbm, ⟨27, _⟩ => ⟨S1x32, .f32⟩
  | .hbm, ⟨28, _⟩ => ⟨S2048x32, .f32⟩
  | .hbm, ⟨29, _⟩ => ⟨S2048x32, .f32⟩
  | .hbm, ⟨30, _⟩ => ⟨S2048x32, .f32⟩
  | .hbm, ⟨31, _⟩ => ⟨S2048x32, .f32⟩
  | .hbm, ⟨32, _⟩ => ⟨S2048x32, .f32⟩
  | .hbm, ⟨33, _⟩ => ⟨S2048x64, .f32⟩
  | .hbm, ⟨34, _⟩ => ⟨S2048x32, .f32⟩
  | .hbm, ⟨35, _⟩ => ⟨S2048x64, .f32⟩
  | .hbm, ⟨36, _⟩ => ⟨S1x2048x1x64, .f32⟩
  | .hbm, ⟨37, _⟩ => ⟨S1x2048x2x64, .f32⟩
  | .hbm, ⟨38, _⟩ => ⟨S2048x128, .f32⟩
  | .hbm, ⟨39, _⟩ => ⟨S1x2048x1x64, .f32⟩
  | .hbm, ⟨40, _⟩ => ⟨S1x2048x2x64, .f32⟩
  | .hbm, ⟨41, _⟩ => ⟨S2048x128, .f32⟩
  | .hbm, ⟨42, _⟩ => ⟨S512, .i32⟩
  | .hbm, ⟨43, _⟩ => ⟨S_, .i32⟩
  | .hbm, ⟨44, _⟩ => ⟨S512, .i32⟩
  | .hbm, ⟨45, _⟩ => ⟨S512, .i32⟩
  | .hbm, ⟨46, _⟩ => ⟨S512x1, .i32⟩
  | .hbm, ⟨47, _⟩ => ⟨S1x512, .i32⟩
  | .hbm, ⟨48, _⟩ => ⟨S512x512, .i32⟩
  | .hbm, ⟨49, _⟩ => ⟨S512x512, .i32⟩
  | .hbm, ⟨50, _⟩ => ⟨S512x512, .i1⟩
  | .hbm, ⟨51, _⟩ => ⟨S512x512, .f32⟩
  | .hbm, ⟨52, _⟩ => ⟨S512x512, .bf16⟩
  | .hbm, ⟨53, _⟩ => ⟨S16640x3072, .bf16⟩
  | .hbm, ⟨54, _⟩ => ⟨S16384x1024, .bf16⟩
  | .hbm, ⟨55, _⟩ => ⟨S16384x128, .f32⟩
  | .hbm, ⟨56, _⟩ => ⟨S64x128x256, .f32⟩
  | .hbm, ⟨57, _⟩ => ⟨S16384x512, .bf16⟩
  | .hbm, ⟨58, _⟩ => ⟨S16384x128, .bf16⟩
  | .hbm, ⟨59, _⟩ => ⟨S16384x128, .bf16⟩
  | .hbm, ⟨60, _⟩ => ⟨S16384x512, .bf16⟩
  | .hbm, ⟨61, _⟩ => ⟨S16384x512, .bf16⟩
  | .hbm, ⟨62, _⟩ => ⟨S16384x512, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S2048x4096, .bf16⟩
  | .local _ .vmem, ⟨4, _⟩ => ⟨S2048x128, .bf16⟩
  | .local _ .vmem, ⟨5, _⟩ => ⟨S2048x2304, .bf16⟩
  | .local _ .vmem, ⟨6, _⟩ => ⟨S5x1x3072, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S1x128, .f32⟩
  | .local _ .vmem, ⟨12, _⟩ => ⟨S1x128, .f32⟩
  | .local _ .vmem, ⟨13, _⟩ => ⟨S1x512, .f32⟩
  | .local _ .vmem, ⟨14, _⟩ => ⟨S1x128, .f32⟩
  | .local _ .vmem, ⟨15, _⟩ => ⟨S1x512, .f32⟩
  | .local _ .vmem, ⟨16, _⟩ => ⟨S512x512, .bf16⟩
  | .local _ .vmem, ⟨17, _⟩ => ⟨S256x3072, .bf16⟩
  | .local _ .vmem, ⟨18, _⟩ => ⟨S256x3072, .bf16⟩
  | .local _ .vmem, ⟨19, _⟩ => ⟨S256x1024, .bf16⟩
  | .local _ .vmem, ⟨20, _⟩ => ⟨S256x1024, .bf16⟩
  | .local _ .vmem, ⟨21, _⟩ => ⟨S256x128, .f32⟩
  | .local _ .vmem, ⟨22, _⟩ => ⟨S256x128, .f32⟩
  | .local _ .vmem, ⟨23, _⟩ => ⟨S1x128x256, .f32⟩
  | .local _ .vmem, ⟨24, _⟩ => ⟨S1x128x256, .f32⟩
  | .local _ .vmem, ⟨25, _⟩ => ⟨S256x512, .bf16⟩
  | .local _ .vmem, ⟨26, _⟩ => ⟨S256x512, .bf16⟩
  | .local _ .vmem, ⟨27, _⟩ => ⟨S256x128, .bf16⟩
  | .local _ .vmem, ⟨28, _⟩ => ⟨S256x128, .bf16⟩
  | .local _ .vmem, ⟨29, _⟩ => ⟨S256x128, .bf16⟩
  | .local _ .vmem, ⟨30, _⟩ => ⟨S256x128, .bf16⟩
  | .local _ .vmem, ⟨31, _⟩ => ⟨S256x512, .bf16⟩
  | .local _ .vmem, ⟨32, _⟩ => ⟨S256x512, .bf16⟩
  | .local _ .vmem, ⟨33, _⟩ => ⟨S256x512, .bf16⟩
  | .local _ .vmem, ⟨34, _⟩ => ⟨S256x512, .bf16⟩
  | .local _ .vmem, ⟨35, _⟩ => ⟨S256x512, .bf16⟩
  | .local _ .vmem, ⟨36, _⟩ => ⟨S256x512, .bf16⟩
  | .local _ .vmem, ⟨37, _⟩ => ⟨S24x280x128, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_cst_2 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37_0 : Ref sig .tc := ⟨.hbm, 53, rfl⟩
abbrev main_v37_1 : Ref sig .tc := ⟨.hbm, 54, rfl⟩
abbrev main_v37_2 : Ref sig .tc := ⟨.hbm, 55, rfl⟩
abbrev main_v37_3 : Ref sig .tc := ⟨.hbm, 56, rfl⟩
abbrev main_v37_4 : Ref sig .tc := ⟨.hbm, 57, rfl⟩
abbrev main_v37_5 : Ref sig .tc := ⟨.hbm, 58, rfl⟩
abbrev main_v37_6 : Ref sig .tc := ⟨.hbm, 59, rfl⟩
abbrev main_v37_7 : Ref sig .tc := ⟨.hbm, 60, rfl⟩
abbrev main_v37_8 : Ref sig .tc := ⟨.hbm, 61, rfl⟩
abbrev main_v37_9 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg19_1 : Ref sig .tc := ⟨.vmem, 28, rfl⟩
abbrev cc0_stg20_0 : Ref sig .tc := ⟨.vmem, 29, rfl⟩
abbrev cc0_stg20_1 : Ref sig .tc := ⟨.vmem, 30, rfl⟩
abbrev cc0_stg21_0 : Ref sig .tc := ⟨.vmem, 31, rfl⟩
abbrev cc0_stg21_1 : Ref sig .tc := ⟨.vmem, 32, rfl⟩
abbrev cc0_stg22_0 : Ref sig .tc := ⟨.vmem, 33, rfl⟩
abbrev cc0_stg22_1 : Ref sig .tc := ⟨.vmem, 34, rfl⟩
abbrev cc0_stg23_0 : Ref sig .tc := ⟨.vmem, 35, rfl⟩
abbrev cc0_stg23_1 : Ref sig .tc := ⟨.vmem, 36, rfl⟩
abbrev cc0_scratch0 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem19_1 : DmaSem sig := 28
abbrev cc0_sem20_0 : DmaSem sig := 29
abbrev cc0_sem20_1 : DmaSem sig := 30
abbrev cc0_sem21_0 : DmaSem sig := 31
abbrev cc0_sem21_1 : DmaSem sig := 32
abbrev cc0_sem22_0 : DmaSem sig := 33
abbrev cc0_sem22_1 : DmaSem sig := 34
abbrev cc0_sem23_0 : DmaSem sig := 35
abbrev cc0_sem23_1 : DmaSem sig := 36

abbrev nD : Nat := 1
abbrev τ : Topo := Topo.v7x

variable {F : FTy → Type} [FloatOps F]

abbrev grid0 : Pipeline.Grid := ⟨1, ![65], ![false]⟩

def k0_off1 (i : grid0.Coords) (c6_i32 : BitVec 32) : Fin 3 → Nat :=
  let c0_29 : Index := 0#32
  let arg0 : BitVec 32 := BitVec.ofNat 32 (i 0).val
  let c0_i32_6 : BitVec 32 := 0#32
  let v14 : BitVec 32 := Scalar.minsi arg0 c0_i32_6
  let v60 : BitVec 32 := Scalar.addi v14 c6_i32
  let v61 : Index := Scalar.indexCast v60
  let c0_30 : Index := 0#32
  ![0, v61.toNat, 0]
def k0_off1_at (r : Fin 10) : BitVec 32 :=
  if r.val < 5 then
    if r.val < 2 then
      if r.val < 1 then
        6#32
      else
        7#32
    else
      if r.val < 3 then
        8#32
      else
        if r.val < 4 then
          9#32
        else
          10#32
  else
    if r.val < 7 then
      if r.val < 6 then
        134#32
      else
        135#32
    else
      if r.val < 8 then
        136#32
      else
        if r.val < 9 then
          137#32
        else
          138#32
def k0_off2 (i : grid0.Coords) (c6_i32_82 : BitVec 32) : Fin 3 → Nat :=
  let c1_83 : Index := 1#32
  let arg0 : BitVec 32 := BitVec.ofNat 32 (i 0).val
  let c0_i32_6 : BitVec 32 := 0#32
  let v14 : BitVec 32 := Scalar.minsi arg0 c0_i32_6
  let v231 : BitVec 32 := Scalar.addi v14 c6_i32_82
  let v232 : Index := Scalar.indexCast v231
  let c0_84 : Index := 0#32
  ![1, v232.toNat, 0]
def k0_off2_at (r : Fin 10) : BitVec 32 :=
  if r.val < 5 then
    if r.val < 2 then
      if r.val < 1 then
        6#32
      else
        7#32
    else
      if r.val < 3 then
        8#32
      else
        if r.val < 4 then
          9#32
        else
          10#32
  else
    if r.val < 7 then
      if r.val < 6 then
        134#32
      else
        135#32
    else
      if r.val < 8 then
        136#32
      else
        if r.val < 9 then
          137#32
        else
          138#32
def k0_off3 (i : grid0.Coords) (c6_i32_152 : BitVec 32) : Fin 3 → Nat :=
  let c2_153 : Index := 2#32
  let arg0 : BitVec 32 := BitVec.ofNat 32 (i 0).val
  let c0_i32_6 : BitVec 32 := 0#32
  let v14 : BitVec 32 := Scalar.minsi arg0 c0_i32_6
  let v402 : BitVec 32 := Scalar.addi v14 c6_i32_152
  let v403 : Index := Scalar.indexCast v402
  let c0_154 : Index := 0#32
  ![2, v403.toNat, 0]
def k0_off3_at (r : Fin 10) : BitVec 32 :=
  if r.val < 5 then
    if r.val < 2 then
      if r.val < 1 then
        6#32
      else
        7#32
    else
      if r.val < 3 then
        8#32
      else
        if r.val < 4 then
          9#32
        else
          10#32
  else
    if r.val < 7 then
      if r.val < 6 then
        134#32
      else
        135#32
    else
      if r.val < 8 then
        136#32
      else
        if r.val < 9 then
          137#32
        else
          138#32
def k0_off4 (i : grid0.Coords) (c6_i32_221 : BitVec 32) : Fin 3 → Nat :=
  let c3_222 : Index := 3#32
  let arg0 : BitVec 32 := BitVec.ofNat 32 (i 0).val
  let c0_i32_6 : BitVec 32 := 0#32
  let v14 : BitVec 32 := Scalar.minsi arg0 c0_i32_6
  let v573 : BitVec 32 := Scalar.addi v14 c6_i32_221
  let v574 : Index := Scalar.indexCast v573
  let c0_223 : Index := 0#32
  ![3, v574.toNat, 0]
def k0_off4_at (r : Fin 10) : BitVec 32 :=
  if r.val < 5 then
    if r.val < 2 then
      if r.val < 1 then
        6#32
      else
        7#32
    else
      if r.val < 3 then
        8#32
      else
        if r.val < 4 then
          9#32
        else
          10#32
  else
    if r.val < 7 then
      if r.val < 6 then
        134#32
      else
        135#32
    else
      if r.val < 8 then
        136#32
      else
        if r.val < 9 then
          137#32
        else
          138#32
def k0_off5 (i : grid0.Coords) (c6_i32_291 : BitVec 32) : Fin 3 → Nat :=
  let c4_292 : Index := 4#32
  let arg0 : BitVec 32 := BitVec.ofNat 32 (i 0).val
  let c0_i32_6 : BitVec 32 := 0#32
  let v14 : BitVec 32 := Scalar.minsi arg0 c0_i32_6
  let v744 : BitVec 32 := Scalar.addi v14 c6_i32_291
  let v745 : Index := Scalar.indexCast v744
  let c0_293 : Index := 0#32
  ![4, v745.toNat, 0]
def k0_off5_at (r : Fin 10) : BitVec 32 :=
  if r.val < 5 then
    if r.val < 2 then
      if r.val < 1 then
        6#32
      else
        7#32
    else
      if r.val < 3 then
        8#32
      else
        if r.val < 4 then
          9#32
        else
          10#32
  else
    if r.val < 7 then
      if r.val < 6 then
        134#32
      else
        135#32
    else
      if r.val < 8 then
        136#32
      else
        if r.val < 9 then
          137#32
        else
          138#32
def k0_off6 (i : grid0.Coords) (c6_i32_360 : BitVec 32) : Fin 3 → Nat :=
  let c5_361 : Index := 5#32
  let arg0 : BitVec 32 := BitVec.ofNat 32 (i 0).val
  let c0_i32_6 : BitVec 32 := 0#32
  let v14 : BitVec 32 := Scalar.minsi arg0 c0_i32_6
  let v915 : BitVec 32 := Scalar.addi v14 c6_i32_360
  let v916 : Index := Scalar.indexCast v915
  let c0_362 : Index := 0#32
  ![5, v916.toNat, 0]
def k0_off6_at (r : Fin 10) : BitVec 32 :=
  if r.val < 5 then
    if r.val < 2 then
      if r.val < 1 then
        6#32
      else
        7#32
    else
      if r.val < 3 then
        8#32
      else
        if r.val < 4 then
          9#32
        else
          10#32
  else
    if r.val < 7 then
      if r.val < 6 then
        134#32
      else
        135#32
    else
      if r.val < 8 then
        136#32
      else
        if r.val < 9 then
          137#32
        else
          138#32
def k0_off7 (i : grid0.Coords) (c6_i32_430 : BitVec 32) : Fin 3 → Nat :=
  let c6_431 : Index := 6#32
  let arg0 : BitVec 32 := BitVec.ofNat 32 (i 0).val
  let c0_i32_6 : BitVec 32 := 0#32
  let v14 : BitVec 32 := Scalar.minsi arg0 c0_i32_6
  let v1086 : BitVec 32 := Scalar.addi v14 c6_i32_430
  let v1087 : Index := Scalar.indexCast v1086
  let c0_432 : Index := 0#32
  ![6, v1087.toNat, 0]
def k0_off7_at (r : Fin 10) : BitVec 32 :=
  if r.val < 5 then
    if r.val < 2 then
      if r.val < 1 then
        6#32
      else
        7#32
    else
      if r.val < 3 then
        8#32
      else
        if r.val < 4 then
          9#32
        else
          10#32
  else
    if r.val < 7 then
      if r.val < 6 then
        134#32
      else
        135#32
    else
      if r.val < 8 then
        136#32
      else
        if r.val < 9 then
          137#32
        else
          138#32
def k0_off8 (i : grid0.Coords) (c6_i32_499 : BitVec 32) : Fin 3 → Nat :=
  let c7_500 : Index := 7#32
  let arg0 : BitVec 32 := BitVec.ofNat 32 (i 0).val
  let c0_i32_6 : BitVec 32 := 0#32
  let v14 : BitVec 32 := Scalar.minsi arg0 c0_i32_6
  let v1257 : BitVec 32 := Scalar.addi v14 c6_i32_499
  let v1258 : Index := Scalar.indexCast v1257
  let c0_501 : Index := 0#32
  ![7, v1258.toNat, 0]
def k0_off8_at (r : Fin 10) : BitVec 32 :=
  if r.val < 5 then
    if r.val < 2 then
      if r.val < 1 then
        6#32
      else
        7#32
    else
      if r.val < 3 then
        8#32
      else
        if r.val < 4 then
          9#32
        else
          10#32
  else
    if r.val < 7 then
      if r.val < 6 then
        134#32
      else
        135#32
    else
      if r.val < 8 then
        136#32
      else
        if r.val < 9 then
          137#32
        else
          138#32
def k0_off9 (i : grid0.Coords) (c6_i32_569 : BitVec 32) : Fin 3 → Nat :=
  let c8_570 : Index := 8#32
  let arg0 : BitVec 32 := BitVec.ofNat 32 (i 0).val
  let c0_i32_6 : BitVec 32 := 0#32
  let v14 : BitVec 32 := Scalar.minsi arg0 c0_i32_6
  let v1428 : BitVec 32 := Scalar.addi v14 c6_i32_569
  let v1429 : Index := Scalar.indexCast v1428
  let c0_571 : Index := 0#32
  ![8, v1429.toNat, 0]
def k0_off9_at (r : Fin 10) : BitVec 32 :=
  if r.val < 5 then
    if r.val < 2 then
      if r.val < 1 then
        6#32
      else
        7#32
    else
      if r.val < 3 then
        8#32
      else
        if r.val < 4 then
          9#32
        else
          10#32
  else
    if r.val < 7 then
      if r.val < 6 then
        134#32
      else
        135#32
    else
      if r.val < 8 then
        136#32
      else
        if r.val < 9 then
          137#32
        else
          138#32
def k0_off10 (i : grid0.Coords) (c6_i32_638 : BitVec 32) : Fin 3 → Nat :=
  let c9_639 : Index := 9#32
  let arg0 : BitVec 32 := BitVec.ofNat 32 (i 0).val
  let c0_i32_6 : BitVec 32 := 0#32
  let v14 : BitVec 32 := Scalar.minsi arg0 c0_i32_6
  let v1599 : BitVec 32 := Scalar.addi v14 c6_i32_638
  let v1600 : Index := Scalar.indexCast v1599
  let c0_640 : Index := 0#32
  ![9, v1600.toNat, 0]
def k0_off10_at (r : Fin 10) : BitVec 32 :=
  if r.val < 5 then
    if r.val < 2 then
      if r.val < 1 then
        6#32
      else
        7#32
    else
      if r.val < 3 then
        8#32
      else
        if r.val < 4 then
          9#32
        else
          10#32
  else
    if r.val < 7 then
      if r.val < 6 then
        134#32
      else
        135#32
    else
      if r.val < 8 then
        136#32
      else
        if r.val < 9 then
          137#32
        else
          138#32
def k0_off11 (i : grid0.Coords) (c6_i32_710 : BitVec 32) : Fin 3 → Nat :=
  let c10_711 : Index := 10#32
  let arg0 : BitVec 32 := BitVec.ofNat 32 (i 0).val
  let c0_i32_6 : BitVec 32 := 0#32
  let v14 : BitVec 32 := Scalar.minsi arg0 c0_i32_6
  let v1770 : BitVec 32 := Scalar.addi v14 c6_i32_710
  let v1771 : Index := Scalar.indexCast v1770
  let c0_712 : Index := 0#32
  ![10, v1771.toNat, 0]
def k0_off11_at (r : Fin 10) : BitVec 32 :=
  if r.val < 5 then
    if r.val < 2 then
      if r.val < 1 then
        6#32
      else
        7#32
    else
      if r.val < 3 then
        8#32
      else
        if r.val < 4 then
          9#32
        else
          10#32
  else
    if r.val < 7 then
      if r.val < 6 then
        134#32
      else
        135#32
    else
      if r.val < 8 then
        136#32
      else
        if r.val < 9 then
          137#32
        else
          138#32
def k0_off12 (i : grid0.Coords) (c6_i32_777 : BitVec 32) : Fin 3 → Nat :=
  let c11_778 : Index := 11#32
  let arg0 : BitVec 32 := BitVec.ofNat 32 (i 0).val
  let c0_i32_6 : BitVec 32 := 0#32
  let v14 : BitVec 32 := Scalar.minsi arg0 c0_i32_6
  let v1937 : BitVec 32 := Scalar.addi v14 c6_i32_777
  let v1938 : Index := Scalar.indexCast v1937
  let c0_779 : Index := 0#32
  ![11, v1938.toNat, 0]
def k0_off12_at (r : Fin 10) : BitVec 32 :=
  if r.val < 5 then
    if r.val < 2 then
      if r.val < 1 then
        6#32
      else
        7#32
    else
      if r.val < 3 then
        8#32
      else
        if r.val < 4 then
          9#32
        else
          10#32
  else
    if r.val < 7 then
      if r.val < 6 then
        134#32
      else
        135#32
    else
      if r.val < 8 then
        136#32
      else
        if r.val < 9 then
          137#32
        else
          138#32
def k0_off13 (i : grid0.Coords) (c6_i32_841 : BitVec 32) : Fin 3 → Nat :=
  let c12_842 : Index := 12#32
  let arg0 : BitVec 32 := BitVec.ofNat 32 (i 0).val
  let c0_i32_6 : BitVec 32 := 0#32
  let v14 : BitVec 32 := Scalar.minsi arg0 c0_i32_6
  let v2098 : BitVec 32 := Scalar.addi v14 c6_i32_841
  let v2099 : Index := Scalar.indexCast v2098
  let c0_843 : Index := 0#32
  ![12, v2099.toNat, 0]
def k0_off13_at (r : Fin 10) : BitVec 32 :=
  if r.val < 5 then
    if r.val < 2 then
      if r.val < 1 then
        6#32
      else
        7#32
    else
      if r.val < 3 then
        8#32
      else
        if r.val < 4 then
          9#32
        else
          10#32
  else
    if r.val < 7 then
      if r.val < 6 then
        134#32
      else
        135#32
    else
      if r.val < 8 then
        136#32
      else
        if r.val < 9 then
          137#32
        else
          138#32
def k0_off14 (i : grid0.Coords) (c6_i32_908 : BitVec 32) : Fin 3 → Nat :=
  let c13_909 : Index := 13#32
  let arg0 : BitVec 32 := BitVec.ofNat 32 (i 0).val
  let c0_i32_6 : BitVec 32 := 0#32
  let v14 : BitVec 32 := Scalar.minsi arg0 c0_i32_6
  let v2265 : BitVec 32 := Scalar.addi v14 c6_i32_908
  let v2266 : Index := Scalar.indexCast v2265
  let c0_910 : Index := 0#32
  ![13, v2266.toNat, 0]
def k0_off14_at (r : Fin 10) : BitVec 32 :=
  if r.val < 5 then
    if r.val < 2 then
      if r.val < 1 then
        6#32
      else
        7#32
    else
      if r.val < 3 then
        8#32
      else
        if r.val < 4 then
          9#32
        else
          10#32
  else
    if r.val < 7 then
      if r.val < 6 then
        134#32
      else
        135#32
    else
      if r.val < 8 then
        136#32
      else
        if r.val < 9 then
          137#32
        else
          138#32
def k0_off15 (i : grid0.Coords) (c6_i32_972 : BitVec 32) : Fin 3 → Nat :=
  let c14_973 : Index := 14#32
  let arg0 : BitVec 32 := BitVec.ofNat 32 (i 0).val
  let c0_i32_6 : BitVec 32 := 0#32
  let v14 : BitVec 32 := Scalar.minsi arg0 c0_i32_6
  let v2426 : BitVec 32 := Scalar.addi v14 c6_i32_972
  let v2427 : Index := Scalar.indexCast v2426
  let c0_974 : Index := 0#32
  ![14, v2427.toNat, 0]
def k0_off15_at (r : Fin 10) : BitVec 32 :=
  if r.val < 5 then
    if r.val < 2 then
      if r.val < 1 then
        6#32
      else
        7#32
    else
      if r.val < 3 then
        8#32
      else
        if r.val < 4 then
          9#32
        else
          10#32
  else
    if r.val < 7 then
      if r.val < 6 then
        134#32
      else
        135#32
    else
      if r.val < 8 then
        136#32
      else
        if r.val < 9 then
          137#32
        else
          138#32
def k0_off16 (i : grid0.Coords) (c6_i32_1082 : BitVec 32) : Fin 3 → Nat :=
  let c15_1083 : Index := 15#32
  let arg0 : BitVec 32 := BitVec.ofNat 32 (i 0).val
  let c0_i32_6 : BitVec 32 := 0#32
  let v14 : BitVec 32 := Scalar.minsi arg0 c0_i32_6
  let v2715 : BitVec 32 := Scalar.addi v14 c6_i32_1082
  let v2716 : Index := Scalar.indexCast v2715
  let c0_1084 : Index := 0#32
  ![15, v2716.toNat, 0]
def k0_off16_at (r : Fin 10) : BitVec 32 :=
  if r.val < 5 then
    if r.val < 2 then
      if r.val < 1 then
        6#32
      else
        7#32
    else
      if r.val < 3 then
        8#32
      else
        if r.val < 4 then
          9#32
        else
          10#32
  else
    if r.val < 7 then
      if r.val < 6 then
        134#32
      else
        135#32
    else
      if r.val < 8 then
        136#32
      else
        if r.val < 9 then
          137#32
        else
          138#32
def k0_off17 (i : grid0.Coords) (c6_i32_1229 : BitVec 32) : Fin 3 → Nat :=
  let c16_1230 : Index := 16#32
  let arg0 : BitVec 32 := BitVec.ofNat 32 (i 0).val
  let c0_i32_6 : BitVec 32 := 0#32
  let v14 : BitVec 32 := Scalar.minsi arg0 c0_i32_6
  let v3089 : BitVec 32 := Scalar.addi v14 c6_i32_1229
  let v3090 : Index := Scalar.indexCast v3089
  let c0_1231 : Index := 0#32
  ![16, v3090.toNat, 0]
def k0_off17_at (r : Fin 10) : BitVec 32 :=
  if r.val < 5 then
    if r.val < 2 then
      if r.val < 1 then
        6#32
      else
        7#32
    else
      if r.val < 3 then
        8#32
      else
        if r.val < 4 then
          9#32
        else
          10#32
  else
    if r.val < 7 then
      if r.val < 6 then
        134#32
      else
        135#32
    else
      if r.val < 8 then
        136#32
      else
        if r.val < 9 then
          137#32
        else
          138#32
def k0_off18 (i : grid0.Coords) (c6_i32_1286 : BitVec 32) : Fin 3 → Nat :=
  let c17_1287 : Index := 17#32
  let arg0 : BitVec 32 := BitVec.ofNat 32 (i 0).val
  let c0_i32_6 : BitVec 32 := 0#32
  let v14 : BitVec 32 := Scalar.minsi arg0 c0_i32_6
  let v3230 : BitVec 32 := Scalar.addi v14 c6_i32_1286
  let v3231 : Index := Scalar.indexCast v3230
  let c0_1288 : Index := 0#32
  ![17, v3231.toNat, 0]
def k0_off18_at (r : Fin 10) : BitVec 32 :=
  if r.val < 5 then
    if r.val < 2 then
      if r.val < 1 then
        6#32
      else
        7#32
    else
      if r.val < 3 then
        8#32
      else
        if r.val < 4 then
          9#32
        else
          10#32
  else
    if r.val < 7 then
      if r.val < 6 then
        134#32
      else
        135#32
    else
      if r.val < 8 then
        136#32
      else
        if r.val < 9 then
          137#32
        else
          138#32
def k0_off19 (i : grid0.Coords) (c6_i32_1367 : BitVec 32) : Fin 3 → Nat :=
  let c18_1368 : Index := 18#32
  let arg0 : BitVec 32 := BitVec.ofNat 32 (i 0).val
  let c0_i32_6 : BitVec 32 := 0#32
  let v14 : BitVec 32 := Scalar.minsi arg0 c0_i32_6
  let v3418 : BitVec 32 := Scalar.addi v14 c6_i32_1367
  let v3419 : Index := Scalar.indexCast v3418
  let c0_1369 : Index := 0#32
  ![18, v3419.toNat, 0]
def k0_off19_at (r : Fin 10) : BitVec 32 :=
  if r.val < 5 then
    if r.val < 2 then
      if r.val < 1 then
        6#32
      else
        7#32
    else
      if r.val < 3 then
        8#32
      else
        if r.val < 4 then
          9#32
        else
          10#32
  else
    if r.val < 7 then
      if r.val < 6 then
        134#32
      else
        135#32
    else
      if r.val < 8 then
        136#32
      else
        if r.val < 9 then
          137#32
        else
          138#32
def k0_off20 (i : grid0.Coords) (c6_i32_1429 : BitVec 32) : Fin 3 → Nat :=
  let c19_1430 : Index := 19#32
  let arg0 : BitVec 32 := BitVec.ofNat 32 (i 0).val
  let c0_i32_6 : BitVec 32 := 0#32
  let v14 : BitVec 32 := Scalar.minsi arg0 c0_i32_6
  let v3565 : BitVec 32 := Scalar.addi v14 c6_i32_1429
  let v3566 : Index := Scalar.indexCast v3565
  let c0_1431 : Index := 0#32
  ![19, v3566.toNat, 0]
def k0_off20_at (r : Fin 10) : BitVec 32 :=
  if r.val < 5 then
    if r.val < 2 then
      if r.val < 1 then
        6#32
      else
        7#32
    else
      if r.val < 3 then
        8#32
      else
        if r.val < 4 then
          9#32
        else
          10#32
  else
    if r.val < 7 then
      if r.val < 6 then
        134#32
      else
        135#32
    else
      if r.val < 8 then
        136#32
      else
        if r.val < 9 then
          137#32
        else
          138#32
def k0_off21 (i : grid0.Coords) (c6_i32_1487 : BitVec 32) : Fin 3 → Nat :=
  let c20_1488 : Index := 20#32
  let arg0 : BitVec 32 := BitVec.ofNat 32 (i 0).val
  let c0_i32_6 : BitVec 32 := 0#32
  let v14 : BitVec 32 := Scalar.minsi arg0 c0_i32_6
  let v3706 : BitVec 32 := Scalar.addi v14 c6_i32_1487
  let v3707 : Index := Scalar.indexCast v3706
  let c0_1489 : Index := 0#32
  ![20, v3707.toNat, 0]
def k0_off21_at (r : Fin 10) : BitVec 32 :=
  if r.val < 5 then
    if r.val < 2 then
      if r.val < 1 then
        6#32
      else
        7#32
    else
      if r.val < 3 then
        8#32
      else
        if r.val < 4 then
          9#32
        else
          10#32
  else
    if r.val < 7 then
      if r.val < 6 then
        134#32
      else
        135#32
    else
      if r.val < 8 then
        136#32
      else
        if r.val < 9 then
          137#32
        else
          138#32
def k0_off22 (i : grid0.Coords) (c6_i32_1575 : BitVec 32) : Fin 3 → Nat :=
  let c21_1576 : Index := 21#32
  let arg0 : BitVec 32 := BitVec.ofNat 32 (i 0).val
  let c0_i32_6 : BitVec 32 := 0#32
  let v14 : BitVec 32 := Scalar.minsi arg0 c0_i32_6
  let v3913 : BitVec 32 := Scalar.addi v14 c6_i32_1575
  let v3914 : Index := Scalar.indexCast v3913
  let c0_1577 : Index := 0#32
  ![21, v3914.toNat, 0]
def k0_off22_at (r : Fin 10) : BitVec 32 :=
  if r.val < 5 then
    if r.val < 2 then
      if r.val < 1 then
        6#32
      else
        7#32
    else
      if r.val < 3 then
        8#32
      else
        if r.val < 4 then
          9#32
        else
          10#32
  else
    if r.val < 7 then
      if r.val < 6 then
        134#32
      else
        135#32
    else
      if r.val < 8 then
        136#32
      else
        if r.val < 9 then
          137#32
        else
          138#32
def k0_off23 (i : grid0.Coords) (c6_i32_1633 : BitVec 32) : Fin 3 → Nat :=
  let c22_1634 : Index := 22#32
  let arg0 : BitVec 32 := BitVec.ofNat 32 (i 0).val
  let c0_i32_6 : BitVec 32 := 0#32
  let v14 : BitVec 32 := Scalar.minsi arg0 c0_i32_6
  let v4054 : BitVec 32 := Scalar.addi v14 c6_i32_1633
  let v4055 : Index := Scalar.indexCast v4054
  let c0_1635 : Index := 0#32
  ![22, v4055.toNat, 0]
def k0_off23_at (r : Fin 10) : BitVec 32 :=
  if r.val < 5 then
    if r.val < 2 then
      if r.val < 1 then
        6#32
      else
        7#32
    else
      if r.val < 3 then
        8#32
      else
        if r.val < 4 then
          9#32
        else
          10#32
  else
    if r.val < 7 then
      if r.val < 6 then
        134#32
      else
        135#32
    else
      if r.val < 8 then
        136#32
      else
        if r.val < 9 then
          137#32
        else
          138#32
def k0_off24 (i : grid0.Coords) (c6_i32_1695 : BitVec 32) : Fin 3 → Nat :=
  let c23_1696 : Index := 23#32
  let arg0 : BitVec 32 := BitVec.ofNat 32 (i 0).val
  let c0_i32_6 : BitVec 32 := 0#32
  let v14 : BitVec 32 := Scalar.minsi arg0 c0_i32_6
  let v4201 : BitVec 32 := Scalar.addi v14 c6_i32_1695
  let v4202 : Index := Scalar.indexCast v4201
  let c0_1697 : Index := 0#32
  ![23, v4202.toNat, 0]
def k0_off24_at (r : Fin 10) : BitVec 32 :=
  if r.val < 5 then
    if r.val < 2 then
      if r.val < 1 then
        6#32
      else
        7#32
    else
      if r.val < 3 then
        8#32
      else
        if r.val < 4 then
          9#32
        else
          10#32
  else
    if r.val < 7 then
      if r.val < 6 then
        134#32
      else
        135#32
    else
      if r.val < 8 then
        136#32
      else
        if r.val < 9 then
          137#32
        else
          138#32
def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c63_i32 : BitVec 32 := 63#32
  let v0 : BitVec 32 := Scalar.minsi arg0 c63_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![v10.toNat, c0_i32_3.toNat]

def cc0_transform_7 (i : grid0.Coords) : Fin 2 → Nat :=
  let arg0 : BitVec 32 := BitVec.ofNat 32 (i 0).val
  let c63_i32 : BitVec 32 := 63#32
  let v0 : BitVec 32 := Scalar.minsi arg0 c63_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![v10.toNat, c0_i32_3.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_16 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_17 (i : grid0.Coords) : Fin 3 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  let c0_i32_1 : BitVec 32 := 0#32
  ![v0.toNat, c0_i32.toNat, c0_i32_0.toNat]

def cc0_transform_18 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_19 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_20 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_21 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_22 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_23 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2304 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S5x1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x3072 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x128x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x128 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x128 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x512 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x512 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S256x512 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]
-- ==== InProjRefIdeal.lean ====
abbrev S16384x2048 : Shape := ⟨2, ![16384, 2048]⟩
abbrev S1x2048 : Shape := ⟨2, ![1, 2048]⟩
abbrev S2048x4096 : Shape := ⟨2, ![2048, 4096]⟩
abbrev S2048x128 : Shape := ⟨2, ![2048, 128]⟩
abbrev S2048x2304 : Shape := ⟨2, ![2048, 2304]⟩
abbrev S5x1x3072 : Shape := ⟨3, ![5, 1, 3072]⟩
abbrev S1x128 : Shape := ⟨2, ![1, 128]⟩
abbrev S1x512 : Shape := ⟨2, ![1, 512]⟩
abbrev S_ : Shape := ⟨0, ![]⟩
abbrev S16384 : Shape := ⟨1, ![16384]⟩
abbrev S16384x1 : Shape := ⟨2, ![16384, 1]⟩
abbrev S2048x1024 : Shape := ⟨2, ![2048, 1024]⟩
abbrev S16384x1024 : Shape := ⟨2, ![16384, 1024]⟩
abbrev S16384x128 : Shape := ⟨2, ![16384, 128]⟩
abbrev S1x16 : Shape := ⟨2, ![1, 16]⟩
abbrev S16384x16 : Shape := ⟨2, ![16384, 16]⟩
abbrev S256x64x16 : Shape := ⟨3, ![256, 64, 16]⟩
abbrev S256x64x8 : Shape := ⟨3, ![256, 64, 8]⟩
abbrev S16384x8 : Shape := ⟨2, ![16384, 8]⟩
abbrev S16384x96 : Shape := ⟨2, ![16384, 96]⟩
abbrev S64x256x128 : Shape := ⟨3, ![64, 256, 128]⟩
abbrev S64x128x256 : Shape := ⟨3, ![64, 128, 256]⟩
abbrev S16384x2304 : Shape := ⟨2, ![16384, 2304]⟩
abbrev S16384x512 : Shape := ⟨2, ![16384, 512]⟩
abbrev S8x2048x8x64 : Shape := ⟨4, ![8, 2048, 8, 64]⟩
abbrev S8x64 : Shape := ⟨2, ![8, 64]⟩
abbrev S8x2048x8 : Shape := ⟨3, ![8, 2048, 8]⟩
abbrev S8x2048x8x1 : Shape := ⟨4, ![8, 2048, 8, 1]⟩
abbrev S1x1x8x64 : Shape := ⟨4, ![1, 1, 8, 64]⟩
abbrev S32 : Shape := ⟨1, ![32]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S1x2048x1x32 : Shape := ⟨4, ![1, 2048, 1, 32]⟩
abbrev S8x2048x8x32 : Shape := ⟨4, ![8, 2048, 8, 32]⟩
abbrev S8x2048x2x64 : Shape := ⟨4, ![8, 2048, 2, 64]⟩
abbrev S2x64 : Shape := ⟨2, ![2, 64]⟩
abbrev S8x2048x2 : Shape := ⟨3, ![8, 2048, 2]⟩
abbrev S8x2048x2x1 : Shape := ⟨4, ![8, 2048, 2, 1]⟩
abbrev S1x1x2x64 : Shape := ⟨4, ![1, 1, 2, 64]⟩
abbrev S8x2048x2x32 : Shape := ⟨4, ![8, 2048, 2, 32]⟩
abbrev S16384x4x128 : Shape := ⟨3, ![16384, 4, 128]⟩
abbrev S4x128 : Shape := ⟨2, ![4, 128]⟩
abbrev S16384x4 : Shape := ⟨2, ![16384, 4]⟩
abbrev S16384x4x1 : Shape := ⟨3, ![16384, 4, 1]⟩
abbrev S1x4x128 : Shape := ⟨3, ![1, 4, 128]⟩

abbrev nBuf : Space → Nat
  | .hbm => 254
  | .vmem => 0
  | .smem => 0
  | _ => 0

abbrev hbmTy0_0 (i : Nat) : BufTy := match i % 128 with
  | 0 => ⟨S16384x2048, .f32⟩
  | 1 => ⟨S1x2048, .f32⟩
  | 2 => ⟨S2048x4096, .bf16⟩
  | 3 => ⟨S2048x128, .bf16⟩
  | 4 => ⟨S2048x2304, .bf16⟩
  | 5 => ⟨S5x1x3072, .f32⟩
  | 6 => ⟨S1x128, .f32⟩
  | 7 => ⟨S1x128, .f32⟩
  | 8 => ⟨S1x512, .f32⟩
  | 9 => ⟨S1x128, .f32⟩
  | 10 => ⟨S1x512, .f32⟩
  | 11 => ⟨S16384x2048, .f32⟩
  | 12 => ⟨S_, .f32⟩
  | 13 => ⟨S16384, .f32⟩
  | 14 => ⟨S16384x1, .f32⟩
  | 15 => ⟨S_, .f32⟩
  | 16 => ⟨S16384x1, .f32⟩
  | 17 => ⟨S16384x1, .f32⟩
  | 18 => ⟨S_, .f32⟩
  | 19 => ⟨S16384x1, .f32⟩
  | 20 => ⟨S16384x1, .f32⟩
  | 21 => ⟨S16384x1, .f32⟩
  | 22 => ⟨S16384x2048, .f32⟩
  | 23 => ⟨S16384x2048, .f32⟩
  | 24 => ⟨S16384x2048, .f32⟩
  | 25 => ⟨S16384x2048, .f32⟩
  | 26 => ⟨S2048x1024, .bf16⟩
  | 27 => ⟨S2048x1024, .f32⟩
  | 28 => ⟨S16384x1024, .f32⟩
  | 29 => ⟨S16384x1024, .f32⟩
  | 30 => ⟨S16384x1024, .f32⟩
  | 31 => ⟨S_, .f32⟩
  | 32 => ⟨S16384x1024, .f32⟩
  | 33 => ⟨S16384x1024, .f32⟩
  | 34 => ⟨S_, .f32⟩
  | 35 => ⟨S16384x1024, .f32⟩
  | 36 => ⟨S16384x1024, .f32⟩
  | 37 => ⟨S16384x1024, .f32⟩
  | 38 => ⟨S2048x128, .f32⟩
  | 39 => ⟨S16384x128, .f32⟩
  | 40 => ⟨S1x16, .f32⟩
  | 41 => ⟨S1x16, .f32⟩
  | 42 => ⟨S1x16, .f32⟩
  | 43 => ⟨S16384x16, .f32⟩
  | 44 => ⟨S1x16, .f32⟩
  | 45 => ⟨S16384x16, .f32⟩
  | 46 => ⟨S16384x16, .f32⟩
  | 47 => ⟨S_, .f32⟩
  | 48 => ⟨S16384x16, .f32⟩
  | 49 => ⟨S16384x16, .f32⟩
  | 50 => ⟨S16384x16, .f32⟩
  | 51 => ⟨S16384x16, .f32⟩
  | 52 => ⟨S16384x16, .i1⟩
  | 53 => ⟨S16384x16, .f32⟩
  | 54 => ⟨S16384x16, .f32⟩
  | 55 => ⟨S16384x16, .f32⟩
  | 56 => ⟨S16384x16, .f32⟩
  | 57 => ⟨S16384x16, .f32⟩
  | 58 => ⟨S16384x16, .f32⟩
  | 59 => ⟨S16384x16, .f32⟩
  | 60 => ⟨S16384x16, .f32⟩
  | 61 => ⟨S16384x16, .f32⟩
  | 62 => ⟨S16384x16, .f32⟩
  | 63 => ⟨S256x64x16, .f32⟩
  | 64 => ⟨S256x64x8, .f32⟩
  | 65 => ⟨S_, .f32⟩
  | 66 => ⟨S_, .f32⟩
  | 67 => ⟨S256x64x8, .f32⟩
  | 68 => ⟨S16384x8, .f32⟩
  | 69 => ⟨S256x64x8, .f32⟩
  | 70 => ⟨S256x64x8, .f32⟩
  | 71 => ⟨S_, .f32⟩
  | 72 => ⟨S_, .f32⟩
  | 73 => ⟨S256x64x8, .f32⟩
  | 74 => ⟨S256x64x8, .f32⟩
  | 75 => ⟨S16384x8, .f32⟩
  | 76 => ⟨S16384x16, .f32⟩
  | 77 => ⟨S16384x16, .f32⟩
  | 78 => ⟨S16384x16, .f32⟩
  | 79 => ⟨S_, .f32⟩
  | 80 => ⟨S16384x16, .f32⟩
  | 81 => ⟨S16384x16, .f32⟩
  | 82 => ⟨S_, .f32⟩
  | 83 => ⟨S16384x16, .f32⟩
  | 84 => ⟨S16384x16, .f32⟩
  | 85 => ⟨S_, .f32⟩
  | 86 => ⟨S16384x96, .f32⟩
  | 87 => ⟨S16384x128, .f32⟩
  | 88 => ⟨S64x256x128, .f32⟩
  | 89 => ⟨S64x128x256, .f32⟩
  | 90 => ⟨S2048x2304, .f32⟩
  | 91 => ⟨S16384x2304, .f32⟩
  | 92 => ⟨S16384x512, .f32⟩
  | 93 => ⟨S8x2048x8x64, .f32⟩
  | 94 => ⟨S8x64, .f32⟩
  | 95 => ⟨S8x2048x8x64, .f32⟩
  | 96 => ⟨S_, .f32⟩
  | 97 => ⟨S8x2048x8, .f32⟩
  | 98 => ⟨S8x2048x8x1, .f32⟩
  | 99 => ⟨S_, .f32⟩
  | 100 => ⟨S8x2048x8x1, .f32⟩
  | 101 => ⟨S8x2048x8x1, .f32⟩
  | 102 => ⟨S_, .f32⟩
  | 103 => ⟨S8x2048x8x1, .f32⟩
  | 104 => ⟨S8x2048x8x1, .f32⟩
  | 105 => ⟨S8x2048x8x1, .f32⟩
  | 106 => ⟨S8x2048x8x64, .f32⟩
  | 107 => ⟨S8x2048x8x64, .f32⟩
  | 108 => ⟨S1x1x8x64, .f32⟩
  | 109 => ⟨S8x2048x8x64, .f32⟩
  | 110 => ⟨S8x2048x8x64, .f32⟩
  | 111 => ⟨S32, .f32⟩
  | 112 => ⟨S_, .f32⟩
  | 113 => ⟨S32, .f32⟩
  | 114 => ⟨S32, .f32⟩
  | 115 => ⟨S_, .f32⟩
  | 116 => ⟨S32, .f32⟩
  | 117 => ⟨S32, .f32⟩
  | 118 => ⟨S32, .f32⟩
  | 119 => ⟨S_, .f32⟩
  | 120 => ⟨S32, .f32⟩
  | 121 => ⟨S32, .f32⟩
  | 122 => ⟨S_, .f32⟩
  | 123 => ⟨S32, .f32⟩
  | 124 => ⟨S32, .f32⟩
  | 125 => ⟨S2048, .f32⟩
  | 126 => ⟨S2048x1, .f32⟩
  | 127 => ⟨S1x32, .f32⟩
  | _ => ⟨S16384x2048, .f32⟩

abbrev hbmTy0_1 (i : Nat) : BufTy := match i % 128 with
  | 0 => ⟨S2048x32, .f32⟩
  | 1 => ⟨S2048x32, .f32⟩
  | 2 => ⟨S2048x32, .f32⟩
  | 3 => ⟨S2048x32, .f32⟩
  | 4 => ⟨S1x2048x1x32, .f32⟩
  | 5 => ⟨S2048x32, .f32⟩
  | 6 => ⟨S1x2048x1x32, .f32⟩
  | 7 => ⟨S8x2048x8x32, .f32⟩
  | 8 => ⟨S8x2048x8x32, .f32⟩
  | 9 => ⟨S8x2048x8x32, .f32⟩
  | 10 => ⟨S8x2048x8x32, .f32⟩
  | 11 => ⟨S8x2048x8x32, .f32⟩
  | 12 => ⟨S8x2048x8x32, .f32⟩
  | 13 => ⟨S8x2048x8x32, .f32⟩
  | 14 => ⟨S8x2048x8x32, .f32⟩
  | 15 => ⟨S8x2048x8x32, .f32⟩
  | 16 => ⟨S8x2048x8x32, .f32⟩
  | 17 => ⟨S8x2048x8x32, .f32⟩
  | 18 => ⟨S8x2048x8x32, .f32⟩
  | 19 => ⟨S8x2048x8x64, .f32⟩
  | 20 => ⟨S16384x512, .f32⟩
  | 21 => ⟨S16384x128, .f32⟩
  | 22 => ⟨S8x2048x2x64, .f32⟩
  | 23 => ⟨S2x64, .f32⟩
  | 24 => ⟨S8x2048x2x64, .f32⟩
  | 25 => ⟨S_, .f32⟩
  | 26 => ⟨S8x2048x2, .f32⟩
  | 27 => ⟨S8x2048x2x1, .f32⟩
  | 28 => ⟨S_, .f32⟩
  | 29 => ⟨S8x2048x2x1, .f32⟩
  | 30 => ⟨S8x2048x2x1, .f32⟩
  | 31 => ⟨S_, .f32⟩
  | 32 => ⟨S8x2048x2x1, .f32⟩
  | 33 => ⟨S8x2048x2x1, .f32⟩
  | 34 => ⟨S8x2048x2x1, .f32⟩
  | 35 => ⟨S8x2048x2x64, .f32⟩
  | 36 => ⟨S8x2048x2x64, .f32⟩
  | 37 => ⟨S1x1x2x64, .f32⟩
  | 38 => ⟨S8x2048x2x64, .f32⟩
  | 39 => ⟨S8x2048x2x64, .f32⟩
  | 40 => ⟨S32, .f32⟩
  | 41 => ⟨S_, .f32⟩
  | 42 => ⟨S32, .f32⟩
  | 43 => ⟨S32, .f32⟩
  | 44 => ⟨S_, .f32⟩
  | 45 => ⟨S32, .f32⟩
  | 46 => ⟨S32, .f32⟩
  | 47 => ⟨S32, .f32⟩
  | 48 => ⟨S_, .f32⟩
  | 49 => ⟨S32, .f32⟩
  | 50 => ⟨S32, .f32⟩
  | 51 => ⟨S_, .f32⟩
  | 52 => ⟨S32, .f32⟩
  | 53 => ⟨S32, .f32⟩
  | 54 => ⟨S2048, .f32⟩
  | 55 => ⟨S2048x1, .f32⟩
  | 56 => ⟨S1x32, .f32⟩
  | 57 => ⟨S2048x32, .f32⟩
  | 58 => ⟨S2048x32, .f32⟩
  | 59 => ⟨S2048x32, .f32⟩
  | 60 => ⟨S2048x32, .f32⟩
  | 61 => ⟨S1x2048x1x32, .f32⟩
  | 62 => ⟨S2048x32, .f32⟩
  | 63 => ⟨S1x2048x1x32, .f32⟩
  | 64 => ⟨S8x2048x2x32, .f32⟩
  | 65 => ⟨S8x2048x2x32, .f32⟩
  | 66 => ⟨S8x2048x2x32, .f32⟩
  | 67 => ⟨S8x2048x2x32, .f32⟩
  | 68 => ⟨S8x2048x2x32, .f32⟩
  | 69 => ⟨S8x2048x2x32, .f32⟩
  | 70 => ⟨S8x2048x2x32, .f32⟩
  | 71 => ⟨S8x2048x2x32, .f32⟩
  | 72 => ⟨S8x2048x2x32, .f32⟩
  | 73 => ⟨S8x2048x2x32, .f32⟩
  | 74 => ⟨S8x2048x2x32, .f32⟩
  | 75 => ⟨S8x2048x2x32, .f32⟩
  | 76 => ⟨S8x2048x2x64, .f32⟩
  | 77 => ⟨S16384x128, .f32⟩
  | 78 => ⟨S16384x128, .f32⟩
  | 79 => ⟨S16384x512, .f32⟩
  | 80 => ⟨S16384x512, .f32⟩
  | 81 => ⟨S16384x512, .f32⟩
  | 82 => ⟨S_, .f32⟩
  | 83 => ⟨S16384x512, .f32⟩
  | 84 => ⟨S16384x512, .f32⟩
  | 85 => ⟨S_, .f32⟩
  | 86 => ⟨S16384x512, .f32⟩
  | 87 => ⟨S16384x512, .f32⟩
  | 88 => ⟨S16384x512, .f32⟩
  | 89 => ⟨S16384x512, .f32⟩
  | 90 => ⟨S16384x4x128, .f32⟩
  | 91 => ⟨S4x128, .f32⟩
  | 92 => ⟨S16384x4x128, .f32⟩
  | 93 => ⟨S_, .f32⟩
  | 94 => ⟨S16384x4, .f32⟩
  | 95 => ⟨S16384x4x1, .f32⟩
  | 96 => ⟨S_, .f32⟩
  | 97 => ⟨S16384x4x1, .f32⟩
  | 98 => ⟨S16384x4x1, .f32⟩
  | 99 => ⟨S_, .f32⟩
  | 100 => ⟨S16384x4x1, .f32⟩
  | 101 => ⟨S16384x4x1, .f32⟩
  | 102 => ⟨S16384x4x1, .f32⟩
  | 103 => ⟨S16384x4x128, .f32⟩
  | 104 => ⟨S16384x4x128, .f32⟩
  | 105 => ⟨S1x4x128, .f32⟩
  | 106 => ⟨S16384x4x128, .f32⟩
  | 107 => ⟨S16384x4x128, .f32⟩
  | 108 => ⟨S16384x512, .f32⟩
  | 109 => ⟨S16384x512, .f32⟩
  | 110 => ⟨S16384x512, .f32⟩
  | 111 => ⟨S16384x512, .f32⟩
  | 112 => ⟨S_, .f32⟩
  | 113 => ⟨S16384x512, .f32⟩
  | 114 => ⟨S16384x512, .f32⟩
  | 115 => ⟨S_, .f32⟩
  | 116 => ⟨S16384x512, .f32⟩
  | 117 => ⟨S16384x512, .f32⟩
  | 118 => ⟨S16384x512, .f32⟩
  | 119 => ⟨S16384x1024, .bf16⟩
  | 120 => ⟨S16384x512, .bf16⟩
  | 121 => ⟨S16384x128, .bf16⟩
  | 122 => ⟨S16384x128, .bf16⟩
  | 123 => ⟨S16384x512, .bf16⟩
  | 124 => ⟨S16384x512, .bf16⟩
  | 125 => ⟨S16384x512, .bf16⟩
  | _ => ⟨S16384x2048, .f32⟩

abbrev hbmTy (i : Nat) : BufTy := match i / 128 with
  | 0 => hbmTy0_0 i
  | 1 => hbmTy0_1 i
  | _ => ⟨S16384x2048, .f32⟩

abbrev bufTy : (tb : Table) → Fin (tcTables nBuf tb) → BufTy
  | .hbm, ⟨i, _⟩ => hbmTy i
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_call0_cst : Ref sig .tc := ⟨.hbm, 47, rfl⟩
abbrev main_call0_v0 : Ref sig .tc := ⟨.hbm, 48, rfl⟩
abbrev main_call0_v1 : Ref sig .tc := ⟨.hbm, 49, rfl⟩
abbrev main_call0_v2 : Ref sig .tc := ⟨.hbm, 50, rfl⟩
abbrev main_call0_v3 : Ref sig .tc := ⟨.hbm, 51, rfl⟩
abbrev main_call0_v4 : Ref sig .tc := ⟨.hbm, 52, rfl⟩
abbrev main_call0_v5 : Ref sig .tc := ⟨.hbm, 53, rfl⟩
abbrev main_call0_v6 : Ref sig .tc := ⟨.hbm, 54, rfl⟩
abbrev main_call0_v7 : Ref sig .tc := ⟨.hbm, 55, rfl⟩
abbrev main_call0_v8 : Ref sig .tc := ⟨.hbm, 56, rfl⟩
abbrev main_call0_v9 : Ref sig .tc := ⟨.hbm, 57, rfl⟩
abbrev main_call0_v10 : Ref sig .tc := ⟨.hbm, 58, rfl⟩
abbrev main_call0_v11 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_call1_call0_cst : Ref sig .tc := ⟨.hbm, 65, rfl⟩
abbrev main_call1_call0_v0 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_call3_call0_cst : Ref sig .tc := ⟨.hbm, 71, rfl⟩
abbrev main_call3_call0_v0 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_cst_4 : Ref sig .tc := ⟨.hbm, 79, rfl⟩
abbrev main_v46 : Ref sig .tc := ⟨.hbm, 80, rfl⟩
abbrev main_v47 : Ref sig .tc := ⟨.hbm, 81, rfl⟩
abbrev main_cst_5 : Ref sig .tc := ⟨.hbm, 82, rfl⟩
abbrev main_v48 : Ref sig .tc := ⟨.hbm, 83, rfl⟩
abbrev main_v49 : Ref sig .tc := ⟨.hbm, 84, rfl⟩
abbrev main_cst_6 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_cst_7 : Ref sig .tc := ⟨.hbm, 96, rfl⟩
abbrev main_v60 : Ref sig .tc := ⟨.hbm, 97, rfl⟩
abbrev main_v61 : Ref sig .tc := ⟨.hbm, 98, rfl⟩
abbrev main_cst_8 : Ref sig .tc := ⟨.hbm, 99, rfl⟩
abbrev main_v62 : Ref sig .tc := ⟨.hbm, 100, rfl⟩
abbrev main_v63 : Ref sig .tc := ⟨.hbm, 101, rfl⟩
abbrev main_cst_9 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_cst_10 : Ref sig .tc := ⟨.hbm, 112, rfl⟩
abbrev main_v73 : Ref sig .tc := ⟨.hbm, 113, rfl⟩
abbrev main_v74 : Ref sig .tc := ⟨.hbm, 114, rfl⟩
abbrev main_cst_11 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_cst_12 : Ref sig .tc := ⟨.hbm, 119, rfl⟩
abbrev main_v78 : Ref sig .tc := ⟨.hbm, 120, rfl⟩
abbrev main_v79 : Ref sig .tc := ⟨.hbm, 121, rfl⟩
abbrev main_cst_13 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_cst_14 : Ref sig .tc := ⟨.hbm, 153, rfl⟩
abbrev main_v110 : Ref sig .tc := ⟨.hbm, 154, rfl⟩
abbrev main_v111 : Ref sig .tc := ⟨.hbm, 155, rfl⟩
abbrev main_cst_15 : Ref sig .tc := ⟨.hbm, 156, rfl⟩
abbrev main_v112 : Ref sig .tc := ⟨.hbm, 157, rfl⟩
abbrev main_v113 : Ref sig .tc := ⟨.hbm, 158, rfl⟩
abbrev main_cst_16 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_cst_17 : Ref sig .tc := ⟨.hbm, 169, rfl⟩
abbrev main_v123 : Ref sig .tc := ⟨.hbm, 170, rfl⟩
abbrev main_v124 : Ref sig .tc := ⟨.hbm, 171, rfl⟩
abbrev main_cst_18 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_cst_19 : Ref sig .tc := ⟨.hbm, 176, rfl⟩
abbrev main_v128 : Ref sig .tc := ⟨.hbm, 177, rfl⟩
abbrev main_v129 : Ref sig .tc := ⟨.hbm, 178, rfl⟩
abbrev main_cst_20 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_cst_21 : Ref sig .tc := ⟨.hbm, 210, rfl⟩
abbrev main_v160 : Ref sig .tc := ⟨.hbm, 211, rfl⟩
abbrev main_v161 : Ref sig .tc := ⟨.hbm, 212, rfl⟩
abbrev main_cst_22 : Ref sig .tc := ⟨.hbm, 213, rfl⟩
abbrev main_v162 : Ref sig .tc := ⟨.hbm, 214, rfl⟩
abbrev main_v163 : Ref sig .tc := ⟨.hbm, 215, rfl⟩
abbrev main_v164 : Ref sig .tc := ⟨.hbm, 216, rfl⟩
abbrev main_v165 : Ref sig .tc := ⟨.hbm, 217, rfl⟩
abbrev main_v166 : Ref sig .tc := ⟨.hbm, 218, rfl⟩
abbrev main_v167 : Ref sig .tc := ⟨.hbm, 219, rfl⟩
abbrev main_v168 : Ref sig .tc := ⟨.hbm, 220, rfl⟩
abbrev main_cst_23 : Ref sig .tc := ⟨.hbm, 221, rfl⟩
abbrev main_v169 : Ref sig .tc := ⟨.hbm, 222, rfl⟩
abbrev main_v170 : Ref sig .tc := ⟨.hbm, 223, rfl⟩
abbrev main_cst_24 : Ref sig .tc := ⟨.hbm, 224, rfl⟩
abbrev main_v171 : Ref sig .tc := ⟨.hbm, 225, rfl⟩
abbrev main_v172 : Ref sig .tc := ⟨.hbm, 226, rfl⟩
abbrev main_cst_25 : Ref sig .tc := ⟨.hbm, 227, rfl⟩
abbrev main_v173 : Ref sig .tc := ⟨.hbm, 228, rfl⟩
abbrev main_v174 : Ref sig .tc := ⟨.hbm, 229, rfl⟩
abbrev main_v175 : Ref sig .tc := ⟨.hbm, 230, rfl⟩
abbrev main_v176 : Ref sig .tc := ⟨.hbm, 231, rfl⟩
abbrev main_v177 : Ref sig .tc := ⟨.hbm, 232, rfl⟩
abbrev main_v178 : Ref sig .tc := ⟨.hbm, 233, rfl⟩
abbrev main_v179 : Ref sig .tc := ⟨.hbm, 234, rfl⟩
abbrev main_v180 : Ref sig .tc := ⟨.hbm, 235, rfl⟩
abbrev main_v181 : Ref sig .tc := ⟨.hbm, 236, rfl⟩
abbrev main_v182 : Ref sig .tc := ⟨.hbm, 237, rfl⟩
abbrev main_v183 : Ref sig .tc := ⟨.hbm, 238, rfl⟩
abbrev main_v184 : Ref sig .tc := ⟨.hbm, 239, rfl⟩
abbrev main_cst_26 : Ref sig .tc := ⟨.hbm, 240, rfl⟩
abbrev main_v185 : Ref sig .tc := ⟨.hbm, 241, rfl⟩
abbrev main_v186 : Ref sig .tc := ⟨.hbm, 242, rfl⟩
abbrev main_cst_27 : Ref sig .tc := ⟨.hbm, 243, rfl⟩
abbrev main_v187 : Ref sig .tc := ⟨.hbm, 244, rfl⟩
abbrev main_v188 : Ref sig .tc := ⟨.hbm, 245, rfl⟩
abbrev main_v189 : Ref sig .tc := ⟨.hbm, 246, rfl⟩
abbrev main_v190 : Ref sig .tc := ⟨.hbm, 247, rfl⟩
abbrev main_v191 : Ref sig .tc := ⟨.hbm, 248, rfl⟩
abbrev main_v192 : Ref sig .tc := ⟨.hbm, 249, rfl⟩
abbrev main_v193 : Ref sig .tc := ⟨.hbm, 250, rfl⟩
abbrev main_v194 : Ref sig .tc := ⟨.hbm, 251, rfl⟩
abbrev main_v195 : Ref sig .tc := ⟨.hbm, 252, rfl⟩
abbrev main_v196 : Ref sig .tc := ⟨.hbm, 253, rfl⟩

abbrev nD : Nat := 1
abbrev τ : Topo := Topo.v7x

variable {F : FTy → Type} [FloatOps F]
-- ==== Proof.Sums.lean ====
/-
  Sums over one block of a longer axis, and the constants that the programs write as bit patterns.
-/
module

public import Idealize.ShloMosaic.Lib.Pipeline.ValueKit
public import Idealize.ShloMosaic.Lib.Pointwise

@[expose] public section

noncomputable section

namespace Cert.Proof.Sums

open Idealize.ShloMosaic

/-- A sum against the indicator of block `c` is the sum over that block. -/
theorem sum_block {n : ℕ} (q b : ℕ) (hn : n = q * b) (f : Fin n → EReal) (c : ℕ) (hc : c < q) :
    (∑ x : Fin n, f x * (if x.val / b = c then (1 : EReal) else 0))
      = ∑ d : Fin b, f ⟨c * b + d.val, by
          subst hn
          calc c * b + d.val < c * b + b := by omega
            _ = (c + 1) * b := by ring
            _ ≤ q * b := Nat.mul_le_mul_right _ hc⟩ := by
  subst hn
  rw [← Equiv.sum_comp finProdFinEquiv, Fintype.sum_prod_type,
    Finset.sum_eq_single (⟨c, hc⟩ : Fin q)]
  · refine Finset.sum_congr rfl fun d _ => ?_
    have hb : 0 < b := lt_of_le_of_lt (Nat.zero_le _) d.isLt
    have hv : (finProdFinEquiv ((⟨c, hc⟩ : Fin q), d)).val = d.val + b * c := rfl
    have e : (finProdFinEquiv ((⟨c, hc⟩ : Fin q), d)).val / b = c := by
      rw [hv, Nat.add_mul_div_left _ _ hb, Nat.div_eq_of_lt d.isLt, Nat.zero_add]
    rw [if_pos e, mul_one]
    congr 1
    apply Fin.ext
    show d.val + b * c = c * b + d.val
    ring
  · intro a _ ha
    refine Finset.sum_eq_zero fun d _ => ?_
    have hb : 0 < b := lt_of_le_of_lt (Nat.zero_le _) d.isLt
    have hv : (finProdFinEquiv (a, d)).val = d.val + b * a.val := rfl
    have e : ¬ (finProdFinEquiv (a, d)).val / b = c := by
      rw [hv, Nat.add_mul_div_left _ _ hb, Nat.div_eq_of_lt d.isLt, Nat.zero_add]
      exact fun h => ha (Fin.ext h)
    rw [if_neg e, mul_zero]
  · intro h; exact absurd (Finset.mem_univ _) h

/-- Dividing by 128 is multiplying by its inverse, which the kernel writes as a constant. -/
theorem div_128 (x : EReal) : Ideal.div x (Ideal.ofBits .f32 0x43000000#32) = x * Ideal.ofBits .f32 0x3C000000#32 := by
  have h1 : Ideal.ofBits .f32 0x43000000#32 = ((128 : ℝ) : EReal) := by
    simp [Ideal.ofBits, Ideal.ieee, -EReal.coe_mul]; norm_num
  have h2 : Ideal.ofBits .f32 0x3C000000#32 = ((128⁻¹ : ℝ) : EReal) := by
    simp [Ideal.ofBits, Ideal.ieee, -EReal.coe_mul]; norm_num
  rw [h1, h2]
  unfold Ideal.div
  rw [if_neg (by norm_num)]
  rw [EReal.coe_inv]

/-- Dividing by 64 is multiplying by its inverse, which the kernel writes as a constant. -/
theorem div_64 (x : EReal) : Ideal.div x (Ideal.ofBits .f32 0x42800000#32) = x * Ideal.ofBits .f32 0x3C800000#32 := by
  have h1 : Ideal.ofBits .f32 0x42800000#32 = ((64 : ℝ) : EReal) := by
    simp [Ideal.ofBits, Ideal.ieee, -EReal.coe_mul]; norm_num
  have h2 : Ideal.ofBits .f32 0x3C800000#32 = ((64⁻¹ : ℝ) : EReal) := by
    simp [Ideal.ofBits, Ideal.ieee, -EReal.coe_mul]; norm_num
  rw [h1, h2]
  unfold Ideal.div
  rw [if_neg (by norm_num)]
  rw [EReal.coe_inv]

/-- The word comparison of two block numbers, as an indicator. -/
theorem block_indicator (i j : Fin 512) : (FloatOps.uitofp (F := Ideal) FTy.f32
      (IntOp.cmpi CmpIPredicate.eq (IntOp.divsi ArithUnit.host (BitVec.ofNat 32 i.val) 128#32)
        (IntOp.divsi ArithUnit.host (BitVec.ofNat 32 j.val) 128#32)) : EReal)
    = if i.val / 128 = j.val / 128 then 1 else 0 := by
  have h : ∀ i : Fin 512, IntOp.divsi ArithUnit.host (BitVec.ofNat 32 i.val) 128#32 = BitVec.ofNat 32 (i.val / 128) := by
    decide +kernel
  have h2 : ∀ a b : Fin 4, (IntOp.cmpi CmpIPredicate.eq (BitVec.ofNat 32 a.val) (BitVec.ofNat 32 b.val)) = if a.val = b.val then 1#1 else 0#1 := by
    decide +kernel
  rw [h, h, h2 ⟨i.val / 128, by omega⟩ ⟨j.val / 128, by omega⟩]
  dsimp only
  split
  · simp [FloatOps.uitofp]
  · simp [FloatOps.uitofp]

end Cert.Proof.Sums
end
-- ==== Proof.AttnBlock.lean ====
/-
  The attention call: what one 128-row piece of a block computes, as vectors and then entry by entry.
-/
module

public import proofs.«01_k».proof.Proof.Gen.AttnIdeal.Value
public import proofs.«01_k».proof.Proof.Sums

@[expose] public section

set_option maxRecDepth 16384
set_option maxHeartbeats 1000000

noncomputable section

namespace Cert.AttnIdeal.RefValue

open Cert.AttnIdeal Cert.AttnIdeal.Gen Idealize.ShloMosaic Idealize.ShloMosaic.TcCoe Idealize.SL.Sem

/-- A block of keys or values with its upper 64 lanes cleared. -/
def low (x : FVec Ideal S128x128 .f32) : FVec Ideal S128x128 .bf16 :=
  truncf .bf16 (select k0_pay2 x (broadcast S128x128 (Scalar.ofBits .f32 0x00000000#32))) bitsLt_bf16_f32

/-- A block of keys or values with its lower 64 lanes cleared. -/
def high (x : FVec Ideal S128x128 .f32) : FVec Ideal S128x128 .bf16 :=
  truncf .bf16 (select (xori k0_pay2 (constantI S128x128 1 1#1)) x (broadcast S128x128 (Scalar.ofBits .f32 0x00000000#32))) bitsLt_bf16_f32

/-- A block of keys or values as it is. -/
def keep (x : FVec Ideal S128x128 .bf16) : FVec Ideal S128x128 .f32 := extf .f32 x bitsLt_bf16_f32

/-- A block of keys or values with its two lane halves exchanged. -/
def turn (x : FVec Ideal S128x128 .bf16) : FVec Ideal S128x128 .f32 :=
  dynamicRotate 1 64#32 none (extf .f32 x bitsLt_bf16_f32) rotates_S128x128_d1

/-- The two query slabs, one above the other. -/
def stack (qt qb : FVec Ideal S128x128 .bf16) : FVec Ideal S256x128 .bf16 :=
  concatenate S256x128 0 [⟨S128x128, qt⟩, ⟨S128x128, qb⟩] concatenates_S128x128_S128x128_S256x128_d0

/-- The sink logit of each row: one for the upper slab, one for the lower. -/
def sinkCol (s0 s1 : EReal) : FVec Ideal S256x1 .f32 := select k0_pay4 (broadcast S256x1 s0) (broadcast S256x1 s1)

/-- The logits of a row against a key block, unmasked. -/
def logits (q : FVec Ideal S256x128 .bf16) (k : FVec Ideal S128x128 .bf16) : FVec Ideal S256x128 .f32 :=
  matmul dot_S256x128_S128x128_S256x128_1_1_0_0_n_n none q k (constant S256x128 .f32 0x00000000#32)

/-- The logits against the block before, masked. -/
def logitsP (ok : BitVec 1) (q : FVec Ideal S256x128 .bf16) (k : FVec Ideal S128x128 .bf16) : FVec Ideal S256x128 .f32 :=
  select (andi (cmpi .sge (iota .tc S256x128 32 [1] iota_S256x128_d1_w32) k0_pay3) (broadcast S256x128 ok)) (logits q k)
    (broadcast S256x128 (Scalar.ofBits .f32 0xFF800000#32))

/-- The logits against the block after, masked. -/
def logitsN (ok : BitVec 1) (q : FVec Ideal S256x128 .bf16) (k : FVec Ideal S128x128 .bf16) : FVec Ideal S256x128 .f32 :=
  select (andi (cmpi .sle (iota .tc S256x128 32 [1] iota_S256x128_d1_w32) k0_pay3) (broadcast S256x128 ok)) (logits q k)
    (broadcast S256x128 (Scalar.ofBits .f32 0xFF800000#32))

/-- The largest logit of a row, its sink among them. -/
def rowTop (s : FVec Ideal S256x1 .f32) (l0 l1 l2 : FVec Ideal S256x128 .f32) : FVec Ideal S256x1 .f32 :=
  maximumf s (shapeCast S256x1 (multiReduction .maximumf [1] S256 (maximumf (maximumf l0 l1) l2) 0xFF800000#32 reduces_S256x128_S256 (.inl rfl) rfl)
    shapeCasts_S256_S256x1)

/-- The weights of a key block, not yet divided. -/
def weights (l : FVec Ideal S256x128 .f32) (t : FVec Ideal S256x1 .f32) : FVec Ideal S256x128 .f32 :=
  exp (subf l (broadcastTo S256x128 t broadcasts_S256x1_S256x128))

/-- The divisor of a row. -/
def rowDen (s : FVec Ideal S256x1 .f32) (l0 l1 l2 : FVec Ideal S256x128 .f32) : FVec Ideal S256x1 .f32 :=
  addf (exp (subf s (rowTop s l0 l1 l2)))
    (shapeCast S256x1 (multiReduction .add [1] S256 (addf (addf (weights l0 (rowTop s l0 l1 l2)) (weights l1 (rowTop s l0 l1 l2)))
      (weights l2 (rowTop s l0 l1 l2))) 0x00000000#32 reduces_S256x128_S256 (.inl rfl) rfl) shapeCasts_S256_S256x1)

/-- Weights against values. -/
def pv (p : FVec Ideal S256x128 .f32) (v : FVec Ideal S128x128 .bf16) : FVec Ideal S256x128 .f32 :=
  matmul dot_S256x128_S128x128_S256x128_1_0_0_1_n_n none (truncf .bf16 p bitsLt_bf16_f32) v (constant S256x128 .f32 0x00000000#32)

/-- What one head's lane half contributes to the two slabs. -/
def part (s : FVec Ideal S256x1 .f32) (l0 l1 l2 : FVec Ideal S256x128 .f32) (v0 v1 v2 : FVec Ideal S128x128 .bf16) : FVec Ideal S256x128 .f32 :=
  divf (addf (addf (addf (broadcast S256x128 (Scalar.ofBits .f32 0x00000000#32)) (pv (weights l0 (rowTop s l0 l1 l2)) v0))
    (pv (weights l1 (rowTop s l0 l1 l2)) v1)) (pv (weights l2 (rowTop s l0 l1 l2)) v2))
    (broadcastTo S256x128 (rowDen s l0 l1 l2) broadcasts_S256x1_S256x128)

/-- Both lane halves' contributions. -/
def slabs (p0 p1 : FVec Ideal S256x128 .f32) : FVec Ideal S256x128 .f32 :=
  addf (addf (broadcast S256x128 (Scalar.ofBits .f32 0x00000000#32)) p0) p1

/-- The upper slab times its gate. -/
def upper (a : FVec Ideal S256x128 .f32) (g : FVec Ideal S128x128 .bf16) : FVec Ideal S128x128 .bf16 :=
  truncf .bf16 (mulf (extractStridedSlice S128x128 ![0, 0] a slices_S256x128_o0_0_S128x128) (extf .f32 g bitsLt_bf16_f32)) bitsLt_bf16_f32

/-- The lower slab times its gate. -/
def lower (a : FVec Ideal S256x128 .f32) (g : FVec Ideal S128x128 .bf16) : FVec Ideal S128x128 .bf16 :=
  truncf .bf16 (mulf (extractStridedSlice S128x128 ![128, 0] a slices_S256x128_o128_0_S128x128) (extf .f32 g bitsLt_bf16_f32)) bitsLt_bf16_f32

theorem lane_lt : ∀ l : Fin 128, IntOp.cmpi CmpIPredicate.slt (BitVec.ofNat 32 ↑l) 64#32 = if l.val < 64 then 1#1 else 0#1 := by decide +kernel

theorem row_lt : ∀ r : Fin 256, IntOp.cmpi CmpIPredicate.slt (BitVec.ofNat 32 ↑r) 128#32 = if r.val < 128 then 1#1 else 0#1 := by decide +kernel

theorem row_mod : ∀ r : Fin 256, k0_pay3 (ix2 r (0 : Fin 128)) = BitVec.ofNat 32 (r.val % 128) := by decide +kernel

theorem k0_pay3_apply (r : Fin 256) (j : Fin 128) : k0_pay3 (ix2 r j) = BitVec.ofNat 32 (r.val % 128) := by
  rw [← row_mod r]
  pointwise [k0_pay3]

theorem sge_iff : ∀ j r : Fin 128, IntOp.cmpi CmpIPredicate.sge (BitVec.ofNat 32 ↑j) (BitVec.ofNat 32 ↑r) = if r.val ≤ j.val then 1#1 else 0#1 := by decide +kernel

theorem sle_iff : ∀ j r : Fin 128, IntOp.cmpi CmpIPredicate.sle (BitVec.ofNat 32 ↑j) (BitVec.ofNat 32 ↑r) = if j.val ≤ r.val then 1#1 else 0#1 := by decide +kernel

theorem and_bit : ∀ x y : BitVec 1, (IntOp.andi x y = 1#1 ↔ x = 1#1 ∧ y = 1#1) := by decide

theorem ninf : Ideal.ofBits FTy.f32 4286578688#32 = (⊥ : EReal) := by
  simp [Ideal.ofBits, FloatOps.ofBits, Ideal.ieee]

theorem low_apply (x : FVec Ideal S128x128 .f32) (j l : Fin 128) : low x (ix2 j l) = if l.val < 64 then x (ix2 j l) else 0 := by
  pointwise [low, k0_pay2]
  rw [lane_lt]
  by_cases h : l.val < 64 <;> simp [h, Scalar.select]

theorem high_apply (x : FVec Ideal S128x128 .f32) (j l : Fin 128) : high x (ix2 j l) = if l.val < 64 then 0 else x (ix2 j l) := by
  pointwise [high, k0_pay2]
  rw [lane_lt]
  by_cases h : l.val < 64 <;> simp [h, Scalar.select, IntOp.xori]

theorem keep_apply (x : FVec Ideal S128x128 .bf16) (j l : Fin 128) : keep x (ix2 j l) = x (ix2 j l) := by
  pointwise [keep]

theorem turn_apply (x : FVec Ideal S128x128 .bf16) (j l : Fin 128) : turn x (ix2 j l) = x (ix2 j ⟨(l.val + 64) % 128, by omega⟩) := by
  pointwise [turn]
  congr 2

theorem stack_apply (a b : FVec Ideal S128x128 .bf16) (r : Fin 256) (l : Fin 128) :
    stack a b (ix2 r l) = if h : r.val < 128 then a (ix2 ⟨r.val, h⟩ l) else b (ix2 ⟨r.val - 128, by omega⟩ l) := by
  pointwise [stack]

theorem sink_apply (a b : EReal) (r : Fin 256) (z : Fin 1) : sinkCol a b (ix2 r z) = if r.val < 128 then a else b := by
  pointwise [sinkCol, k0_pay4]
  rw [row_lt]
  by_cases h : r.val < 128 <;> simp [h, Scalar.select]

theorem logits_apply (q : FVec Ideal S256x128 .bf16) (k : FVec Ideal S128x128 .bf16) (r : Fin 256) (j : Fin 128) :
    logits q k (ix2 r j) = ∑ c : Fin 128, q (ix2 r c) * k (ix2 j c) := by
  pointwise [logits]

theorem logitsP_apply (ok : BitVec 1) (q : FVec Ideal S256x128 .bf16) (k : FVec Ideal S128x128 .bf16) (r : Fin 256) (j : Fin 128) :
    logitsP ok q k (ix2 r j) = if r.val % 128 ≤ j.val ∧ ok = 1#1 then ∑ c : Fin 128, q (ix2 r c) * k (ix2 j c) else ⊥ := by
  pointwise [logitsP, logits, k0_pay3_apply]
  rw [ninf, sge_iff j ⟨r.val % 128, by omega⟩]
  by_cases h : r.val % 128 ≤ j.val <;> simp [h, Scalar.select, and_bit]

theorem logitsN_apply (ok : BitVec 1) (q : FVec Ideal S256x128 .bf16) (k : FVec Ideal S128x128 .bf16) (r : Fin 256) (j : Fin 128) :
    logitsN ok q k (ix2 r j) = if j.val ≤ r.val % 128 ∧ ok = 1#1 then ∑ c : Fin 128, q (ix2 r c) * k (ix2 j c) else ⊥ := by
  pointwise [logitsN, logits, k0_pay3_apply]
  rw [ninf, sle_iff j ⟨r.val % 128, by omega⟩]
  by_cases h : j.val ≤ r.val % 128 <;> simp [h, Scalar.select, and_bit]

theorem rowTop_apply (s : FVec Ideal S256x1 .f32) (l0 l1 l2 : FVec Ideal S256x128 .f32) (r : Fin 256) (z : Fin 1) :
    rowTop s l0 l1 l2 (ix2 r z) = max (s (ix2 r z)) (Finset.univ.sup fun j : Fin 128 => max (max (l0 (ix2 r j)) (l1 (ix2 r j))) (l2 (ix2 r j))) := by
  pointwise [rowTop]
  rw [ninf]
  rfl

theorem part_apply (s : FVec Ideal S256x1 .f32) (l0 l1 l2 : FVec Ideal S256x128 .f32) (v0 v1 v2 : FVec Ideal S128x128 .bf16) (r : Fin 256) (l : Fin 128) :
    part s l0 l1 l2 v0 v1 v2 (ix2 r l) =
      Ideal.div
      (∑ x : Fin 128, Ideal.exp (l0 (ix2 r x) - rowTop s l0 l1 l2 (ix2 r 0)) * v0 (ix2 x l) +
          ∑ x : Fin 128, Ideal.exp (l1 (ix2 r x) - rowTop s l0 l1 l2 (ix2 r 0)) * v1 (ix2 x l) +
        ∑ x : Fin 128, Ideal.exp (l2 (ix2 r x) - rowTop s l0 l1 l2 (ix2 r 0)) * v2 (ix2 x l))
      (Ideal.exp (s (ix2 r 0) - rowTop s l0 l1 l2 (ix2 r 0)) +
        ∑ x : Fin 128,
          (Ideal.exp (l0 (ix2 r x) - rowTop s l0 l1 l2 (ix2 r 0)) +
              Ideal.exp (l1 (ix2 r x) - rowTop s l0 l1 l2 (ix2 r 0)) +
            Ideal.exp (l2 (ix2 r x) - rowTop s l0 l1 l2 (ix2 r 0)))) := by
  pointwise [part, rowDen, pv, weights]

theorem slabs_apply (a b : FVec Ideal S256x128 .f32) (r : Fin 256) (l : Fin 128) : slabs a b (ix2 r l) = a (ix2 r l) + b (ix2 r l) := by
  pointwise [slabs]

theorem upper_apply (a : FVec Ideal S256x128 .f32) (g : FVec Ideal S128x128 .bf16) (r l : Fin 128) :
    upper a g (ix2 r l) = a (ix2 ⟨r.val, by omega⟩ l) * g (ix2 r l) := by
  pointwise [upper]

theorem lower_apply (a : FVec Ideal S256x128 .f32) (g : FVec Ideal S128x128 .bf16) (r l : Fin 128) :
    lower a g (ix2 r l) = a (ix2 ⟨128 + r.val, by omega⟩ l) * g (ix2 r l) := by
  pointwise [lower]

end Cert.AttnIdeal.RefValue
end
-- ==== Proof.AttnTile.lean ====
/-
  The attention call: the two slabs that one key head leaves for one block of 128 query rows, and the arrays' blocks that
  they are computed from.
-/
module

public import proofs.«01_k».proof.Proof.AttnBlock

@[expose] public section

set_option maxRecDepth 16384
set_option maxHeartbeats 1000000

noncomputable section

namespace Cert.AttnIdeal.RefValue

open Cert.AttnIdeal Cert.AttnIdeal.Gen Idealize.ShloMosaic Idealize.ShloMosaic.TcCoe Idealize.SL.Sem

/-- The slabs of the first key head: its lower lane half is the block as it is, its upper one the block turned. -/
def tile0 (s0 s1 s2 s3 : EReal) (qt qb : FVec Ideal S128x128 .bf16) (ok0 ok2 : BitVec 1) (k0 k1 k2 v0 v1 v2 : FVec Ideal S128x128 .bf16) :
    FVec Ideal S256x128 .f32 :=
  slabs (part (sinkCol s0 s2) (logitsP ok0 (stack qt qb) (low (keep k0))) (logits (stack qt qb) (low (keep k1))) (logitsN ok2 (stack qt qb) (low (keep k2)))
      (low (keep v0)) (low (keep v1)) (low (keep v2)))
    (part (sinkCol s1 s3) (logitsP ok0 (stack qt qb) (high (turn k0))) (logits (stack qt qb) (high (turn k1))) (logitsN ok2 (stack qt qb) (high (turn k2)))
      (high (turn v0)) (high (turn v1)) (high (turn v2)))

/-- The slabs of the second key head: its lower lane half is the block turned, its upper one the block as it is. -/
def tile1 (s0 s1 s2 s3 : EReal) (qt qb : FVec Ideal S128x128 .bf16) (ok0 ok2 : BitVec 1) (k0 k1 k2 v0 v1 v2 : FVec Ideal S128x128 .bf16) :
    FVec Ideal S256x128 .f32 :=
  slabs (part (sinkCol s0 s2) (logitsP ok0 (stack qt qb) (low (turn k0))) (logits (stack qt qb) (low (turn k1))) (logitsN ok2 (stack qt qb) (low (turn k2)))
      (low (turn v0)) (low (turn v1)) (low (turn v2)))
    (part (sinkCol s1 s3) (logitsP ok0 (stack qt qb) (high (keep k0))) (logits (stack qt qb) (high (keep k1))) (logitsN ok2 (stack qt qb) (high (keep k2)))
      (high (keep v0)) (high (keep v1)) (high (keep v2)))

variable (m : (ℓ : Loc nD τ sig) → Buf (Elt Ideal) ℓ)

/-- The key rows that a query block's `i`-th neighbour block holds. -/
abbrev keyB (c : Dev nD) (t : Fin cfg0.N) (i : Fin 6) : FVec Ideal S128x128 .bf16 :=
  View.ld (iblk m c 2 t) (Rect.unit (k0_off1 (grid0.coords t) (BitVec.ofNat 32 i.val)) ![128, 128] (k0_off1_inb (grid0.coords t) i))

/-- The value rows that a query block's `i`-th neighbour block holds. -/
abbrev valB (c : Dev nD) (t : Fin cfg0.N) (i : Fin 6) : FVec Ideal S128x128 .bf16 :=
  View.ld (iblk m c 3 t) (Rect.unit (k0_off1 (grid0.coords t) (BitVec.ofNat 32 i.val)) ![128, 128] (k0_off1_inb (grid0.coords t) i))

/-- Whether the neighbour block lies inside the sequence. -/
abbrev okB (t : Fin cfg0.N) (i : BitVec 32) : BitVec 1 :=
  Scalar.andi (Scalar.cmpi CmpIPredicate.sge (Scalar.addi (Scalar.subi (Scalar.muli (BitVec.ofNat 32 ↑(grid0.coords t 1)) 4#32) 1#32) i) 0#32)
    (Scalar.cmpi CmpIPredicate.slt (Scalar.addi (Scalar.subi (Scalar.muli (BitVec.ofNat 32 ↑(grid0.coords t 1)) 4#32) 1#32) i) 16#32)

end Cert.AttnIdeal.RefValue
end
-- ==== Proof.AttnRef.lean ====
/-
  The attention call's reference: its logits, divisors and outputs, named, and what one entry of each holds.
-/
module

public import proofs.«01_k».proof.Proof.Gen.AttnRefIdeal.Run
public import proofs.«01_k».proof.Proof.Sums

@[expose] public section

set_option maxRecDepth 16384
set_option maxHeartbeats 1000000

noncomputable section

namespace Cert.AttnRefIdeal.RefValue

open Cert.AttnRefIdeal Cert.AttnRefIdeal.Gen Idealize.ShloMosaic

/-- The windowed attention's logits, masked outside the window: batch, key head, query head of it, query row, key row. -/
def wLog (a1 : FVec Ideal S16384x512 .bf16) (a2 : FVec Ideal S16384x128 .bf16) : FVec Ideal S8x2x4x2048x2048 .f32 :=
  select (broadcastInDim S8x2x4x2048x2048 ![3, 4] bcast_S2048x2048_S8x2x4x2048x2048_3_4 (cmpi .sle (absi (subi (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))) (broadcastInDim S2048x2048 ![] bcast_S_S2048x2048 (constantI S_ 32 128#32)))) (transpose S8x2x4x2048x2048 [0, 1, 4, 3, 2] (Host.dotGeneral dot_S8x2048x2x64_S8x2048x2x4x64_S8x2x2048x2048x4_3_4_1_13_02_02 none (shapeCast _ (extf .f32 a2 bitsLt_bf16_f32) shapeCasts_S16384x128_S8x2048x2x64) (shapeCast _ (extf .f32 a1 bitsLt_bf16_f32) shapeCasts_S16384x512_S8x2048x2x4x64)) transposes_S8x2x2048x2048x4_S8x2x4x2048x2048_0_1_4_3_2) (broadcastInDim S8x2x4x2048x2048 ![] bcast_S_S8x2x4x2048x2048 (id (constant S_ .f32 0xFF800000#32)))

/-- The largest of each row's logits. -/
def wMax (L : FVec Ideal S8x2x4x2048x2048 .f32) : FVec Ideal S8x2x4x2048 .f32 :=
  Host.reduce FloatOps.maximumf L (constant S_ .f32 0xFF800000#32) reducesTo_S8x2x4x2048x2048_S8x2x4x2048_d4 h_S_

/-- The largest of each row's logits and its sink. -/
def wTop (a0 : FVec Ideal S8 .f32) (L : FVec Ideal S8x2x4x2048x2048 .f32) : FVec Ideal S8x2x4x2048x1 .f32 :=
  maximumf (broadcastInDim S8x2x4x2048x1 ![0, 1, 2, 3] bcast_S8x2x4x2048_S8x2x4x2048x1_0_1_2_3 (wMax L)) (broadcastInDim S8x2x4x2048x1 ![0, 1, 2, 3, 4] bcast_S1x2x4x1x1_S8x2x4x2048x1_0_1_2_3_4 (shapeCast _ a0 shapeCasts_S8_S1x2x4x1x1))

/-- Each row's divisor. -/
def wDen (a0 : FVec Ideal S8 .f32) (L : FVec Ideal S8x2x4x2048x2048 .f32) : FVec Ideal S8x2x4x2048x1 .f32 :=
  addf (broadcastInDim S8x2x4x2048x1 ![0, 1, 2, 3] bcast_S8x2x4x2048_S8x2x4x2048x1_0_1_2_3 (Host.reduceAdd (Host.exp (subf L (broadcastInDim S8x2x4x2048x2048 ![0, 1, 2, 3, 4] bcast_S8x2x4x2048x1_S8x2x4x2048x2048_0_1_2_3_4 (wTop a0 L)))) (constant S_ .f32 0x00000000#32) reducesTo_S8x2x4x2048x2048_S8x2x4x2048_d4 h_S_)) (Host.exp (subf (broadcastInDim S8x2x4x2048x1 ![0, 1, 2, 3, 4] bcast_S1x2x4x1x1_S8x2x4x2048x1_0_1_2_3_4 (shapeCast _ a0 shapeCasts_S8_S1x2x4x1x1)) (wTop a0 L)))

/-- The windowed attention's weights. -/
def wW (a0 : FVec Ideal S8 .f32) (L : FVec Ideal S8x2x4x2048x2048 .f32) : FVec Ideal S8x2x4x2048x2048 .f32 :=
  Host.divf (Host.exp (subf L (broadcastInDim S8x2x4x2048x2048 ![0, 1, 2, 3, 4] bcast_S8x2x4x2048x1_S8x2x4x2048x2048_0_1_2_3_4 (wTop a0 L)))) (broadcastInDim S8x2x4x2048x2048 ![0, 1, 2, 3, 4] bcast_S8x2x4x2048x1_S8x2x4x2048x2048_0_1_2_3_4 (wDen a0 L))

/-- The windowed attention times its gate. -/
def wOut (a0 : FVec Ideal S8 .f32) (a1 : FVec Ideal S16384x512 .bf16) (a2 a3 : FVec Ideal S16384x128 .bf16) (a4 : FVec Ideal S16384x512 .bf16) : FVec Ideal S16384x512 .f32 :=
  mulf (shapeCast _ (transpose S8x2048x2x4x64 [0, 4, 1, 3, 2] (Host.dotGeneral dot_S8x2048x2x64_S8x2x4x2048x2048_S8x2x64x4x2048_1_4_3_23_02_01 none (shapeCast _ (extf .f32 a3 bitsLt_bf16_f32) shapeCasts_S16384x128_S8x2048x2x64) (wW a0 (wLog a1 a2))) transposes_S8x2x64x4x2048_S8x2048x2x4x64_0_4_1_3_2) shapeCasts_S8x2048x2x4x64_S16384x512) (extf .f32 a4 bitsLt_bf16_f32)

/-- The cross-attention's logits: batch, head, query row, memory row. -/
def cLog (a5 : FVec Ideal S16384x512 .bf16) (a6 : FVec Ideal S2048x512 .bf16) : FVec Ideal S8x4x2048x256 .f32 :=
  Host.dotGeneral dot_S8x2048x4x128_S8x256x4x128_S8x4x2048x256_3_3_1_1_02_02 none (shapeCast _ (extf .f32 a5 bitsLt_bf16_f32) shapeCasts_S16384x512_S8x2048x4x128) (shapeCast _ (extf .f32 a6 bitsLt_bf16_f32) shapeCasts_S2048x512_S8x256x4x128)

/-- The largest of each row's logits. -/
def cMax (L : FVec Ideal S8x4x2048x256 .f32) : FVec Ideal S8x4x2048 .f32 :=
  Host.reduce FloatOps.maximumf L (constant S_ .f32 0xFF800000#32) reducesTo_S8x4x2048x256_S8x4x2048_d3 h_S_

/-- The largest of each row's logits, once more. -/
def cTop (L : FVec Ideal S8x4x2048x256 .f32) : FVec Ideal S8x4x2048 .f32 :=
  maximumf (broadcastInDim S8x4x2048 ![] bcast_S_S8x4x2048 (constant S_ .f32 0xFF800000#32)) (cMax L)

/-- The cross-attention's weights. -/
def cW (L : FVec Ideal S8x4x2048x256 .f32) : FVec Ideal S8x4x2048x256 .f32 :=
  Host.divf (Host.exp (subf L (broadcastInDim S8x4x2048x256 ![0, 1, 2, 3] bcast_S8x4x2048x1_S8x4x2048x256_0_1_2_3 (broadcastInDim S8x4x2048x1 ![0, 1, 2] bcast_S8x4x2048_S8x4x2048x1_0_1_2 (cTop L))))) (broadcastInDim S8x4x2048x256 ![0, 1, 2, 3] bcast_S8x4x2048x1_S8x4x2048x256_0_1_2_3 (broadcastInDim S8x4x2048x1 ![0, 1, 2] bcast_S8x4x2048_S8x4x2048x1_0_1_2 (Host.reduceAdd (Host.exp (subf L (broadcastInDim S8x4x2048x256 ![0, 1, 2, 3] bcast_S8x4x2048x1_S8x4x2048x256_0_1_2_3 (broadcastInDim S8x4x2048x1 ![0, 1, 2] bcast_S8x4x2048_S8x4x2048x1_0_1_2 (cTop L))))) (constant S_ .f32 0x00000000#32) reducesTo_S8x4x2048x256_S8x4x2048_d3 h_S_)))

/-- The cross-attention times its gate. -/
def cOut (a5 : FVec Ideal S16384x512 .bf16) (a6 a7 : FVec Ideal S2048x512 .bf16) (a8 : FVec Ideal S16384x512 .bf16) : FVec Ideal S16384x512 .f32 :=
  mulf (shapeCast _ (transpose S8x2048x4x128 [0, 3, 1, 2] (Host.dotGeneral dot_S8x256x4x128_S8x4x2048x256_S8x4x128x2048_1_3_3_2_02_01 none (shapeCast _ (extf .f32 a7 bitsLt_bf16_f32) shapeCasts_S2048x512_S8x256x4x128) (cW (cLog a5 a6))) transposes_S8x4x128x2048_S8x2048x4x128_0_3_1_2) shapeCasts_S8x2048x4x128_S16384x512) (extf .f32 a8 bitsLt_bf16_f32)

/-- The reference's result as one term of its arguments. -/
def REF0 (a0 : FVec Ideal S8 .f32) (a1 : FVec Ideal S16384x512 .bf16) (a2 a3 : FVec Ideal S16384x128 .bf16) (a4 a5 : FVec Ideal S16384x512 .bf16)
    (a6 a7 : FVec Ideal S2048x512 .bf16) (a8 : FVec Ideal S16384x512 .bf16) : FVec Ideal S16384x1024 .bf16 :=
  truncf .bf16 (concatenate S16384x1024 1 [⟨S16384x512, (wOut a0 a1 a2 a3 a4)⟩, ⟨S16384x512, (cOut a5 a6 a7 a8)⟩] concatenates_S16384x512_S16384x512_S16384x1024_d1) bitsLt_bf16_f32

/-- The result that the run states is that term of the arguments. -/
theorem res_eq (m : (ℓ : Loc nD τ sig) → Buf (Elt Ideal) ℓ) (c : Dev nD) : Cert.AttnRefIdeal.Value.res_main_v63 m c
    = REF0 (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8)) := by
  unfold Cert.AttnRefIdeal.Value.res_main_v63 REF0 wOut cOut wW cW wDen wTop cTop wMax cMax wLog cLog
  rfl

/-- Whether two rows lie within 128 of each other, as the mask computes it. -/
theorem near (q k : ℕ) (hq : q < 2048) (hk : k < 2048) :
    IntOp.cmpi CmpIPredicate.sle (IntOp.absi (IntOp.subi (BitVec.ofNat 32 k) (BitVec.ofNat 32 q))) 128#32
      = if q ≤ k + 128 ∧ k ≤ q + 128 then 1#1 else 0#1 := by
  have up : ∀ d : Fin 2048, IntOp.cmpi CmpIPredicate.sle (IntOp.absi (BitVec.ofNat 32 d.val)) 128#32 = if d.val ≤ 128 then 1#1 else 0#1 := by
    decide +kernel
  have dn : ∀ d : Fin 2048, IntOp.cmpi CmpIPredicate.sle (IntOp.absi (-(BitVec.ofNat 32 d.val))) 128#32 = if d.val ≤ 128 then 1#1 else 0#1 := by
    decide +kernel
  rcases Nat.le_total q k with h | h
  · have e : IntOp.subi (BitVec.ofNat 32 k) (BitVec.ofNat 32 q) = BitVec.ofNat 32 (k - q) := by
      apply BitVec.eq_of_toNat_eq
      unfold IntOp.subi
      rw [BitVec.toNat_sub, BitVec.toNat_ofNat, BitVec.toNat_ofNat, BitVec.toNat_ofNat]
      omega
    rw [e, up ⟨k - q, by omega⟩]
    exact if_congr (by show k - q ≤ 128 ↔ _; omega) rfl rfl
  · have e : IntOp.subi (BitVec.ofNat 32 k) (BitVec.ofNat 32 q) = -(BitVec.ofNat 32 (q - k)) := by
      apply BitVec.eq_of_toNat_eq
      unfold IntOp.subi
      rw [BitVec.toNat_sub, BitVec.toNat_neg, BitVec.toNat_ofNat, BitVec.toNat_ofNat, BitVec.toNat_ofNat]
      omega
    rw [e, dn ⟨q - k, by omega⟩]
    exact if_congr (by show q - k ≤ 128 ↔ _; omega) rfl rfl

/-- The mask's filling is `⊥`. -/
theorem bot_const : (constant (F := Ideal) S_ FTy.f32 4286578688#32) ix0 = (⊥ : EReal) := by
  show Ideal.ofBits FTy.f32 4286578688#32 = ⊥
  simp [Ideal.ofBits, FloatOps.ofBits, Ideal.ieee]

/-- A logit inside the window, and `⊥` outside it. -/
theorem wLog_apply (a1 : FVec Ideal S16384x512 .bf16) (a2 : FVec Ideal S16384x128 .bf16) (b : Fin 8) (h : Fin 2) (g : Fin 4) (q k : Fin 2048) :
    wLog a1 a2 (ix5 b h g q k) = if q.val ≤ k.val + 128 ∧ k.val ≤ q.val + 128 then
      ∑ x : Fin 64, a2 (ix2 ⟨b.val * 2048 + k.val, by omega⟩ ⟨h.val * 64 + x.val, by omega⟩)
        * a1 (ix2 ⟨b.val * 2048 + q.val, by omega⟩ ⟨h.val * 256 + g.val * 64 + x.val, by omega⟩) else ⊥ := by
  have hm := near q.val k.val q.isLt k.isLt
  pointwise [wLog]
  rw [hm]
  by_cases hh : q.val ≤ k.val + 128 ∧ k.val ≤ q.val + 128
  · rw [if_pos hh, if_pos hh]; exact if_pos rfl
  · rw [if_neg hh, if_neg hh]; exact (if_neg (by decide)).trans bot_const

/-- A fold of `max` from `⊥` is the supremum. -/
theorem fold_sup {ι : Type} (s : Finset ι) (f : ι → EReal) : Finset.fold max (⊥ : EReal) f s = s.sup f := rfl

theorem wMax_fold (L : FVec Ideal S8x2x4x2048x2048 .f32) (b : Fin 8) (h : Fin 2) (g : Fin 4) (q : Fin 2048) :
    wMax L (ix4 b h g q) = Finset.univ.fold max ((constant (F := Ideal) S_ .f32 0xFF800000#32) ix0) fun k : Fin 2048 => L (ix5 b h g q k) := by
  unfold wMax
  simp only [pointwise]

/-- The largest of a row's logits. -/
theorem wMax_apply (L : FVec Ideal S8x2x4x2048x2048 .f32) (b : Fin 8) (h : Fin 2) (g : Fin 4) (q : Fin 2048) :
    wMax L (ix4 b h g q) = Finset.univ.sup fun k : Fin 2048 => L (ix5 b h g q k) := by
  rw [wMax_fold, bot_const]
  exact fold_sup _ _

/-- The largest of a row's logits and its sink. -/
theorem wTop_apply (a0 : FVec Ideal S8 .f32) (L : FVec Ideal S8x2x4x2048x2048 .f32) (b : Fin 8) (h : Fin 2) (g : Fin 4) (q : Fin 2048) (z : Fin 1) :
    wTop a0 L (ix5 b h g q z) = max (Finset.univ.sup fun k : Fin 2048 => L (ix5 b h g q k)) (a0 (ix1 ⟨h.val * 4 + g.val, by omega⟩)) := by
  rw [← wMax_apply L b h g q]
  unfold wTop
  rw [maximumf_apply]
  generalize wMax L = X
  refine congrArg₂ (FloatOps.maximumf (F := Ideal) (φ := .f32)) ?_ ?_
  · pointwise
  · pointwise

/-- A row's divisor. -/
theorem wDen_apply (a0 : FVec Ideal S8 .f32) (L : FVec Ideal S8x2x4x2048x2048 .f32) (b : Fin 8) (h : Fin 2) (g : Fin 4) (q : Fin 2048) (z : Fin 1) :
    wDen a0 L (ix5 b h g q z) = ∑ x : Fin 2048, Ideal.exp (L (ix5 b h g q x) - wTop a0 L (ix5 b h g q 0))
      + Ideal.exp (a0 (ix1 ⟨h.val * 4 + g.val, by omega⟩) - wTop a0 L (ix5 b h g q 0)) := by
  obtain rfl : z = 0 := Subsingleton.elim _ _
  pointwise [wDen]

/-- A weight. -/
theorem wW_apply (a0 : FVec Ideal S8 .f32) (L : FVec Ideal S8x2x4x2048x2048 .f32) (b : Fin 8) (h : Fin 2) (g : Fin 4) (q k : Fin 2048) :
    wW a0 L (ix5 b h g q k) = Ideal.div (Ideal.exp (L (ix5 b h g q k) - wTop a0 L (ix5 b h g q 0))) (wDen a0 L (ix5 b h g q 0)) := by
  pointwise [wW]

/-- An entry of the windowed half. -/
theorem wOut_apply (a0 : FVec Ideal S8 .f32) (a1 : FVec Ideal S16384x512 .bf16) (a2 a3 : FVec Ideal S16384x128 .bf16) (a4 : FVec Ideal S16384x512 .bf16)
    (R : Fin 16384) (C : Fin 512) :
    wOut a0 a1 a2 a3 a4 (ix2 R C) = (∑ x : Fin 2048, a3 (ix2 ⟨R.val / 2048 * 2048 + x.val, by omega⟩ ⟨C.val / 256 * 64 + C.val % 64, by omega⟩) *
      wW a0 (wLog a1 a2) (ix5 ⟨R.val / 2048, by omega⟩ ⟨C.val / 256, by omega⟩ ⟨C.val / 64 % 4, by omega⟩ ⟨R.val % 2048, by omega⟩ x)) * a4 (ix2 R C) := by
  pointwise [wOut]

/-- A logit of the cross-attention. -/
theorem cLog_apply (a5 : FVec Ideal S16384x512 .bf16) (a6 : FVec Ideal S2048x512 .bf16) (b : Fin 8) (h : Fin 4) (q : Fin 2048) (k : Fin 256) :
    cLog a5 a6 (ix4 b h q k) = ∑ x : Fin 128, a5 (ix2 ⟨b.val * 2048 + q.val, by omega⟩ ⟨h.val * 128 + x.val, by omega⟩)
      * a6 (ix2 ⟨b.val * 256 + k.val, by omega⟩ ⟨h.val * 128 + x.val, by omega⟩) := by
  pointwise [cLog]

theorem cMax_fold (L : FVec Ideal S8x4x2048x256 .f32) (b : Fin 8) (h : Fin 4) (q : Fin 2048) :
    cMax L (ix3 b h q) = Finset.univ.fold max ((constant (F := Ideal) S_ .f32 0xFF800000#32) ix0) fun k : Fin 256 => L (ix4 b h q k) := by
  unfold cMax
  simp only [pointwise]

/-- The largest of a row's logits. -/
theorem cMax_apply (L : FVec Ideal S8x4x2048x256 .f32) (b : Fin 8) (h : Fin 4) (q : Fin 2048) :
    cMax L (ix3 b h q) = Finset.univ.sup fun k : Fin 256 => L (ix4 b h q k) := by
  rw [cMax_fold, bot_const]
  exact fold_sup _ _

/-- The largest of a row's logits. -/
theorem cTop_apply (L : FVec Ideal S8x4x2048x256 .f32) (b : Fin 8) (h : Fin 4) (q : Fin 2048) :
    cTop L (ix3 b h q) = Finset.univ.sup fun k : Fin 256 => L (ix4 b h q k) := by
  have e : cTop L (ix3 b h q) = max ((constant (F := Ideal) S_ .f32 0xFF800000#32) ix0) (cMax L (ix3 b h q)) := by
    unfold cTop
    rw [maximumf_apply]
    rfl
  rw [e, bot_const, cMax_apply]
  exact max_eq_right bot_le

/-- A weight. -/
theorem cW_apply (L : FVec Ideal S8x4x2048x256 .f32) (b : Fin 8) (h : Fin 4) (q : Fin 2048) (k : Fin 256) :
    cW L (ix4 b h q k) = Ideal.div (Ideal.exp (L (ix4 b h q k) - cTop L (ix3 b h q))) (∑ x : Fin 256, Ideal.exp (L (ix4 b h q x) - cTop L (ix3 b h q))) := by
  pointwise [cW]

/-- An entry of the cross-attention's half. -/
theorem cOut_apply (a5 : FVec Ideal S16384x512 .bf16) (a6 a7 : FVec Ideal S2048x512 .bf16) (a8 : FVec Ideal S16384x512 .bf16)
    (R : Fin 16384) (C : Fin 512) :
    cOut a5 a6 a7 a8 (ix2 R C) = (∑ x : Fin 256, a7 (ix2 ⟨R.val / 2048 * 256 + x.val, by omega⟩ C)
      * cW (cLog a5 a6) (ix4 ⟨R.val / 2048, by omega⟩ ⟨C.val / 128, by omega⟩ ⟨R.val % 2048, by omega⟩ x)) * a8 (ix2 R C) := by
  pointwise [cOut]

/-- The two halves lie side by side. -/
theorem REF0_apply (a0 : FVec Ideal S8 .f32) (a1 : FVec Ideal S16384x512 .bf16) (a2 a3 : FVec Ideal S16384x128 .bf16) (a4 a5 : FVec Ideal S16384x512 .bf16)
    (a6 a7 : FVec Ideal S2048x512 .bf16) (a8 : FVec Ideal S16384x512 .bf16) (R : Fin 16384) (C : Fin 1024) :
    REF0 a0 a1 a2 a3 a4 a5 a6 a7 a8 (ix2 R C) = if h : C.val < 512 then wOut a0 a1 a2 a3 a4 (ix2 R ⟨C.val, h⟩) else cOut a5 a6 a7 a8 (ix2 R ⟨C.val - 512, by omega⟩) := by
  pointwise [REF0]

end Cert.AttnRefIdeal.RefValue
end
-- ==== Proof.AttnSoftmax.lean ====
/-
  A row of windowed attention, two ways: over three blocks of 128 keys with the division last, and over all 2048 keys
  with the division first.
-/
module

public import proofs.«01_k».proof.Proof.Sums

@[expose] public section

set_option maxHeartbeats 1000000

noncomputable section

namespace Cert.Proof.Softmax

open Idealize.ShloMosaic

/-- A sum over all 2048 keys of what is nought outside three neighbouring blocks. -/
theorem sum_three (B : Fin 16) (f : Fin 2048 → EReal) (f0 f1 f2 : Fin 128 → EReal)
    (h1 : ∀ j : Fin 128, f1 j = f ⟨128 * B.val + j.val, by omega⟩)
    (h0 : ∀ (j : Fin 128) (b : Fin 16), b.val + 1 = B.val → f0 j = f ⟨128 * b.val + j.val, by omega⟩)
    (h0' : B.val = 0 → ∀ j, f0 j = 0)
    (h2 : ∀ (j : Fin 128) (b : Fin 16), b.val = B.val + 1 → f2 j = f ⟨128 * b.val + j.val, by omega⟩)
    (h2' : B.val = 15 → ∀ j, f2 j = 0)
    (hout : ∀ (b : Fin 16) (j : Fin 128), b.val + 1 ≠ B.val → b ≠ B → b.val ≠ B.val + 1 → f ⟨128 * b.val + j.val, by omega⟩ = 0) :
    ∑ k, f k = ∑ j, (f0 j + f1 j + f2 j) := by
  have hs : ∑ k, f k = ∑ b : Fin 16, ∑ j : Fin 128, f ⟨128 * b.val + j.val, by omega⟩ := by
    rw [← Fintype.sum_prod_type']
    refine (Fintype.sum_equiv (finProdFinEquiv (m := 16) (n := 128)) _ f fun x => ?_).symm
    congr 1
    apply Fin.ext
    show 128 * x.1.val + x.2.val = x.2.val + 128 * x.1.val
    omega
  rw [hs]
  have hb : ∀ b : Fin 16, (∑ j : Fin 128, f ⟨128 * b.val + j.val, by omega⟩)
      = (if b.val + 1 = B.val then ∑ j, f0 j else 0) + (if b = B then ∑ j, f1 j else 0) + (if b.val = B.val + 1 then ∑ j, f2 j else 0) := by
    intro b
    by_cases e0 : b.val + 1 = B.val
    · have n1 : b ≠ B := fun h => by rw [h] at e0; omega
      have n2 : b.val ≠ B.val + 1 := by omega
      rw [if_pos e0, if_neg n1, if_neg n2, add_zero, add_zero]
      exact Finset.sum_congr rfl fun j _ => (h0 j b e0).symm
    · by_cases e1 : b = B
      · have n2 : b.val ≠ B.val + 1 := by rw [e1]; omega
        rw [if_neg e0, if_pos e1, if_neg n2, zero_add, add_zero]
        subst e1
        exact Finset.sum_congr rfl fun j _ => (h1 j).symm
      · by_cases e2 : b.val = B.val + 1
        · rw [if_neg e0, if_neg e1, if_pos e2, zero_add, zero_add]
          exact Finset.sum_congr rfl fun j _ => (h2 j b e2).symm
        · rw [if_neg e0, if_neg e1, if_neg e2, add_zero, add_zero]
          exact Finset.sum_eq_zero fun j _ => hout b j e0 e1 e2
  rw [Finset.sum_congr rfl fun b _ => hb b]
  simp only [Finset.sum_add_distrib]
  congr 1
  congr 1
  · by_cases hB : B.val = 0
    · rw [Finset.sum_eq_zero fun j _ => h0' hB j]
      exact Finset.sum_eq_zero fun b _ => by split <;> rfl
    · rw [Finset.sum_eq_single (⟨B.val - 1, by omega⟩ : Fin 16)]
      · rw [if_pos (by show B.val - 1 + 1 = B.val; omega)]
      · intro b _ hb
        exact if_neg fun h => hb (Fin.ext (by show b.val = B.val - 1; omega))
      · intro h; exact absurd (Finset.mem_univ _) h
  · simp
  · by_cases hB : B.val = 15
    · rw [Finset.sum_eq_zero fun j _ => h2' hB j]
      exact Finset.sum_eq_zero fun b _ => by split <;> rfl
    · rw [Finset.sum_eq_single (⟨B.val + 1, by omega⟩ : Fin 16)]
      · rw [if_pos rfl]
      · intro b _ hb
        exact if_neg fun h => hb (Fin.ext (by show b.val = B.val + 1; omega))
      · intro h; exact absurd (Finset.mem_univ _) h

/-- The largest over all 2048 keys of what is `⊥` outside three neighbouring blocks. -/
theorem sup_three (B : Fin 16) (f : Fin 2048 → EReal) (f0 f1 f2 : Fin 128 → EReal)
    (h1 : ∀ j : Fin 128, f1 j = f ⟨128 * B.val + j.val, by omega⟩)
    (h0 : ∀ (j : Fin 128) (b : Fin 16), b.val + 1 = B.val → f0 j = f ⟨128 * b.val + j.val, by omega⟩)
    (h0' : B.val = 0 → ∀ j, f0 j = ⊥)
    (h2 : ∀ (j : Fin 128) (b : Fin 16), b.val = B.val + 1 → f2 j = f ⟨128 * b.val + j.val, by omega⟩)
    (h2' : B.val = 15 → ∀ j, f2 j = ⊥)
    (hout : ∀ (b : Fin 16) (j : Fin 128), b.val + 1 ≠ B.val → b ≠ B → b.val ≠ B.val + 1 → f ⟨128 * b.val + j.val, by omega⟩ = ⊥) :
    Finset.univ.sup f = Finset.univ.sup fun j => max (max (f0 j) (f1 j)) (f2 j) := by
  refine le_antisymm (Finset.sup_le fun k _ => ?_) (Finset.sup_le fun j _ => max_le (max_le ?_ ?_) ?_)
  · obtain ⟨b, j, rfl⟩ : ∃ (b : Fin 16) (j : Fin 128), k = ⟨128 * b.val + j.val, by omega⟩ :=
      ⟨⟨k.val / 128, by omega⟩, ⟨k.val % 128, by omega⟩, Fin.ext (by show k.val = 128 * (k.val / 128) + k.val % 128; omega)⟩
    have hj := Finset.le_sup (f := fun j => max (max (f0 j) (f1 j)) (f2 j)) (Finset.mem_univ j)
    by_cases e0 : b.val + 1 = B.val
    · rw [← h0 j b e0]; exact le_trans (le_trans (le_max_left _ _) (le_max_left _ _)) hj
    · by_cases e1 : b = B
      · subst e1; rw [← h1 j]; exact le_trans (le_trans (le_max_right _ _) (le_max_left _ _)) hj
      · by_cases e2 : b.val = B.val + 1
        · rw [← h2 j b e2]; exact le_trans (le_max_right _ _) hj
        · rw [hout b j e0 e1 e2]; exact bot_le
  · by_cases hB : B.val = 0
    · rw [h0' hB]; exact bot_le
    · rw [h0 j ⟨B.val - 1, by omega⟩ (by show B.val - 1 + 1 = B.val; omega)]; exact Finset.le_sup (Finset.mem_univ _)
  · rw [h1 j]; exact Finset.le_sup (Finset.mem_univ _)
  · by_cases hB : B.val = 15
    · rw [h2' hB]; exact bot_le
    · rw [h2 j ⟨B.val + 1, by omega⟩ rfl]; exact Finset.le_sup (Finset.mem_univ _)

/-- A sum times a number that is neither negative nor infinite is the sum of the products. -/
theorem sum_mul {ι : Type} (s : Finset ι) (f : ι → EReal) (c : EReal) (h : 0 ≤ c) (h' : c ≠ ⊤) : (∑ i ∈ s, f i) * c = ∑ i ∈ s, f i * c := by
  classical
  induction s using Finset.induction_on with
  | empty => simp
  | insert a s ha ih => rw [Finset.sum_insert ha, Finset.sum_insert ha, EReal.right_distrib_of_nonneg_of_ne_top h h', ih]

/-- The exponential of a number that is not `⊤` is neither negative nor infinite. -/
theorem exp_bounds (x : EReal) (h : x ≠ ⊤) : 0 ≤ Ideal.exp x ∧ Ideal.exp x ≠ ⊤ := by
  induction x using EReal.rec with
  | bot => exact ⟨le_of_eq rfl, fun e => by cases e⟩
  | coe r => exact ⟨EReal.coe_nonneg.2 (Real.exp_pos r).le, EReal.coe_ne_top _⟩
  | top => exact absurd rfl h

/-- The exponential of a real number is positive. -/
theorem exp_pos (x : EReal) (h : x ≠ ⊤) (h' : x ≠ ⊥) : 0 < Ideal.exp x := by
  induction x using EReal.rec with
  | bot => exact absurd rfl h'
  | coe r => exact EReal.coe_pos.2 (Real.exp_pos r)
  | top => exact absurd rfl h

/-- A sum of numbers that are neither negative nor infinite is neither. -/
theorem sum_bounds {ι : Type} (s : Finset ι) (f : ι → EReal) (h : ∀ i, 0 ≤ f i ∧ f i ≠ ⊤) : 0 ≤ ∑ i ∈ s, f i ∧ ∑ i ∈ s, f i ≠ ⊤ := by
  classical
  induction s using Finset.induction_on with
  | empty => simp
  | insert a s ha ih =>
    rw [Finset.sum_insert ha]
    exact ⟨add_nonneg (h a).1 ih.1, EReal.add_ne_top (h a).2 ih.2⟩

/-- Dividing a sum by a positive real number is dividing its terms. -/
theorem div_sum {ι : Type} (s : Finset ι) (e v : ι → EReal) (D : EReal) (h : 0 < D) (h' : D ≠ ⊤) :
    Ideal.div (∑ i ∈ s, e i * v i) D = ∑ i ∈ s, v i * Ideal.div (e i) D := by
  unfold Ideal.div
  simp only [if_neg h.ne']
  rw [sum_mul _ _ _ (EReal.inv_nonneg_of_nonneg h.le) (by
    lift D to ℝ using ⟨h', ((EReal.bot_lt_zero).trans h).ne'⟩
    rw [← EReal.coe_inv]; exact EReal.coe_ne_top _)]
  refine Finset.sum_congr rfl fun i _ => ?_
  rw [mul_right_comm, mul_comm]

/-- A number that is not `⊤` less a real number is not `⊤`. -/
theorem sub_ne_top (x M : EReal) (h : x ≠ ⊤) (hM : M ≠ ⊥) : x - M ≠ ⊤ := by
  intro e
  induction x using EReal.rec with
  | bot => rw [EReal.bot_sub] at e; cases e
  | coe r =>
    induction M using EReal.rec with
    | bot => exact hM rfl
    | coe t => exact EReal.coe_ne_top _ e
    | top => cases e
  | top => exact h rfl

/-- A real number less a real number is not `⊥`. -/
theorem sub_ne_bot (x M : EReal) (h : x ≠ ⊥) (hM : M ≠ ⊤) : x - M ≠ ⊥ := by
  intro e
  induction x using EReal.rec with
  | bot => exact h rfl
  | coe r =>
    induction M using EReal.rec with
    | bot => cases e
    | coe t => exact EReal.coe_ne_bot _ e
    | top => exact hM rfl
  | top =>
    induction M using EReal.rec with
    | bot => cases e
    | coe t => cases e
    | top => exact hM rfl

/-- The largest of finitely many numbers, none `⊤`, is not `⊤`. -/
theorem sup_ne_top {ι : Type} [Fintype ι] (f : ι → EReal) (h : ∀ i, f i ≠ ⊤) : Finset.univ.sup f ≠ ⊤ :=
  ((Finset.sup_lt_iff (bot_lt_top)).2 fun i _ => lt_top_iff_ne_top.2 (h i)).ne

/-- One row of windowed attention: the three blocks around the row's own, divided last, against all the keys, divided first. -/
theorem soft (B : Fin 16) (L v : Fin 2048 → EReal) (s : EReal) (l0 l1 l2 v0 v1 v2 : Fin 128 → EReal)
    (hs : s ≠ ⊥) (hs' : s ≠ ⊤) (hL : ∀ k, L k ≠ ⊤)
    (h1 : ∀ j : Fin 128, l1 j = L ⟨128 * B.val + j.val, by omega⟩)
    (w1 : ∀ j : Fin 128, v1 j = v ⟨128 * B.val + j.val, by omega⟩)
    (h0 : ∀ (j : Fin 128) (b : Fin 16), b.val + 1 = B.val → l0 j = L ⟨128 * b.val + j.val, by omega⟩)
    (w0 : ∀ (j : Fin 128) (b : Fin 16), b.val + 1 = B.val → v0 j = v ⟨128 * b.val + j.val, by omega⟩)
    (h0' : B.val = 0 → ∀ j, l0 j = ⊥)
    (h2 : ∀ (j : Fin 128) (b : Fin 16), b.val = B.val + 1 → l2 j = L ⟨128 * b.val + j.val, by omega⟩)
    (w2 : ∀ (j : Fin 128) (b : Fin 16), b.val = B.val + 1 → v2 j = v ⟨128 * b.val + j.val, by omega⟩)
    (h2' : B.val = 15 → ∀ j, l2 j = ⊥)
    (hout : ∀ (b : Fin 16) (j : Fin 128), b.val + 1 ≠ B.val → b ≠ B → b.val ≠ B.val + 1 → L ⟨128 * b.val + j.val, by omega⟩ = ⊥)
    (M m : EReal) (hM : M = max s (Finset.univ.sup fun j : Fin 128 => max (max (l0 j) (l1 j)) (l2 j)))
    (hm : m = max (Finset.univ.sup L) s) :
    Ideal.div (∑ x : Fin 128, Ideal.exp (l0 x - M) * v0 x + ∑ x : Fin 128, Ideal.exp (l1 x - M) * v1 x + ∑ x : Fin 128, Ideal.exp (l2 x - M) * v2 x)
      (Ideal.exp (s - M) + ∑ x : Fin 128, (Ideal.exp (l0 x - M) + Ideal.exp (l1 x - M) + Ideal.exp (l2 x - M)))
    = ∑ k : Fin 2048, v k * Ideal.div (Ideal.exp (L k - m)) (∑ k : Fin 2048, Ideal.exp (L k - m) + Ideal.exp (s - m)) := by
  have e : M = m := by rw [hM, hm, sup_three B L l0 l1 l2 h1 h0 h0' h2 h2' hout, max_comm]
  subst e
  have hb : M ≠ ⊥ := fun h => hs (le_bot_iff.1 (by rw [← h, hm]; exact le_max_right _ _))
  have ht : M ≠ ⊤ := by
    rw [hm]; exact (max_lt (lt_top_iff_ne_top.2 (sup_ne_top L hL)) (lt_top_iff_ne_top.2 hs')).ne
  have z : Ideal.exp (⊥ - M) = 0 := by rw [EReal.bot_sub]; rfl
  have q := fun k => exp_bounds _ (sub_ne_top (L k) M (hL k) hb)
  have Q := sum_bounds Finset.univ (fun k => Ideal.exp (L k - M)) q
  have S := exp_pos _ (sub_ne_top s M hs' hb) (sub_ne_bot s M hs ht)
  have S' := (exp_bounds _ (sub_ne_top s M hs' hb)).2
  rw [← sum_three B (fun k => Ideal.exp (L k - M)) (fun j => Ideal.exp (l0 j - M)) (fun j => Ideal.exp (l1 j - M)) (fun j => Ideal.exp (l2 j - M))
    (fun j => by rw [h1]) (fun j b hb => by rw [h0 j b hb]) (fun h j => by rw [h0' h, z]) (fun j b hb => by rw [h2 j b hb])
    (fun h j => by rw [h2' h, z]) (fun b j n0 n1 n2 => by rw [hout b j n0 n1 n2, z])]
  rw [← Finset.sum_add_distrib, ← Finset.sum_add_distrib]
  rw [← sum_three B (fun k => Ideal.exp (L k - M) * v k) (fun j => Ideal.exp (l0 j - M) * v0 j) (fun j => Ideal.exp (l1 j - M) * v1 j)
    (fun j => Ideal.exp (l2 j - M) * v2 j)
    (fun j => by rw [h1, w1]) (fun j b hb => by rw [h0 j b hb, w0 j b hb]) (fun h j => by rw [h0' h, z, zero_mul])
    (fun j b hb => by rw [h2 j b hb, w2 j b hb]) (fun h j => by rw [h2' h, z, zero_mul])
    (fun b j n0 n1 n2 => by rw [hout b j n0 n1 n2, z, zero_mul])]
  rw [add_comm (Ideal.exp (s - M))]
  exact div_sum _ _ _ _ (lt_of_lt_of_le S (le_add_of_nonneg_left Q.1)) (EReal.add_ne_top Q.2 S')

/-- The same row where every value is nought: nothing. -/
theorem soft_zero (s : EReal) (l0 l1 l2 v0 v1 v2 : Fin 128 → EReal) (hs : s ≠ ⊥) (hs' : s ≠ ⊤)
    (t0 : ∀ j, l0 j ≠ ⊤) (t1 : ∀ j, l1 j ≠ ⊤) (t2 : ∀ j, l2 j ≠ ⊤)
    (z0 : ∀ j, v0 j = 0) (z1 : ∀ j, v1 j = 0) (z2 : ∀ j, v2 j = 0)
    (M : EReal) (hM : M = max s (Finset.univ.sup fun j : Fin 128 => max (max (l0 j) (l1 j)) (l2 j))) :
    Ideal.div (∑ x : Fin 128, Ideal.exp (l0 x - M) * v0 x + ∑ x : Fin 128, Ideal.exp (l1 x - M) * v1 x + ∑ x : Fin 128, Ideal.exp (l2 x - M) * v2 x)
      (Ideal.exp (s - M) + ∑ x : Fin 128, (Ideal.exp (l0 x - M) + Ideal.exp (l1 x - M) + Ideal.exp (l2 x - M))) = 0 := by
  have hb : M ≠ ⊥ := fun h => hs (le_bot_iff.1 (by rw [← h, hM]; exact le_max_left _ _))
  have ht : M ≠ ⊤ := by
    rw [hM]
    exact (max_lt (lt_top_iff_ne_top.2 hs') (lt_top_iff_ne_top.2 (sup_ne_top _ fun j =>
      (max_lt (max_lt (lt_top_iff_ne_top.2 (t0 j)) (lt_top_iff_ne_top.2 (t1 j))) (lt_top_iff_ne_top.2 (t2 j))).ne))).ne
  have S := exp_pos _ (sub_ne_top s M hs' hb) (sub_ne_bot s M hs ht)
  have Q := sum_bounds Finset.univ (fun x => Ideal.exp (l0 x - M) + Ideal.exp (l1 x - M) + Ideal.exp (l2 x - M)) fun x =>
    ⟨add_nonneg (add_nonneg (exp_bounds _ (sub_ne_top _ M (t0 x) hb)).1 (exp_bounds _ (sub_ne_top _ M (t1 x) hb)).1)
      (exp_bounds _ (sub_ne_top _ M (t2 x) hb)).1,
     EReal.add_ne_top (EReal.add_ne_top (exp_bounds _ (sub_ne_top _ M (t0 x) hb)).2 (exp_bounds _ (sub_ne_top _ M (t1 x) hb)).2)
      (exp_bounds _ (sub_ne_top _ M (t2 x) hb)).2⟩
  simp only [z0, z1, z2, mul_zero, Finset.sum_const_zero, add_zero]
  unfold Ideal.div
  rw [if_neg (lt_of_lt_of_le S (le_add_of_nonneg_right Q.1)).ne', zero_mul]

/-- One row of cross-attention, divided last and divided first. -/
theorem soft_cross (L v : Fin 256 → EReal) (hL : ∀ k, L k ≠ ⊤) (hL' : ∀ k, L k ≠ ⊥) (m : EReal) (hm : m = Finset.univ.sup L) :
    Ideal.div (∑ k : Fin 256, Ideal.exp (L k - m) * v k) (∑ k : Fin 256, Ideal.exp (L k - m))
    = ∑ k : Fin 256, v k * Ideal.div (Ideal.exp (L k - m)) (∑ k : Fin 256, Ideal.exp (L k - m)) := by
  have hb : m ≠ ⊥ := fun h => hL' 0 (le_bot_iff.1 (by rw [← h, hm]; exact Finset.le_sup (Finset.mem_univ _)))
  have ht : m ≠ ⊤ := by rw [hm]; exact sup_ne_top L hL
  have q := fun k => exp_bounds _ (sub_ne_top (L k) m (hL k) hb)
  have Q := sum_bounds Finset.univ (fun k => Ideal.exp (L k - m)) q
  refine div_sum _ _ _ _ (lt_of_lt_of_le (exp_pos _ (sub_ne_top (L 0) m (hL 0) hb) (sub_ne_bot (L 0) m (hL' 0) ht)) ?_) Q.2
  exact Finset.single_le_sum (f := fun k => Ideal.exp (L k - m)) (fun k _ => (q k).1) (Finset.mem_univ 0)

end Cert.Proof.Softmax
end
-- ==== Proof.AttnRows.lean ====
/-
  The attention call: what one lane half of a key head contributes to one row, as the reference's weights against its
  values.
-/
module

public import proofs.«01_k».proof.Proof.AttnTile
public import proofs.«01_k».proof.Proof.AttnRef
public import proofs.«01_k».proof.Proof.AttnSoftmax

@[expose] public section

set_option maxRecDepth 16384
set_option maxHeartbeats 1000000

noncomputable section

namespace Cert.AttnIdeal.RefValue

open Cert.AttnIdeal Cert.AttnIdeal.Gen Idealize.ShloMosaic Idealize.ShloMosaic.TcCoe Idealize.SL.Sem
open Cert.AttnRefIdeal.RefValue (wLog wTop wDen wW wOut cLog cTop cW cOut wLog_apply wTop_apply wDen_apply wW_apply cLog_apply cTop_apply cW_apply)

/-- A number that is neither infinite. -/
def Real' (x : EReal) : Prop := x ≠ ⊤ ∧ x ≠ ⊥

theorem Real'.mul {x y : EReal} (hx : Real' x) (hy : Real' y) : Real' (x * y) := by
  obtain ⟨x1, x2⟩ := hx
  obtain ⟨y1, y2⟩ := hy
  lift x to ℝ using ⟨x1, x2⟩
  lift y to ℝ using ⟨y1, y2⟩
  rw [← EReal.coe_mul]
  exact ⟨EReal.coe_ne_top _, EReal.coe_ne_bot _⟩

theorem Real'.add {x y : EReal} (hx : Real' x) (hy : Real' y) : Real' (x + y) := by
  obtain ⟨x1, x2⟩ := hx
  obtain ⟨y1, y2⟩ := hy
  lift x to ℝ using ⟨x1, x2⟩
  lift y to ℝ using ⟨y1, y2⟩
  rw [← EReal.coe_add]
  exact ⟨EReal.coe_ne_top _, EReal.coe_ne_bot _⟩

theorem Real'.sum {ι : Type} (s : Finset ι) (f : ι → EReal) (h : ∀ i, Real' (f i)) : Real' (∑ i ∈ s, f i) := by
  classical
  induction s using Finset.induction_on with
  | empty => rw [Finset.sum_empty]; exact ⟨EReal.coe_ne_top 0, EReal.coe_ne_bot 0⟩
  | insert a s ha ih => rw [Finset.sum_insert ha]; exact (h a).add ih

/-- A sum over 128 lanes that are nought outside one half is the sum over that half. -/
theorem half_sum (u : Fin 2) (f : Fin 128 → EReal) (h : ∀ c : Fin 128, c.val / 64 ≠ u.val → f c = 0) :
    ∑ c, f c = ∑ x : Fin 64, f ⟨64 * u.val + x.val, by omega⟩ := by
  have e := Fin.sum_univ_add (a := 64) (b := 64) f
  refine Eq.trans e ?_
  have hu : u = 0 ∨ u = 1 := by omega
  rcases hu with rfl | rfl
  · rw [Finset.sum_eq_zero (s := Finset.univ) (f := fun i : Fin 64 => f (Fin.natAdd 64 i)) fun i _ => h _ (by
      show (64 + i.val) / 64 ≠ 0; omega), add_zero]
    refine Finset.sum_congr rfl fun x _ => congrArg f (Fin.ext ?_)
    show x.val = 64 * 0 + x.val
    omega
  · rw [Finset.sum_eq_zero (s := Finset.univ) (f := fun i : Fin 64 => f (Fin.castAdd 64 i)) fun i _ => h _ (by
      show i.val / 64 ≠ 1; omega), zero_add]
    rfl

/-- The logits of one row against one block of keys that lies inside the sequence, when only one lane half of it is kept. -/
theorem logit_half (u hk bot : Fin 2) (b : Fin 8) (B bb : Fin 16) (p : Fin 128) (a1 : FVec Ideal S16384x512 .bf16) (a2 : FVec Ideal S16384x128 .bf16)
    (qs : FVec Ideal S256x128 .bf16) (K : FVec Ideal S128x128 .bf16) (r : Fin 256)
    (hq : ∀ c : Fin 128, qs (ix2 r c) = a1 (ix2 ⟨2048 * b.val + 128 * B.val + p.val, by omega⟩ ⟨256 * hk.val + 128 * bot.val + c.val, by omega⟩))
    (hz : ∀ j x : Fin 128, x.val / 64 ≠ u.val → K (ix2 j x) = 0)
    (hK : ∀ j x : Fin 128, x.val / 64 = u.val → K (ix2 j x) = a2 (ix2 ⟨2048 * b.val + 128 * bb.val + j.val, by omega⟩ ⟨64 * hk.val + x.val % 64, by omega⟩))
    (j : Fin 128) :
    ∑ c : Fin 128, qs (ix2 r c) * K (ix2 j c)
      = ∑ x : Fin 64, a2 (ix2 ⟨b.val * 2048 + (128 * bb.val + j.val), by omega⟩ ⟨hk.val * 64 + x.val, by omega⟩)
        * a1 (ix2 ⟨b.val * 2048 + (128 * B.val + p.val), by omega⟩ ⟨hk.val * 256 + (2 * bot.val + u.val) * 64 + x.val, by omega⟩) := by
  rw [half_sum u _ fun c hc => by rw [hz j c hc, mul_zero]]
  refine Finset.sum_congr rfl fun x _ => ?_
  rw [hq, hK j _ (by show (64 * u.val + x.val) / 64 = u.val; omega), mul_comm]
  congr 3
  · exact Fin.ext (by show 2048 * b.val + 128 * bb.val + j.val = b.val * 2048 + (128 * bb.val + j.val); omega)
  · exact Fin.ext (by show 64 * hk.val + (64 * u.val + x.val) % 64 = hk.val * 64 + x.val; omega)
  · exact Fin.ext (by show 2048 * b.val + 128 * B.val + p.val = b.val * 2048 + (128 * B.val + p.val); omega)
  · exact Fin.ext (by show 256 * hk.val + 128 * bot.val + (64 * u.val + x.val) = hk.val * 256 + (2 * bot.val + u.val) * 64 + x.val; omega)

/-- One lane half of a key head, at one row: in its own lanes the reference's weights against the values, and nought in the others. -/
theorem half (u hk bot : Fin 2) (b : Fin 8) (B : Fin 16) (p : Fin 128) (a0 : FVec Ideal S8 .f32) (a1 : FVec Ideal S16384x512 .bf16)
    (a2 a3 : FVec Ideal S16384x128 .bf16) (f0 : ∀ i, Real' (a0 i)) (f1 : ∀ i, Real' (a1 i)) (f2 : ∀ i, Real' (a2 i))
    (sc : FVec Ideal S256x1 .f32) (qs : FVec Ideal S256x128 .bf16) (ok0 ok2 : BitVec 1) (K0 K1 K2 V0 V1 V2 : FVec Ideal S128x128 .bf16)
    (r : Fin 256) (hr : r.val % 128 = p.val)
    (hs : sc (ix2 r 0) = a0 (ix1 ⟨4 * hk.val + 2 * bot.val + u.val, by omega⟩))
    (hq : ∀ c : Fin 128, qs (ix2 r c) = a1 (ix2 ⟨2048 * b.val + 128 * B.val + p.val, by omega⟩ ⟨256 * hk.val + 128 * bot.val + c.val, by omega⟩))
    (o0 : ok0 = 1#1 ↔ B.val ≠ 0) (o2 : ok2 = 1#1 ↔ B.val ≠ 15)
    (zk0 : ∀ j x : Fin 128, x.val / 64 ≠ u.val → K0 (ix2 j x) = 0) (zk1 : ∀ j x : Fin 128, x.val / 64 ≠ u.val → K1 (ix2 j x) = 0)
    (zk2 : ∀ j x : Fin 128, x.val / 64 ≠ u.val → K2 (ix2 j x) = 0) (zv0 : ∀ j x : Fin 128, x.val / 64 ≠ u.val → V0 (ix2 j x) = 0)
    (zv1 : ∀ j x : Fin 128, x.val / 64 ≠ u.val → V1 (ix2 j x) = 0) (zv2 : ∀ j x : Fin 128, x.val / 64 ≠ u.val → V2 (ix2 j x) = 0)
    (hk0 : ∀ bb : Fin 16, bb.val + 1 = B.val → ∀ j x : Fin 128, x.val / 64 = u.val →
      K0 (ix2 j x) = a2 (ix2 ⟨2048 * b.val + 128 * bb.val + j.val, by omega⟩ ⟨64 * hk.val + x.val % 64, by omega⟩))
    (hk1 : ∀ j x : Fin 128, x.val / 64 = u.val →
      K1 (ix2 j x) = a2 (ix2 ⟨2048 * b.val + 128 * B.val + j.val, by omega⟩ ⟨64 * hk.val + x.val % 64, by omega⟩))
    (hk2 : ∀ bb : Fin 16, bb.val = B.val + 1 → ∀ j x : Fin 128, x.val / 64 = u.val →
      K2 (ix2 j x) = a2 (ix2 ⟨2048 * b.val + 128 * bb.val + j.val, by omega⟩ ⟨64 * hk.val + x.val % 64, by omega⟩))
    (hv0 : ∀ bb : Fin 16, bb.val + 1 = B.val → ∀ j x : Fin 128, x.val / 64 = u.val →
      V0 (ix2 j x) = a3 (ix2 ⟨2048 * b.val + 128 * bb.val + j.val, by omega⟩ ⟨64 * hk.val + x.val % 64, by omega⟩))
    (hv1 : ∀ j x : Fin 128, x.val / 64 = u.val →
      V1 (ix2 j x) = a3 (ix2 ⟨2048 * b.val + 128 * B.val + j.val, by omega⟩ ⟨64 * hk.val + x.val % 64, by omega⟩))
    (hv2 : ∀ bb : Fin 16, bb.val = B.val + 1 → ∀ j x : Fin 128, x.val / 64 = u.val →
      V2 (ix2 j x) = a3 (ix2 ⟨2048 * b.val + 128 * bb.val + j.val, by omega⟩ ⟨64 * hk.val + x.val % 64, by omega⟩))
    (l : Fin 128) :
    part sc (logitsP ok0 qs K0) (logits qs K1) (logitsN ok2 qs K2) V0 V1 V2 (ix2 r l)
      = if l.val / 64 = u.val then
          ∑ k : Fin 2048, a3 (ix2 ⟨2048 * b.val + k.val, by omega⟩ ⟨64 * hk.val + l.val % 64, by omega⟩)
            * wW a0 (wLog a1 a2) (ix5 b hk ⟨2 * bot.val + u.val, by omega⟩ ⟨128 * B.val + p.val, by omega⟩ k)
        else 0 := by
  have L0 : ∀ (j : Fin 128) (bb : Fin 16), bb.val + 1 = B.val → logitsP ok0 qs K0 (ix2 r j)
      = wLog a1 a2 (ix5 b hk ⟨2 * bot.val + u.val, by omega⟩ ⟨128 * B.val + p.val, by omega⟩ ⟨128 * bb.val + j.val, by omega⟩) := by
    intro j bb hb
    rw [logitsP_apply, wLog_apply, logit_half u hk bot b B bb p a1 a2 qs K0 r hq zk0 (hk0 bb hb) j]
    refine if_congr ?_ rfl rfl
    rw [o0, hr]
    show _ ↔ 128 * B.val + p.val ≤ 128 * bb.val + j.val + 128 ∧ 128 * bb.val + j.val ≤ 128 * B.val + p.val + 128
    omega
  have L2 : ∀ (j : Fin 128) (bb : Fin 16), bb.val = B.val + 1 → logitsN ok2 qs K2 (ix2 r j)
      = wLog a1 a2 (ix5 b hk ⟨2 * bot.val + u.val, by omega⟩ ⟨128 * B.val + p.val, by omega⟩ ⟨128 * bb.val + j.val, by omega⟩) := by
    intro j bb hb
    rw [logitsN_apply, wLog_apply, logit_half u hk bot b B bb p a1 a2 qs K2 r hq zk2 (hk2 bb hb) j]
    refine if_congr ?_ rfl rfl
    rw [o2, hr]
    show _ ↔ 128 * B.val + p.val ≤ 128 * bb.val + j.val + 128 ∧ 128 * bb.val + j.val ≤ 128 * B.val + p.val + 128
    omega
  have L1 : ∀ j : Fin 128, logits qs K1 (ix2 r j)
      = wLog a1 a2 (ix5 b hk ⟨2 * bot.val + u.val, by omega⟩ ⟨128 * B.val + p.val, by omega⟩ ⟨128 * B.val + j.val, by omega⟩) := by
    intro j
    rw [logits_apply, wLog_apply, logit_half u hk bot b B B p a1 a2 qs K1 r hq zk1 hk1 j]
    refine (if_pos ?_).symm
    show 128 * B.val + p.val ≤ 128 * B.val + j.val + 128 ∧ 128 * B.val + j.val ≤ 128 * B.val + p.val + 128
    omega
  have L0' : B.val = 0 → ∀ j : Fin 128, logitsP ok0 qs K0 (ix2 r j) = ⊥ := by
    intro h j
    rw [logitsP_apply, if_neg]
    rw [o0]
    exact fun e => e.2 h
  have L2' : B.val = 15 → ∀ j : Fin 128, logitsN ok2 qs K2 (ix2 r j) = ⊥ := by
    intro h j
    rw [logitsN_apply, if_neg]
    rw [o2]
    exact fun e => e.2 h
  have hL : ∀ k, wLog a1 a2 (ix5 b hk ⟨2 * bot.val + u.val, by omega⟩ ⟨128 * B.val + p.val, by omega⟩ k) ≠ ⊤ := by
    intro k
    rw [wLog_apply]
    split
    · exact (Real'.sum _ _ fun x => (f2 _).mul (f1 _)).1
    · exact bot_ne_top
  have out : ∀ (bb : Fin 16) (j : Fin 128), bb.val + 1 ≠ B.val → bb ≠ B → bb.val ≠ B.val + 1 →
      wLog a1 a2 (ix5 b hk ⟨2 * bot.val + u.val, by omega⟩ ⟨128 * B.val + p.val, by omega⟩ ⟨128 * bb.val + j.val, by omega⟩) = ⊥ := by
    intro bb j n0 n1 n2
    rw [wLog_apply]
    refine if_neg ?_
    have n1' : bb.val ≠ B.val := fun h => n1 (Fin.ext h)
    show ¬ (128 * B.val + p.val ≤ 128 * bb.val + j.val + 128 ∧ 128 * bb.val + j.val ≤ 128 * B.val + p.val + 128)
    omega
  have hs0 : Real' (sc (ix2 r 0)) := hs ▸ f0 _
  rw [part_apply]
  by_cases hl : l.val / 64 = u.val
  · rw [if_pos hl]
    have key := Cert.Proof.Softmax.soft B
      (fun k => wLog a1 a2 (ix5 b hk ⟨2 * bot.val + u.val, by omega⟩ ⟨128 * B.val + p.val, by omega⟩ k))
      (fun k => a3 (ix2 ⟨2048 * b.val + k.val, by omega⟩ ⟨64 * hk.val + l.val % 64, by omega⟩))
      (sc (ix2 r 0)) (fun j => logitsP ok0 qs K0 (ix2 r j)) (fun j => logits qs K1 (ix2 r j)) (fun j => logitsN ok2 qs K2 (ix2 r j))
      (fun j => V0 (ix2 j l)) (fun j => V1 (ix2 j l)) (fun j => V2 (ix2 j l))
      hs0.2 hs0.1 hL L1
      (fun j => (hv1 j l hl).trans (congrArg a3 (congrArg₂ ix2 (Fin.ext (by show 2048 * b.val + 128 * B.val + j.val = 2048 * b.val + (128 * B.val + j.val); omega)) rfl)))
      L0
      (fun j bb hb => (hv0 bb hb j l hl).trans (congrArg a3 (congrArg₂ ix2 (Fin.ext (by show 2048 * b.val + 128 * bb.val + j.val = 2048 * b.val + (128 * bb.val + j.val); omega)) rfl)))
      L0' L2
      (fun j bb hb => (hv2 bb hb j l hl).trans (congrArg a3 (congrArg₂ ix2 (Fin.ext (by show 2048 * b.val + 128 * bb.val + j.val = 2048 * b.val + (128 * bb.val + j.val); omega)) rfl)))
      L2' out _ _ (rowTop_apply _ _ _ _ r 0) rfl
    refine key.trans (Finset.sum_congr rfl fun k _ => ?_)
    rw [wW_apply, wDen_apply, wTop_apply]
    rw [hs]
    rw [show (⟨4 * hk.val + 2 * bot.val + u.val, by omega⟩ : Fin 8) = ⟨hk.val * 4 + (2 * bot.val + u.val), by omega⟩ from Fin.ext (by
      show 4 * hk.val + 2 * bot.val + u.val = hk.val * 4 + (2 * bot.val + u.val); omega)]
  · rw [if_neg hl]
    refine Cert.Proof.Softmax.soft_zero (sc (ix2 r 0)) (fun j => logitsP ok0 qs K0 (ix2 r j)) (fun j => logits qs K1 (ix2 r j))
      (fun j => logitsN ok2 qs K2 (ix2 r j)) (fun j => V0 (ix2 j l)) (fun j => V1 (ix2 j l)) (fun j => V2 (ix2 j l)) hs0.2 hs0.1
      (fun j => ?_) (fun j => ?_) (fun j => ?_) (fun j => zv0 j l hl) (fun j => zv1 j l hl) (fun j => zv2 j l hl) _ (rowTop_apply _ _ _ _ r 0)
    · by_cases h : B.val = 0
      · show logitsP ok0 qs K0 (ix2 r j) ≠ ⊤
        rw [L0' h]; exact bot_ne_top
      · show logitsP ok0 qs K0 (ix2 r j) ≠ ⊤
        rw [L0 j ⟨B.val - 1, by omega⟩ (by show B.val - 1 + 1 = B.val; omega)]; exact hL _
    · show logits qs K1 (ix2 r j) ≠ ⊤
      rw [L1]; exact hL _
    · by_cases h : B.val = 15
      · show logitsN ok2 qs K2 (ix2 r j) ≠ ⊤
        rw [L2' h]; exact bot_ne_top
      · show logitsN ok2 qs K2 (ix2 r j) ≠ ⊤
        rw [L2 j ⟨B.val + 1, by omega⟩ rfl]; exact hL _

end Cert.AttnIdeal.RefValue
end
-- ==== Proof.AttnSlabs.lean ====
/-
  The attention call: a query tile's slabs, row by row, as the reference's weights against its values.
-/
module

public import proofs.«01_k».proof.Proof.AttnRows

@[expose] public section

set_option maxRecDepth 16384
set_option maxHeartbeats 1000000

noncomputable section

namespace Cert.AttnIdeal.RefValue

open Cert.AttnIdeal Cert.AttnIdeal.Gen Idealize.ShloMosaic Idealize.ShloMosaic.TcCoe Idealize.SL.Sem
open Cert.AttnRefIdeal.RefValue (wLog wTop wDen wW wOut cLog cTop cW cOut)

/-- The lower half mask leaves nothing in the upper half. -/
theorem low_off (y : FVec Ideal S128x128 .f32) (j x : Fin 128) (h : x.val / 64 ≠ (0 : Fin 2).val) : low y (ix2 j x) = 0 := by
  rw [low_apply, if_neg]
  intro h'
  exact h (by show x.val / 64 = 0; omega)

/-- The upper half mask leaves nothing in the lower half. -/
theorem high_off (y : FVec Ideal S128x128 .f32) (j x : Fin 128) (h : x.val / 64 ≠ (1 : Fin 2).val) : high y (ix2 j x) = 0 := by
  rw [high_apply, if_pos]
  by_contra h'
  exact h (by show x.val / 64 = 1; omega)

/-- The lower half of a block as it is: its first lanes. -/
theorem low_keep (y : FVec Ideal S128x128 .bf16) (j x : Fin 128) (h : x.val / 64 = (0 : Fin 2).val) :
    low (keep y) (ix2 j x) = y (ix2 j ⟨64 * (0 : Fin 2).val + x.val % 64, by show 64 * 0 + x.val % 64 < 128; omega⟩) := by
  have h' : x.val / 64 = 0 := h
  rw [low_apply, if_pos (by omega), keep_apply]
  congr 2
  exact Fin.ext (by show x.val = 64 * 0 + x.val % 64; omega)

/-- The upper half of a block turned by half its lanes: its first lanes. -/
theorem high_turn (y : FVec Ideal S128x128 .bf16) (j x : Fin 128) (h : x.val / 64 = (1 : Fin 2).val) :
    high (turn y) (ix2 j x) = y (ix2 j ⟨64 * (0 : Fin 2).val + x.val % 64, by show 64 * 0 + x.val % 64 < 128; omega⟩) := by
  have h' : x.val / 64 = 1 := h
  rw [high_apply, if_neg (by omega), turn_apply]
  congr 2
  exact Fin.ext (by show (x.val + 64) % 128 = 64 * 0 + x.val % 64; omega)

/-- The lower half of a block turned by half its lanes: its last lanes. -/
theorem low_turn (y : FVec Ideal S128x128 .bf16) (j x : Fin 128) (h : x.val / 64 = (0 : Fin 2).val) :
    low (turn y) (ix2 j x) = y (ix2 j ⟨64 * (1 : Fin 2).val + x.val % 64, by show 64 * 1 + x.val % 64 < 128; omega⟩) := by
  have h' : x.val / 64 = 0 := h
  rw [low_apply, if_pos (by omega), turn_apply]
  congr 2
  exact Fin.ext (by show (x.val + 64) % 128 = 64 * 1 + x.val % 64; omega)

/-- The upper half of a block as it is: its last lanes. -/
theorem high_keep (y : FVec Ideal S128x128 .bf16) (j x : Fin 128) (h : x.val / 64 = (1 : Fin 2).val) :
    high (keep y) (ix2 j x) = y (ix2 j ⟨64 * (1 : Fin 2).val + x.val % 64, by show 64 * 1 + x.val % 64 < 128; omega⟩) := by
  have h' : x.val / 64 = 1 := h
  rw [high_apply, if_neg (by omega), keep_apply]
  congr 2
  exact Fin.ext (by show x.val = 64 * 1 + x.val % 64; omega)

/-- The slabs of the first key head at one row and lane: the reference's weights against its values. -/
theorem tile0_row (bot : Fin 2) (b : Fin 8) (B : Fin 16) (p : Fin 128) (a0 : FVec Ideal S8 .f32) (a1 : FVec Ideal S16384x512 .bf16)
    (a2 a3 : FVec Ideal S16384x128 .bf16) (f0 : ∀ i, Real' (a0 i)) (f1 : ∀ i, Real' (a1 i)) (f2 : ∀ i, Real' (a2 i))
    (s0 s1 s2 s3 : EReal) (qt qb : FVec Ideal S128x128 .bf16) (ok0 ok2 : BitVec 1) (k0 k1 k2 v0 v1 v2 : FVec Ideal S128x128 .bf16)
    (e0 : s0 = a0 (ix1 0)) (e1 : s1 = a0 (ix1 1)) (e2 : s2 = a0 (ix1 2)) (e3 : s3 = a0 (ix1 3))
    (ht : ∀ c : Fin 128, qt (ix2 p c) = a1 (ix2 ⟨2048 * b.val + 128 * B.val + p.val, by omega⟩ ⟨0 + c.val, by omega⟩))
    (hb : ∀ c : Fin 128, qb (ix2 p c) = a1 (ix2 ⟨2048 * b.val + 128 * B.val + p.val, by omega⟩ ⟨128 + c.val, by omega⟩))
    (o0 : ok0 = 1#1 ↔ B.val ≠ 0) (o2 : ok2 = 1#1 ↔ B.val ≠ 15)
    (h0 : ∀ bb : Fin 16, bb.val + 1 = B.val → ∀ j x : Fin 128, k0 (ix2 j x) = a2 (ix2 ⟨2048 * b.val + 128 * bb.val + j.val, by omega⟩ x))
    (h1 : ∀ j x : Fin 128, k1 (ix2 j x) = a2 (ix2 ⟨2048 * b.val + 128 * B.val + j.val, by omega⟩ x))
    (h2 : ∀ bb : Fin 16, bb.val = B.val + 1 → ∀ j x : Fin 128, k2 (ix2 j x) = a2 (ix2 ⟨2048 * b.val + 128 * bb.val + j.val, by omega⟩ x))
    (w0 : ∀ bb : Fin 16, bb.val + 1 = B.val → ∀ j x : Fin 128, v0 (ix2 j x) = a3 (ix2 ⟨2048 * b.val + 128 * bb.val + j.val, by omega⟩ x))
    (w1 : ∀ j x : Fin 128, v1 (ix2 j x) = a3 (ix2 ⟨2048 * b.val + 128 * B.val + j.val, by omega⟩ x))
    (w2 : ∀ bb : Fin 16, bb.val = B.val + 1 → ∀ j x : Fin 128, v2 (ix2 j x) = a3 (ix2 ⟨2048 * b.val + 128 * bb.val + j.val, by omega⟩ x))
    (l : Fin 128) :
    tile0 s0 s1 s2 s3 qt qb ok0 ok2 k0 k1 k2 v0 v1 v2 (ix2 ⟨128 * bot.val + p.val, by omega⟩ l)
      = ∑ k : Fin 2048, a3 (ix2 ⟨2048 * b.val + k.val, by omega⟩ ⟨0 + l.val % 64, by omega⟩)
            * wW a0 (wLog a1 a2) (ix5 b 0 ⟨2 * bot.val + l.val / 64, by omega⟩ ⟨128 * B.val + p.val, by omega⟩ k) := by
  have hq : ∀ c : Fin 128, stack qt qb (ix2 ⟨128 * bot.val + p.val, by omega⟩ c)
      = a1 (ix2 ⟨2048 * b.val + 128 * B.val + p.val, by omega⟩ ⟨256 * (0 : Fin 2).val + 128 * bot.val + c.val, by
        show 0 + 128 * bot.val + c.val < 512; omega⟩) := by
    intro c
    rw [stack_apply]
    have hb' : bot = 0 ∨ bot = 1 := by omega
    rcases hb' with rfl | rfl
    · rw [dif_pos (by show 128 * 0 + p.val < 128; omega), ← show (p : Fin 128) = ⟨128 * (0 : Fin 2).val + p.val, by show 128 * 0 + p.val < 128; omega⟩ from
        Fin.ext (by show p.val = 128 * 0 + p.val; omega), ht]
      rfl
    · rw [dif_neg (by show ¬ 128 * 1 + p.val < 128; omega), ← show (p : Fin 128) = ⟨128 * (1 : Fin 2).val + p.val - 128, by show 128 * 1 + p.val - 128 < 128; omega⟩ from
        Fin.ext (by show p.val = 128 * 1 + p.val - 128; omega), hb]
      rfl
  have sk : ∀ (u : Fin 2) (x y : EReal), x = a0 (ix1 ⟨0 + u.val, by omega⟩) → y = a0 (ix1 ⟨2 + u.val, by omega⟩) →
      sinkCol x y (ix2 ⟨128 * bot.val + p.val, by omega⟩ 0) = a0 (ix1 ⟨4 * (0 : Fin 2).val + 2 * bot.val + u.val, by
        show 0 + 2 * bot.val + u.val < 8; omega⟩) := by
    intro u x y hx hy
    rw [sink_apply]
    have hb' : bot = 0 ∨ bot = 1 := by omega
    rcases hb' with rfl | rfl
    · rw [if_pos (by show 128 * 0 + p.val < 128; omega), hx]
      rfl
    · rw [if_neg (by show ¬ 128 * 1 + p.val < 128; omega), hy]
      rfl
  have hr : (⟨128 * bot.val + p.val, by omega⟩ : Fin 256).val % 128 = p.val := by
    show (128 * bot.val + p.val) % 128 = p.val
    omega
  unfold tile0
  rw [slabs_apply]
  rw [half 0 0 bot b B p a0 a1 a2 a3 f0 f1 f2 _ _ ok0 ok2 _ _ _ _ _ _ _ hr (sk 0 s0 s2 e0 e2) hq o0 o2 (fun j x h => low_off _ j x h) (fun j x h => low_off _ j x h) (fun j x h => low_off _ j x h) (fun j x h => low_off _ j x h) (fun j x h => low_off _ j x h) (fun j x h => low_off _ j x h) (fun bb hb j x h => (low_keep _ j x h).trans (h0 bb hb j _)) (fun j x h => (low_keep _ j x h).trans (h1 j _)) (fun bb hb j x h => (low_keep _ j x h).trans (h2 bb hb j _)) (fun bb hb j x h => (low_keep _ j x h).trans (w0 bb hb j _)) (fun j x h => (low_keep _ j x h).trans (w1 j _)) (fun bb hb j x h => (low_keep _ j x h).trans (w2 bb hb j _)) l]
  rw [half 1 0 bot b B p a0 a1 a2 a3 f0 f1 f2 _ _ ok0 ok2 _ _ _ _ _ _ _ hr (sk 1 s1 s3 e1 e3) hq o0 o2 (fun j x h => high_off _ j x h) (fun j x h => high_off _ j x h) (fun j x h => high_off _ j x h) (fun j x h => high_off _ j x h) (fun j x h => high_off _ j x h) (fun j x h => high_off _ j x h) (fun bb hb j x h => (high_turn _ j x h).trans (h0 bb hb j _)) (fun j x h => (high_turn _ j x h).trans (h1 j _)) (fun bb hb j x h => (high_turn _ j x h).trans (h2 bb hb j _)) (fun bb hb j x h => (high_turn _ j x h).trans (w0 bb hb j _)) (fun j x h => (high_turn _ j x h).trans (w1 j _)) (fun bb hb j x h => (high_turn _ j x h).trans (w2 bb hb j _)) l]
  have hl : l.val / 64 = 0 ∨ l.val / 64 = 1 := by omega
  rcases hl with hl | hl
  · have n0 : l.val / 64 = (0 : Fin 2).val := hl
    have n1 : ¬ l.val / 64 = (1 : Fin 2).val := by
      show ¬ l.val / 64 = 1
      omega
    rw [if_pos n0, if_neg n1, add_zero]
    refine Finset.sum_congr rfl fun k _ => congrArg₂ (fun x y : EReal => x * y) ?_ (congrArg (wW a0 (wLog a1 a2))
      (congrArg (fun z => ix5 b 0 z ⟨128 * B.val + p.val, by omega⟩ k) (Fin.ext (by show 2 * bot.val + 0 = 2 * bot.val + l.val / 64; omega))))
    rfl
  · have n0 : ¬ l.val / 64 = (0 : Fin 2).val := by
      show ¬ l.val / 64 = 0
      omega
    have n1 : l.val / 64 = (1 : Fin 2).val := hl
    rw [if_neg n0, if_pos n1, zero_add]
    refine Finset.sum_congr rfl fun k _ => congrArg₂ (fun x y : EReal => x * y) ?_ (congrArg (wW a0 (wLog a1 a2))
      (congrArg (fun z => ix5 b 0 z ⟨128 * B.val + p.val, by omega⟩ k) (Fin.ext (by show 2 * bot.val + 1 = 2 * bot.val + l.val / 64; omega))))
    rfl

/-- The slabs of the second key head at one row and lane: the reference's weights against its values. -/
theorem tile1_row (bot : Fin 2) (b : Fin 8) (B : Fin 16) (p : Fin 128) (a0 : FVec Ideal S8 .f32) (a1 : FVec Ideal S16384x512 .bf16)
    (a2 a3 : FVec Ideal S16384x128 .bf16) (f0 : ∀ i, Real' (a0 i)) (f1 : ∀ i, Real' (a1 i)) (f2 : ∀ i, Real' (a2 i))
    (s0 s1 s2 s3 : EReal) (qt qb : FVec Ideal S128x128 .bf16) (ok0 ok2 : BitVec 1) (k0 k1 k2 v0 v1 v2 : FVec Ideal S128x128 .bf16)
    (e0 : s0 = a0 (ix1 4)) (e1 : s1 = a0 (ix1 5)) (e2 : s2 = a0 (ix1 6)) (e3 : s3 = a0 (ix1 7))
    (ht : ∀ c : Fin 128, qt (ix2 p c) = a1 (ix2 ⟨2048 * b.val + 128 * B.val + p.val, by omega⟩ ⟨256 + c.val, by omega⟩))
    (hb : ∀ c : Fin 128, qb (ix2 p c) = a1 (ix2 ⟨2048 * b.val + 128 * B.val + p.val, by omega⟩ ⟨384 + c.val, by omega⟩))
    (o0 : ok0 = 1#1 ↔ B.val ≠ 0) (o2 : ok2 = 1#1 ↔ B.val ≠ 15)
    (h0 : ∀ bb : Fin 16, bb.val + 1 = B.val → ∀ j x : Fin 128, k0 (ix2 j x) = a2 (ix2 ⟨2048 * b.val + 128 * bb.val + j.val, by omega⟩ x))
    (h1 : ∀ j x : Fin 128, k1 (ix2 j x) = a2 (ix2 ⟨2048 * b.val + 128 * B.val + j.val, by omega⟩ x))
    (h2 : ∀ bb : Fin 16, bb.val = B.val + 1 → ∀ j x : Fin 128, k2 (ix2 j x) = a2 (ix2 ⟨2048 * b.val + 128 * bb.val + j.val, by omega⟩ x))
    (w0 : ∀ bb : Fin 16, bb.val + 1 = B.val → ∀ j x : Fin 128, v0 (ix2 j x) = a3 (ix2 ⟨2048 * b.val + 128 * bb.val + j.val, by omega⟩ x))
    (w1 : ∀ j x : Fin 128, v1 (ix2 j x) = a3 (ix2 ⟨2048 * b.val + 128 * B.val + j.val, by omega⟩ x))
    (w2 : ∀ bb : Fin 16, bb.val = B.val + 1 → ∀ j x : Fin 128, v2 (ix2 j x) = a3 (ix2 ⟨2048 * b.val + 128 * bb.val + j.val, by omega⟩ x))
    (l : Fin 128) :
    tile1 s0 s1 s2 s3 qt qb ok0 ok2 k0 k1 k2 v0 v1 v2 (ix2 ⟨128 * bot.val + p.val, by omega⟩ l)
      = ∑ k : Fin 2048, a3 (ix2 ⟨2048 * b.val + k.val, by omega⟩ ⟨64 + l.val % 64, by omega⟩)
            * wW a0 (wLog a1 a2) (ix5 b 1 ⟨2 * bot.val + l.val / 64, by omega⟩ ⟨128 * B.val + p.val, by omega⟩ k) := by
  have hq : ∀ c : Fin 128, stack qt qb (ix2 ⟨128 * bot.val + p.val, by omega⟩ c)
      = a1 (ix2 ⟨2048 * b.val + 128 * B.val + p.val, by omega⟩ ⟨256 * (1 : Fin 2).val + 128 * bot.val + c.val, by
        show 256 + 128 * bot.val + c.val < 512; omega⟩) := by
    intro c
    rw [stack_apply]
    have hb' : bot = 0 ∨ bot = 1 := by omega
    rcases hb' with rfl | rfl
    · rw [dif_pos (by show 128 * 0 + p.val < 128; omega), ← show (p : Fin 128) = ⟨128 * (0 : Fin 2).val + p.val, by show 128 * 0 + p.val < 128; omega⟩ from
        Fin.ext (by show p.val = 128 * 0 + p.val; omega), ht]
      rfl
    · rw [dif_neg (by show ¬ 128 * 1 + p.val < 128; omega), ← show (p : Fin 128) = ⟨128 * (1 : Fin 2).val + p.val - 128, by show 128 * 1 + p.val - 128 < 128; omega⟩ from
        Fin.ext (by show p.val = 128 * 1 + p.val - 128; omega), hb]
      rfl
  have sk : ∀ (u : Fin 2) (x y : EReal), x = a0 (ix1 ⟨4 + u.val, by omega⟩) → y = a0 (ix1 ⟨6 + u.val, by omega⟩) →
      sinkCol x y (ix2 ⟨128 * bot.val + p.val, by omega⟩ 0) = a0 (ix1 ⟨4 * (1 : Fin 2).val + 2 * bot.val + u.val, by
        show 4 + 2 * bot.val + u.val < 8; omega⟩) := by
    intro u x y hx hy
    rw [sink_apply]
    have hb' : bot = 0 ∨ bot = 1 := by omega
    rcases hb' with rfl | rfl
    · rw [if_pos (by show 128 * 0 + p.val < 128; omega), hx]
      rfl
    · rw [if_neg (by show ¬ 128 * 1 + p.val < 128; omega), hy]
      rfl
  have hr : (⟨128 * bot.val + p.val, by omega⟩ : Fin 256).val % 128 = p.val := by
    show (128 * bot.val + p.val) % 128 = p.val
    omega
  unfold tile1
  rw [slabs_apply]
  rw [half 0 1 bot b B p a0 a1 a2 a3 f0 f1 f2 _ _ ok0 ok2 _ _ _ _ _ _ _ hr (sk 0 s0 s2 e0 e2) hq o0 o2 (fun j x h => low_off _ j x h) (fun j x h => low_off _ j x h) (fun j x h => low_off _ j x h) (fun j x h => low_off _ j x h) (fun j x h => low_off _ j x h) (fun j x h => low_off _ j x h) (fun bb hb j x h => (low_turn _ j x h).trans (h0 bb hb j _)) (fun j x h => (low_turn _ j x h).trans (h1 j _)) (fun bb hb j x h => (low_turn _ j x h).trans (h2 bb hb j _)) (fun bb hb j x h => (low_turn _ j x h).trans (w0 bb hb j _)) (fun j x h => (low_turn _ j x h).trans (w1 j _)) (fun bb hb j x h => (low_turn _ j x h).trans (w2 bb hb j _)) l]
  rw [half 1 1 bot b B p a0 a1 a2 a3 f0 f1 f2 _ _ ok0 ok2 _ _ _ _ _ _ _ hr (sk 1 s1 s3 e1 e3) hq o0 o2 (fun j x h => high_off _ j x h) (fun j x h => high_off _ j x h) (fun j x h => high_off _ j x h) (fun j x h => high_off _ j x h) (fun j x h => high_off _ j x h) (fun j x h => high_off _ j x h) (fun bb hb j x h => (high_keep _ j x h).trans (h0 bb hb j _)) (fun j x h => (high_keep _ j x h).trans (h1 j _)) (fun bb hb j x h => (high_keep _ j x h).trans (h2 bb hb j _)) (fun bb hb j x h => (high_keep _ j x h).trans (w0 bb hb j _)) (fun j x h => (high_keep _ j x h).trans (w1 j _)) (fun bb hb j x h => (high_keep _ j x h).trans (w2 bb hb j _)) l]
  have hl : l.val / 64 = 0 ∨ l.val / 64 = 1 := by omega
  rcases hl with hl | hl
  · have n0 : l.val / 64 = (0 : Fin 2).val := hl
    have n1 : ¬ l.val / 64 = (1 : Fin 2).val := by
      show ¬ l.val / 64 = 1
      omega
    rw [if_pos n0, if_neg n1, add_zero]
    refine Finset.sum_congr rfl fun k _ => congrArg₂ (fun x y : EReal => x * y) ?_ (congrArg (wW a0 (wLog a1 a2))
      (congrArg (fun z => ix5 b 1 z ⟨128 * B.val + p.val, by omega⟩ k) (Fin.ext (by show 2 * bot.val + 0 = 2 * bot.val + l.val / 64; omega))))
    rfl
  · have n0 : ¬ l.val / 64 = (0 : Fin 2).val := by
      show ¬ l.val / 64 = 0
      omega
    have n1 : l.val / 64 = (1 : Fin 2).val := hl
    rw [if_neg n0, if_pos n1, zero_add]
    refine Finset.sum_congr rfl fun k _ => congrArg₂ (fun x y : EReal => x * y) ?_ (congrArg (wW a0 (wLog a1 a2))
      (congrArg (fun z => ix5 b 1 z ⟨128 * B.val + p.val, by omega⟩ k) (Fin.ext (by show 2 * bot.val + 1 = 2 * bot.val + l.val / 64; omega))))
    rfl

end Cert.AttnIdeal.RefValue
end
-- ==== Proof.AttnBlocks.lean ====
/-
  The attention call: the entries that a grid point's blocks hold, and the cross-attention's entries.
-/
module

public import proofs.«01_k».proof.Proof.AttnSlabs

@[expose] public section

set_option maxRecDepth 16384
set_option maxHeartbeats 2000000

noncomputable section

namespace Cert.AttnIdeal.RefValue

open Cert.AttnIdeal Cert.AttnIdeal.Gen Idealize.ShloMosaic Idealize.ShloMosaic.TcCoe Idealize.SL.Sem
open Idealize.ShloMosaic.Pipeline (Dat)

variable (m : (ℓ : Loc nD τ sig) → Buf (Elt Ideal) ℓ)

/-- The neighbour block lies inside the sequence. -/
theorem okB_iff (t : Fin cfg0.N) (i : Fin 6) : okB t (BitVec.ofNat 32 i.val) = 1#1 ↔
    1 ≤ 4 * (grid0.coords t 1).val + i.val ∧ 4 * (grid0.coords t 1).val + i.val ≤ 16 :=
  (by decide +kernel : ∀ (t : Fin grid0.N) (i : Fin 6), okB t (BitVec.ofNat 32 i.val) = 1#1 ↔
    1 ≤ 4 * (grid0.coords t 1).val + i.val ∧ 4 * (grid0.coords t 1).val + i.val ≤ 16) t i

/-- Where a neighbour block that lies inside the sequence starts. -/
theorem off_eq (t : Fin cfg0.N) (i : Fin 6) (bb : Fin 16) (h : bb.val + 1 = 4 * (grid0.coords t 1).val + i.val) :
    k0_off1 (grid0.coords t) (BitVec.ofNat 32 i.val) = ![128 * bb.val, 0] :=
  (by decide +kernel : ∀ (t : Fin grid0.N) (i : Fin 6) (bb : Fin 16), bb.val + 1 = 4 * (grid0.coords t 1).val + i.val →
    k0_off1 (grid0.coords t) (BitVec.ofNat 32 i.val) = ![128 * bb.val, 0]) t i bb h

/-- The blocks that a grid point reads and writes. -/
theorem idx (t : Fin cfg0.N) : win0_0.index t = ![0] ∧ win0_1.index t = ![4 * (grid0.coords t 0).val + (grid0.coords t 1).val, 0]
    ∧ win0_2.index t = ![(grid0.coords t 0).val, 0] ∧ win0_3.index t = ![(grid0.coords t 0).val, 0]
    ∧ win0_4.index t = ![4 * (grid0.coords t 0).val + (grid0.coords t 1).val, 0] ∧ win0_5.index t = ![4 * (grid0.coords t 0).val + (grid0.coords t 1).val, 0]
    ∧ win0_6.index t = ![(grid0.coords t 0).val, 0] ∧ win0_7.index t = ![(grid0.coords t 0).val, 0]
    ∧ win0_8.index t = ![4 * (grid0.coords t 0).val + (grid0.coords t 1).val, 0] ∧ win0_9.index t = ![4 * (grid0.coords t 0).val + (grid0.coords t 1).val, 0] :=
  (by decide +kernel : ∀ t : Fin grid0.N, win0_0.index t = ![0] ∧ win0_1.index t = ![4 * (grid0.coords t 0).val + (grid0.coords t 1).val, 0]
    ∧ win0_2.index t = ![(grid0.coords t 0).val, 0] ∧ win0_3.index t = ![(grid0.coords t 0).val, 0]
    ∧ win0_4.index t = ![4 * (grid0.coords t 0).val + (grid0.coords t 1).val, 0] ∧ win0_5.index t = ![4 * (grid0.coords t 0).val + (grid0.coords t 1).val, 0]
    ∧ win0_6.index t = ![(grid0.coords t 0).val, 0] ∧ win0_7.index t = ![(grid0.coords t 0).val, 0]
    ∧ win0_8.index t = ![4 * (grid0.coords t 0).val + (grid0.coords t 1).val, 0] ∧ win0_9.index t = ![4 * (grid0.coords t 0).val + (grid0.coords t 1).val, 0]) t

/-- The batch entry of a grid point. -/
def bat (t : Fin cfg0.N) : Fin 8 := ⟨(grid0.coords t 0).val, (grid0.coords t 0).isLt⟩

/-- The query tile group of a grid point. -/
def grp (t : Fin cfg0.N) : Fin 4 := ⟨(grid0.coords t 1).val, (grid0.coords t 1).isLt⟩

/-- An entry of a neighbour block of keys. -/
theorem key_apply (c : Dev nD) (t : Fin cfg0.N) (i : Fin 6) (bb : Fin 16) (h : bb.val + 1 = 4 * (grp t).val + i.val) (j x : Fin 128) :
    keyB m c t i (ix2 j x) = m ((c : Thread nD τ).loc main_arg2) (ix2 ⟨2048 * (bat t).val + 128 * bb.val + j.val, by omega⟩ x) := by
  have e := off_eq t i bb h
  have : keyB m c t i (ix2 j x) = iblk m c 2 t (ix2 (n0 := 2048) (n1 := 128) ⟨128 * bb.val + j.val, by omega⟩ x) := by
    refine congrArg (iblk m c 2 t) (funext fun a => Fin.ext ?_)
    refine Fin.cases ?_ (fun a => ?_) a
    · show k0_off1 (grid0.coords t) (BitVec.ofNat 32 i.val) 0 + 1 * j.val = 128 * bb.val + j.val
      rw [e]
      show 128 * bb.val + 1 * j.val = _
      omega
    · obtain rfl : a = 0 := by omega
      show k0_off1 (grid0.coords t) (BitVec.ofNat 32 i.val) 1 + 1 * x.val = x.val
      rw [e]
      show 0 + 1 * x.val = _
      omega
  rw [this]
  blk_point [iblk, V, idx t, bat]

/-- An entry of a neighbour block of values. -/
theorem val_apply (c : Dev nD) (t : Fin cfg0.N) (i : Fin 6) (bb : Fin 16) (h : bb.val + 1 = 4 * (grp t).val + i.val) (j x : Fin 128) :
    valB m c t i (ix2 j x) = m ((c : Thread nD τ).loc main_arg3) (ix2 ⟨2048 * (bat t).val + 128 * bb.val + j.val, by omega⟩ x) := by
  have e := off_eq t i bb h
  have : valB m c t i (ix2 j x) = iblk m c 3 t (ix2 (n0 := 2048) (n1 := 128) ⟨128 * bb.val + j.val, by omega⟩ x) := by
    refine congrArg (iblk m c 3 t) (funext fun a => Fin.ext ?_)
    refine Fin.cases ?_ (fun a => ?_) a
    · show k0_off1 (grid0.coords t) (BitVec.ofNat 32 i.val) 0 + 1 * j.val = 128 * bb.val + j.val
      rw [e]
      show 128 * bb.val + 1 * j.val = _
      omega
    · obtain rfl : a = 0 := by omega
      show k0_off1 (grid0.coords t) (BitVec.ofNat 32 i.val) 1 + 1 * x.val = x.val
      rw [e]
      show 0 + 1 * x.val = _
      omega
  rw [this]
  blk_point [iblk, V, idx t, bat]

/-- An entry of a part read out of a block. -/
theorem ld_apply {N0 N1 n0 n1 : ℕ} (v : Vec Ideal ⟨2, ![N0, N1]⟩ .bf16) (r k : ℕ)
    (inb : ∀ a, (![r, k] : Fin 2 → ℕ) a + (![n0, n1] : Fin 2 → ℕ) a ≤ (⟨2, ![N0, N1]⟩ : Shape).size a) (p : Fin n0) (x : Fin n1)
    (R : Fin N0) (C : Fin N1) (hR : R.val = r + p.val) (hC : C.val = k + x.val) :
    (View.ld (Val := Elt Ideal) (e' := .bf16) v (Rect.unit (s := ⟨2, ![N0, N1]⟩) ![r, k] ![n0, n1] inb)) (ix2 p x) = v (ix2 R C) := by
  refine congrArg v (funext fun a => Fin.ext ?_)
  refine Fin.cases ?_ (fun a => ?_) a
  · show r + 1 * p.val = R.val
    omega
  · obtain rfl : a = 0 := by omega
    show k + 1 * x.val = C.val
    omega

/-- A sink that a grid point reads. -/
theorem sk_ld (c : Dev nD) (t : Fin cfg0.N) (r : ℕ) (hr : r < 8) (inb : ∀ a, (![r] : Fin 1 → ℕ) a + (![1] : Fin 1 → ℕ) a ≤ S8.size a) :
    View.ld (iblk m c 0 t) (Rect.unit (s := S8) ![r] ![1] inb) (Shape.Idx.first (s := S1) (by decide)) = m ((c : Thread nD τ).loc main_arg0) (ix1 ⟨r, hr⟩) := by
  have e : View.ld (iblk m c 0 t) (Rect.unit (s := S8) ![r] ![1] inb) (Shape.Idx.first (s := S1) (by decide)) = iblk m c 0 t (ix1 (n0 := 8) ⟨r, hr⟩) := by
    refine congrArg (iblk m c 0 t) (funext fun a => Fin.ext ?_)
    refine Fin.cases ?_ (fun a => a.elim0) a
    show r + 1 * 0 = r
    omega
  rw [e]
  blk_point [iblk, V, idx t]

/-- An entry of a query tile. -/
theorem q_ld (c : Dev nD) (t : Fin cfg0.N) {n0 n1 : ℕ} (r k : ℕ)
    (inb : ∀ a, (![r, k] : Fin 2 → ℕ) a + (![n0, n1] : Fin 2 → ℕ) a ≤ S512x512.size a) (p : Fin n0) (x : Fin n1) (R : Fin 16384) (C : Fin 512)
    (hR : R.val = 2048 * (bat t).val + 512 * (grp t).val + (r + p.val)) (hC : C.val = k + x.val) :
    View.ld (iblk m c 1 t) (Rect.unit (s := S512x512) ![r, k] ![n0, n1] inb) (ix2 p x) = m ((c : Thread nD τ).loc main_arg1) (ix2 R C) := by
  have h0 : r + n0 ≤ 512 := inb 0
  have hb := (bat t).isLt
  have hg := (grp t).isLt
  rw [ld_apply (iblk m c 1 t) r k inb p x ⟨r + p.val, by omega⟩ C rfl hC]
  have h0' : (bat t).val = (grid0.coords t 0).val := rfl
  have h1' : (grp t).val = (grid0.coords t 1).val := rfl
  blk_point [iblk, V, idx t]

/-- An entry of a gate tile. -/
theorem g_ld (c : Dev nD) (t : Fin cfg0.N) {n0 n1 : ℕ} (r k : ℕ)
    (inb : ∀ a, (![r, k] : Fin 2 → ℕ) a + (![n0, n1] : Fin 2 → ℕ) a ≤ S512x512.size a) (p : Fin n0) (x : Fin n1) (R : Fin 16384) (C : Fin 512)
    (hR : R.val = 2048 * (bat t).val + 512 * (grp t).val + (r + p.val)) (hC : C.val = k + x.val) :
    View.ld (iblk m c 4 t) (Rect.unit (s := S512x512) ![r, k] ![n0, n1] inb) (ix2 p x) = m ((c : Thread nD τ).loc main_arg4) (ix2 R C) := by
  have h0 : r + n0 ≤ 512 := inb 0
  have hb := (bat t).isLt
  have hg := (grp t).isLt
  rw [ld_apply (iblk m c 4 t) r k inb p x ⟨r + p.val, by omega⟩ C rfl hC]
  have h0' : (bat t).val = (grid0.coords t 0).val := rfl
  have h1' : (grp t).val = (grid0.coords t 1).val := rfl
  blk_point [iblk, V, idx t]

/-- An entry of the cross-attention's queries. -/
theorem cq_ld (c : Dev nD) (t : Fin cfg0.N) {n0 n1 : ℕ} (r k : ℕ)
    (inb : ∀ a, (![r, k] : Fin 2 → ℕ) a + (![n0, n1] : Fin 2 → ℕ) a ≤ S512x512.size a) (p : Fin n0) (x : Fin n1) (R : Fin 16384) (C : Fin 512)
    (hR : R.val = 2048 * (bat t).val + 512 * (grp t).val + (r + p.val)) (hC : C.val = k + x.val) :
    View.ld (iblk m c 5 t) (Rect.unit (s := S512x512) ![r, k] ![n0, n1] inb) (ix2 p x) = m ((c : Thread nD τ).loc main_arg5) (ix2 R C) := by
  have h0 : r + n0 ≤ 512 := inb 0
  have hb := (bat t).isLt
  have hg := (grp t).isLt
  rw [ld_apply (iblk m c 5 t) r k inb p x ⟨r + p.val, by omega⟩ C rfl hC]
  have h0' : (bat t).val = (grid0.coords t 0).val := rfl
  have h1' : (grp t).val = (grid0.coords t 1).val := rfl
  blk_point [iblk, V, idx t]

/-- An entry of the cross-attention's gate. -/
theorem cg_ld (c : Dev nD) (t : Fin cfg0.N) {n0 n1 : ℕ} (r k : ℕ)
    (inb : ∀ a, (![r, k] : Fin 2 → ℕ) a + (![n0, n1] : Fin 2 → ℕ) a ≤ S512x512.size a) (p : Fin n0) (x : Fin n1) (R : Fin 16384) (C : Fin 512)
    (hR : R.val = 2048 * (bat t).val + 512 * (grp t).val + (r + p.val)) (hC : C.val = k + x.val) :
    View.ld (iblk m c 8 t) (Rect.unit (s := S512x512) ![r, k] ![n0, n1] inb) (ix2 p x) = m ((c : Thread nD τ).loc main_arg8) (ix2 R C) := by
  have h0 : r + n0 ≤ 512 := inb 0
  have hb := (bat t).isLt
  have hg := (grp t).isLt
  rw [ld_apply (iblk m c 8 t) r k inb p x ⟨r + p.val, by omega⟩ C rfl hC]
  have h0' : (bat t).val = (grid0.coords t 0).val := rfl
  have h1' : (grp t).val = (grid0.coords t 1).val := rfl
  blk_point [iblk, V, idx t]

/-- An entry of the memory's keys. -/
theorem ck_ld (c : Dev nD) (t : Fin cfg0.N) {n0 n1 : ℕ} (r k : ℕ)
    (inb : ∀ a, (![r, k] : Fin 2 → ℕ) a + (![n0, n1] : Fin 2 → ℕ) a ≤ S256x512.size a) (p : Fin n0) (x : Fin n1) (R : Fin 2048) (C : Fin 512)
    (hR : R.val = 256 * (bat t).val + (r + p.val)) (hC : C.val = k + x.val) :
    View.ld (iblk m c 6 t) (Rect.unit (s := S256x512) ![r, k] ![n0, n1] inb) (ix2 p x) = m ((c : Thread nD τ).loc main_arg6) (ix2 R C) := by
  have h0 : r + n0 ≤ 256 := inb 0
  have hb := (bat t).isLt
  have hg := (grp t).isLt
  rw [ld_apply (iblk m c 6 t) r k inb p x ⟨r + p.val, by omega⟩ C rfl hC]
  have h0' : (bat t).val = (grid0.coords t 0).val := rfl
  have h1' : (grp t).val = (grid0.coords t 1).val := rfl
  blk_point [iblk, V, idx t]

/-- An entry of the memory's values. -/
theorem cv_ld (c : Dev nD) (t : Fin cfg0.N) {n0 n1 : ℕ} (r k : ℕ)
    (inb : ∀ a, (![r, k] : Fin 2 → ℕ) a + (![n0, n1] : Fin 2 → ℕ) a ≤ S256x512.size a) (p : Fin n0) (x : Fin n1) (R : Fin 2048) (C : Fin 512)
    (hR : R.val = 256 * (bat t).val + (r + p.val)) (hC : C.val = k + x.val) :
    View.ld (iblk m c 7 t) (Rect.unit (s := S256x512) ![r, k] ![n0, n1] inb) (ix2 p x) = m ((c : Thread nD τ).loc main_arg7) (ix2 R C) := by
  have h0 : r + n0 ≤ 256 := inb 0
  have hb := (bat t).isLt
  have hg := (grp t).isLt
  rw [ld_apply (iblk m c 7 t) r k inb p x ⟨r + p.val, by omega⟩ C rfl hC]
  have h0' : (bat t).val = (grid0.coords t 0).val := rfl
  have h1' : (grp t).val = (grid0.coords t 1).val := rfl
  blk_point [iblk, V, idx t]

/-- Where an entry of the result's block lies in the array. -/
theorem out_emb (t : Fin cfg0.N) (y : ((cfg0.win 9).xblock (cfg0.grid.coords t)).Idx) (R : Fin 16384) (C : Fin 1024)
    (hR : R.val = 2048 * (bat t).val + 512 * (grp t).val + (y 0).val) (hC : C.val = (y 1).val) :
    ((View.whole main_v0).slice (win0_9.rect t)).emb y = ix2 R C := by
  have h0' : (bat t).val = (grid0.coords t 0).val := rfl
  have h1' : (grp t).val = (grid0.coords t 1).val := rfl
  refine funext fun a => Fin.ext ?_
  refine Fin.cases ?_ (fun a => ?_) a
  · show win0_9.index t 0 * 512 + 1 * (y 0).val = R.val
    rw [(idx t).2.2.2.2.2.2.2.2.2]
    show (4 * (grid0.coords t 0).val + (grid0.coords t 1).val) * 512 + 1 * (y 0).val = R.val
    omega
  · obtain rfl : a = 0 := by omega
    show win0_9.index t 1 * 1024 + 1 * (y 1).val = C.val
    rw [(idx t).2.2.2.2.2.2.2.2.2]
    show 0 * 1024 + 1 * (y 1).val = C.val
    omega

end Cert.AttnIdeal.RefValue
end
-- ==== Proof.AttnCross.lean ====
/-
  The attention call: one tile of the cross-attention, row by row.
-/
module

public import proofs.«01_k».proof.Proof.AttnRows

@[expose] public section

set_option maxRecDepth 16384
set_option maxHeartbeats 1000000

noncomputable section

namespace Cert.AttnIdeal.RefValue

open Cert.AttnIdeal Cert.AttnIdeal.Gen Idealize.ShloMosaic Idealize.ShloMosaic.TcCoe Idealize.SL.Sem
open Cert.AttnRefIdeal.RefValue (cLog cTop cW cOut cLog_apply cTop_apply cW_apply cOut_apply)

/-- The row maxima of the cross-attention's logits, spread over the rows. -/
def crossTop (L : FVec Ideal S512x256 .f32) : FVec Ideal S512x256 .f32 :=
  broadcastTo S512x256 (shapeCast S512x1 (multiReduction .maximumf [1] S512 L 0xFF800000#32 reduces_S512x256_S512 (.inl rfl) rfl) shapeCasts_S512_S512x1)
    broadcasts_S512x1_S512x256

/-- One tile of the cross-attention from its logits and their maxima. -/
def crossOut (L T : FVec Ideal S512x256 .f32) (v : FVec Ideal S256x128 .bf16) (g : FVec Ideal S512x128 .bf16) : FVec Ideal S512x128 .bf16 :=
  truncf .bf16 (mulf (divf (matmul dot_S512x256_S256x128_S512x128_1_0_0_1_n_n none (truncf .bf16 (exp (subf L T)) bitsLt_bf16_f32) v
      (constant S512x128 .f32 0x00000000#32))
    (broadcastTo S512x128 (shapeCast S512x1 (multiReduction .add [1] S512 (exp (subf L T)) 0x00000000#32 reduces_S512x256_S512 (.inl rfl) rfl)
      shapeCasts_S512_S512x1) broadcasts_S512x1_S512x128)) (extf .f32 g bitsLt_bf16_f32)) bitsLt_bf16_f32

/-- An entry of the spread maxima. -/
theorem crossTop_apply (L : FVec Ideal S512x256 .f32) (r : Fin 512) (j : Fin 256) :
    crossTop L (ix2 r j) = Finset.univ.sup fun k : Fin 256 => L (ix2 r k) := by
  pointwise [crossTop]
  rw [ninf]
  rfl

/-- An entry of a tile of the cross-attention. -/
theorem crossOut_apply (L T : FVec Ideal S512x256 .f32) (v : FVec Ideal S256x128 .bf16) (g : FVec Ideal S512x128 .bf16) (r : Fin 512) (l : Fin 128) :
    crossOut L T v g (ix2 r l) = Ideal.div (∑ x : Fin 256, Ideal.exp (L (ix2 r x) - T (ix2 r x)) * v (ix2 x l))
      (∑ x : Fin 256, Ideal.exp (L (ix2 r x) - T (ix2 r x))) * g (ix2 r l) := by
  pointwise [crossOut]

/-- A logit of the cross-attention's tile. -/
theorem crossLog_apply (q : FVec Ideal S512x128 .bf16) (k : FVec Ideal S256x128 .bf16) (r : Fin 512) (j : Fin 256) :
    k0_pay274 (F := Ideal) q k (ix2 r j) = ∑ c : Fin 128, q (ix2 r c) * k (ix2 j c) := by
  pointwise [k0_pay274]

/-- One tile of the cross-attention, at one row and lane, is the reference's entry. -/
theorem cross_row (b : Fin 8) (h : Fin 4) (Q : Fin 2048) (a5 : FVec Ideal S16384x512 .bf16) (a6 a7 : FVec Ideal S2048x512 .bf16)
    (a8 : FVec Ideal S16384x512 .bf16) (f5 : ∀ i, Real' (a5 i)) (f6 : ∀ i, Real' (a6 i))
    (q : FVec Ideal S512x128 .bf16) (k v : FVec Ideal S256x128 .bf16) (g : FVec Ideal S512x128 .bf16) (r : Fin 512) (l : Fin 128)
    (hq : ∀ c : Fin 128, q (ix2 r c) = a5 (ix2 ⟨2048 * b.val + Q.val, by omega⟩ ⟨128 * h.val + c.val, by omega⟩))
    (hk : ∀ (j : Fin 256) (c : Fin 128), k (ix2 j c) = a6 (ix2 ⟨256 * b.val + j.val, by omega⟩ ⟨128 * h.val + c.val, by omega⟩))
    (hv : ∀ j : Fin 256, v (ix2 j l) = a7 (ix2 ⟨256 * b.val + j.val, by omega⟩ ⟨128 * h.val + l.val, by omega⟩))
    (hg : g (ix2 r l) = a8 (ix2 ⟨2048 * b.val + Q.val, by omega⟩ ⟨128 * h.val + l.val, by omega⟩)) :
    k0_pay1 (F := Ideal) (k0_pay274 (F := Ideal) q k) v g (ix2 r l) = cOut a5 a6 a7 a8 (ix2 ⟨2048 * b.val + Q.val, by omega⟩ ⟨128 * h.val + l.val, by omega⟩) := by
  have hL : ∀ j : Fin 256, k0_pay274 (F := Ideal) q k (ix2 r j) = cLog a5 a6 (ix4 b h Q j) := by
    intro j
    rw [crossLog_apply, cLog_apply]
    refine Finset.sum_congr rfl fun c _ => ?_
    rw [hq, hk]
    refine congrArg₂ (fun x y : EReal => x * y) (congrArg a5 (congrArg₂ ix2 (Fin.ext ?_) (Fin.ext ?_))) (congrArg a6 (congrArg₂ ix2 (Fin.ext ?_) (Fin.ext ?_)))
    · show 2048 * b.val + Q.val = b.val * 2048 + Q.val
      omega
    · show 128 * h.val + c.val = h.val * 128 + c.val
      omega
    · show 256 * b.val + j.val = b.val * 256 + j.val
      omega
    · show 128 * h.val + c.val = h.val * 128 + c.val
      omega
  have fL : ∀ j : Fin 256, Real' (cLog a5 a6 (ix4 b h Q j)) := by
    intro j
    rw [cLog_apply]
    exact Real'.sum _ _ fun x => (f5 _).mul (f6 _)
  have eT : crossTop (k0_pay274 (F := Ideal) q k) (ix2 r 0) = cTop (cLog a5 a6) (ix3 b h Q) := by
    rw [crossTop_apply, cTop_apply]
    simp only [hL]
  have eT' : ∀ x : Fin 256, crossTop (k0_pay274 (F := Ideal) q k) (ix2 r x) = cTop (cLog a5 a6) (ix3 b h Q) := by
    intro x
    rw [← eT, crossTop_apply, crossTop_apply]
  have e : k0_pay1 (F := Ideal) (k0_pay274 (F := Ideal) q k) v g = crossOut (k0_pay274 (F := Ideal) q k) (crossTop (k0_pay274 (F := Ideal) q k)) v g := rfl
  rw [e, crossOut_apply, hg, cOut_apply]
  simp only [hL, eT', hv]
  have key := Cert.Proof.Softmax.soft_cross (fun j => cLog a5 a6 (ix4 b h Q j))
    (fun j => a7 (ix2 ⟨256 * b.val + j.val, by omega⟩ ⟨128 * h.val + l.val, by omega⟩)) (fun j => (fL j).1) (fun j => (fL j).2)
    (cTop (cLog a5 a6) (ix3 b h Q)) (cTop_apply _ _ _ _)
  refine congrArg₂ (fun x y : EReal => x * y) (key.trans (Finset.sum_congr rfl fun j _ => ?_)) rfl
  rw [cW_apply]
  have i0 : (⟨(2048 * b.val + Q.val) / 2048, by omega⟩ : Fin 8) = b := Fin.ext (by show (2048 * b.val + Q.val) / 2048 = b.val; omega)
  have i1 : (⟨(128 * h.val + l.val) / 128, by omega⟩ : Fin 4) = h := Fin.ext (by show (128 * h.val + l.val) / 128 = h.val; omega)
  have i2 : (⟨(2048 * b.val + Q.val) % 2048, by omega⟩ : Fin 2048) = Q := Fin.ext (by show (2048 * b.val + Q.val) % 2048 = Q.val; omega)
  refine congrArg₂ (fun x y : EReal => x * y) (congrArg a7 (congrArg₂ ix2 (Fin.ext ?_) rfl)) ?_
  · show 256 * b.val + j.val = (2048 * b.val + Q.val) / 2048 * 256 + j.val
    omega
  · simp only [i0, i1, i2]

end Cert.AttnIdeal.RefValue
end
-- ==== Proof.AttnTiles.lean ====
/-
  The attention call: its tiles against the reference.
-/
module

public import proofs.«01_k».proof.Proof.AttnBlocks
public import proofs.«01_k».proof.Proof.AttnCross

@[expose] public section

set_option maxRecDepth 16384
set_option maxHeartbeats 4000000

noncomputable section

namespace Cert.AttnIdeal.RefValue

open Cert.AttnIdeal Cert.AttnIdeal.Gen Idealize.ShloMosaic Idealize.ShloMosaic.TcCoe Idealize.SL.Sem
open Cert.AttnRefIdeal.RefValue (wLog wTop wDen wW wOut cLog cTop cW cOut REF0 wOut_apply REF0_apply)
open Idealize.ShloMosaic.Pipeline (Dat)

variable (m : (ℓ : Loc nD τ sig) → Buf (Elt Ideal) ℓ)

/-- Argument 0 as the call finds it. -/
abbrev A0 (c : Dev nD) : Vec Ideal S8 .f32 := m ((c : Thread nD τ).loc main_arg0)

/-- Argument 1 as the call finds it. -/
abbrev A1 (c : Dev nD) : Vec Ideal S16384x512 .bf16 := m ((c : Thread nD τ).loc main_arg1)

/-- Argument 2 as the call finds it. -/
abbrev A2 (c : Dev nD) : Vec Ideal S16384x128 .bf16 := m ((c : Thread nD τ).loc main_arg2)

/-- Argument 3 as the call finds it. -/
abbrev A3 (c : Dev nD) : Vec Ideal S16384x128 .bf16 := m ((c : Thread nD τ).loc main_arg3)

/-- Argument 4 as the call finds it. -/
abbrev A4 (c : Dev nD) : Vec Ideal S16384x512 .bf16 := m ((c : Thread nD τ).loc main_arg4)

/-- Argument 5 as the call finds it. -/
abbrev A5 (c : Dev nD) : Vec Ideal S16384x512 .bf16 := m ((c : Thread nD τ).loc main_arg5)

/-- Argument 6 as the call finds it. -/
abbrev A6 (c : Dev nD) : Vec Ideal S2048x512 .bf16 := m ((c : Thread nD τ).loc main_arg6)

/-- Argument 7 as the call finds it. -/
abbrev A7 (c : Dev nD) : Vec Ideal S2048x512 .bf16 := m ((c : Thread nD τ).loc main_arg7)

/-- Argument 8 as the call finds it. -/
abbrev A8 (c : Dev nD) : Vec Ideal S16384x512 .bf16 := m ((c : Thread nD τ).loc main_arg8)

/-- Every number that the logits are made of is finite. -/
structure Fine (c : Dev nD) : Prop where
  f0 : ∀ i : S8.Idx, Real' ((A0 m c) i)
  f1 : ∀ i : S16384x512.Idx, Real' ((A1 m c) i)
  f2 : ∀ i : S16384x128.Idx, Real' ((A2 m c) i)
  f5 : ∀ i : S16384x512.Idx, Real' ((A5 m c) i)
  f6 : ∀ i : S2048x512.Idx, Real' ((A6 m c) i)

/-- One upper tile of the first key head is the reference's. -/
theorem upper0 (c : Dev nD) (t : Fin cfg0.N) (F : Fine m c) (q : ℕ) (hq : q < 4) (i0 i1 i2 : Fin 6) (n0 : i0.val = q) (n1 : i1.val = q + 1) (n2 : i2.val = q + 2)
    (ok0 ok2 : BitVec 1) (o0 : ok0 = okB t (BitVec.ofNat 32 i0.val)) (o2 : ok2 = okB t (BitVec.ofNat 32 i2.val)) (s0 s1 s2 s3 : EReal)
    (e0 : s0 = (A0 m c) (ix1 0)) (e1 : s1 = (A0 m c) (ix1 1)) (e2 : s2 = (A0 m c) (ix1 2)) (e3 : s3 = (A0 m c) (ix1 3))
    (qt qb g : FVec Ideal S128x128 .bf16)
    (ht : ∀ p x : Fin 128, qt (ix2 p x) = (A1 m c) (ix2 ⟨2048 * (bat t).val + 512 * (grp t).val + 128 * q + p.val, by omega⟩ ⟨0 + x.val, by omega⟩))
    (hb : ∀ p x : Fin 128, qb (ix2 p x) = (A1 m c) (ix2 ⟨2048 * (bat t).val + 512 * (grp t).val + 128 * q + p.val, by omega⟩ ⟨128 + x.val, by omega⟩))
    (hg : ∀ p x : Fin 128, g (ix2 p x) = (A4 m c) (ix2 ⟨2048 * (bat t).val + 512 * (grp t).val + 128 * q + p.val, by omega⟩ ⟨0 + x.val, by omega⟩)) (p l : Fin 128) :
    upper (tile0 s0 s1 s2 s3 qt qb ok0 ok2 (keyB m c t i0) (keyB m c t i1) (keyB m c t i2) (valB m c t i0) (valB m c t i1) (valB m c t i2)) g (ix2 p l)
      = REF0 (A0 m c) (A1 m c) (A2 m c) (A3 m c) (A4 m c) (A5 m c) (A6 m c) (A7 m c) (A8 m c)
        (ix2 ⟨2048 * (bat t).val + 512 * (grp t).val + 128 * q + p.val, by omega⟩ ⟨0 + l.val, by omega⟩) := by
  have hbt := (bat t).isLt
  have hgt := (grp t).isLt
  have g1 : (grp t).val = (grid0.coords t 1).val := rfl
  have key := tile0_row 0 (bat t) ⟨4 * (grp t).val + q, by omega⟩ p (A0 m c) (A1 m c) (A2 m c) (A3 m c) F.f0 F.f1 F.f2 s0 s1 s2 s3 qt qb ok0 ok2
    (keyB m c t i0) (keyB m c t i1) (keyB m c t i2) (valB m c t i0) (valB m c t i1) (valB m c t i2) e0 e1 e2 e3
    (fun x => (ht p x).trans (congrArg (A1 m c) (congrArg₂ ix2 (Fin.ext (by
      show 2048 * (bat t).val + 512 * (grp t).val + 128 * q + p.val = 2048 * (bat t).val + 128 * (4 * (grp t).val + q) + p.val; omega)) rfl)))
    (fun x => (hb p x).trans (congrArg (A1 m c) (congrArg₂ ix2 (Fin.ext (by
      show 2048 * (bat t).val + 512 * (grp t).val + 128 * q + p.val = 2048 * (bat t).val + 128 * (4 * (grp t).val + q) + p.val; omega)) rfl)))
    (by rw [o0, okB_iff]; show _ ↔ 4 * (grp t).val + q ≠ 0; omega)
    (by rw [o2, okB_iff]; show _ ↔ 4 * (grp t).val + q ≠ 15; omega)
    (fun bb h => key_apply m c t i0 bb (by rw [n0]; exact h))
    (key_apply m c t i1 ⟨4 * (grp t).val + q, by omega⟩ (by rw [n1]; rfl))
    (fun bb h => key_apply m c t i2 bb (by rw [n2, h]; show 4 * (grp t).val + q + 1 + 1 = _; omega))
    (fun bb h => val_apply m c t i0 bb (by rw [n0]; exact h))
    (val_apply m c t i1 ⟨4 * (grp t).val + q, by omega⟩ (by rw [n1]; rfl))
    (fun bb h => val_apply m c t i2 bb (by rw [n2, h]; show 4 * (grp t).val + q + 1 + 1 = _; omega)) l
  rw [REF0_apply, dif_pos (by show 0 + l.val < 512; omega), wOut_apply, upper_apply, hg p l]
  refine congrArg₂ (fun x y : EReal => x * y) (Eq.trans ?_ (key.trans (Finset.sum_congr rfl fun k _ => ?_))) rfl
  · refine congrArg (tile0 s0 s1 s2 s3 qt qb ok0 ok2 _ _ _ _ _ _) (congrArg₂ ix2 (Fin.ext ?_) rfl)
    show p.val = 128 * 0 + p.val
    omega
  · refine congrArg₂ (fun x y : EReal => x * y) (congrArg (A3 m c) (congrArg₂ ix2 (Fin.ext ?_) (Fin.ext ?_))) (congrArg (wW _ _) ?_)
    · show 2048 * (bat t).val + k.val = (2048 * (bat t).val + 512 * (grp t).val + 128 * q + p.val) / 2048 * 2048 + k.val
      omega
    · show 0 + l.val % 64 = (0 + l.val) / 256 * 64 + (0 + l.val) % 64
      omega
    · have j0 : (⟨(2048 * (bat t).val + 512 * (grp t).val + 128 * q + p.val) / 2048, by omega⟩ : Fin 8) = bat t := Fin.ext (by
        show (2048 * (bat t).val + 512 * (grp t).val + 128 * q + p.val) / 2048 = (bat t).val; omega)
      have j1 : (⟨(0 + l.val) / 256, by omega⟩ : Fin 2) = 0 := Fin.ext (by show (0 + l.val) / 256 = 0; omega)
      have j2 : (⟨(0 + l.val) / 64 % 4, by omega⟩ : Fin 4) = ⟨2 * (0 : Fin 2).val + l.val / 64, by show 2 * 0 + l.val / 64 < 4; omega⟩ := Fin.ext (by
        show (0 + l.val) / 64 % 4 = 2 * 0 + l.val / 64; omega)
      have j3 : (⟨(2048 * (bat t).val + 512 * (grp t).val + 128 * q + p.val) % 2048, by omega⟩ : Fin 2048) = ⟨128 * (4 * (grp t).val + q) + p.val, by omega⟩ := Fin.ext (by
        show (2048 * (bat t).val + 512 * (grp t).val + 128 * q + p.val) % 2048 = 128 * (4 * (grp t).val + q) + p.val; omega)
      exact ((congrArg₂ (fun a b => ix5 a b _ _ k) j0 j1).trans (congrArg₂ (fun a b => ix5 (bat t) 0 a b k) j2 j3)).symm

/-- One lower tile of the first key head is the reference's. -/
theorem lower0 (c : Dev nD) (t : Fin cfg0.N) (F : Fine m c) (q : ℕ) (hq : q < 4) (i0 i1 i2 : Fin 6) (n0 : i0.val = q) (n1 : i1.val = q + 1) (n2 : i2.val = q + 2)
    (ok0 ok2 : BitVec 1) (o0 : ok0 = okB t (BitVec.ofNat 32 i0.val)) (o2 : ok2 = okB t (BitVec.ofNat 32 i2.val)) (s0 s1 s2 s3 : EReal)
    (e0 : s0 = (A0 m c) (ix1 0)) (e1 : s1 = (A0 m c) (ix1 1)) (e2 : s2 = (A0 m c) (ix1 2)) (e3 : s3 = (A0 m c) (ix1 3))
    (qt qb g : FVec Ideal S128x128 .bf16)
    (ht : ∀ p x : Fin 128, qt (ix2 p x) = (A1 m c) (ix2 ⟨2048 * (bat t).val + 512 * (grp t).val + 128 * q + p.val, by omega⟩ ⟨0 + x.val, by omega⟩))
    (hb : ∀ p x : Fin 128, qb (ix2 p x) = (A1 m c) (ix2 ⟨2048 * (bat t).val + 512 * (grp t).val + 128 * q + p.val, by omega⟩ ⟨128 + x.val, by omega⟩))
    (hg : ∀ p x : Fin 128, g (ix2 p x) = (A4 m c) (ix2 ⟨2048 * (bat t).val + 512 * (grp t).val + 128 * q + p.val, by omega⟩ ⟨128 + x.val, by omega⟩)) (p l : Fin 128) :
    lower (tile0 s0 s1 s2 s3 qt qb ok0 ok2 (keyB m c t i0) (keyB m c t i1) (keyB m c t i2) (valB m c t i0) (valB m c t i1) (valB m c t i2)) g (ix2 p l)
      = REF0 (A0 m c) (A1 m c) (A2 m c) (A3 m c) (A4 m c) (A5 m c) (A6 m c) (A7 m c) (A8 m c)
        (ix2 ⟨2048 * (bat t).val + 512 * (grp t).val + 128 * q + p.val, by omega⟩ ⟨128 + l.val, by omega⟩) := by
  have hbt := (bat t).isLt
  have hgt := (grp t).isLt
  have g1 : (grp t).val = (grid0.coords t 1).val := rfl
  have key := tile0_row 1 (bat t) ⟨4 * (grp t).val + q, by omega⟩ p (A0 m c) (A1 m c) (A2 m c) (A3 m c) F.f0 F.f1 F.f2 s0 s1 s2 s3 qt qb ok0 ok2
    (keyB m c t i0) (keyB m c t i1) (keyB m c t i2) (valB m c t i0) (valB m c t i1) (valB m c t i2) e0 e1 e2 e3
    (fun x => (ht p x).trans (congrArg (A1 m c) (congrArg₂ ix2 (Fin.ext (by
      show 2048 * (bat t).val + 512 * (grp t).val + 128 * q + p.val = 2048 * (bat t).val + 128 * (4 * (grp t).val + q) + p.val; omega)) rfl)))
    (fun x => (hb p x).trans (congrArg (A1 m c) (congrArg₂ ix2 (Fin.ext (by
      show 2048 * (bat t).val + 512 * (grp t).val + 128 * q + p.val = 2048 * (bat t).val + 128 * (4 * (grp t).val + q) + p.val; omega)) rfl)))
    (by rw [o0, okB_iff]; show _ ↔ 4 * (grp t).val + q ≠ 0; omega)
    (by rw [o2, okB_iff]; show _ ↔ 4 * (grp t).val + q ≠ 15; omega)
    (fun bb h => key_apply m c t i0 bb (by rw [n0]; exact h))
    (key_apply m c t i1 ⟨4 * (grp t).val + q, by omega⟩ (by rw [n1]; rfl))
    (fun bb h => key_apply m c t i2 bb (by rw [n2, h]; show 4 * (grp t).val + q + 1 + 1 = _; omega))
    (fun bb h => val_apply m c t i0 bb (by rw [n0]; exact h))
    (val_apply m c t i1 ⟨4 * (grp t).val + q, by omega⟩ (by rw [n1]; rfl))
    (fun bb h => val_apply m c t i2 bb (by rw [n2, h]; show 4 * (grp t).val + q + 1 + 1 = _; omega)) l
  rw [REF0_apply, dif_pos (by show 128 + l.val < 512; omega), wOut_apply, lower_apply, hg p l]
  refine congrArg₂ (fun x y : EReal => x * y) (Eq.trans ?_ (key.trans (Finset.sum_congr rfl fun k _ => ?_))) rfl
  · refine congrArg (tile0 s0 s1 s2 s3 qt qb ok0 ok2 _ _ _ _ _ _) (congrArg₂ ix2 (Fin.ext ?_) rfl)
    show 128 + p.val = 128 * 1 + p.val
    omega
  · refine congrArg₂ (fun x y : EReal => x * y) (congrArg (A3 m c) (congrArg₂ ix2 (Fin.ext ?_) (Fin.ext ?_))) (congrArg (wW _ _) ?_)
    · show 2048 * (bat t).val + k.val = (2048 * (bat t).val + 512 * (grp t).val + 128 * q + p.val) / 2048 * 2048 + k.val
      omega
    · show 0 + l.val % 64 = (128 + l.val) / 256 * 64 + (128 + l.val) % 64
      omega
    · have j0 : (⟨(2048 * (bat t).val + 512 * (grp t).val + 128 * q + p.val) / 2048, by omega⟩ : Fin 8) = bat t := Fin.ext (by
        show (2048 * (bat t).val + 512 * (grp t).val + 128 * q + p.val) / 2048 = (bat t).val; omega)
      have j1 : (⟨(128 + l.val) / 256, by omega⟩ : Fin 2) = 0 := Fin.ext (by show (128 + l.val) / 256 = 0; omega)
      have j2 : (⟨(128 + l.val) / 64 % 4, by omega⟩ : Fin 4) = ⟨2 * (1 : Fin 2).val + l.val / 64, by show 2 * 1 + l.val / 64 < 4; omega⟩ := Fin.ext (by
        show (128 + l.val) / 64 % 4 = 2 * 1 + l.val / 64; omega)
      have j3 : (⟨(2048 * (bat t).val + 512 * (grp t).val + 128 * q + p.val) % 2048, by omega⟩ : Fin 2048) = ⟨128 * (4 * (grp t).val + q) + p.val, by omega⟩ := Fin.ext (by
        show (2048 * (bat t).val + 512 * (grp t).val + 128 * q + p.val) % 2048 = 128 * (4 * (grp t).val + q) + p.val; omega)
      exact ((congrArg₂ (fun a b => ix5 a b _ _ k) j0 j1).trans (congrArg₂ (fun a b => ix5 (bat t) 0 a b k) j2 j3)).symm

/-- One upper tile of the second key head is the reference's. -/
theorem upper1 (c : Dev nD) (t : Fin cfg0.N) (F : Fine m c) (q : ℕ) (hq : q < 4) (i0 i1 i2 : Fin 6) (n0 : i0.val = q) (n1 : i1.val = q + 1) (n2 : i2.val = q + 2)
    (ok0 ok2 : BitVec 1) (o0 : ok0 = okB t (BitVec.ofNat 32 i0.val)) (o2 : ok2 = okB t (BitVec.ofNat 32 i2.val)) (s0 s1 s2 s3 : EReal)
    (e0 : s0 = (A0 m c) (ix1 4)) (e1 : s1 = (A0 m c) (ix1 5)) (e2 : s2 = (A0 m c) (ix1 6)) (e3 : s3 = (A0 m c) (ix1 7))
    (qt qb g : FVec Ideal S128x128 .bf16)
    (ht : ∀ p x : Fin 128, qt (ix2 p x) = (A1 m c) (ix2 ⟨2048 * (bat t).val + 512 * (grp t).val + 128 * q + p.val, by omega⟩ ⟨256 + x.val, by omega⟩))
    (hb : ∀ p x : Fin 128, qb (ix2 p x) = (A1 m c) (ix2 ⟨2048 * (bat t).val + 512 * (grp t).val + 128 * q + p.val, by omega⟩ ⟨384 + x.val, by omega⟩))
    (hg : ∀ p x : Fin 128, g (ix2 p x) = (A4 m c) (ix2 ⟨2048 * (bat t).val + 512 * (grp t).val + 128 * q + p.val, by omega⟩ ⟨256 + x.val, by omega⟩)) (p l : Fin 128) :
    upper (tile1 s0 s1 s2 s3 qt qb ok0 ok2 (keyB m c t i0) (keyB m c t i1) (keyB m c t i2) (valB m c t i0) (valB m c t i1) (valB m c t i2)) g (ix2 p l)
      = REF0 (A0 m c) (A1 m c) (A2 m c) (A3 m c) (A4 m c) (A5 m c) (A6 m c) (A7 m c) (A8 m c)
        (ix2 ⟨2048 * (bat t).val + 512 * (grp t).val + 128 * q + p.val, by omega⟩ ⟨256 + l.val, by omega⟩) := by
  have hbt := (bat t).isLt
  have hgt := (grp t).isLt
  have g1 : (grp t).val = (grid0.coords t 1).val := rfl
  have key := tile1_row 0 (bat t) ⟨4 * (grp t).val + q, by omega⟩ p (A0 m c) (A1 m c) (A2 m c) (A3 m c) F.f0 F.f1 F.f2 s0 s1 s2 s3 qt qb ok0 ok2
    (keyB m c t i0) (keyB m c t i1) (keyB m c t i2) (valB m c t i0) (valB m c t i1) (valB m c t i2) e0 e1 e2 e3
    (fun x => (ht p x).trans (congrArg (A1 m c) (congrArg₂ ix2 (Fin.ext (by
      show 2048 * (bat t).val + 512 * (grp t).val + 128 * q + p.val = 2048 * (bat t).val + 128 * (4 * (grp t).val + q) + p.val; omega)) rfl)))
    (fun x => (hb p x).trans (congrArg (A1 m c) (congrArg₂ ix2 (Fin.ext (by
      show 2048 * (bat t).val + 512 * (grp t).val + 128 * q + p.val = 2048 * (bat t).val + 128 * (4 * (grp t).val + q) + p.val; omega)) rfl)))
    (by rw [o0, okB_iff]; show _ ↔ 4 * (grp t).val + q ≠ 0; omega)
    (by rw [o2, okB_iff]; show _ ↔ 4 * (grp t).val + q ≠ 15; omega)
    (fun bb h => key_apply m c t i0 bb (by rw [n0]; exact h))
    (key_apply m c t i1 ⟨4 * (grp t).val + q, by omega⟩ (by rw [n1]; rfl))
    (fun bb h => key_apply m c t i2 bb (by rw [n2, h]; show 4 * (grp t).val + q + 1 + 1 = _; omega))
    (fun bb h => val_apply m c t i0 bb (by rw [n0]; exact h))
    (val_apply m c t i1 ⟨4 * (grp t).val + q, by omega⟩ (by rw [n1]; rfl))
    (fun bb h => val_apply m c t i2 bb (by rw [n2, h]; show 4 * (grp t).val + q + 1 + 1 = _; omega)) l
  rw [REF0_apply, dif_pos (by show 256 + l.val < 512; omega), wOut_apply, upper_apply, hg p l]
  refine congrArg₂ (fun x y : EReal => x * y) (Eq.trans ?_ (key.trans (Finset.sum_congr rfl fun k _ => ?_))) rfl
  · refine congrArg (tile1 s0 s1 s2 s3 qt qb ok0 ok2 _ _ _ _ _ _) (congrArg₂ ix2 (Fin.ext ?_) rfl)
    show p.val = 128 * 0 + p.val
    omega
  · refine congrArg₂ (fun x y : EReal => x * y) (congrArg (A3 m c) (congrArg₂ ix2 (Fin.ext ?_) (Fin.ext ?_))) (congrArg (wW _ _) ?_)
    · show 2048 * (bat t).val + k.val = (2048 * (bat t).val + 512 * (grp t).val + 128 * q + p.val) / 2048 * 2048 + k.val
      omega
    · show 64 + l.val % 64 = (256 + l.val) / 256 * 64 + (256 + l.val) % 64
      omega
    · have j0 : (⟨(2048 * (bat t).val + 512 * (grp t).val + 128 * q + p.val) / 2048, by omega⟩ : Fin 8) = bat t := Fin.ext (by
        show (2048 * (bat t).val + 512 * (grp t).val + 128 * q + p.val) / 2048 = (bat t).val; omega)
      have j1 : (⟨(256 + l.val) / 256, by omega⟩ : Fin 2) = 1 := Fin.ext (by show (256 + l.val) / 256 = 1; omega)
      have j2 : (⟨(256 + l.val) / 64 % 4, by omega⟩ : Fin 4) = ⟨2 * (0 : Fin 2).val + l.val / 64, by show 2 * 0 + l.val / 64 < 4; omega⟩ := Fin.ext (by
        show (256 + l.val) / 64 % 4 = 2 * 0 + l.val / 64; omega)
      have j3 : (⟨(2048 * (bat t).val + 512 * (grp t).val + 128 * q + p.val) % 2048, by omega⟩ : Fin 2048) = ⟨128 * (4 * (grp t).val + q) + p.val, by omega⟩ := Fin.ext (by
        show (2048 * (bat t).val + 512 * (grp t).val + 128 * q + p.val) % 2048 = 128 * (4 * (grp t).val + q) + p.val; omega)
      exact ((congrArg₂ (fun a b => ix5 a b _ _ k) j0 j1).trans (congrArg₂ (fun a b => ix5 (bat t) 1 a b k) j2 j3)).symm

/-- One lower tile of the second key head is the reference's. -/
theorem lower1 (c : Dev nD) (t : Fin cfg0.N) (F : Fine m c) (q : ℕ) (hq : q < 4) (i0 i1 i2 : Fin 6) (n0 : i0.val = q) (n1 : i1.val = q + 1) (n2 : i2.val = q + 2)
    (ok0 ok2 : BitVec 1) (o0 : ok0 = okB t (BitVec.ofNat 32 i0.val)) (o2 : ok2 = okB t (BitVec.ofNat 32 i2.val)) (s0 s1 s2 s3 : EReal)
    (e0 : s0 = (A0 m c) (ix1 4)) (e1 : s1 = (A0 m c) (ix1 5)) (e2 : s2 = (A0 m c) (ix1 6)) (e3 : s3 = (A0 m c) (ix1 7))
    (qt qb g : FVec Ideal S128x128 .bf16)
    (ht : ∀ p x : Fin 128, qt (ix2 p x) = (A1 m c) (ix2 ⟨2048 * (bat t).val + 512 * (grp t).val + 128 * q + p.val, by omega⟩ ⟨256 + x.val, by omega⟩))
    (hb : ∀ p x : Fin 128, qb (ix2 p x) = (A1 m c) (ix2 ⟨2048 * (bat t).val + 512 * (grp t).val + 128 * q + p.val, by omega⟩ ⟨384 + x.val, by omega⟩))
    (hg : ∀ p x : Fin 128, g (ix2 p x) = (A4 m c) (ix2 ⟨2048 * (bat t).val + 512 * (grp t).val + 128 * q + p.val, by omega⟩ ⟨384 + x.val, by omega⟩)) (p l : Fin 128) :
    lower (tile1 s0 s1 s2 s3 qt qb ok0 ok2 (keyB m c t i0) (keyB m c t i1) (keyB m c t i2) (valB m c t i0) (valB m c t i1) (valB m c t i2)) g (ix2 p l)
      = REF0 (A0 m c) (A1 m c) (A2 m c) (A3 m c) (A4 m c) (A5 m c) (A6 m c) (A7 m c) (A8 m c)
        (ix2 ⟨2048 * (bat t).val + 512 * (grp t).val + 128 * q + p.val, by omega⟩ ⟨384 + l.val, by omega⟩) := by
  have hbt := (bat t).isLt
  have hgt := (grp t).isLt
  have g1 : (grp t).val = (grid0.coords t 1).val := rfl
  have key := tile1_row 1 (bat t) ⟨4 * (grp t).val + q, by omega⟩ p (A0 m c) (A1 m c) (A2 m c) (A3 m c) F.f0 F.f1 F.f2 s0 s1 s2 s3 qt qb ok0 ok2
    (keyB m c t i0) (keyB m c t i1) (keyB m c t i2) (valB m c t i0) (valB m c t i1) (valB m c t i2) e0 e1 e2 e3
    (fun x => (ht p x).trans (congrArg (A1 m c) (congrArg₂ ix2 (Fin.ext (by
      show 2048 * (bat t).val + 512 * (grp t).val + 128 * q + p.val = 2048 * (bat t).val + 128 * (4 * (grp t).val + q) + p.val; omega)) rfl)))
    (fun x => (hb p x).trans (congrArg (A1 m c) (congrArg₂ ix2 (Fin.ext (by
      show 2048 * (bat t).val + 512 * (grp t).val + 128 * q + p.val = 2048 * (bat t).val + 128 * (4 * (grp t).val + q) + p.val; omega)) rfl)))
    (by rw [o0, okB_iff]; show _ ↔ 4 * (grp t).val + q ≠ 0; omega)
    (by rw [o2, okB_iff]; show _ ↔ 4 * (grp t).val + q ≠ 15; omega)
    (fun bb h => key_apply m c t i0 bb (by rw [n0]; exact h))
    (key_apply m c t i1 ⟨4 * (grp t).val + q, by omega⟩ (by rw [n1]; rfl))
    (fun bb h => key_apply m c t i2 bb (by rw [n2, h]; show 4 * (grp t).val + q + 1 + 1 = _; omega))
    (fun bb h => val_apply m c t i0 bb (by rw [n0]; exact h))
    (val_apply m c t i1 ⟨4 * (grp t).val + q, by omega⟩ (by rw [n1]; rfl))
    (fun bb h => val_apply m c t i2 bb (by rw [n2, h]; show 4 * (grp t).val + q + 1 + 1 = _; omega)) l
  rw [REF0_apply, dif_pos (by show 384 + l.val < 512; omega), wOut_apply, lower_apply, hg p l]
  refine congrArg₂ (fun x y : EReal => x * y) (Eq.trans ?_ (key.trans (Finset.sum_congr rfl fun k _ => ?_))) rfl
  · refine congrArg (tile1 s0 s1 s2 s3 qt qb ok0 ok2 _ _ _ _ _ _) (congrArg₂ ix2 (Fin.ext ?_) rfl)
    show 128 + p.val = 128 * 1 + p.val
    omega
  · refine congrArg₂ (fun x y : EReal => x * y) (congrArg (A3 m c) (congrArg₂ ix2 (Fin.ext ?_) (Fin.ext ?_))) (congrArg (wW _ _) ?_)
    · show 2048 * (bat t).val + k.val = (2048 * (bat t).val + 512 * (grp t).val + 128 * q + p.val) / 2048 * 2048 + k.val
      omega
    · show 64 + l.val % 64 = (384 + l.val) / 256 * 64 + (384 + l.val) % 64
      omega
    · have j0 : (⟨(2048 * (bat t).val + 512 * (grp t).val + 128 * q + p.val) / 2048, by omega⟩ : Fin 8) = bat t := Fin.ext (by
        show (2048 * (bat t).val + 512 * (grp t).val + 128 * q + p.val) / 2048 = (bat t).val; omega)
      have j1 : (⟨(384 + l.val) / 256, by omega⟩ : Fin 2) = 1 := Fin.ext (by show (384 + l.val) / 256 = 1; omega)
      have j2 : (⟨(384 + l.val) / 64 % 4, by omega⟩ : Fin 4) = ⟨2 * (1 : Fin 2).val + l.val / 64, by show 2 * 1 + l.val / 64 < 4; omega⟩ := Fin.ext (by
        show (384 + l.val) / 64 % 4 = 2 * 1 + l.val / 64; omega)
      have j3 : (⟨(2048 * (bat t).val + 512 * (grp t).val + 128 * q + p.val) % 2048, by omega⟩ : Fin 2048) = ⟨128 * (4 * (grp t).val + q) + p.val, by omega⟩ := Fin.ext (by
        show (2048 * (bat t).val + 512 * (grp t).val + 128 * q + p.val) % 2048 = 128 * (4 * (grp t).val + q) + p.val; omega)
      exact ((congrArg₂ (fun a b => ix5 a b _ _ k) j0 j1).trans (congrArg₂ (fun a b => ix5 (bat t) 1 a b k) j2 j3)).symm

/-- One tile of the cross-attention is the reference's. -/
theorem cross (c : Dev nD) (t : Fin cfg0.N) (F : Fine m c) (h : ℕ) (hh : h < 4) (q : FVec Ideal S512x128 .bf16) (k v : FVec Ideal S256x128 .bf16) (g : FVec Ideal S512x128 .bf16)
    (hq : ∀ (p : Fin 512) (x : Fin 128), q (ix2 p x) = (A5 m c) (ix2 ⟨2048 * (bat t).val + 512 * (grp t).val + p.val, by omega⟩ ⟨128 * h + x.val, by omega⟩))
    (hk : ∀ (p : Fin 256) (x : Fin 128), k (ix2 p x) = (A6 m c) (ix2 ⟨256 * (bat t).val + p.val, by omega⟩ ⟨128 * h + x.val, by omega⟩))
    (hv : ∀ (p : Fin 256) (x : Fin 128), v (ix2 p x) = (A7 m c) (ix2 ⟨256 * (bat t).val + p.val, by omega⟩ ⟨128 * h + x.val, by omega⟩))
    (hg : ∀ (p : Fin 512) (x : Fin 128), g (ix2 p x) = (A8 m c) (ix2 ⟨2048 * (bat t).val + 512 * (grp t).val + p.val, by omega⟩ ⟨128 * h + x.val, by omega⟩))
    (p : Fin 512) (l : Fin 128) :
    k0_pay1 (F := Ideal) (k0_pay274 (F := Ideal) q k) v g (ix2 p l)
      = REF0 (A0 m c) (A1 m c) (A2 m c) (A3 m c) (A4 m c) (A5 m c) (A6 m c) (A7 m c) (A8 m c)
        (ix2 ⟨2048 * (bat t).val + 512 * (grp t).val + p.val, by omega⟩ ⟨512 + 128 * h + l.val, by omega⟩) := by
  have hbt := (bat t).isLt
  have hgt := (grp t).isLt
  have e : ∀ p : Fin 512, (⟨2048 * (bat t).val + 512 * (grp t).val + p.val, by omega⟩ : Fin 16384)
      = ⟨2048 * (bat t).val + (⟨512 * (grp t).val + p.val, by omega⟩ : Fin 2048).val, by show 2048 * (bat t).val + (512 * (grp t).val + p.val) < 16384; omega⟩ := fun p => Fin.ext (by
    show 2048 * (bat t).val + 512 * (grp t).val + p.val = 2048 * (bat t).val + (512 * (grp t).val + p.val); omega)
  rw [REF0_apply, dif_neg (by show ¬ 512 + 128 * h + l.val < 512; omega)]
  refine (cross_row (bat t) ⟨h, hh⟩ ⟨512 * (grp t).val + p.val, by omega⟩ (A5 m c) (A6 m c) (A7 m c) (A8 m c) F.f5 F.f6 q k v g p l
    (fun x => (hq p x).trans (congrArg (A5 m c) (congrArg₂ ix2 (e p) rfl))) hk (fun j => hv j l) ((hg p l).trans (congrArg (A8 m c) (congrArg₂ ix2 (e p) rfl)))).trans ?_
  refine congrArg (cOut _ _ _ _) (congrArg₂ ix2 (e p).symm (Fin.ext ?_))
  show 128 * h + l.val = 512 + 128 * h + l.val - 512
  omega

/-- An index is its two coordinates. -/
theorem pair128 (x : S128x128.Idx) : ∃ (p : Fin 128) (l : Fin 128), x = ix2 p l := by
  refine ⟨x 0, x 1, funext fun a => ?_⟩
  refine Fin.cases rfl (fun a => ?_) a
  obtain rfl : a = 0 := by omega
  rfl

/-- An index is its two coordinates. -/
theorem pair512 (x : S512x128.Idx) : ∃ (p : Fin 512) (l : Fin 128), x = ix2 p l := by
  refine ⟨x 0, x 1, funext fun a => ?_⟩
  refine Fin.cases rfl (fun a => ?_) a
  obtain rfl : a = 0 := by omega
  rfl

end Cert.AttnIdeal.RefValue
end
-- ==== Proof.AttnFinal.lean ====
/-
  The attention call: its result array after the run.
-/
module

public import proofs.«01_k».proof.Proof.AttnTiles

@[expose] public section

set_option maxRecDepth 16384
set_option maxHeartbeats 4000000

noncomputable section

namespace Cert.AttnIdeal.RefValue

open Cert.AttnIdeal Cert.AttnIdeal.Gen Idealize.ShloMosaic Idealize.ShloMosaic.TcCoe Idealize.SL.Sem
open Cert.AttnRefIdeal.RefValue (wLog wTop wDen wW wOut cLog cTop cW cOut REF0 wOut_apply REF0_apply)
open Idealize.ShloMosaic.Pipeline (Dat)

variable (m : (ℓ : Loc nD τ sig) → Buf (Elt Ideal) ℓ)

/-- A sink read out of the first operand's block. -/
abbrev sB (c : Dev nD) (t : Fin cfg0.N) (r : ℕ) (inb : ∀ a, (![r] : Fin 1 → ℕ) a + (![1] : Fin 1 → ℕ) a ≤ S8.size a) : EReal :=
  View.ld (iblk m c 0 t) (Rect.unit (s := S8) ![r] ![1] inb) (Shape.Idx.first (s := S1) (by decide))

/-- A query tile. -/
abbrev qB (c : Dev nD) (t : Fin cfg0.N) (r k : ℕ) (inb : ∀ a, (![r, k] : Fin 2 → ℕ) a + (![128, 128] : Fin 2 → ℕ) a ≤ S512x512.size a) : FVec Ideal S128x128 .bf16 :=
  View.ld (iblk m c 1 t) (Rect.unit (s := S512x512) ![r, k] ![128, 128] inb)

/-- A gate tile. -/
abbrev gB (c : Dev nD) (t : Fin cfg0.N) (r k : ℕ) (inb : ∀ a, (![r, k] : Fin 2 → ℕ) a + (![128, 128] : Fin 2 → ℕ) a ≤ S512x512.size a) : FVec Ideal S128x128 .bf16 :=
  View.ld (iblk m c 4 t) (Rect.unit (s := S512x512) ![r, k] ![128, 128] inb)

/-- The result array after the run is the reference's. -/
theorem final9 (c : Dev nD) (F : Fine m c) : (dats m 0 c).arrAt 9 cfg0.N
    = REF0 (A0 m c) (A1 m c) (A2 m c) (A3 m c) (A4 m c) (A5 m c) (A6 m c) (A7 m c) (A8 m c) := by
  refine (dats m 0 c).arrAt_eq_of_covers 9 _ (by decide +kernel) fun t hf y => ?_
  blk_simp
  rw [after0_9]
  unfold outsAt0
  unfold out0_A_9
  frame_out
  canon_tiles x hf using View.cover_of_tiledBy _ ![128, 128] (by sl_kernel_rfl) _
  all_goals have hbt := (bat t).isLt
  all_goals have hgt := (grp t).isLt
  case piece0 =>
    obtain ⟨p, l, rfl⟩ := pair512 x
    show k0_pay1 (F := Ideal) (k0_pay274 (F := Ideal) (View.ld (iblk m c 5 t) (Rect.unit ![0, 384] ![512, 128] inb_S512x512_S512x128_0_384)) (View.ld (iblk m c 6 t) (Rect.unit ![0, 384] ![256, 128] inb_S256x512_S256x128_0_384))) (View.ld (iblk m c 7 t) (Rect.unit ![0, 384] ![256, 128] inb_S256x512_S256x128_0_384)) (View.ld (iblk m c 8 t) (Rect.unit ![0, 384] ![512, 128] inb_S512x512_S512x128_0_384)) (ix2 p l) = _
    refine (cross m c t F 3 (by omega) _ _ _ _
      (fun p x => cq_ld m c t 0 384 _ p x _ _ (by dsimp only; omega) rfl)
      (fun p x => ck_ld m c t 0 384 _ p x _ _ (by dsimp only; omega) rfl)
      (fun p x => cv_ld m c t 0 384 _ p x _ _ (by dsimp only; omega) rfl)
      (fun p x => cg_ld m c t 0 384 _ p x _ _ (by dsimp only; omega) rfl)
      p l).trans ?_
    refine congrArg _ (out_emb t y _ _ ?_ ?_).symm
    · show 2048 * (bat t).val + 512 * (grp t).val + p.val = 2048 * (bat t).val + 512 * (grp t).val + (y 0).val
      have e : (y 0).val = p.val := hf0
      omega
    · show 512 + 128 * 3 + l.val = (y 1).val
      have e : (y 1).val = 896 + l.val := hf1
      omega
  case piece1 =>
    obtain ⟨p, l, rfl⟩ := pair512 x
    show k0_pay1 (F := Ideal) (k0_pay274 (F := Ideal) (View.ld (iblk m c 5 t) (Rect.unit ![0, 256] ![512, 128] inb_S512x512_S512x128_0_256)) (View.ld (iblk m c 6 t) (Rect.unit ![0, 256] ![256, 128] inb_S256x512_S256x128_0_256))) (View.ld (iblk m c 7 t) (Rect.unit ![0, 256] ![256, 128] inb_S256x512_S256x128_0_256)) (View.ld (iblk m c 8 t) (Rect.unit ![0, 256] ![512, 128] inb_S512x512_S512x128_0_256)) (ix2 p l) = _
    refine (cross m c t F 2 (by omega) _ _ _ _
      (fun p x => cq_ld m c t 0 256 _ p x _ _ (by dsimp only; omega) rfl)
      (fun p x => ck_ld m c t 0 256 _ p x _ _ (by dsimp only; omega) rfl)
      (fun p x => cv_ld m c t 0 256 _ p x _ _ (by dsimp only; omega) rfl)
      (fun p x => cg_ld m c t 0 256 _ p x _ _ (by dsimp only; omega) rfl)
      p l).trans ?_
    refine congrArg _ (out_emb t y _ _ ?_ ?_).symm
    · show 2048 * (bat t).val + 512 * (grp t).val + p.val = 2048 * (bat t).val + 512 * (grp t).val + (y 0).val
      have e : (y 0).val = p.val := hf0
      omega
    · show 512 + 128 * 2 + l.val = (y 1).val
      have e : (y 1).val = 768 + l.val := hf1
      omega
  case piece2 =>
    obtain ⟨p, l, rfl⟩ := pair512 x
    show k0_pay1 (F := Ideal) (k0_pay274 (F := Ideal) (View.ld (iblk m c 5 t) (Rect.unit ![0, 128] ![512, 128] inb_S512x512_S512x128_0_128)) (View.ld (iblk m c 6 t) (Rect.unit ![0, 128] ![256, 128] inb_S256x512_S256x128_0_128))) (View.ld (iblk m c 7 t) (Rect.unit ![0, 128] ![256, 128] inb_S256x512_S256x128_0_128)) (View.ld (iblk m c 8 t) (Rect.unit ![0, 128] ![512, 128] inb_S512x512_S512x128_0_128)) (ix2 p l) = _
    refine (cross m c t F 1 (by omega) _ _ _ _
      (fun p x => cq_ld m c t 0 128 _ p x _ _ (by dsimp only; omega) rfl)
      (fun p x => ck_ld m c t 0 128 _ p x _ _ (by dsimp only; omega) rfl)
      (fun p x => cv_ld m c t 0 128 _ p x _ _ (by dsimp only; omega) rfl)
      (fun p x => cg_ld m c t 0 128 _ p x _ _ (by dsimp only; omega) rfl)
      p l).trans ?_
    refine congrArg _ (out_emb t y _ _ ?_ ?_).symm
    · show 2048 * (bat t).val + 512 * (grp t).val + p.val = 2048 * (bat t).val + 512 * (grp t).val + (y 0).val
      have e : (y 0).val = p.val := hf0
      omega
    · show 512 + 128 * 1 + l.val = (y 1).val
      have e : (y 1).val = 640 + l.val := hf1
      omega
  case piece3 =>
    obtain ⟨p, l, rfl⟩ := pair512 x
    show k0_pay1 (F := Ideal) (k0_pay274 (F := Ideal) (View.ld (iblk m c 5 t) (Rect.unit ![0, 0] ![512, 128] inb_S512x512_S512x128_0_0)) (View.ld (iblk m c 6 t) (Rect.unit ![0, 0] ![256, 128] inb_S256x512_S256x128_0_0))) (View.ld (iblk m c 7 t) (Rect.unit ![0, 0] ![256, 128] inb_S256x512_S256x128_0_0)) (View.ld (iblk m c 8 t) (Rect.unit ![0, 0] ![512, 128] inb_S512x512_S512x128_0_0)) (ix2 p l) = _
    refine (cross m c t F 0 (by omega) _ _ _ _
      (fun p x => cq_ld m c t 0 0 _ p x _ _ (by dsimp only; omega) rfl)
      (fun p x => ck_ld m c t 0 0 _ p x _ _ (by dsimp only; omega) rfl)
      (fun p x => cv_ld m c t 0 0 _ p x _ _ (by dsimp only; omega) rfl)
      (fun p x => cg_ld m c t 0 0 _ p x _ _ (by dsimp only; omega) rfl)
      p l).trans ?_
    refine congrArg _ (out_emb t y _ _ ?_ ?_).symm
    · show 2048 * (bat t).val + 512 * (grp t).val + p.val = 2048 * (bat t).val + 512 * (grp t).val + (y 0).val
      have e : (y 0).val = p.val := hf0
      omega
    · show 512 + 128 * 0 + l.val = (y 1).val
      have e : (y 1).val = 512 + l.val := hf1
      omega
  case piece4 =>
    obtain ⟨p, l, rfl⟩ := pair128 x
    show lower (tile1 (sB m c t 4 inb_S8_S1_4) (sB m c t 5 inb_S8_S1_5) (sB m c t 6 inb_S8_S1_6) (sB m c t 7 inb_S8_S1_7) (qB m c t 384 256 inb_S512x512_S128x128_384_256) (qB m c t 384 384 inb_S512x512_S128x128_384_384) (okB t 3#32) (okB t 5#32) (keyB m c t 3) (keyB m c t 4) (keyB m c t 5) (valB m c t 3) (valB m c t 4) (valB m c t 5)) (gB m c t 384 384 inb_S512x512_S128x128_384_384) (ix2 p l) = _
    refine (lower1 m c t F 3 (by omega) 3 4 5 rfl rfl rfl _ _ rfl rfl _ _ _ _ (sk_ld m c t 4 (by omega) _) (sk_ld m c t 5 (by omega) _) (sk_ld m c t 6 (by omega) _) (sk_ld m c t 7 (by omega) _) _ _ _
      (fun p x => q_ld m c t 384 256 _ p x _ _ (by dsimp only; omega) rfl)
      (fun p x => q_ld m c t 384 384 _ p x _ _ (by dsimp only; omega) rfl)
      (fun p x => g_ld m c t 384 384 _ p x _ _ (by dsimp only; omega) rfl)
      p l).trans ?_
    refine congrArg _ (out_emb t y _ _ ?_ ?_).symm
    · have e : (y 0).val = 384 + p.val := hf0
      dsimp only; omega
    · have e : (y 1).val = 384 + l.val := hf1
      dsimp only; omega
  case piece5 =>
    obtain ⟨p, l, rfl⟩ := pair128 x
    show upper (tile1 (sB m c t 4 inb_S8_S1_4) (sB m c t 5 inb_S8_S1_5) (sB m c t 6 inb_S8_S1_6) (sB m c t 7 inb_S8_S1_7) (qB m c t 384 256 inb_S512x512_S128x128_384_256) (qB m c t 384 384 inb_S512x512_S128x128_384_384) (okB t 3#32) (okB t 5#32) (keyB m c t 3) (keyB m c t 4) (keyB m c t 5) (valB m c t 3) (valB m c t 4) (valB m c t 5)) (gB m c t 384 256 inb_S512x512_S128x128_384_256) (ix2 p l) = _
    refine (upper1 m c t F 3 (by omega) 3 4 5 rfl rfl rfl _ _ rfl rfl _ _ _ _ (sk_ld m c t 4 (by omega) _) (sk_ld m c t 5 (by omega) _) (sk_ld m c t 6 (by omega) _) (sk_ld m c t 7 (by omega) _) _ _ _
      (fun p x => q_ld m c t 384 256 _ p x _ _ (by dsimp only; omega) rfl)
      (fun p x => q_ld m c t 384 384 _ p x _ _ (by dsimp only; omega) rfl)
      (fun p x => g_ld m c t 384 256 _ p x _ _ (by dsimp only; omega) rfl)
      p l).trans ?_
    refine congrArg _ (out_emb t y _ _ ?_ ?_).symm
    · have e : (y 0).val = 384 + p.val := hf0
      dsimp only; omega
    · have e : (y 1).val = 256 + l.val := hf1
      dsimp only; omega
  case piece6 =>
    obtain ⟨p, l, rfl⟩ := pair128 x
    show lower (tile0 (sB m c t 0 inb_S8_S1_0) (sB m c t 1 inb_S8_S1_1) (sB m c t 2 inb_S8_S1_2) (sB m c t 3 inb_S8_S1_3) (qB m c t 384 0 inb_S512x512_S128x128_384_0) (qB m c t 384 128 inb_S512x512_S128x128_384_128) (okB t 3#32) (okB t 5#32) (keyB m c t 3) (keyB m c t 4) (keyB m c t 5) (valB m c t 3) (valB m c t 4) (valB m c t 5)) (gB m c t 384 128 inb_S512x512_S128x128_384_128) (ix2 p l) = _
    refine (lower0 m c t F 3 (by omega) 3 4 5 rfl rfl rfl _ _ rfl rfl _ _ _ _ (sk_ld m c t 0 (by omega) _) (sk_ld m c t 1 (by omega) _) (sk_ld m c t 2 (by omega) _) (sk_ld m c t 3 (by omega) _) _ _ _
      (fun p x => q_ld m c t 384 0 _ p x _ _ (by dsimp only; omega) rfl)
      (fun p x => q_ld m c t 384 128 _ p x _ _ (by dsimp only; omega) rfl)
      (fun p x => g_ld m c t 384 128 _ p x _ _ (by dsimp only; omega) rfl)
      p l).trans ?_
    refine congrArg _ (out_emb t y _ _ ?_ ?_).symm
    · have e : (y 0).val = 384 + p.val := hf0
      dsimp only; omega
    · have e : (y 1).val = 128 + l.val := hf1
      dsimp only; omega
  case piece7 =>
    obtain ⟨p, l, rfl⟩ := pair128 x
    show upper (tile0 (sB m c t 0 inb_S8_S1_0) (sB m c t 1 inb_S8_S1_1) (sB m c t 2 inb_S8_S1_2) (sB m c t 3 inb_S8_S1_3) (qB m c t 384 0 inb_S512x512_S128x128_384_0) (qB m c t 384 128 inb_S512x512_S128x128_384_128) (okB t 3#32) (okB t 5#32) (keyB m c t 3) (keyB m c t 4) (keyB m c t 5) (valB m c t 3) (valB m c t 4) (valB m c t 5)) (gB m c t 384 0 inb_S512x512_S128x128_384_0) (ix2 p l) = _
    refine (upper0 m c t F 3 (by omega) 3 4 5 rfl rfl rfl _ _ rfl rfl _ _ _ _ (sk_ld m c t 0 (by omega) _) (sk_ld m c t 1 (by omega) _) (sk_ld m c t 2 (by omega) _) (sk_ld m c t 3 (by omega) _) _ _ _
      (fun p x => q_ld m c t 384 0 _ p x _ _ (by dsimp only; omega) rfl)
      (fun p x => q_ld m c t 384 128 _ p x _ _ (by dsimp only; omega) rfl)
      (fun p x => g_ld m c t 384 0 _ p x _ _ (by dsimp only; omega) rfl)
      p l).trans ?_
    refine congrArg _ (out_emb t y _ _ ?_ ?_).symm
    · have e : (y 0).val = 384 + p.val := hf0
      dsimp only; omega
    · have e : (y 1).val = l.val := hf1
      dsimp only; omega
  case piece8 =>
    obtain ⟨p, l, rfl⟩ := pair128 x
    show lower (tile1 (sB m c t 4 inb_S8_S1_4) (sB m c t 5 inb_S8_S1_5) (sB m c t 6 inb_S8_S1_6) (sB m c t 7 inb_S8_S1_7) (qB m c t 256 256 inb_S512x512_S128x128_256_256) (qB m c t 256 384 inb_S512x512_S128x128_256_384) (okB t 2#32) (okB t 4#32) (keyB m c t 2) (keyB m c t 3) (keyB m c t 4) (valB m c t 2) (valB m c t 3) (valB m c t 4)) (gB m c t 256 384 inb_S512x512_S128x128_256_384) (ix2 p l) = _
    refine (lower1 m c t F 2 (by omega) 2 3 4 rfl rfl rfl _ _ rfl rfl _ _ _ _ (sk_ld m c t 4 (by omega) _) (sk_ld m c t 5 (by omega) _) (sk_ld m c t 6 (by omega) _) (sk_ld m c t 7 (by omega) _) _ _ _
      (fun p x => q_ld m c t 256 256 _ p x _ _ (by dsimp only; omega) rfl)
      (fun p x => q_ld m c t 256 384 _ p x _ _ (by dsimp only; omega) rfl)
      (fun p x => g_ld m c t 256 384 _ p x _ _ (by dsimp only; omega) rfl)
      p l).trans ?_
    refine congrArg _ (out_emb t y _ _ ?_ ?_).symm
    · have e : (y 0).val = 256 + p.val := hf0
      dsimp only; omega
    · have e : (y 1).val = 384 + l.val := hf1
      dsimp only; omega
  case piece9 =>
    obtain ⟨p, l, rfl⟩ := pair128 x
    show upper (tile1 (sB m c t 4 inb_S8_S1_4) (sB m c t 5 inb_S8_S1_5) (sB m c t 6 inb_S8_S1_6) (sB m c t 7 inb_S8_S1_7) (qB m c t 256 256 inb_S512x512_S128x128_256_256) (qB m c t 256 384 inb_S512x512_S128x128_256_384) (okB t 2#32) (okB t 4#32) (keyB m c t 2) (keyB m c t 3) (keyB m c t 4) (valB m c t 2) (valB m c t 3) (valB m c t 4)) (gB m c t 256 256 inb_S512x512_S128x128_256_256) (ix2 p l) = _
    refine (upper1 m c t F 2 (by omega) 2 3 4 rfl rfl rfl _ _ rfl rfl _ _ _ _ (sk_ld m c t 4 (by omega) _) (sk_ld m c t 5 (by omega) _) (sk_ld m c t 6 (by omega) _) (sk_ld m c t 7 (by omega) _) _ _ _
      (fun p x => q_ld m c t 256 256 _ p x _ _ (by dsimp only; omega) rfl)
      (fun p x => q_ld m c t 256 384 _ p x _ _ (by dsimp only; omega) rfl)
      (fun p x => g_ld m c t 256 256 _ p x _ _ (by dsimp only; omega) rfl)
      p l).trans ?_
    refine congrArg _ (out_emb t y _ _ ?_ ?_).symm
    · have e : (y 0).val = 256 + p.val := hf0
      dsimp only; omega
    · have e : (y 1).val = 256 + l.val := hf1
      dsimp only; omega
  case piece10 =>
    obtain ⟨p, l, rfl⟩ := pair128 x
    show lower (tile0 (sB m c t 0 inb_S8_S1_0) (sB m c t 1 inb_S8_S1_1) (sB m c t 2 inb_S8_S1_2) (sB m c t 3 inb_S8_S1_3) (qB m c t 256 0 inb_S512x512_S128x128_256_0) (qB m c t 256 128 inb_S512x512_S128x128_256_128) (okB t 2#32) (okB t 4#32) (keyB m c t 2) (keyB m c t 3) (keyB m c t 4) (valB m c t 2) (valB m c t 3) (valB m c t 4)) (gB m c t 256 128 inb_S512x512_S128x128_256_128) (ix2 p l) = _
    refine (lower0 m c t F 2 (by omega) 2 3 4 rfl rfl rfl _ _ rfl rfl _ _ _ _ (sk_ld m c t 0 (by omega) _) (sk_ld m c t 1 (by omega) _) (sk_ld m c t 2 (by omega) _) (sk_ld m c t 3 (by omega) _) _ _ _
      (fun p x => q_ld m c t 256 0 _ p x _ _ (by dsimp only; omega) rfl)
      (fun p x => q_ld m c t 256 128 _ p x _ _ (by dsimp only; omega) rfl)
      (fun p x => g_ld m c t 256 128 _ p x _ _ (by dsimp only; omega) rfl)
      p l).trans ?_
    refine congrArg _ (out_emb t y _ _ ?_ ?_).symm
    · have e : (y 0).val = 256 + p.val := hf0
      dsimp only; omega
    · have e : (y 1).val = 128 + l.val := hf1
      dsimp only; omega
  case piece11 =>
    obtain ⟨p, l, rfl⟩ := pair128 x
    show upper (tile0 (sB m c t 0 inb_S8_S1_0) (sB m c t 1 inb_S8_S1_1) (sB m c t 2 inb_S8_S1_2) (sB m c t 3 inb_S8_S1_3) (qB m c t 256 0 inb_S512x512_S128x128_256_0) (qB m c t 256 128 inb_S512x512_S128x128_256_128) (okB t 2#32) (okB t 4#32) (keyB m c t 2) (keyB m c t 3) (keyB m c t 4) (valB m c t 2) (valB m c t 3) (valB m c t 4)) (gB m c t 256 0 inb_S512x512_S128x128_256_0) (ix2 p l) = _
    refine (upper0 m c t F 2 (by omega) 2 3 4 rfl rfl rfl _ _ rfl rfl _ _ _ _ (sk_ld m c t 0 (by omega) _) (sk_ld m c t 1 (by omega) _) (sk_ld m c t 2 (by omega) _) (sk_ld m c t 3 (by omega) _) _ _ _
      (fun p x => q_ld m c t 256 0 _ p x _ _ (by dsimp only; omega) rfl)
      (fun p x => q_ld m c t 256 128 _ p x _ _ (by dsimp only; omega) rfl)
      (fun p x => g_ld m c t 256 0 _ p x _ _ (by dsimp only; omega) rfl)
      p l).trans ?_
    refine congrArg _ (out_emb t y _ _ ?_ ?_).symm
    · have e : (y 0).val = 256 + p.val := hf0
      dsimp only; omega
    · have e : (y 1).val = l.val := hf1
      dsimp only; omega
  case piece12 =>
    obtain ⟨p, l, rfl⟩ := pair128 x
    show lower (tile1 (sB m c t 4 inb_S8_S1_4) (sB m c t 5 inb_S8_S1_5) (sB m c t 6 inb_S8_S1_6) (sB m c t 7 inb_S8_S1_7) (qB m c t 128 256 inb_S512x512_S128x128_128_256) (qB m c t 128 384 inb_S512x512_S128x128_128_384) (okB t 1#32) (okB t 3#32) (keyB m c t 1) (keyB m c t 2) (keyB m c t 3) (valB m c t 1) (valB m c t 2) (valB m c t 3)) (gB m c t 128 384 inb_S512x512_S128x128_128_384) (ix2 p l) = _
    refine (lower1 m c t F 1 (by omega) 1 2 3 rfl rfl rfl _ _ rfl rfl _ _ _ _ (sk_ld m c t 4 (by omega) _) (sk_ld m c t 5 (by omega) _) (sk_ld m c t 6 (by omega) _) (sk_ld m c t 7 (by omega) _) _ _ _
      (fun p x => q_ld m c t 128 256 _ p x _ _ (by dsimp only; omega) rfl)
      (fun p x => q_ld m c t 128 384 _ p x _ _ (by dsimp only; omega) rfl)
      (fun p x => g_ld m c t 128 384 _ p x _ _ (by dsimp only; omega) rfl)
      p l).trans ?_
    refine congrArg _ (out_emb t y _ _ ?_ ?_).symm
    · have e : (y 0).val = 128 + p.val := hf0
      dsimp only; omega
    · have e : (y 1).val = 384 + l.val := hf1
      dsimp only; omega
  case piece13 =>
    obtain ⟨p, l, rfl⟩ := pair128 x
    show upper (tile1 (sB m c t 4 inb_S8_S1_4) (sB m c t 5 inb_S8_S1_5) (sB m c t 6 inb_S8_S1_6) (sB m c t 7 inb_S8_S1_7) (qB m c t 128 256 inb_S512x512_S128x128_128_256) (qB m c t 128 384 inb_S512x512_S128x128_128_384) (okB t 1#32) (okB t 3#32) (keyB m c t 1) (keyB m c t 2) (keyB m c t 3) (valB m c t 1) (valB m c t 2) (valB m c t 3)) (gB m c t 128 256 inb_S512x512_S128x128_128_256) (ix2 p l) = _
    refine (upper1 m c t F 1 (by omega) 1 2 3 rfl rfl rfl _ _ rfl rfl _ _ _ _ (sk_ld m c t 4 (by omega) _) (sk_ld m c t 5 (by omega) _) (sk_ld m c t 6 (by omega) _) (sk_ld m c t 7 (by omega) _) _ _ _
      (fun p x => q_ld m c t 128 256 _ p x _ _ (by dsimp only; omega) rfl)
      (fun p x => q_ld m c t 128 384 _ p x _ _ (by dsimp only; omega) rfl)
      (fun p x => g_ld m c t 128 256 _ p x _ _ (by dsimp only; omega) rfl)
      p l).trans ?_
    refine congrArg _ (out_emb t y _ _ ?_ ?_).symm
    · have e : (y 0).val = 128 + p.val := hf0
      dsimp only; omega
    · have e : (y 1).val = 256 + l.val := hf1
      dsimp only; omega
  case piece14 =>
    obtain ⟨p, l, rfl⟩ := pair128 x
    show lower (tile0 (sB m c t 0 inb_S8_S1_0) (sB m c t 1 inb_S8_S1_1) (sB m c t 2 inb_S8_S1_2) (sB m c t 3 inb_S8_S1_3) (qB m c t 128 0 inb_S512x512_S128x128_128_0) (qB m c t 128 128 inb_S512x512_S128x128_128_128) (okB t 1#32) (okB t 3#32) (keyB m c t 1) (keyB m c t 2) (keyB m c t 3) (valB m c t 1) (valB m c t 2) (valB m c t 3)) (gB m c t 128 128 inb_S512x512_S128x128_128_128) (ix2 p l) = _
    refine (lower0 m c t F 1 (by omega) 1 2 3 rfl rfl rfl _ _ rfl rfl _ _ _ _ (sk_ld m c t 0 (by omega) _) (sk_ld m c t 1 (by omega) _) (sk_ld m c t 2 (by omega) _) (sk_ld m c t 3 (by omega) _) _ _ _
      (fun p x => q_ld m c t 128 0 _ p x _ _ (by dsimp only; omega) rfl)
      (fun p x => q_ld m c t 128 128 _ p x _ _ (by dsimp only; omega) rfl)
      (fun p x => g_ld m c t 128 128 _ p x _ _ (by dsimp only; omega) rfl)
      p l).trans ?_
    refine congrArg _ (out_emb t y _ _ ?_ ?_).symm
    · have e : (y 0).val = 128 + p.val := hf0
      dsimp only; omega
    · have e : (y 1).val = 128 + l.val := hf1
      dsimp only; omega
  case piece15 =>
    obtain ⟨p, l, rfl⟩ := pair128 x
    show upper (tile0 (sB m c t 0 inb_S8_S1_0) (sB m c t 1 inb_S8_S1_1) (sB m c t 2 inb_S8_S1_2) (sB m c t 3 inb_S8_S1_3) (qB m c t 128 0 inb_S512x512_S128x128_128_0) (qB m c t 128 128 inb_S512x512_S128x128_128_128) (okB t 1#32) (okB t 3#32) (keyB m c t 1) (keyB m c t 2) (keyB m c t 3) (valB m c t 1) (valB m c t 2) (valB m c t 3)) (gB m c t 128 0 inb_S512x512_S128x128_128_0) (ix2 p l) = _
    refine (upper0 m c t F 1 (by omega) 1 2 3 rfl rfl rfl _ _ rfl rfl _ _ _ _ (sk_ld m c t 0 (by omega) _) (sk_ld m c t 1 (by omega) _) (sk_ld m c t 2 (by omega) _) (sk_ld m c t 3 (by omega) _) _ _ _
      (fun p x => q_ld m c t 128 0 _ p x _ _ (by dsimp only; omega) rfl)
      (fun p x => q_ld m c t 128 128 _ p x _ _ (by dsimp only; omega) rfl)
      (fun p x => g_ld m c t 128 0 _ p x _ _ (by dsimp only; omega) rfl)
      p l).trans ?_
    refine congrArg _ (out_emb t y _ _ ?_ ?_).symm
    · have e : (y 0).val = 128 + p.val := hf0
      dsimp only; omega
    · have e : (y 1).val = l.val := hf1
      dsimp only; omega
  case piece16 =>
    obtain ⟨p, l, rfl⟩ := pair128 x
    show lower (tile1 (sB m c t 4 inb_S8_S1_4) (sB m c t 5 inb_S8_S1_5) (sB m c t 6 inb_S8_S1_6) (sB m c t 7 inb_S8_S1_7) (qB m c t 0 256 inb_S512x512_S128x128_0_256) (qB m c t 0 384 inb_S512x512_S128x128_0_384) (okB t 0#32) (okB t 2#32) (keyB m c t 0) (keyB m c t 1) (keyB m c t 2) (valB m c t 0) (valB m c t 1) (valB m c t 2)) (gB m c t 0 384 inb_S512x512_S128x128_0_384) (ix2 p l) = _
    refine (lower1 m c t F 0 (by omega) 0 1 2 rfl rfl rfl _ _ rfl rfl _ _ _ _ (sk_ld m c t 4 (by omega) _) (sk_ld m c t 5 (by omega) _) (sk_ld m c t 6 (by omega) _) (sk_ld m c t 7 (by omega) _) _ _ _
      (fun p x => q_ld m c t 0 256 _ p x _ _ (by dsimp only; omega) rfl)
      (fun p x => q_ld m c t 0 384 _ p x _ _ (by dsimp only; omega) rfl)
      (fun p x => g_ld m c t 0 384 _ p x _ _ (by dsimp only; omega) rfl)
      p l).trans ?_
    refine congrArg _ (out_emb t y _ _ ?_ ?_).symm
    · have e : (y 0).val = p.val := hf0
      dsimp only; omega
    · have e : (y 1).val = 384 + l.val := hf1
      dsimp only; omega
  case piece17 =>
    obtain ⟨p, l, rfl⟩ := pair128 x
    show upper (tile1 (sB m c t 4 inb_S8_S1_4) (sB m c t 5 inb_S8_S1_5) (sB m c t 6 inb_S8_S1_6) (sB m c t 7 inb_S8_S1_7) (qB m c t 0 256 inb_S512x512_S128x128_0_256) (qB m c t 0 384 inb_S512x512_S128x128_0_384) (okB t 0#32) (okB t 2#32) (keyB m c t 0) (keyB m c t 1) (keyB m c t 2) (valB m c t 0) (valB m c t 1) (valB m c t 2)) (gB m c t 0 256 inb_S512x512_S128x128_0_256) (ix2 p l) = _
    refine (upper1 m c t F 0 (by omega) 0 1 2 rfl rfl rfl _ _ rfl rfl _ _ _ _ (sk_ld m c t 4 (by omega) _) (sk_ld m c t 5 (by omega) _) (sk_ld m c t 6 (by omega) _) (sk_ld m c t 7 (by omega) _) _ _ _
      (fun p x => q_ld m c t 0 256 _ p x _ _ (by dsimp only; omega) rfl)
      (fun p x => q_ld m c t 0 384 _ p x _ _ (by dsimp only; omega) rfl)
      (fun p x => g_ld m c t 0 256 _ p x _ _ (by dsimp only; omega) rfl)
      p l).trans ?_
    refine congrArg _ (out_emb t y _ _ ?_ ?_).symm
    · have e : (y 0).val = p.val := hf0
      dsimp only; omega
    · have e : (y 1).val = 256 + l.val := hf1
      dsimp only; omega
  case piece18 =>
    obtain ⟨p, l, rfl⟩ := pair128 x
    show lower (tile0 (sB m c t 0 inb_S8_S1_0) (sB m c t 1 inb_S8_S1_1) (sB m c t 2 inb_S8_S1_2) (sB m c t 3 inb_S8_S1_3) (qB m c t 0 0 inb_S512x512_S128x128_0_0) (qB m c t 0 128 inb_S512x512_S128x128_0_128) (okB t 0#32) (okB t 2#32) (keyB m c t 0) (keyB m c t 1) (keyB m c t 2) (valB m c t 0) (valB m c t 1) (valB m c t 2)) (gB m c t 0 128 inb_S512x512_S128x128_0_128) (ix2 p l) = _
    refine (lower0 m c t F 0 (by omega) 0 1 2 rfl rfl rfl _ _ rfl rfl _ _ _ _ (sk_ld m c t 0 (by omega) _) (sk_ld m c t 1 (by omega) _) (sk_ld m c t 2 (by omega) _) (sk_ld m c t 3 (by omega) _) _ _ _
      (fun p x => q_ld m c t 0 0 _ p x _ _ (by dsimp only; omega) rfl)
      (fun p x => q_ld m c t 0 128 _ p x _ _ (by dsimp only; omega) rfl)
      (fun p x => g_ld m c t 0 128 _ p x _ _ (by dsimp only; omega) rfl)
      p l).trans ?_
    refine congrArg _ (out_emb t y _ _ ?_ ?_).symm
    · have e : (y 0).val = p.val := hf0
      dsimp only; omega
    · have e : (y 1).val = 128 + l.val := hf1
      dsimp only; omega
  case piece19 =>
    obtain ⟨p, l, rfl⟩ := pair128 x
    show upper (tile0 (sB m c t 0 inb_S8_S1_0) (sB m c t 1 inb_S8_S1_1) (sB m c t 2 inb_S8_S1_2) (sB m c t 3 inb_S8_S1_3) (qB m c t 0 0 inb_S512x512_S128x128_0_0) (qB m c t 0 128 inb_S512x512_S128x128_0_128) (okB t 0#32) (okB t 2#32) (keyB m c t 0) (keyB m c t 1) (keyB m c t 2) (valB m c t 0) (valB m c t 1) (valB m c t 2)) (gB m c t 0 0 inb_S512x512_S128x128_0_0) (ix2 p l) = _
    refine (upper0 m c t F 0 (by omega) 0 1 2 rfl rfl rfl _ _ rfl rfl _ _ _ _ (sk_ld m c t 0 (by omega) _) (sk_ld m c t 1 (by omega) _) (sk_ld m c t 2 (by omega) _) (sk_ld m c t 3 (by omega) _) _ _ _
      (fun p x => q_ld m c t 0 0 _ p x _ _ (by dsimp only; omega) rfl)
      (fun p x => q_ld m c t 0 128 _ p x _ _ (by dsimp only; omega) rfl)
      (fun p x => g_ld m c t 0 0 _ p x _ _ (by dsimp only; omega) rfl)
      p l).trans ?_
    refine congrArg _ (out_emb t y _ _ ?_ ?_).symm
    · have e : (y 0).val = p.val := hf0
      dsimp only; omega
    · have e : (y 1).val = l.val := hf1
      dsimp only; omega

end Cert.AttnIdeal.RefValue
end
-- ==== Proof.AttnFinite.lean ====
/-
  The attention call: what its precondition says of the arguments' entries.
-/
module

public import proofs.«01_k».proof.Defs
public import proofs.«01_k».proof.Proof.AttnTiles

@[expose] public section

set_option maxRecDepth 16384
set_option maxHeartbeats 1000000

noncomputable section

namespace Cert.Pre_finite_logits.Gen

open Cert.Pre_finite_logits Idealize.ShloMosaic

/-- The shape relations that the precondition's operations take. -/
instance facts : Cert.Pre_finite_logits.Facts where
  bcast_S_S8 := by decide
  reducesTo_S8_S_d0 := by decide
  h_S_ := by decide
  bitsLt_bf16_f32 := by decide
  bcast_S_S16384x512 := by decide
  reducesTo_S16384x512_S_d0_1 := by decide
  bcast_S_S16384x128 := by decide
  reducesTo_S16384x128_S_d0_1 := by decide
  bcast_S_S2048x512 := by decide
  reducesTo_S2048x512_S_d0_1 := by decide

end Cert.Pre_finite_logits.Gen

namespace Cert.AttnIdeal.RefValue

open Idealize.ShloMosaic Idealize.ShloMosaic.TcCoe Idealize.SL.Sem

/-- Two truth values whose conjunction holds both hold. -/
theorem and_one (a b : BitVec 1) (h : IntOp.andi a b = 1#1) : a = 1#1 ∧ b = 1#1 := by
  revert a b
  decide

/-- A conjunction over a list that holds, holds of every member. -/
theorem and_fold {ι : Type} (f : ι → BitVec 1) (l : List ι) (r : BitVec 1) (h : l.foldl (fun r n => IntOp.andi r (f n)) r = 1#1) :
    r = 1#1 ∧ ∀ n ∈ l, f n = 1#1 := by
  induction l generalizing r with
  | nil => exact ⟨h, fun n hn => absurd hn (List.not_mem_nil)⟩
  | cons a l ih =>
    obtain ⟨h1, h2⟩ := ih _ h
    obtain ⟨h3, h4⟩ := and_one _ _ h1
    refine ⟨h3, fun n hn => ?_⟩
    rcases List.mem_cons.1 hn with rfl | hn
    · exact h4
    · exact h2 n hn

/-- A conjunction over a whole array that holds, holds of every entry. -/
theorem reduce_all {s : Shape} {axes : List (Fin s.rank)} (x : IVec s 1) (v : IVec ⟨0, ![]⟩ 1) (h : s.ReducesTo axes ⟨0, ![]⟩)
    (hu : 0 < (⟨0, ![]⟩ : Shape).numel) (j : (⟨0, ![]⟩ : Shape).Idx) (e : Host.reduce IntOp.andi x v h hu j = 1#1) (i : s.Idx) : x i = 1#1 := by
  have e' := (and_fold (fun n => x (s.rowMajor.symm n)) _ _ e).2 (s.rowMajor i) (by
    rw [List.mem_filter]
    exact ⟨List.mem_finRange _, decide_eq_true (funext fun a => a.elim0)⟩)
  simpa using e'

/-- The largest word is infinity. -/
theorem inf_const : Scalar.ofBits (F := Ideal) .f32 0x7F800000#32 = (⊤ : EReal) := by
  show Ideal.ofBits FTy.f32 0x7F800000#32 = ⊤
  simp [Ideal.ofBits, FloatOps.ofBits, Ideal.ieee]

/-- A number whose modulus is below infinity is finite. -/
theorem real_of (x b : EReal) (hb : b = ⊤) (h : FloatOps.cmpf (F := Ideal) (φ := .f32) .olt (FloatOps.absf (F := Ideal) (φ := .f32) x) b = 1#1) : Real' x := by
  have h' : Ideal.cmp .olt (max x (-x)) b = 1#1 := h
  subst hb
  have lt : max x (-x) < ⊤ := by
    by_contra hc
    simp [Ideal.cmp, hc] at h'
  constructor
  · rintro rfl
    simp at lt
  · rintro rfl
    simp at lt

/-- The precondition says that every number the logits are made of is finite. -/
theorem fine_of (m : (ℓ : Loc Cert.AttnIdeal.nD Cert.AttnIdeal.τ Cert.AttnIdeal.sig) → Buf (Elt Ideal) ℓ)
    (h : Cert.Pre_AttnIdeal_finite_logits m) (c : Dev Cert.AttnIdeal.nD) : Fine m c := by
  have e := congrFun (h c) ix0
  dsimp only [Cert.Pre_finite_logits.fn, Cert.Pre_finite_logits.fn_part1] at e
  obtain ⟨e, e6⟩ := and_one _ _ e
  obtain ⟨e, e5⟩ := and_one _ _ e
  obtain ⟨e, e2⟩ := and_one _ _ e
  obtain ⟨e0, e1⟩ := and_one _ _ e
  exact
    { f0 := fun i => real_of _ _ inf_const (reduce_all _ _ _ _ _ e0 i)
      f1 := fun i => real_of _ _ inf_const (reduce_all _ _ _ _ _ e1 i)
      f2 := fun i => real_of _ _ inf_const (reduce_all _ _ _ _ _ e2 i)
      f5 := fun i => real_of _ _ inf_const (reduce_all _ _ _ _ _ e5 i)
      f6 := fun i => real_of _ _ inf_const (reduce_all _ _ _ _ _ e6 i) }

end Cert.AttnIdeal.RefValue
end
-- ==== Proof.AttnClaims.lean ====
/-
  The attention call: the claims about this call, each from the run of its program.
-/
module

public import proofs.«01_k».proof.Defs
public import proofs.«01_k».proof.Proof.Gen.Attn.Frame
public import proofs.«01_k».proof.Proof.Gen.AttnIdeal.Frame
public import proofs.«01_k».proof.Proof.Gen.AttnIdeal.Value
public import proofs.«01_k».proof.Proof.Gen.AttnRefIdeal.Run
public import proofs.«01_k».proof.Proof.AttnFinal
public import proofs.«01_k».proof.Proof.AttnFinite
public import Idealize.ShloMosaic.Lib.Quiescent

@[expose] public section

noncomputable section

namespace Cert.Proof.AttnClaims

open Idealize.ShloMosaic Idealize.ShloMosaic.TcCoe Idealize.SL.Sem

/-- The kernel terminates without fault, keeps its arguments and ends quiescent. -/
theorem frame_kernel : Cert.quiescent_Attn := fun m ρ _ => Cert.Attn.Gen.frame m ρ

/-- The kernel read over the extended reals terminates without fault, keeps its arguments and ends quiescent. -/
theorem frame_ideal : Cert.quiescent_AttnIdeal := fun m ρ _ => Cert.AttnIdeal.Gen.frame m ρ

/-- The reference read over the extended reals terminates without fault, keeps its arguments and ends quiescent. -/
theorem frame_ref : Cert.quiescent_AttnRefIdeal := fun m ρ _ =>
  (θ_run Cert.AttnRefIdeal.defs _ _).mono (fun r h => ⟨fun c => (h c).2,
      Idealize.ShloMosaic.sem_eq_zero_of_no_sems (by decide) r.2⟩)
    (Cert.AttnRefIdeal.Value.run (F := Ideal) m ρ)

/-- From finite logits too, the kernel read over the extended reals terminates without fault, keeps its arguments and ends quiescent. -/
theorem frame_ideal_pre : Cert.quiescent_AttnIdeal_pre_finite_logits := fun m ρ _ => Cert.AttnIdeal.Gen.frame m ρ

/-- From finite logits too, the reference read over the extended reals terminates without fault, keeps its arguments and ends quiescent. -/
theorem frame_ref_pre : Cert.quiescent_AttnRefIdeal_pre_finite_logits := fun m ρ _ =>
  (θ_run Cert.AttnRefIdeal.defs _ _).mono (fun r h => ⟨fun c => (h c).2,
      Idealize.ShloMosaic.sem_eq_zero_of_no_sems (by decide) r.2⟩)
    (Cert.AttnRefIdeal.Value.run (F := Ideal) m ρ)

/-- The idealization rewrote no operation. -/
theorem preserves : Cert.preserves_Attn_AttnIdeal := trivial

/-- From arguments that agree and make finite logits, the kernel and the reference end with the same result array over the extended reals. -/
theorem algebraic : Cert.algebraic_AttnIdeal_AttnRefIdeal_pre_finite_logits := by
  intro m ρ m' ρ' hpre hagree
  refine ⟨fun c => (Cert.AttnIdeal.Gen.dats m 0 c).arrAt 9 Cert.AttnIdeal.cfg0.N, ?_, ?_⟩
  · exact Cert.AttnIdeal.Value.run_blocks (F := Ideal) m ρ
  · refine (θ_run Cert.AttnRefIdeal.defs _ _).mono (fun _ h c => ⟨(h c).1.trans ?_, (h c).2⟩)
      (Cert.AttnRefIdeal.Value.run (F := Ideal) m' ρ')
    refine (Cert.AttnRefIdeal.RefValue.res_eq m' c).trans ?_
    rw [(hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2]
    exact (Cert.AttnIdeal.RefValue.final9 m c (Cert.AttnIdeal.RefValue.fine_of m hpre c)).symm

end Cert.Proof.AttnClaims

end
-- ==== Proof.InProjIdealOuts.lean ====
/-
  The input projection: what each output block holds at a grid point, by the case of the point.
-/
module

public import proofs.«01_k».proof.Proof.Gen.InProjIdeal.Frame.RunB
public import Idealize.ShloMosaic.Lib.Claim

@[expose] public section

set_option maxRecDepth 16384

noncomputable section

namespace Cert.InProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section
variable (c : Dev nD) (i : grid0.Coords) (a1 : Memref sig .tc .vmem S256x2048 .f32) (h1 : a1.IsWhole) (a2 : Memref sig .tc .vmem S1x2048 .f32) (h2 : a2.IsWhole) (a3 : Memref sig .tc .vmem S2048x4096 .bf16) (h3 : a3.IsWhole) (a4 : Memref sig .tc .vmem S2048x128 .bf16) (h4 : a4.IsWhole) (a5 : Memref sig .tc .vmem S2048x2304 .bf16) (h5 : a5.IsWhole) (a6 : Memref sig .tc .vmem S5x1x3072 .f32) (h6 : a6.IsWhole) (a7 : Memref sig .tc .vmem S256x128 .f32) (h7 : a7.IsWhole) (a8 : Memref sig .tc .vmem S256x128 .f32) (h8 : a8.IsWhole) (a9 : Memref sig .tc .vmem S1x128 .f32) (h9 : a9.IsWhole) (a10 : Memref sig .tc .vmem S1x128 .f32) (h10 : a10.IsWhole) (a11 : Memref sig .tc .vmem S1x512 .f32) (h11 : a11.IsWhole) (a12 : Memref sig .tc .vmem S1x128 .f32) (h12 : a12.IsWhole) (a13 : Memref sig .tc .vmem S1x512 .f32) (h13 : a13.IsWhole) (a14 : Memref sig .tc .vmem S512x512 .bf16) (h14 : a14.IsWhole) (a15 : Memref sig .tc .vmem S256x3072 .bf16) (h15 : a15.IsWhole) (a16 : Memref sig .tc .vmem S256x1024 .bf16) (h16 : a16.IsWhole) (a17 : Memref sig .tc .vmem S256x128 .f32) (h17 : a17.IsWhole) (a18 : Memref sig .tc .vmem S1x128x256 .f32) (h18 : a18.IsWhole) (a19 : Memref sig .tc .vmem S256x512 .bf16) (h19 : a19.IsWhole) (a20 : Memref sig .tc .vmem S256x128 .bf16) (h20 : a20.IsWhole) (a21 : Memref sig .tc .vmem S256x128 .bf16) (h21 : a21.IsWhole) (a22 : Memref sig .tc .vmem S256x512 .bf16) (h22 : a22.IsWhole) (a23 : Memref sig .tc .vmem S256x512 .bf16) (h23 : a23.IsWhole) (a24 : Memref sig .tc .vmem S256x512 .bf16) (h24 : a24.IsWhole) (a25 : Memref sig .tc .vmem S24x280x128 .f32) (h25 : a25.IsWhole) (hc0 : cond0_0 i)
    (x0 : Vec F S256x2048 .f32) (x1 : Vec F S1x2048 .f32) (x2 : Vec F S2048x4096 .bf16) (x3 : Vec F S2048x128 .bf16) (x4 : Vec F S2048x2304 .bf16) (x5 : Vec F S5x1x3072 .f32) (x6 : Vec F S256x128 .f32) (x7 : Vec F S256x128 .f32) (x8 : Vec F S1x128 .f32) (x9 : Vec F S1x128 .f32) (x10 : Vec F S1x512 .f32) (x11 : Vec F S1x128 .f32) (x12 : Vec F S1x512 .f32) (x13 : Vec F S512x512 .bf16)
include c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 hc0 x0 x1 x2 x3 x4 x5 x6 x7 x8 x9 x10 x11 x12 x13

/-- Case A's pieces for output 14 tile its block, so they cover it. -/
theorem cover0_A_14 (y : S256x3072.Idx) :
    ∃ pc ∈ (kernelRun0_A c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 hc0 x0 x1 x2 x3 x4 x5 x6 x7 x8 x9 x10 x11 x12 x13).1, y ∈ pc.1.set :=
  View.cover_of_tiledL (kernelRun0_A c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 hc0 x0 x1 x2 x3 x4 x5 x6 x7 x8 x9 x10 x11 x12 x13).1 S128x128.size (by sl_kernel_rfl) y

/-- What case A leaves in output 14's staging buffer: its pieces read back over junk. -/
def out0_A_14 : Vec F S256x3072 .bf16 :=
  VO0_14.read (Elt F) (VO0_14.writes (Elt F) VO0_14.junk (kernelRun0_A c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 hc0 x0 x1 x2 x3 x4 x5 x6 x7 x8 x9 x10 x11 x12 x13).1)

/-- Case A's pieces for output 15 tile its block, so they cover it. -/
theorem cover0_A_15 (y : S256x1024.Idx) :
    ∃ pc ∈ (kernelRun0_A c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 hc0 x0 x1 x2 x3 x4 x5 x6 x7 x8 x9 x10 x11 x12 x13).2.1, y ∈ pc.1.set :=
  View.cover_of_tiledL (kernelRun0_A c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 hc0 x0 x1 x2 x3 x4 x5 x6 x7 x8 x9 x10 x11 x12 x13).2.1 S256x512.size (by sl_kernel_rfl) y

/-- What case A leaves in output 15's staging buffer: its pieces read back over junk. -/
def out0_A_15 : Vec F S256x1024 .bf16 :=
  VO0_15.read (Elt F) (VO0_15.writes (Elt F) VO0_15.junk (kernelRun0_A c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 hc0 x0 x1 x2 x3 x4 x5 x6 x7 x8 x9 x10 x11 x12 x13).2.1)

/-- Case A's pieces for output 16 tile its block, so they cover it. -/
theorem cover0_A_16 (y : S256x128.Idx) :
    ∃ pc ∈ (kernelRun0_A c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 hc0 x0 x1 x2 x3 x4 x5 x6 x7 x8 x9 x10 x11 x12 x13).2.2.1, y ∈ pc.1.set :=
  View.cover_of_tiledL (kernelRun0_A c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 hc0 x0 x1 x2 x3 x4 x5 x6 x7 x8 x9 x10 x11 x12 x13).2.2.1 S256x128.size (by sl_kernel_rfl) y

/-- What case A leaves in output 16's staging buffer: its pieces read back over junk. -/
def out0_A_16 : Vec F S256x128 .f32 :=
  VO0_16.read (Elt F) (VO0_16.writes (Elt F) VO0_16.junk (kernelRun0_A c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 hc0 x0 x1 x2 x3 x4 x5 x6 x7 x8 x9 x10 x11 x12 x13).2.2.1)

/-- Case A's pieces for output 17 tile its block, so they cover it. -/
theorem cover0_A_17 (y : S1x128x256.Idx) :
    ∃ pc ∈ (kernelRun0_A c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 hc0 x0 x1 x2 x3 x4 x5 x6 x7 x8 x9 x10 x11 x12 x13).2.2.2.1, y ∈ pc.1.set :=
  View.cover_of_tiledL (kernelRun0_A c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 hc0 x0 x1 x2 x3 x4 x5 x6 x7 x8 x9 x10 x11 x12 x13).2.2.2.1 S1x128x256.size (by sl_kernel_rfl) y

/-- What case A leaves in output 17's staging buffer: its pieces read back over junk. -/
def out0_A_17 : Vec F S1x128x256 .f32 :=
  VO0_17.read (Elt F) (VO0_17.writes (Elt F) VO0_17.junk (kernelRun0_A c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 hc0 x0 x1 x2 x3 x4 x5 x6 x7 x8 x9 x10 x11 x12 x13).2.2.2.1)

/-- Case A's pieces for output 18 tile its block, so they cover it. -/
theorem cover0_A_18 (y : S256x512.Idx) :
    ∃ pc ∈ (kernelRun0_A c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 hc0 x0 x1 x2 x3 x4 x5 x6 x7 x8 x9 x10 x11 x12 x13).2.2.2.2.1, y ∈ pc.1.set :=
  View.cover_of_tiledL (kernelRun0_A c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 hc0 x0 x1 x2 x3 x4 x5 x6 x7 x8 x9 x10 x11 x12 x13).2.2.2.2.1 S256x128.size (by sl_kernel_rfl) y

/-- What case A leaves in output 18's staging buffer: its pieces read back over junk. -/
def out0_A_18 : Vec F S256x512 .bf16 :=
  VO0_18.read (Elt F) (VO0_18.writes (Elt F) VO0_18.junk (kernelRun0_A c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 hc0 x0 x1 x2 x3 x4 x5 x6 x7 x8 x9 x10 x11 x12 x13).2.2.2.2.1)

/-- Case A's pieces for output 19 tile its block, so they cover it. -/
theorem cover0_A_19 (y : S256x128.Idx) :
    ∃ pc ∈ (kernelRun0_A c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 hc0 x0 x1 x2 x3 x4 x5 x6 x7 x8 x9 x10 x11 x12 x13).2.2.2.2.2.1, y ∈ pc.1.set :=
  View.cover_of_tiledL (kernelRun0_A c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 hc0 x0 x1 x2 x3 x4 x5 x6 x7 x8 x9 x10 x11 x12 x13).2.2.2.2.2.1 S256x128.size (by sl_kernel_rfl) y

/-- What case A leaves in output 19's staging buffer: its pieces read back over junk. -/
def out0_A_19 : Vec F S256x128 .bf16 :=
  VO0_19.read (Elt F) (VO0_19.writes (Elt F) VO0_19.junk (kernelRun0_A c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 hc0 x0 x1 x2 x3 x4 x5 x6 x7 x8 x9 x10 x11 x12 x13).2.2.2.2.2.1)

/-- Case A's pieces for output 20 tile its block, so they cover it. -/
theorem cover0_A_20 (y : S256x128.Idx) :
    ∃ pc ∈ (kernelRun0_A c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 hc0 x0 x1 x2 x3 x4 x5 x6 x7 x8 x9 x10 x11 x12 x13).2.2.2.2.2.2.1, y ∈ pc.1.set :=
  View.cover_of_tiledL (kernelRun0_A c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 hc0 x0 x1 x2 x3 x4 x5 x6 x7 x8 x9 x10 x11 x12 x13).2.2.2.2.2.2.1 S256x128.size (by sl_kernel_rfl) y

/-- What case A leaves in output 20's staging buffer: its pieces read back over junk. -/
def out0_A_20 : Vec F S256x128 .bf16 :=
  VO0_20.read (Elt F) (VO0_20.writes (Elt F) VO0_20.junk (kernelRun0_A c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 hc0 x0 x1 x2 x3 x4 x5 x6 x7 x8 x9 x10 x11 x12 x13).2.2.2.2.2.2.1)

/-- Case A's pieces for output 21 tile its block, so they cover it. -/
theorem cover0_A_21 (y : S256x512.Idx) :
    ∃ pc ∈ (kernelRun0_A c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 hc0 x0 x1 x2 x3 x4 x5 x6 x7 x8 x9 x10 x11 x12 x13).2.2.2.2.2.2.2.1, y ∈ pc.1.set :=
  View.cover_of_tiledL (kernelRun0_A c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 hc0 x0 x1 x2 x3 x4 x5 x6 x7 x8 x9 x10 x11 x12 x13).2.2.2.2.2.2.2.1 S256x512.size (by sl_kernel_rfl) y

/-- What case A leaves in output 21's staging buffer: its pieces read back over junk. -/
def out0_A_21 : Vec F S256x512 .bf16 :=
  VO0_21.read (Elt F) (VO0_21.writes (Elt F) VO0_21.junk (kernelRun0_A c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 hc0 x0 x1 x2 x3 x4 x5 x6 x7 x8 x9 x10 x11 x12 x13).2.2.2.2.2.2.2.1)

/-- Case A's pieces for output 22 tile its block, so they cover it. -/
theorem cover0_A_22 (y : S256x512.Idx) :
    ∃ pc ∈ (kernelRun0_A c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 hc0 x0 x1 x2 x3 x4 x5 x6 x7 x8 x9 x10 x11 x12 x13).2.2.2.2.2.2.2.2.1, y ∈ pc.1.set :=
  View.cover_of_tiledL (kernelRun0_A c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 hc0 x0 x1 x2 x3 x4 x5 x6 x7 x8 x9 x10 x11 x12 x13).2.2.2.2.2.2.2.2.1 S256x128.size (by sl_kernel_rfl) y

/-- What case A leaves in output 22's staging buffer: its pieces read back over junk. -/
def out0_A_22 : Vec F S256x512 .bf16 :=
  VO0_22.read (Elt F) (VO0_22.writes (Elt F) VO0_22.junk (kernelRun0_A c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 hc0 x0 x1 x2 x3 x4 x5 x6 x7 x8 x9 x10 x11 x12 x13).2.2.2.2.2.2.2.2.1)

/-- Case A's pieces for output 23 tile its block, so they cover it. -/
theorem cover0_A_23 (y : S256x512.Idx) :
    ∃ pc ∈ (kernelRun0_A c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 hc0 x0 x1 x2 x3 x4 x5 x6 x7 x8 x9 x10 x11 x12 x13).2.2.2.2.2.2.2.2.2.1, y ∈ pc.1.set :=
  View.cover_of_tiledL (kernelRun0_A c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 hc0 x0 x1 x2 x3 x4 x5 x6 x7 x8 x9 x10 x11 x12 x13).2.2.2.2.2.2.2.2.2.1 S256x512.size (by sl_kernel_rfl) y

/-- What case A leaves in output 23's staging buffer: its pieces read back over junk. -/
def out0_A_23 : Vec F S256x512 .bf16 :=
  VO0_23.read (Elt F) (VO0_23.writes (Elt F) VO0_23.junk (kernelRun0_A c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 hc0 x0 x1 x2 x3 x4 x5 x6 x7 x8 x9 x10 x11 x12 x13).2.2.2.2.2.2.2.2.2.1)

/-- Case A's pieces for scratch `a25`, which the kernel carries between points, cover it: 26 pieces (stores and landed copies) of several sizes (`S1x256x128`, `S24x24x128`) tiling it when cut into blocks of `![1, 8, 128]` (Lib/Ring.lean `Piece.tiledBy`). -/
theorem scover0_A_0 (y : S24x280x128.Idx) :
    ∃ pc ∈ (kernelRun0_A c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 hc0 x0 x1 x2 x3 x4 x5 x6 x7 x8 x9 x10 x11 x12 x13).2.2.2.2.2.2.2.2.2.2.1, y ∈ pc.1.set :=
  View.cover_of_tiledBy (kernelRun0_A c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 hc0 x0 x1 x2 x3 x4 x5 x6 x7 x8 x9 x10 x11 x12 x13).2.2.2.2.2.2.2.2.2.2.1 ![1, 8, 128] (by sl_kernel_rfl) y

/-- What case A leaves in scratch `a25`: its pieces read back over junk. -/
def sout0_A_0 : Vec F S24x280x128 .f32 :=
  VS0_0.read (Elt F) (VS0_0.writes (Elt F) VS0_0.junk (kernelRun0_A c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 hc0 x0 x1 x2 x3 x4 x5 x6 x7 x8 x9 x10 x11 x12 x13).2.2.2.2.2.2.2.2.2.2.1)

end

section
variable (c : Dev nD) (i : grid0.Coords) (a1 : Memref sig .tc .vmem S256x2048 .f32) (h1 : a1.IsWhole) (a2 : Memref sig .tc .vmem S1x2048 .f32) (h2 : a2.IsWhole) (a3 : Memref sig .tc .vmem S2048x4096 .bf16) (h3 : a3.IsWhole) (a4 : Memref sig .tc .vmem S2048x128 .bf16) (h4 : a4.IsWhole) (a5 : Memref sig .tc .vmem S2048x2304 .bf16) (h5 : a5.IsWhole) (a6 : Memref sig .tc .vmem S5x1x3072 .f32) (h6 : a6.IsWhole) (a7 : Memref sig .tc .vmem S256x128 .f32) (h7 : a7.IsWhole) (a8 : Memref sig .tc .vmem S256x128 .f32) (h8 : a8.IsWhole) (a9 : Memref sig .tc .vmem S1x128 .f32) (h9 : a9.IsWhole) (a10 : Memref sig .tc .vmem S1x128 .f32) (h10 : a10.IsWhole) (a11 : Memref sig .tc .vmem S1x512 .f32) (h11 : a11.IsWhole) (a12 : Memref sig .tc .vmem S1x128 .f32) (h12 : a12.IsWhole) (a13 : Memref sig .tc .vmem S1x512 .f32) (h13 : a13.IsWhole) (a14 : Memref sig .tc .vmem S512x512 .bf16) (h14 : a14.IsWhole) (a15 : Memref sig .tc .vmem S256x3072 .bf16) (h15 : a15.IsWhole) (a16 : Memref sig .tc .vmem S256x1024 .bf16) (h16 : a16.IsWhole) (a17 : Memref sig .tc .vmem S256x128 .f32) (h17 : a17.IsWhole) (a18 : Memref sig .tc .vmem S1x128x256 .f32) (h18 : a18.IsWhole) (a19 : Memref sig .tc .vmem S256x512 .bf16) (h19 : a19.IsWhole) (a20 : Memref sig .tc .vmem S256x128 .bf16) (h20 : a20.IsWhole) (a21 : Memref sig .tc .vmem S256x128 .bf16) (h21 : a21.IsWhole) (a22 : Memref sig .tc .vmem S256x512 .bf16) (h22 : a22.IsWhole) (a23 : Memref sig .tc .vmem S256x512 .bf16) (h23 : a23.IsWhole) (a24 : Memref sig .tc .vmem S256x512 .bf16) (h24 : a24.IsWhole) (a25 : Memref sig .tc .vmem S24x280x128 .f32) (h25 : a25.IsWhole) (hc0 : ¬cond0_0 i)
    (x0 : Vec F S256x2048 .f32) (x1 : Vec F S1x2048 .f32) (x2 : Vec F S2048x4096 .bf16) (x3 : Vec F S2048x128 .bf16) (x4 : Vec F S2048x2304 .bf16) (x5 : Vec F S5x1x3072 .f32) (x6 : Vec F S256x128 .f32) (x7 : Vec F S256x128 .f32) (x8 : Vec F S1x128 .f32) (x9 : Vec F S1x128 .f32) (x10 : Vec F S1x512 .f32) (x11 : Vec F S1x128 .f32) (x12 : Vec F S1x512 .f32) (x13 : Vec F S512x512 .bf16)
include c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 hc0 x0 x1 x2 x3 x4 x5 x6 x7 x8 x9 x10 x11 x12 x13

/-- Case B's pieces for output 14 tile its block, so they cover it. -/
theorem cover0_B_14 (xs0 : Vec F S24x280x128 .f32) (y : S256x3072.Idx) :
    ∃ pc ∈ (kernelRun0_B c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 hc0 x0 x1 x2 x3 x4 x5 x6 x7 x8 x9 x10 x11 x12 x13 xs0).1, y ∈ pc.1.set :=
  View.cover_of_tiledL (kernelRun0_B c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 hc0 x0 x1 x2 x3 x4 x5 x6 x7 x8 x9 x10 x11 x12 x13 xs0).1 S128x128.size (by sl_kernel_rfl) y

/-- What case B leaves in output 14's staging buffer: its pieces read back over junk. -/
def out0_B_14 (xs0 : Vec F S24x280x128 .f32) : Vec F S256x3072 .bf16 :=
  VO0_14.read (Elt F) (VO0_14.writes (Elt F) VO0_14.junk (kernelRun0_B c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 hc0 x0 x1 x2 x3 x4 x5 x6 x7 x8 x9 x10 x11 x12 x13 xs0).1)

/-- Case B's pieces for output 15 tile its block, so they cover it. -/
theorem cover0_B_15 (xs0 : Vec F S24x280x128 .f32) (y : S256x1024.Idx) :
    ∃ pc ∈ (kernelRun0_B c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 hc0 x0 x1 x2 x3 x4 x5 x6 x7 x8 x9 x10 x11 x12 x13 xs0).2.1, y ∈ pc.1.set :=
  View.cover_of_tiledL (kernelRun0_B c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 hc0 x0 x1 x2 x3 x4 x5 x6 x7 x8 x9 x10 x11 x12 x13 xs0).2.1 S256x512.size (by sl_kernel_rfl) y

/-- What case B leaves in output 15's staging buffer: its pieces read back over junk. -/
def out0_B_15 (xs0 : Vec F S24x280x128 .f32) : Vec F S256x1024 .bf16 :=
  VO0_15.read (Elt F) (VO0_15.writes (Elt F) VO0_15.junk (kernelRun0_B c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 hc0 x0 x1 x2 x3 x4 x5 x6 x7 x8 x9 x10 x11 x12 x13 xs0).2.1)

/-- Case B's pieces for output 16 tile its block, so they cover it. -/
theorem cover0_B_16 (xs0 : Vec F S24x280x128 .f32) (y : S256x128.Idx) :
    ∃ pc ∈ (kernelRun0_B c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 hc0 x0 x1 x2 x3 x4 x5 x6 x7 x8 x9 x10 x11 x12 x13 xs0).2.2.1, y ∈ pc.1.set :=
  View.cover_of_tiledL (kernelRun0_B c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 hc0 x0 x1 x2 x3 x4 x5 x6 x7 x8 x9 x10 x11 x12 x13 xs0).2.2.1 S256x128.size (by sl_kernel_rfl) y

/-- What case B leaves in output 16's staging buffer: its pieces read back over junk. -/
def out0_B_16 (xs0 : Vec F S24x280x128 .f32) : Vec F S256x128 .f32 :=
  VO0_16.read (Elt F) (VO0_16.writes (Elt F) VO0_16.junk (kernelRun0_B c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 hc0 x0 x1 x2 x3 x4 x5 x6 x7 x8 x9 x10 x11 x12 x13 xs0).2.2.1)

/-- Case B's pieces for output 17 tile its block, so they cover it. -/
theorem cover0_B_17 (xs0 : Vec F S24x280x128 .f32) (y : S1x128x256.Idx) :
    ∃ pc ∈ (kernelRun0_B c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 hc0 x0 x1 x2 x3 x4 x5 x6 x7 x8 x9 x10 x11 x12 x13 xs0).2.2.2.1, y ∈ pc.1.set :=
  View.cover_of_tiledL (kernelRun0_B c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 hc0 x0 x1 x2 x3 x4 x5 x6 x7 x8 x9 x10 x11 x12 x13 xs0).2.2.2.1 S1x128x256.size (by sl_kernel_rfl) y

/-- What case B leaves in output 17's staging buffer: its pieces read back over junk. -/
def out0_B_17 (xs0 : Vec F S24x280x128 .f32) : Vec F S1x128x256 .f32 :=
  VO0_17.read (Elt F) (VO0_17.writes (Elt F) VO0_17.junk (kernelRun0_B c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 hc0 x0 x1 x2 x3 x4 x5 x6 x7 x8 x9 x10 x11 x12 x13 xs0).2.2.2.1)

/-- Case B's pieces for output 18 tile its block, so they cover it. -/
theorem cover0_B_18 (xs0 : Vec F S24x280x128 .f32) (y : S256x512.Idx) :
    ∃ pc ∈ (kernelRun0_B c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 hc0 x0 x1 x2 x3 x4 x5 x6 x7 x8 x9 x10 x11 x12 x13 xs0).2.2.2.2.1, y ∈ pc.1.set :=
  View.cover_of_tiledL (kernelRun0_B c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 hc0 x0 x1 x2 x3 x4 x5 x6 x7 x8 x9 x10 x11 x12 x13 xs0).2.2.2.2.1 S256x128.size (by sl_kernel_rfl) y

/-- What case B leaves in output 18's staging buffer: its pieces read back over junk. -/
def out0_B_18 (xs0 : Vec F S24x280x128 .f32) : Vec F S256x512 .bf16 :=
  VO0_18.read (Elt F) (VO0_18.writes (Elt F) VO0_18.junk (kernelRun0_B c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 hc0 x0 x1 x2 x3 x4 x5 x6 x7 x8 x9 x10 x11 x12 x13 xs0).2.2.2.2.1)

/-- Case B's pieces for output 19 tile its block, so they cover it. -/
theorem cover0_B_19 (xs0 : Vec F S24x280x128 .f32) (y : S256x128.Idx) :
    ∃ pc ∈ (kernelRun0_B c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 hc0 x0 x1 x2 x3 x4 x5 x6 x7 x8 x9 x10 x11 x12 x13 xs0).2.2.2.2.2.1, y ∈ pc.1.set :=
  View.cover_of_tiledL (kernelRun0_B c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 hc0 x0 x1 x2 x3 x4 x5 x6 x7 x8 x9 x10 x11 x12 x13 xs0).2.2.2.2.2.1 S256x128.size (by sl_kernel_rfl) y

/-- What case B leaves in output 19's staging buffer: its pieces read back over junk. -/
def out0_B_19 (xs0 : Vec F S24x280x128 .f32) : Vec F S256x128 .bf16 :=
  VO0_19.read (Elt F) (VO0_19.writes (Elt F) VO0_19.junk (kernelRun0_B c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 hc0 x0 x1 x2 x3 x4 x5 x6 x7 x8 x9 x10 x11 x12 x13 xs0).2.2.2.2.2.1)

/-- Case B's pieces for output 20 tile its block, so they cover it. -/
theorem cover0_B_20 (xs0 : Vec F S24x280x128 .f32) (y : S256x128.Idx) :
    ∃ pc ∈ (kernelRun0_B c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 hc0 x0 x1 x2 x3 x4 x5 x6 x7 x8 x9 x10 x11 x12 x13 xs0).2.2.2.2.2.2.1, y ∈ pc.1.set :=
  View.cover_of_tiledL (kernelRun0_B c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 hc0 x0 x1 x2 x3 x4 x5 x6 x7 x8 x9 x10 x11 x12 x13 xs0).2.2.2.2.2.2.1 S256x128.size (by sl_kernel_rfl) y

/-- What case B leaves in output 20's staging buffer: its pieces read back over junk. -/
def out0_B_20 (xs0 : Vec F S24x280x128 .f32) : Vec F S256x128 .bf16 :=
  VO0_20.read (Elt F) (VO0_20.writes (Elt F) VO0_20.junk (kernelRun0_B c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 hc0 x0 x1 x2 x3 x4 x5 x6 x7 x8 x9 x10 x11 x12 x13 xs0).2.2.2.2.2.2.1)

/-- Case B's pieces for output 21 tile its block, so they cover it. -/
theorem cover0_B_21 (xs0 : Vec F S24x280x128 .f32) (y : S256x512.Idx) :
    ∃ pc ∈ (kernelRun0_B c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 hc0 x0 x1 x2 x3 x4 x5 x6 x7 x8 x9 x10 x11 x12 x13 xs0).2.2.2.2.2.2.2.1, y ∈ pc.1.set :=
  View.cover_of_tiledL (kernelRun0_B c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 hc0 x0 x1 x2 x3 x4 x5 x6 x7 x8 x9 x10 x11 x12 x13 xs0).2.2.2.2.2.2.2.1 S256x512.size (by sl_kernel_rfl) y

/-- What case B leaves in output 21's staging buffer: its pieces read back over junk. -/
def out0_B_21 (xs0 : Vec F S24x280x128 .f32) : Vec F S256x512 .bf16 :=
  VO0_21.read (Elt F) (VO0_21.writes (Elt F) VO0_21.junk (kernelRun0_B c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 hc0 x0 x1 x2 x3 x4 x5 x6 x7 x8 x9 x10 x11 x12 x13 xs0).2.2.2.2.2.2.2.1)

/-- Case B's pieces for output 22 tile its block, so they cover it. -/
theorem cover0_B_22 (xs0 : Vec F S24x280x128 .f32) (y : S256x512.Idx) :
    ∃ pc ∈ (kernelRun0_B c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 hc0 x0 x1 x2 x3 x4 x5 x6 x7 x8 x9 x10 x11 x12 x13 xs0).2.2.2.2.2.2.2.2.1, y ∈ pc.1.set :=
  View.cover_of_tiledL (kernelRun0_B c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 hc0 x0 x1 x2 x3 x4 x5 x6 x7 x8 x9 x10 x11 x12 x13 xs0).2.2.2.2.2.2.2.2.1 S256x128.size (by sl_kernel_rfl) y

/-- What case B leaves in output 22's staging buffer: its pieces read back over junk. -/
def out0_B_22 (xs0 : Vec F S24x280x128 .f32) : Vec F S256x512 .bf16 :=
  VO0_22.read (Elt F) (VO0_22.writes (Elt F) VO0_22.junk (kernelRun0_B c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 hc0 x0 x1 x2 x3 x4 x5 x6 x7 x8 x9 x10 x11 x12 x13 xs0).2.2.2.2.2.2.2.2.1)

/-- Case B's pieces for output 23 tile its block, so they cover it. -/
theorem cover0_B_23 (xs0 : Vec F S24x280x128 .f32) (y : S256x512.Idx) :
    ∃ pc ∈ (kernelRun0_B c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 hc0 x0 x1 x2 x3 x4 x5 x6 x7 x8 x9 x10 x11 x12 x13 xs0).2.2.2.2.2.2.2.2.2.1, y ∈ pc.1.set :=
  View.cover_of_tiledL (kernelRun0_B c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 hc0 x0 x1 x2 x3 x4 x5 x6 x7 x8 x9 x10 x11 x12 x13 xs0).2.2.2.2.2.2.2.2.2.1 S256x512.size (by sl_kernel_rfl) y

/-- What case B leaves in output 23's staging buffer: its pieces read back over junk. -/
def out0_B_23 (xs0 : Vec F S24x280x128 .f32) : Vec F S256x512 .bf16 :=
  VO0_23.read (Elt F) (VO0_23.writes (Elt F) VO0_23.junk (kernelRun0_B c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 hc0 x0 x1 x2 x3 x4 x5 x6 x7 x8 x9 x10 x11 x12 x13 xs0).2.2.2.2.2.2.2.2.2.1)

/-- Case B's pieces for scratch `a25`, which the kernel carries between points, cover it: 25 pieces (stores and landed copies) of several sizes (`S1x256x128`, `S24x24x128`) tiling it when cut into blocks of `![1, 8, 128]` (Lib/Ring.lean `Piece.tiledBy`). -/
theorem scover0_B_0 (xs0 : Vec F S24x280x128 .f32) (y : S24x280x128.Idx) :
    ∃ pc ∈ (kernelRun0_B c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 hc0 x0 x1 x2 x3 x4 x5 x6 x7 x8 x9 x10 x11 x12 x13 xs0).2.2.2.2.2.2.2.2.2.2.1, y ∈ pc.1.set :=
  View.cover_of_tiledBy (kernelRun0_B c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 hc0 x0 x1 x2 x3 x4 x5 x6 x7 x8 x9 x10 x11 x12 x13 xs0).2.2.2.2.2.2.2.2.2.2.1 ![1, 8, 128] (by sl_kernel_rfl) y

/-- What case B leaves in scratch `a25`: its pieces read back over junk. -/
def sout0_B_0 (xs0 : Vec F S24x280x128 .f32) : Vec F S24x280x128 .f32 :=
  VS0_0.read (Elt F) (VS0_0.writes (Elt F) VS0_0.junk (kernelRun0_B c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 hc0 x0 x1 x2 x3 x4 x5 x6 x7 x8 x9 x10 x11 x12 x13 xs0).2.2.2.2.2.2.2.2.2.2.1)

end

end Cert.InProjIdeal.Gen

end
-- ==== Proof.InProjIdealFrame.lean ====
/-
  The input projection: its blocks after each grid point, the run of the program and what it keeps.
-/
module

public import proofs.«01_k».proof.Proof.InProjIdealOuts

@[expose] public section

set_option maxRecDepth 16384

noncomputable section

namespace Cert.InProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S256x3072 .bf16 × Vec F S256x1024 .bf16 × Vec F S256x128 .f32 × Vec F S1x128x256 .f32 × Vec F S256x512 .bf16 × Vec F S256x128 .bf16 × Vec F S256x128 .bf16 × Vec F S256x512 .bf16 × Vec F S256x512 .bf16 × Vec F S256x512 .bf16 × Vec F S24x280x128 .f32
  | 0, hn => (out0_A_14 c (grid0.coords ⟨0,hn⟩) (ms0_0 ⟨0,hn⟩) (hs0_0 ⟨0,hn⟩) (ms0_1 ⟨0,hn⟩) (hs0_1 ⟨0,hn⟩) (ms0_2 ⟨0,hn⟩) (hs0_2 ⟨0,hn⟩) (ms0_3 ⟨0,hn⟩) (hs0_3 ⟨0,hn⟩) (ms0_4 ⟨0,hn⟩) (hs0_4 ⟨0,hn⟩) (ms0_5 ⟨0,hn⟩) (hs0_5 ⟨0,hn⟩) (ms0_6 ⟨0,hn⟩) (hs0_6 ⟨0,hn⟩) (ms0_7 ⟨0,hn⟩) (hs0_7 ⟨0,hn⟩) (ms0_8 ⟨0,hn⟩) (hs0_8 ⟨0,hn⟩) (ms0_9 ⟨0,hn⟩) (hs0_9 ⟨0,hn⟩) (ms0_10 ⟨0,hn⟩) (hs0_10 ⟨0,hn⟩) (ms0_11 ⟨0,hn⟩) (hs0_11 ⟨0,hn⟩) (ms0_12 ⟨0,hn⟩) (hs0_12 ⟨0,hn⟩) (ms0_13 ⟨0,hn⟩) (hs0_13 ⟨0,hn⟩) (ms0_14 ⟨0,hn⟩) (hs0_14 ⟨0,hn⟩) (ms0_15 ⟨0,hn⟩) (hs0_15 ⟨0,hn⟩) (ms0_16 ⟨0,hn⟩) (hs0_16 ⟨0,hn⟩) (ms0_17 ⟨0,hn⟩) (hs0_17 ⟨0,hn⟩) (ms0_18 ⟨0,hn⟩) (hs0_18 ⟨0,hn⟩) (ms0_19 ⟨0,hn⟩) (hs0_19 ⟨0,hn⟩) (ms0_20 ⟨0,hn⟩) (hs0_20 ⟨0,hn⟩) (ms0_21 ⟨0,hn⟩) (hs0_21 ⟨0,hn⟩) (ms0_22 ⟨0,hn⟩) (hs0_22 ⟨0,hn⟩) (ms0_23 ⟨0,hn⟩) (hs0_23 ⟨0,hn⟩) scM0_0 (Memref.isWhole_whole _) ((hcond0_0 ⟨0,hn⟩).mpr (Nat.zero_mod _)) (iblk m c 0 ⟨0,hn⟩) (iblk m c 1 ⟨0,hn⟩) (iblk m c 2 ⟨0,hn⟩) (iblk m c 3 ⟨0,hn⟩) (iblk m c 4 ⟨0,hn⟩) (iblk m c 5 ⟨0,hn⟩) (iblk m c 6 ⟨0,hn⟩) (iblk m c 7 ⟨0,hn⟩) (iblk m c 8 ⟨0,hn⟩) (iblk m c 9 ⟨0,hn⟩) (iblk m c 10 ⟨0,hn⟩) (iblk m c 11 ⟨0,hn⟩) (iblk m c 12 ⟨0,hn⟩) (iblk m c 13 ⟨0,hn⟩), out0_A_15 c (grid0.coords ⟨0,hn⟩) (ms0_0 ⟨0,hn⟩) (hs0_0 ⟨0,hn⟩) (ms0_1 ⟨0,hn⟩) (hs0_1 ⟨0,hn⟩) (ms0_2 ⟨0,hn⟩) (hs0_2 ⟨0,hn⟩) (ms0_3 ⟨0,hn⟩) (hs0_3 ⟨0,hn⟩) (ms0_4 ⟨0,hn⟩) (hs0_4 ⟨0,hn⟩) (ms0_5 ⟨0,hn⟩) (hs0_5 ⟨0,hn⟩) (ms0_6 ⟨0,hn⟩) (hs0_6 ⟨0,hn⟩) (ms0_7 ⟨0,hn⟩) (hs0_7 ⟨0,hn⟩) (ms0_8 ⟨0,hn⟩) (hs0_8 ⟨0,hn⟩) (ms0_9 ⟨0,hn⟩) (hs0_9 ⟨0,hn⟩) (ms0_10 ⟨0,hn⟩) (hs0_10 ⟨0,hn⟩) (ms0_11 ⟨0,hn⟩) (hs0_11 ⟨0,hn⟩) (ms0_12 ⟨0,hn⟩) (hs0_12 ⟨0,hn⟩) (ms0_13 ⟨0,hn⟩) (hs0_13 ⟨0,hn⟩) (ms0_14 ⟨0,hn⟩) (hs0_14 ⟨0,hn⟩) (ms0_15 ⟨0,hn⟩) (hs0_15 ⟨0,hn⟩) (ms0_16 ⟨0,hn⟩) (hs0_16 ⟨0,hn⟩) (ms0_17 ⟨0,hn⟩) (hs0_17 ⟨0,hn⟩) (ms0_18 ⟨0,hn⟩) (hs0_18 ⟨0,hn⟩) (ms0_19 ⟨0,hn⟩) (hs0_19 ⟨0,hn⟩) (ms0_20 ⟨0,hn⟩) (hs0_20 ⟨0,hn⟩) (ms0_21 ⟨0,hn⟩) (hs0_21 ⟨0,hn⟩) (ms0_22 ⟨0,hn⟩) (hs0_22 ⟨0,hn⟩) (ms0_23 ⟨0,hn⟩) (hs0_23 ⟨0,hn⟩) scM0_0 (Memref.isWhole_whole _) ((hcond0_0 ⟨0,hn⟩).mpr (Nat.zero_mod _)) (iblk m c 0 ⟨0,hn⟩) (iblk m c 1 ⟨0,hn⟩) (iblk m c 2 ⟨0,hn⟩) (iblk m c 3 ⟨0,hn⟩) (iblk m c 4 ⟨0,hn⟩) (iblk m c 5 ⟨0,hn⟩) (iblk m c 6 ⟨0,hn⟩) (iblk m c 7 ⟨0,hn⟩) (iblk m c 8 ⟨0,hn⟩) (iblk m c 9 ⟨0,hn⟩) (iblk m c 10 ⟨0,hn⟩) (iblk m c 11 ⟨0,hn⟩) (iblk m c 12 ⟨0,hn⟩) (iblk m c 13 ⟨0,hn⟩), out0_A_16 c (grid0.coords ⟨0,hn⟩) (ms0_0 ⟨0,hn⟩) (hs0_0 ⟨0,hn⟩) (ms0_1 ⟨0,hn⟩) (hs0_1 ⟨0,hn⟩) (ms0_2 ⟨0,hn⟩) (hs0_2 ⟨0,hn⟩) (ms0_3 ⟨0,hn⟩) (hs0_3 ⟨0,hn⟩) (ms0_4 ⟨0,hn⟩) (hs0_4 ⟨0,hn⟩) (ms0_5 ⟨0,hn⟩) (hs0_5 ⟨0,hn⟩) (ms0_6 ⟨0,hn⟩) (hs0_6 ⟨0,hn⟩) (ms0_7 ⟨0,hn⟩) (hs0_7 ⟨0,hn⟩) (ms0_8 ⟨0,hn⟩) (hs0_8 ⟨0,hn⟩) (ms0_9 ⟨0,hn⟩) (hs0_9 ⟨0,hn⟩) (ms0_10 ⟨0,hn⟩) (hs0_10 ⟨0,hn⟩) (ms0_11 ⟨0,hn⟩) (hs0_11 ⟨0,hn⟩) (ms0_12 ⟨0,hn⟩) (hs0_12 ⟨0,hn⟩) (ms0_13 ⟨0,hn⟩) (hs0_13 ⟨0,hn⟩) (ms0_14 ⟨0,hn⟩) (hs0_14 ⟨0,hn⟩) (ms0_15 ⟨0,hn⟩) (hs0_15 ⟨0,hn⟩) (ms0_16 ⟨0,hn⟩) (hs0_16 ⟨0,hn⟩) (ms0_17 ⟨0,hn⟩) (hs0_17 ⟨0,hn⟩) (ms0_18 ⟨0,hn⟩) (hs0_18 ⟨0,hn⟩) (ms0_19 ⟨0,hn⟩) (hs0_19 ⟨0,hn⟩) (ms0_20 ⟨0,hn⟩) (hs0_20 ⟨0,hn⟩) (ms0_21 ⟨0,hn⟩) (hs0_21 ⟨0,hn⟩) (ms0_22 ⟨0,hn⟩) (hs0_22 ⟨0,hn⟩) (ms0_23 ⟨0,hn⟩) (hs0_23 ⟨0,hn⟩) scM0_0 (Memref.isWhole_whole _) ((hcond0_0 ⟨0,hn⟩).mpr (Nat.zero_mod _)) (iblk m c 0 ⟨0,hn⟩) (iblk m c 1 ⟨0,hn⟩) (iblk m c 2 ⟨0,hn⟩) (iblk m c 3 ⟨0,hn⟩) (iblk m c 4 ⟨0,hn⟩) (iblk m c 5 ⟨0,hn⟩) (iblk m c 6 ⟨0,hn⟩) (iblk m c 7 ⟨0,hn⟩) (iblk m c 8 ⟨0,hn⟩) (iblk m c 9 ⟨0,hn⟩) (iblk m c 10 ⟨0,hn⟩) (iblk m c 11 ⟨0,hn⟩) (iblk m c 12 ⟨0,hn⟩) (iblk m c 13 ⟨0,hn⟩), out0_A_17 c (grid0.coords ⟨0,hn⟩) (ms0_0 ⟨0,hn⟩) (hs0_0 ⟨0,hn⟩) (ms0_1 ⟨0,hn⟩) (hs0_1 ⟨0,hn⟩) (ms0_2 ⟨0,hn⟩) (hs0_2 ⟨0,hn⟩) (ms0_3 ⟨0,hn⟩) (hs0_3 ⟨0,hn⟩) (ms0_4 ⟨0,hn⟩) (hs0_4 ⟨0,hn⟩) (ms0_5 ⟨0,hn⟩) (hs0_5 ⟨0,hn⟩) (ms0_6 ⟨0,hn⟩) (hs0_6 ⟨0,hn⟩) (ms0_7 ⟨0,hn⟩) (hs0_7 ⟨0,hn⟩) (ms0_8 ⟨0,hn⟩) (hs0_8 ⟨0,hn⟩) (ms0_9 ⟨0,hn⟩) (hs0_9 ⟨0,hn⟩) (ms0_10 ⟨0,hn⟩) (hs0_10 ⟨0,hn⟩) (ms0_11 ⟨0,hn⟩) (hs0_11 ⟨0,hn⟩) (ms0_12 ⟨0,hn⟩) (hs0_12 ⟨0,hn⟩) (ms0_13 ⟨0,hn⟩) (hs0_13 ⟨0,hn⟩) (ms0_14 ⟨0,hn⟩) (hs0_14 ⟨0,hn⟩) (ms0_15 ⟨0,hn⟩) (hs0_15 ⟨0,hn⟩) (ms0_16 ⟨0,hn⟩) (hs0_16 ⟨0,hn⟩) (ms0_17 ⟨0,hn⟩) (hs0_17 ⟨0,hn⟩) (ms0_18 ⟨0,hn⟩) (hs0_18 ⟨0,hn⟩) (ms0_19 ⟨0,hn⟩) (hs0_19 ⟨0,hn⟩) (ms0_20 ⟨0,hn⟩) (hs0_20 ⟨0,hn⟩) (ms0_21 ⟨0,hn⟩) (hs0_21 ⟨0,hn⟩) (ms0_22 ⟨0,hn⟩) (hs0_22 ⟨0,hn⟩) (ms0_23 ⟨0,hn⟩) (hs0_23 ⟨0,hn⟩) scM0_0 (Memref.isWhole_whole _) ((hcond0_0 ⟨0,hn⟩).mpr (Nat.zero_mod _)) (iblk m c 0 ⟨0,hn⟩) (iblk m c 1 ⟨0,hn⟩) (iblk m c 2 ⟨0,hn⟩) (iblk m c 3 ⟨0,hn⟩) (iblk m c 4 ⟨0,hn⟩) (iblk m c 5 ⟨0,hn⟩) (iblk m c 6 ⟨0,hn⟩) (iblk m c 7 ⟨0,hn⟩) (iblk m c 8 ⟨0,hn⟩) (iblk m c 9 ⟨0,hn⟩) (iblk m c 10 ⟨0,hn⟩) (iblk m c 11 ⟨0,hn⟩) (iblk m c 12 ⟨0,hn⟩) (iblk m c 13 ⟨0,hn⟩), out0_A_18 c (grid0.coords ⟨0,hn⟩) (ms0_0 ⟨0,hn⟩) (hs0_0 ⟨0,hn⟩) (ms0_1 ⟨0,hn⟩) (hs0_1 ⟨0,hn⟩) (ms0_2 ⟨0,hn⟩) (hs0_2 ⟨0,hn⟩) (ms0_3 ⟨0,hn⟩) (hs0_3 ⟨0,hn⟩) (ms0_4 ⟨0,hn⟩) (hs0_4 ⟨0,hn⟩) (ms0_5 ⟨0,hn⟩) (hs0_5 ⟨0,hn⟩) (ms0_6 ⟨0,hn⟩) (hs0_6 ⟨0,hn⟩) (ms0_7 ⟨0,hn⟩) (hs0_7 ⟨0,hn⟩) (ms0_8 ⟨0,hn⟩) (hs0_8 ⟨0,hn⟩) (ms0_9 ⟨0,hn⟩) (hs0_9 ⟨0,hn⟩) (ms0_10 ⟨0,hn⟩) (hs0_10 ⟨0,hn⟩) (ms0_11 ⟨0,hn⟩) (hs0_11 ⟨0,hn⟩) (ms0_12 ⟨0,hn⟩) (hs0_12 ⟨0,hn⟩) (ms0_13 ⟨0,hn⟩) (hs0_13 ⟨0,hn⟩) (ms0_14 ⟨0,hn⟩) (hs0_14 ⟨0,hn⟩) (ms0_15 ⟨0,hn⟩) (hs0_15 ⟨0,hn⟩) (ms0_16 ⟨0,hn⟩) (hs0_16 ⟨0,hn⟩) (ms0_17 ⟨0,hn⟩) (hs0_17 ⟨0,hn⟩) (ms0_18 ⟨0,hn⟩) (hs0_18 ⟨0,hn⟩) (ms0_19 ⟨0,hn⟩) (hs0_19 ⟨0,hn⟩) (ms0_20 ⟨0,hn⟩) (hs0_20 ⟨0,hn⟩) (ms0_21 ⟨0,hn⟩) (hs0_21 ⟨0,hn⟩) (ms0_22 ⟨0,hn⟩) (hs0_22 ⟨0,hn⟩) (ms0_23 ⟨0,hn⟩) (hs0_23 ⟨0,hn⟩) scM0_0 (Memref.isWhole_whole _) ((hcond0_0 ⟨0,hn⟩).mpr (Nat.zero_mod _)) (iblk m c 0 ⟨0,hn⟩) (iblk m c 1 ⟨0,hn⟩) (iblk m c 2 ⟨0,hn⟩) (iblk m c 3 ⟨0,hn⟩) (iblk m c 4 ⟨0,hn⟩) (iblk m c 5 ⟨0,hn⟩) (iblk m c 6 ⟨0,hn⟩) (iblk m c 7 ⟨0,hn⟩) (iblk m c 8 ⟨0,hn⟩) (iblk m c 9 ⟨0,hn⟩) (iblk m c 10 ⟨0,hn⟩) (iblk m c 11 ⟨0,hn⟩) (iblk m c 12 ⟨0,hn⟩) (iblk m c 13 ⟨0,hn⟩), out0_A_19 c (grid0.coords ⟨0,hn⟩) (ms0_0 ⟨0,hn⟩) (hs0_0 ⟨0,hn⟩) (ms0_1 ⟨0,hn⟩) (hs0_1 ⟨0,hn⟩) (ms0_2 ⟨0,hn⟩) (hs0_2 ⟨0,hn⟩) (ms0_3 ⟨0,hn⟩) (hs0_3 ⟨0,hn⟩) (ms0_4 ⟨0,hn⟩) (hs0_4 ⟨0,hn⟩) (ms0_5 ⟨0,hn⟩) (hs0_5 ⟨0,hn⟩) (ms0_6 ⟨0,hn⟩) (hs0_6 ⟨0,hn⟩) (ms0_7 ⟨0,hn⟩) (hs0_7 ⟨0,hn⟩) (ms0_8 ⟨0,hn⟩) (hs0_8 ⟨0,hn⟩) (ms0_9 ⟨0,hn⟩) (hs0_9 ⟨0,hn⟩) (ms0_10 ⟨0,hn⟩) (hs0_10 ⟨0,hn⟩) (ms0_11 ⟨0,hn⟩) (hs0_11 ⟨0,hn⟩) (ms0_12 ⟨0,hn⟩) (hs0_12 ⟨0,hn⟩) (ms0_13 ⟨0,hn⟩) (hs0_13 ⟨0,hn⟩) (ms0_14 ⟨0,hn⟩) (hs0_14 ⟨0,hn⟩) (ms0_15 ⟨0,hn⟩) (hs0_15 ⟨0,hn⟩) (ms0_16 ⟨0,hn⟩) (hs0_16 ⟨0,hn⟩) (ms0_17 ⟨0,hn⟩) (hs0_17 ⟨0,hn⟩) (ms0_18 ⟨0,hn⟩) (hs0_18 ⟨0,hn⟩) (ms0_19 ⟨0,hn⟩) (hs0_19 ⟨0,hn⟩) (ms0_20 ⟨0,hn⟩) (hs0_20 ⟨0,hn⟩) (ms0_21 ⟨0,hn⟩) (hs0_21 ⟨0,hn⟩) (ms0_22 ⟨0,hn⟩) (hs0_22 ⟨0,hn⟩) (ms0_23 ⟨0,hn⟩) (hs0_23 ⟨0,hn⟩) scM0_0 (Memref.isWhole_whole _) ((hcond0_0 ⟨0,hn⟩).mpr (Nat.zero_mod _)) (iblk m c 0 ⟨0,hn⟩) (iblk m c 1 ⟨0,hn⟩) (iblk m c 2 ⟨0,hn⟩) (iblk m c 3 ⟨0,hn⟩) (iblk m c 4 ⟨0,hn⟩) (iblk m c 5 ⟨0,hn⟩) (iblk m c 6 ⟨0,hn⟩) (iblk m c 7 ⟨0,hn⟩) (iblk m c 8 ⟨0,hn⟩) (iblk m c 9 ⟨0,hn⟩) (iblk m c 10 ⟨0,hn⟩) (iblk m c 11 ⟨0,hn⟩) (iblk m c 12 ⟨0,hn⟩) (iblk m c 13 ⟨0,hn⟩), out0_A_20 c (grid0.coords ⟨0,hn⟩) (ms0_0 ⟨0,hn⟩) (hs0_0 ⟨0,hn⟩) (ms0_1 ⟨0,hn⟩) (hs0_1 ⟨0,hn⟩) (ms0_2 ⟨0,hn⟩) (hs0_2 ⟨0,hn⟩) (ms0_3 ⟨0,hn⟩) (hs0_3 ⟨0,hn⟩) (ms0_4 ⟨0,hn⟩) (hs0_4 ⟨0,hn⟩) (ms0_5 ⟨0,hn⟩) (hs0_5 ⟨0,hn⟩) (ms0_6 ⟨0,hn⟩) (hs0_6 ⟨0,hn⟩) (ms0_7 ⟨0,hn⟩) (hs0_7 ⟨0,hn⟩) (ms0_8 ⟨0,hn⟩) (hs0_8 ⟨0,hn⟩) (ms0_9 ⟨0,hn⟩) (hs0_9 ⟨0,hn⟩) (ms0_10 ⟨0,hn⟩) (hs0_10 ⟨0,hn⟩) (ms0_11 ⟨0,hn⟩) (hs0_11 ⟨0,hn⟩) (ms0_12 ⟨0,hn⟩) (hs0_12 ⟨0,hn⟩) (ms0_13 ⟨0,hn⟩) (hs0_13 ⟨0,hn⟩) (ms0_14 ⟨0,hn⟩) (hs0_14 ⟨0,hn⟩) (ms0_15 ⟨0,hn⟩) (hs0_15 ⟨0,hn⟩) (ms0_16 ⟨0,hn⟩) (hs0_16 ⟨0,hn⟩) (ms0_17 ⟨0,hn⟩) (hs0_17 ⟨0,hn⟩) (ms0_18 ⟨0,hn⟩) (hs0_18 ⟨0,hn⟩) (ms0_19 ⟨0,hn⟩) (hs0_19 ⟨0,hn⟩) (ms0_20 ⟨0,hn⟩) (hs0_20 ⟨0,hn⟩) (ms0_21 ⟨0,hn⟩) (hs0_21 ⟨0,hn⟩) (ms0_22 ⟨0,hn⟩) (hs0_22 ⟨0,hn⟩) (ms0_23 ⟨0,hn⟩) (hs0_23 ⟨0,hn⟩) scM0_0 (Memref.isWhole_whole _) ((hcond0_0 ⟨0,hn⟩).mpr (Nat.zero_mod _)) (iblk m c 0 ⟨0,hn⟩) (iblk m c 1 ⟨0,hn⟩) (iblk m c 2 ⟨0,hn⟩) (iblk m c 3 ⟨0,hn⟩) (iblk m c 4 ⟨0,hn⟩) (iblk m c 5 ⟨0,hn⟩) (iblk m c 6 ⟨0,hn⟩) (iblk m c 7 ⟨0,hn⟩) (iblk m c 8 ⟨0,hn⟩) (iblk m c 9 ⟨0,hn⟩) (iblk m c 10 ⟨0,hn⟩) (iblk m c 11 ⟨0,hn⟩) (iblk m c 12 ⟨0,hn⟩) (iblk m c 13 ⟨0,hn⟩), out0_A_21 c (grid0.coords ⟨0,hn⟩) (ms0_0 ⟨0,hn⟩) (hs0_0 ⟨0,hn⟩) (ms0_1 ⟨0,hn⟩) (hs0_1 ⟨0,hn⟩) (ms0_2 ⟨0,hn⟩) (hs0_2 ⟨0,hn⟩) (ms0_3 ⟨0,hn⟩) (hs0_3 ⟨0,hn⟩) (ms0_4 ⟨0,hn⟩) (hs0_4 ⟨0,hn⟩) (ms0_5 ⟨0,hn⟩) (hs0_5 ⟨0,hn⟩) (ms0_6 ⟨0,hn⟩) (hs0_6 ⟨0,hn⟩) (ms0_7 ⟨0,hn⟩) (hs0_7 ⟨0,hn⟩) (ms0_8 ⟨0,hn⟩) (hs0_8 ⟨0,hn⟩) (ms0_9 ⟨0,hn⟩) (hs0_9 ⟨0,hn⟩) (ms0_10 ⟨0,hn⟩) (hs0_10 ⟨0,hn⟩) (ms0_11 ⟨0,hn⟩) (hs0_11 ⟨0,hn⟩) (ms0_12 ⟨0,hn⟩) (hs0_12 ⟨0,hn⟩) (ms0_13 ⟨0,hn⟩) (hs0_13 ⟨0,hn⟩) (ms0_14 ⟨0,hn⟩) (hs0_14 ⟨0,hn⟩) (ms0_15 ⟨0,hn⟩) (hs0_15 ⟨0,hn⟩) (ms0_16 ⟨0,hn⟩) (hs0_16 ⟨0,hn⟩) (ms0_17 ⟨0,hn⟩) (hs0_17 ⟨0,hn⟩) (ms0_18 ⟨0,hn⟩) (hs0_18 ⟨0,hn⟩) (ms0_19 ⟨0,hn⟩) (hs0_19 ⟨0,hn⟩) (ms0_20 ⟨0,hn⟩) (hs0_20 ⟨0,hn⟩) (ms0_21 ⟨0,hn⟩) (hs0_21 ⟨0,hn⟩) (ms0_22 ⟨0,hn⟩) (hs0_22 ⟨0,hn⟩) (ms0_23 ⟨0,hn⟩) (hs0_23 ⟨0,hn⟩) scM0_0 (Memref.isWhole_whole _) ((hcond0_0 ⟨0,hn⟩).mpr (Nat.zero_mod _)) (iblk m c 0 ⟨0,hn⟩) (iblk m c 1 ⟨0,hn⟩) (iblk m c 2 ⟨0,hn⟩) (iblk m c 3 ⟨0,hn⟩) (iblk m c 4 ⟨0,hn⟩) (iblk m c 5 ⟨0,hn⟩) (iblk m c 6 ⟨0,hn⟩) (iblk m c 7 ⟨0,hn⟩) (iblk m c 8 ⟨0,hn⟩) (iblk m c 9 ⟨0,hn⟩) (iblk m c 10 ⟨0,hn⟩) (iblk m c 11 ⟨0,hn⟩) (iblk m c 12 ⟨0,hn⟩) (iblk m c 13 ⟨0,hn⟩), out0_A_22 c (grid0.coords ⟨0,hn⟩) (ms0_0 ⟨0,hn⟩) (hs0_0 ⟨0,hn⟩) (ms0_1 ⟨0,hn⟩) (hs0_1 ⟨0,hn⟩) (ms0_2 ⟨0,hn⟩) (hs0_2 ⟨0,hn⟩) (ms0_3 ⟨0,hn⟩) (hs0_3 ⟨0,hn⟩) (ms0_4 ⟨0,hn⟩) (hs0_4 ⟨0,hn⟩) (ms0_5 ⟨0,hn⟩) (hs0_5 ⟨0,hn⟩) (ms0_6 ⟨0,hn⟩) (hs0_6 ⟨0,hn⟩) (ms0_7 ⟨0,hn⟩) (hs0_7 ⟨0,hn⟩) (ms0_8 ⟨0,hn⟩) (hs0_8 ⟨0,hn⟩) (ms0_9 ⟨0,hn⟩) (hs0_9 ⟨0,hn⟩) (ms0_10 ⟨0,hn⟩) (hs0_10 ⟨0,hn⟩) (ms0_11 ⟨0,hn⟩) (hs0_11 ⟨0,hn⟩) (ms0_12 ⟨0,hn⟩) (hs0_12 ⟨0,hn⟩) (ms0_13 ⟨0,hn⟩) (hs0_13 ⟨0,hn⟩) (ms0_14 ⟨0,hn⟩) (hs0_14 ⟨0,hn⟩) (ms0_15 ⟨0,hn⟩) (hs0_15 ⟨0,hn⟩) (ms0_16 ⟨0,hn⟩) (hs0_16 ⟨0,hn⟩) (ms0_17 ⟨0,hn⟩) (hs0_17 ⟨0,hn⟩) (ms0_18 ⟨0,hn⟩) (hs0_18 ⟨0,hn⟩) (ms0_19 ⟨0,hn⟩) (hs0_19 ⟨0,hn⟩) (ms0_20 ⟨0,hn⟩) (hs0_20 ⟨0,hn⟩) (ms0_21 ⟨0,hn⟩) (hs0_21 ⟨0,hn⟩) (ms0_22 ⟨0,hn⟩) (hs0_22 ⟨0,hn⟩) (ms0_23 ⟨0,hn⟩) (hs0_23 ⟨0,hn⟩) scM0_0 (Memref.isWhole_whole _) ((hcond0_0 ⟨0,hn⟩).mpr (Nat.zero_mod _)) (iblk m c 0 ⟨0,hn⟩) (iblk m c 1 ⟨0,hn⟩) (iblk m c 2 ⟨0,hn⟩) (iblk m c 3 ⟨0,hn⟩) (iblk m c 4 ⟨0,hn⟩) (iblk m c 5 ⟨0,hn⟩) (iblk m c 6 ⟨0,hn⟩) (iblk m c 7 ⟨0,hn⟩) (iblk m c 8 ⟨0,hn⟩) (iblk m c 9 ⟨0,hn⟩) (iblk m c 10 ⟨0,hn⟩) (iblk m c 11 ⟨0,hn⟩) (iblk m c 12 ⟨0,hn⟩) (iblk m c 13 ⟨0,hn⟩), out0_A_23 c (grid0.coords ⟨0,hn⟩) (ms0_0 ⟨0,hn⟩) (hs0_0 ⟨0,hn⟩) (ms0_1 ⟨0,hn⟩) (hs0_1 ⟨0,hn⟩) (ms0_2 ⟨0,hn⟩) (hs0_2 ⟨0,hn⟩) (ms0_3 ⟨0,hn⟩) (hs0_3 ⟨0,hn⟩) (ms0_4 ⟨0,hn⟩) (hs0_4 ⟨0,hn⟩) (ms0_5 ⟨0,hn⟩) (hs0_5 ⟨0,hn⟩) (ms0_6 ⟨0,hn⟩) (hs0_6 ⟨0,hn⟩) (ms0_7 ⟨0,hn⟩) (hs0_7 ⟨0,hn⟩) (ms0_8 ⟨0,hn⟩) (hs0_8 ⟨0,hn⟩) (ms0_9 ⟨0,hn⟩) (hs0_9 ⟨0,hn⟩) (ms0_10 ⟨0,hn⟩) (hs0_10 ⟨0,hn⟩) (ms0_11 ⟨0,hn⟩) (hs0_11 ⟨0,hn⟩) (ms0_12 ⟨0,hn⟩) (hs0_12 ⟨0,hn⟩) (ms0_13 ⟨0,hn⟩) (hs0_13 ⟨0,hn⟩) (ms0_14 ⟨0,hn⟩) (hs0_14 ⟨0,hn⟩) (ms0_15 ⟨0,hn⟩) (hs0_15 ⟨0,hn⟩) (ms0_16 ⟨0,hn⟩) (hs0_16 ⟨0,hn⟩) (ms0_17 ⟨0,hn⟩) (hs0_17 ⟨0,hn⟩) (ms0_18 ⟨0,hn⟩) (hs0_18 ⟨0,hn⟩) (ms0_19 ⟨0,hn⟩) (hs0_19 ⟨0,hn⟩) (ms0_20 ⟨0,hn⟩) (hs0_20 ⟨0,hn⟩) (ms0_21 ⟨0,hn⟩) (hs0_21 ⟨0,hn⟩) (ms0_22 ⟨0,hn⟩) (hs0_22 ⟨0,hn⟩) (ms0_23 ⟨0,hn⟩) (hs0_23 ⟨0,hn⟩) scM0_0 (Memref.isWhole_whole _) ((hcond0_0 ⟨0,hn⟩).mpr (Nat.zero_mod _)) (iblk m c 0 ⟨0,hn⟩) (iblk m c 1 ⟨0,hn⟩) (iblk m c 2 ⟨0,hn⟩) (iblk m c 3 ⟨0,hn⟩) (iblk m c 4 ⟨0,hn⟩) (iblk m c 5 ⟨0,hn⟩) (iblk m c 6 ⟨0,hn⟩) (iblk m c 7 ⟨0,hn⟩) (iblk m c 8 ⟨0,hn⟩) (iblk m c 9 ⟨0,hn⟩) (iblk m c 10 ⟨0,hn⟩) (iblk m c 11 ⟨0,hn⟩) (iblk m c 12 ⟨0,hn⟩) (iblk m c 13 ⟨0,hn⟩), sout0_A_0 c (grid0.coords ⟨0,hn⟩) (ms0_0 ⟨0,hn⟩) (hs0_0 ⟨0,hn⟩) (ms0_1 ⟨0,hn⟩) (hs0_1 ⟨0,hn⟩) (ms0_2 ⟨0,hn⟩) (hs0_2 ⟨0,hn⟩) (ms0_3 ⟨0,hn⟩) (hs0_3 ⟨0,hn⟩) (ms0_4 ⟨0,hn⟩) (hs0_4 ⟨0,hn⟩) (ms0_5 ⟨0,hn⟩) (hs0_5 ⟨0,hn⟩) (ms0_6 ⟨0,hn⟩) (hs0_6 ⟨0,hn⟩) (ms0_7 ⟨0,hn⟩) (hs0_7 ⟨0,hn⟩) (ms0_8 ⟨0,hn⟩) (hs0_8 ⟨0,hn⟩) (ms0_9 ⟨0,hn⟩) (hs0_9 ⟨0,hn⟩) (ms0_10 ⟨0,hn⟩) (hs0_10 ⟨0,hn⟩) (ms0_11 ⟨0,hn⟩) (hs0_11 ⟨0,hn⟩) (ms0_12 ⟨0,hn⟩) (hs0_12 ⟨0,hn⟩) (ms0_13 ⟨0,hn⟩) (hs0_13 ⟨0,hn⟩) (ms0_14 ⟨0,hn⟩) (hs0_14 ⟨0,hn⟩) (ms0_15 ⟨0,hn⟩) (hs0_15 ⟨0,hn⟩) (ms0_16 ⟨0,hn⟩) (hs0_16 ⟨0,hn⟩) (ms0_17 ⟨0,hn⟩) (hs0_17 ⟨0,hn⟩) (ms0_18 ⟨0,hn⟩) (hs0_18 ⟨0,hn⟩) (ms0_19 ⟨0,hn⟩) (hs0_19 ⟨0,hn⟩) (ms0_20 ⟨0,hn⟩) (hs0_20 ⟨0,hn⟩) (ms0_21 ⟨0,hn⟩) (hs0_21 ⟨0,hn⟩) (ms0_22 ⟨0,hn⟩) (hs0_22 ⟨0,hn⟩) (ms0_23 ⟨0,hn⟩) (hs0_23 ⟨0,hn⟩) scM0_0 (Memref.isWhole_whole _) ((hcond0_0 ⟨0,hn⟩).mpr (Nat.zero_mod _)) (iblk m c 0 ⟨0,hn⟩) (iblk m c 1 ⟨0,hn⟩) (iblk m c 2 ⟨0,hn⟩) (iblk m c 3 ⟨0,hn⟩) (iblk m c 4 ⟨0,hn⟩) (iblk m c 5 ⟨0,hn⟩) (iblk m c 6 ⟨0,hn⟩) (iblk m c 7 ⟨0,hn⟩) (iblk m c 8 ⟨0,hn⟩) (iblk m c 9 ⟨0,hn⟩) (iblk m c 10 ⟨0,hn⟩) (iblk m c 11 ⟨0,hn⟩) (iblk m c 12 ⟨0,hn⟩) (iblk m c 13 ⟨0,hn⟩))
  | n + 1, hn =>
    if h0 : (n + 1) % 65 = 0 then
      (out0_A_14 c (grid0.coords ⟨n+1,hn⟩) (ms0_0 ⟨n+1,hn⟩) (hs0_0 ⟨n+1,hn⟩) (ms0_1 ⟨n+1,hn⟩) (hs0_1 ⟨n+1,hn⟩) (ms0_2 ⟨n+1,hn⟩) (hs0_2 ⟨n+1,hn⟩) (ms0_3 ⟨n+1,hn⟩) (hs0_3 ⟨n+1,hn⟩) (ms0_4 ⟨n+1,hn⟩) (hs0_4 ⟨n+1,hn⟩) (ms0_5 ⟨n+1,hn⟩) (hs0_5 ⟨n+1,hn⟩) (ms0_6 ⟨n+1,hn⟩) (hs0_6 ⟨n+1,hn⟩) (ms0_7 ⟨n+1,hn⟩) (hs0_7 ⟨n+1,hn⟩) (ms0_8 ⟨n+1,hn⟩) (hs0_8 ⟨n+1,hn⟩) (ms0_9 ⟨n+1,hn⟩) (hs0_9 ⟨n+1,hn⟩) (ms0_10 ⟨n+1,hn⟩) (hs0_10 ⟨n+1,hn⟩) (ms0_11 ⟨n+1,hn⟩) (hs0_11 ⟨n+1,hn⟩) (ms0_12 ⟨n+1,hn⟩) (hs0_12 ⟨n+1,hn⟩) (ms0_13 ⟨n+1,hn⟩) (hs0_13 ⟨n+1,hn⟩) (ms0_14 ⟨n+1,hn⟩) (hs0_14 ⟨n+1,hn⟩) (ms0_15 ⟨n+1,hn⟩) (hs0_15 ⟨n+1,hn⟩) (ms0_16 ⟨n+1,hn⟩) (hs0_16 ⟨n+1,hn⟩) (ms0_17 ⟨n+1,hn⟩) (hs0_17 ⟨n+1,hn⟩) (ms0_18 ⟨n+1,hn⟩) (hs0_18 ⟨n+1,hn⟩) (ms0_19 ⟨n+1,hn⟩) (hs0_19 ⟨n+1,hn⟩) (ms0_20 ⟨n+1,hn⟩) (hs0_20 ⟨n+1,hn⟩) (ms0_21 ⟨n+1,hn⟩) (hs0_21 ⟨n+1,hn⟩) (ms0_22 ⟨n+1,hn⟩) (hs0_22 ⟨n+1,hn⟩) (ms0_23 ⟨n+1,hn⟩) (hs0_23 ⟨n+1,hn⟩) scM0_0 (Memref.isWhole_whole _) ((hcond0_0 ⟨n+1,hn⟩).mpr h0) (iblk m c 0 ⟨n+1,hn⟩) (iblk m c 1 ⟨n+1,hn⟩) (iblk m c 2 ⟨n+1,hn⟩) (iblk m c 3 ⟨n+1,hn⟩) (iblk m c 4 ⟨n+1,hn⟩) (iblk m c 5 ⟨n+1,hn⟩) (iblk m c 6 ⟨n+1,hn⟩) (iblk m c 7 ⟨n+1,hn⟩) (iblk m c 8 ⟨n+1,hn⟩) (iblk m c 9 ⟨n+1,hn⟩) (iblk m c 10 ⟨n+1,hn⟩) (iblk m c 11 ⟨n+1,hn⟩) (iblk m c 12 ⟨n+1,hn⟩) (iblk m c 13 ⟨n+1,hn⟩), out0_A_15 c (grid0.coords ⟨n+1,hn⟩) (ms0_0 ⟨n+1,hn⟩) (hs0_0 ⟨n+1,hn⟩) (ms0_1 ⟨n+1,hn⟩) (hs0_1 ⟨n+1,hn⟩) (ms0_2 ⟨n+1,hn⟩) (hs0_2 ⟨n+1,hn⟩) (ms0_3 ⟨n+1,hn⟩) (hs0_3 ⟨n+1,hn⟩) (ms0_4 ⟨n+1,hn⟩) (hs0_4 ⟨n+1,hn⟩) (ms0_5 ⟨n+1,hn⟩) (hs0_5 ⟨n+1,hn⟩) (ms0_6 ⟨n+1,hn⟩) (hs0_6 ⟨n+1,hn⟩) (ms0_7 ⟨n+1,hn⟩) (hs0_7 ⟨n+1,hn⟩) (ms0_8 ⟨n+1,hn⟩) (hs0_8 ⟨n+1,hn⟩) (ms0_9 ⟨n+1,hn⟩) (hs0_9 ⟨n+1,hn⟩) (ms0_10 ⟨n+1,hn⟩) (hs0_10 ⟨n+1,hn⟩) (ms0_11 ⟨n+1,hn⟩) (hs0_11 ⟨n+1,hn⟩) (ms0_12 ⟨n+1,hn⟩) (hs0_12 ⟨n+1,hn⟩) (ms0_13 ⟨n+1,hn⟩) (hs0_13 ⟨n+1,hn⟩) (ms0_14 ⟨n+1,hn⟩) (hs0_14 ⟨n+1,hn⟩) (ms0_15 ⟨n+1,hn⟩) (hs0_15 ⟨n+1,hn⟩) (ms0_16 ⟨n+1,hn⟩) (hs0_16 ⟨n+1,hn⟩) (ms0_17 ⟨n+1,hn⟩) (hs0_17 ⟨n+1,hn⟩) (ms0_18 ⟨n+1,hn⟩) (hs0_18 ⟨n+1,hn⟩) (ms0_19 ⟨n+1,hn⟩) (hs0_19 ⟨n+1,hn⟩) (ms0_20 ⟨n+1,hn⟩) (hs0_20 ⟨n+1,hn⟩) (ms0_21 ⟨n+1,hn⟩) (hs0_21 ⟨n+1,hn⟩) (ms0_22 ⟨n+1,hn⟩) (hs0_22 ⟨n+1,hn⟩) (ms0_23 ⟨n+1,hn⟩) (hs0_23 ⟨n+1,hn⟩) scM0_0 (Memref.isWhole_whole _) ((hcond0_0 ⟨n+1,hn⟩).mpr h0) (iblk m c 0 ⟨n+1,hn⟩) (iblk m c 1 ⟨n+1,hn⟩) (iblk m c 2 ⟨n+1,hn⟩) (iblk m c 3 ⟨n+1,hn⟩) (iblk m c 4 ⟨n+1,hn⟩) (iblk m c 5 ⟨n+1,hn⟩) (iblk m c 6 ⟨n+1,hn⟩) (iblk m c 7 ⟨n+1,hn⟩) (iblk m c 8 ⟨n+1,hn⟩) (iblk m c 9 ⟨n+1,hn⟩) (iblk m c 10 ⟨n+1,hn⟩) (iblk m c 11 ⟨n+1,hn⟩) (iblk m c 12 ⟨n+1,hn⟩) (iblk m c 13 ⟨n+1,hn⟩), out0_A_16 c (grid0.coords ⟨n+1,hn⟩) (ms0_0 ⟨n+1,hn⟩) (hs0_0 ⟨n+1,hn⟩) (ms0_1 ⟨n+1,hn⟩) (hs0_1 ⟨n+1,hn⟩) (ms0_2 ⟨n+1,hn⟩) (hs0_2 ⟨n+1,hn⟩) (ms0_3 ⟨n+1,hn⟩) (hs0_3 ⟨n+1,hn⟩) (ms0_4 ⟨n+1,hn⟩) (hs0_4 ⟨n+1,hn⟩) (ms0_5 ⟨n+1,hn⟩) (hs0_5 ⟨n+1,hn⟩) (ms0_6 ⟨n+1,hn⟩) (hs0_6 ⟨n+1,hn⟩) (ms0_7 ⟨n+1,hn⟩) (hs0_7 ⟨n+1,hn⟩) (ms0_8 ⟨n+1,hn⟩) (hs0_8 ⟨n+1,hn⟩) (ms0_9 ⟨n+1,hn⟩) (hs0_9 ⟨n+1,hn⟩) (ms0_10 ⟨n+1,hn⟩) (hs0_10 ⟨n+1,hn⟩) (ms0_11 ⟨n+1,hn⟩) (hs0_11 ⟨n+1,hn⟩) (ms0_12 ⟨n+1,hn⟩) (hs0_12 ⟨n+1,hn⟩) (ms0_13 ⟨n+1,hn⟩) (hs0_13 ⟨n+1,hn⟩) (ms0_14 ⟨n+1,hn⟩) (hs0_14 ⟨n+1,hn⟩) (ms0_15 ⟨n+1,hn⟩) (hs0_15 ⟨n+1,hn⟩) (ms0_16 ⟨n+1,hn⟩) (hs0_16 ⟨n+1,hn⟩) (ms0_17 ⟨n+1,hn⟩) (hs0_17 ⟨n+1,hn⟩) (ms0_18 ⟨n+1,hn⟩) (hs0_18 ⟨n+1,hn⟩) (ms0_19 ⟨n+1,hn⟩) (hs0_19 ⟨n+1,hn⟩) (ms0_20 ⟨n+1,hn⟩) (hs0_20 ⟨n+1,hn⟩) (ms0_21 ⟨n+1,hn⟩) (hs0_21 ⟨n+1,hn⟩) (ms0_22 ⟨n+1,hn⟩) (hs0_22 ⟨n+1,hn⟩) (ms0_23 ⟨n+1,hn⟩) (hs0_23 ⟨n+1,hn⟩) scM0_0 (Memref.isWhole_whole _) ((hcond0_0 ⟨n+1,hn⟩).mpr h0) (iblk m c 0 ⟨n+1,hn⟩) (iblk m c 1 ⟨n+1,hn⟩) (iblk m c 2 ⟨n+1,hn⟩) (iblk m c 3 ⟨n+1,hn⟩) (iblk m c 4 ⟨n+1,hn⟩) (iblk m c 5 ⟨n+1,hn⟩) (iblk m c 6 ⟨n+1,hn⟩) (iblk m c 7 ⟨n+1,hn⟩) (iblk m c 8 ⟨n+1,hn⟩) (iblk m c 9 ⟨n+1,hn⟩) (iblk m c 10 ⟨n+1,hn⟩) (iblk m c 11 ⟨n+1,hn⟩) (iblk m c 12 ⟨n+1,hn⟩) (iblk m c 13 ⟨n+1,hn⟩), out0_A_17 c (grid0.coords ⟨n+1,hn⟩) (ms0_0 ⟨n+1,hn⟩) (hs0_0 ⟨n+1,hn⟩) (ms0_1 ⟨n+1,hn⟩) (hs0_1 ⟨n+1,hn⟩) (ms0_2 ⟨n+1,hn⟩) (hs0_2 ⟨n+1,hn⟩) (ms0_3 ⟨n+1,hn⟩) (hs0_3 ⟨n+1,hn⟩) (ms0_4 ⟨n+1,hn⟩) (hs0_4 ⟨n+1,hn⟩) (ms0_5 ⟨n+1,hn⟩) (hs0_5 ⟨n+1,hn⟩) (ms0_6 ⟨n+1,hn⟩) (hs0_6 ⟨n+1,hn⟩) (ms0_7 ⟨n+1,hn⟩) (hs0_7 ⟨n+1,hn⟩) (ms0_8 ⟨n+1,hn⟩) (hs0_8 ⟨n+1,hn⟩) (ms0_9 ⟨n+1,hn⟩) (hs0_9 ⟨n+1,hn⟩) (ms0_10 ⟨n+1,hn⟩) (hs0_10 ⟨n+1,hn⟩) (ms0_11 ⟨n+1,hn⟩) (hs0_11 ⟨n+1,hn⟩) (ms0_12 ⟨n+1,hn⟩) (hs0_12 ⟨n+1,hn⟩) (ms0_13 ⟨n+1,hn⟩) (hs0_13 ⟨n+1,hn⟩) (ms0_14 ⟨n+1,hn⟩) (hs0_14 ⟨n+1,hn⟩) (ms0_15 ⟨n+1,hn⟩) (hs0_15 ⟨n+1,hn⟩) (ms0_16 ⟨n+1,hn⟩) (hs0_16 ⟨n+1,hn⟩) (ms0_17 ⟨n+1,hn⟩) (hs0_17 ⟨n+1,hn⟩) (ms0_18 ⟨n+1,hn⟩) (hs0_18 ⟨n+1,hn⟩) (ms0_19 ⟨n+1,hn⟩) (hs0_19 ⟨n+1,hn⟩) (ms0_20 ⟨n+1,hn⟩) (hs0_20 ⟨n+1,hn⟩) (ms0_21 ⟨n+1,hn⟩) (hs0_21 ⟨n+1,hn⟩) (ms0_22 ⟨n+1,hn⟩) (hs0_22 ⟨n+1,hn⟩) (ms0_23 ⟨n+1,hn⟩) (hs0_23 ⟨n+1,hn⟩) scM0_0 (Memref.isWhole_whole _) ((hcond0_0 ⟨n+1,hn⟩).mpr h0) (iblk m c 0 ⟨n+1,hn⟩) (iblk m c 1 ⟨n+1,hn⟩) (iblk m c 2 ⟨n+1,hn⟩) (iblk m c 3 ⟨n+1,hn⟩) (iblk m c 4 ⟨n+1,hn⟩) (iblk m c 5 ⟨n+1,hn⟩) (iblk m c 6 ⟨n+1,hn⟩) (iblk m c 7 ⟨n+1,hn⟩) (iblk m c 8 ⟨n+1,hn⟩) (iblk m c 9 ⟨n+1,hn⟩) (iblk m c 10 ⟨n+1,hn⟩) (iblk m c 11 ⟨n+1,hn⟩) (iblk m c 12 ⟨n+1,hn⟩) (iblk m c 13 ⟨n+1,hn⟩), out0_A_18 c (grid0.coords ⟨n+1,hn⟩) (ms0_0 ⟨n+1,hn⟩) (hs0_0 ⟨n+1,hn⟩) (ms0_1 ⟨n+1,hn⟩) (hs0_1 ⟨n+1,hn⟩) (ms0_2 ⟨n+1,hn⟩) (hs0_2 ⟨n+1,hn⟩) (ms0_3 ⟨n+1,hn⟩) (hs0_3 ⟨n+1,hn⟩) (ms0_4 ⟨n+1,hn⟩) (hs0_4 ⟨n+1,hn⟩) (ms0_5 ⟨n+1,hn⟩) (hs0_5 ⟨n+1,hn⟩) (ms0_6 ⟨n+1,hn⟩) (hs0_6 ⟨n+1,hn⟩) (ms0_7 ⟨n+1,hn⟩) (hs0_7 ⟨n+1,hn⟩) (ms0_8 ⟨n+1,hn⟩) (hs0_8 ⟨n+1,hn⟩) (ms0_9 ⟨n+1,hn⟩) (hs0_9 ⟨n+1,hn⟩) (ms0_10 ⟨n+1,hn⟩) (hs0_10 ⟨n+1,hn⟩) (ms0_11 ⟨n+1,hn⟩) (hs0_11 ⟨n+1,hn⟩) (ms0_12 ⟨n+1,hn⟩) (hs0_12 ⟨n+1,hn⟩) (ms0_13 ⟨n+1,hn⟩) (hs0_13 ⟨n+1,hn⟩) (ms0_14 ⟨n+1,hn⟩) (hs0_14 ⟨n+1,hn⟩) (ms0_15 ⟨n+1,hn⟩) (hs0_15 ⟨n+1,hn⟩) (ms0_16 ⟨n+1,hn⟩) (hs0_16 ⟨n+1,hn⟩) (ms0_17 ⟨n+1,hn⟩) (hs0_17 ⟨n+1,hn⟩) (ms0_18 ⟨n+1,hn⟩) (hs0_18 ⟨n+1,hn⟩) (ms0_19 ⟨n+1,hn⟩) (hs0_19 ⟨n+1,hn⟩) (ms0_20 ⟨n+1,hn⟩) (hs0_20 ⟨n+1,hn⟩) (ms0_21 ⟨n+1,hn⟩) (hs0_21 ⟨n+1,hn⟩) (ms0_22 ⟨n+1,hn⟩) (hs0_22 ⟨n+1,hn⟩) (ms0_23 ⟨n+1,hn⟩) (hs0_23 ⟨n+1,hn⟩) scM0_0 (Memref.isWhole_whole _) ((hcond0_0 ⟨n+1,hn⟩).mpr h0) (iblk m c 0 ⟨n+1,hn⟩) (iblk m c 1 ⟨n+1,hn⟩) (iblk m c 2 ⟨n+1,hn⟩) (iblk m c 3 ⟨n+1,hn⟩) (iblk m c 4 ⟨n+1,hn⟩) (iblk m c 5 ⟨n+1,hn⟩) (iblk m c 6 ⟨n+1,hn⟩) (iblk m c 7 ⟨n+1,hn⟩) (iblk m c 8 ⟨n+1,hn⟩) (iblk m c 9 ⟨n+1,hn⟩) (iblk m c 10 ⟨n+1,hn⟩) (iblk m c 11 ⟨n+1,hn⟩) (iblk m c 12 ⟨n+1,hn⟩) (iblk m c 13 ⟨n+1,hn⟩), out0_A_19 c (grid0.coords ⟨n+1,hn⟩) (ms0_0 ⟨n+1,hn⟩) (hs0_0 ⟨n+1,hn⟩) (ms0_1 ⟨n+1,hn⟩) (hs0_1 ⟨n+1,hn⟩) (ms0_2 ⟨n+1,hn⟩) (hs0_2 ⟨n+1,hn⟩) (ms0_3 ⟨n+1,hn⟩) (hs0_3 ⟨n+1,hn⟩) (ms0_4 ⟨n+1,hn⟩) (hs0_4 ⟨n+1,hn⟩) (ms0_5 ⟨n+1,hn⟩) (hs0_5 ⟨n+1,hn⟩) (ms0_6 ⟨n+1,hn⟩) (hs0_6 ⟨n+1,hn⟩) (ms0_7 ⟨n+1,hn⟩) (hs0_7 ⟨n+1,hn⟩) (ms0_8 ⟨n+1,hn⟩) (hs0_8 ⟨n+1,hn⟩) (ms0_9 ⟨n+1,hn⟩) (hs0_9 ⟨n+1,hn⟩) (ms0_10 ⟨n+1,hn⟩) (hs0_10 ⟨n+1,hn⟩) (ms0_11 ⟨n+1,hn⟩) (hs0_11 ⟨n+1,hn⟩) (ms0_12 ⟨n+1,hn⟩) (hs0_12 ⟨n+1,hn⟩) (ms0_13 ⟨n+1,hn⟩) (hs0_13 ⟨n+1,hn⟩) (ms0_14 ⟨n+1,hn⟩) (hs0_14 ⟨n+1,hn⟩) (ms0_15 ⟨n+1,hn⟩) (hs0_15 ⟨n+1,hn⟩) (ms0_16 ⟨n+1,hn⟩) (hs0_16 ⟨n+1,hn⟩) (ms0_17 ⟨n+1,hn⟩) (hs0_17 ⟨n+1,hn⟩) (ms0_18 ⟨n+1,hn⟩) (hs0_18 ⟨n+1,hn⟩) (ms0_19 ⟨n+1,hn⟩) (hs0_19 ⟨n+1,hn⟩) (ms0_20 ⟨n+1,hn⟩) (hs0_20 ⟨n+1,hn⟩) (ms0_21 ⟨n+1,hn⟩) (hs0_21 ⟨n+1,hn⟩) (ms0_22 ⟨n+1,hn⟩) (hs0_22 ⟨n+1,hn⟩) (ms0_23 ⟨n+1,hn⟩) (hs0_23 ⟨n+1,hn⟩) scM0_0 (Memref.isWhole_whole _) ((hcond0_0 ⟨n+1,hn⟩).mpr h0) (iblk m c 0 ⟨n+1,hn⟩) (iblk m c 1 ⟨n+1,hn⟩) (iblk m c 2 ⟨n+1,hn⟩) (iblk m c 3 ⟨n+1,hn⟩) (iblk m c 4 ⟨n+1,hn⟩) (iblk m c 5 ⟨n+1,hn⟩) (iblk m c 6 ⟨n+1,hn⟩) (iblk m c 7 ⟨n+1,hn⟩) (iblk m c 8 ⟨n+1,hn⟩) (iblk m c 9 ⟨n+1,hn⟩) (iblk m c 10 ⟨n+1,hn⟩) (iblk m c 11 ⟨n+1,hn⟩) (iblk m c 12 ⟨n+1,hn⟩) (iblk m c 13 ⟨n+1,hn⟩), out0_A_20 c (grid0.coords ⟨n+1,hn⟩) (ms0_0 ⟨n+1,hn⟩) (hs0_0 ⟨n+1,hn⟩) (ms0_1 ⟨n+1,hn⟩) (hs0_1 ⟨n+1,hn⟩) (ms0_2 ⟨n+1,hn⟩) (hs0_2 ⟨n+1,hn⟩) (ms0_3 ⟨n+1,hn⟩) (hs0_3 ⟨n+1,hn⟩) (ms0_4 ⟨n+1,hn⟩) (hs0_4 ⟨n+1,hn⟩) (ms0_5 ⟨n+1,hn⟩) (hs0_5 ⟨n+1,hn⟩) (ms0_6 ⟨n+1,hn⟩) (hs0_6 ⟨n+1,hn⟩) (ms0_7 ⟨n+1,hn⟩) (hs0_7 ⟨n+1,hn⟩) (ms0_8 ⟨n+1,hn⟩) (hs0_8 ⟨n+1,hn⟩) (ms0_9 ⟨n+1,hn⟩) (hs0_9 ⟨n+1,hn⟩) (ms0_10 ⟨n+1,hn⟩) (hs0_10 ⟨n+1,hn⟩) (ms0_11 ⟨n+1,hn⟩) (hs0_11 ⟨n+1,hn⟩) (ms0_12 ⟨n+1,hn⟩) (hs0_12 ⟨n+1,hn⟩) (ms0_13 ⟨n+1,hn⟩) (hs0_13 ⟨n+1,hn⟩) (ms0_14 ⟨n+1,hn⟩) (hs0_14 ⟨n+1,hn⟩) (ms0_15 ⟨n+1,hn⟩) (hs0_15 ⟨n+1,hn⟩) (ms0_16 ⟨n+1,hn⟩) (hs0_16 ⟨n+1,hn⟩) (ms0_17 ⟨n+1,hn⟩) (hs0_17 ⟨n+1,hn⟩) (ms0_18 ⟨n+1,hn⟩) (hs0_18 ⟨n+1,hn⟩) (ms0_19 ⟨n+1,hn⟩) (hs0_19 ⟨n+1,hn⟩) (ms0_20 ⟨n+1,hn⟩) (hs0_20 ⟨n+1,hn⟩) (ms0_21 ⟨n+1,hn⟩) (hs0_21 ⟨n+1,hn⟩) (ms0_22 ⟨n+1,hn⟩) (hs0_22 ⟨n+1,hn⟩) (ms0_23 ⟨n+1,hn⟩) (hs0_23 ⟨n+1,hn⟩) scM0_0 (Memref.isWhole_whole _) ((hcond0_0 ⟨n+1,hn⟩).mpr h0) (iblk m c 0 ⟨n+1,hn⟩) (iblk m c 1 ⟨n+1,hn⟩) (iblk m c 2 ⟨n+1,hn⟩) (iblk m c 3 ⟨n+1,hn⟩) (iblk m c 4 ⟨n+1,hn⟩) (iblk m c 5 ⟨n+1,hn⟩) (iblk m c 6 ⟨n+1,hn⟩) (iblk m c 7 ⟨n+1,hn⟩) (iblk m c 8 ⟨n+1,hn⟩) (iblk m c 9 ⟨n+1,hn⟩) (iblk m c 10 ⟨n+1,hn⟩) (iblk m c 11 ⟨n+1,hn⟩) (iblk m c 12 ⟨n+1,hn⟩) (iblk m c 13 ⟨n+1,hn⟩), out0_A_21 c (grid0.coords ⟨n+1,hn⟩) (ms0_0 ⟨n+1,hn⟩) (hs0_0 ⟨n+1,hn⟩) (ms0_1 ⟨n+1,hn⟩) (hs0_1 ⟨n+1,hn⟩) (ms0_2 ⟨n+1,hn⟩) (hs0_2 ⟨n+1,hn⟩) (ms0_3 ⟨n+1,hn⟩) (hs0_3 ⟨n+1,hn⟩) (ms0_4 ⟨n+1,hn⟩) (hs0_4 ⟨n+1,hn⟩) (ms0_5 ⟨n+1,hn⟩) (hs0_5 ⟨n+1,hn⟩) (ms0_6 ⟨n+1,hn⟩) (hs0_6 ⟨n+1,hn⟩) (ms0_7 ⟨n+1,hn⟩) (hs0_7 ⟨n+1,hn⟩) (ms0_8 ⟨n+1,hn⟩) (hs0_8 ⟨n+1,hn⟩) (ms0_9 ⟨n+1,hn⟩) (hs0_9 ⟨n+1,hn⟩) (ms0_10 ⟨n+1,hn⟩) (hs0_10 ⟨n+1,hn⟩) (ms0_11 ⟨n+1,hn⟩) (hs0_11 ⟨n+1,hn⟩) (ms0_12 ⟨n+1,hn⟩) (hs0_12 ⟨n+1,hn⟩) (ms0_13 ⟨n+1,hn⟩) (hs0_13 ⟨n+1,hn⟩) (ms0_14 ⟨n+1,hn⟩) (hs0_14 ⟨n+1,hn⟩) (ms0_15 ⟨n+1,hn⟩) (hs0_15 ⟨n+1,hn⟩) (ms0_16 ⟨n+1,hn⟩) (hs0_16 ⟨n+1,hn⟩) (ms0_17 ⟨n+1,hn⟩) (hs0_17 ⟨n+1,hn⟩) (ms0_18 ⟨n+1,hn⟩) (hs0_18 ⟨n+1,hn⟩) (ms0_19 ⟨n+1,hn⟩) (hs0_19 ⟨n+1,hn⟩) (ms0_20 ⟨n+1,hn⟩) (hs0_20 ⟨n+1,hn⟩) (ms0_21 ⟨n+1,hn⟩) (hs0_21 ⟨n+1,hn⟩) (ms0_22 ⟨n+1,hn⟩) (hs0_22 ⟨n+1,hn⟩) (ms0_23 ⟨n+1,hn⟩) (hs0_23 ⟨n+1,hn⟩) scM0_0 (Memref.isWhole_whole _) ((hcond0_0 ⟨n+1,hn⟩).mpr h0) (iblk m c 0 ⟨n+1,hn⟩) (iblk m c 1 ⟨n+1,hn⟩) (iblk m c 2 ⟨n+1,hn⟩) (iblk m c 3 ⟨n+1,hn⟩) (iblk m c 4 ⟨n+1,hn⟩) (iblk m c 5 ⟨n+1,hn⟩) (iblk m c 6 ⟨n+1,hn⟩) (iblk m c 7 ⟨n+1,hn⟩) (iblk m c 8 ⟨n+1,hn⟩) (iblk m c 9 ⟨n+1,hn⟩) (iblk m c 10 ⟨n+1,hn⟩) (iblk m c 11 ⟨n+1,hn⟩) (iblk m c 12 ⟨n+1,hn⟩) (iblk m c 13 ⟨n+1,hn⟩), out0_A_22 c (grid0.coords ⟨n+1,hn⟩) (ms0_0 ⟨n+1,hn⟩) (hs0_0 ⟨n+1,hn⟩) (ms0_1 ⟨n+1,hn⟩) (hs0_1 ⟨n+1,hn⟩) (ms0_2 ⟨n+1,hn⟩) (hs0_2 ⟨n+1,hn⟩) (ms0_3 ⟨n+1,hn⟩) (hs0_3 ⟨n+1,hn⟩) (ms0_4 ⟨n+1,hn⟩) (hs0_4 ⟨n+1,hn⟩) (ms0_5 ⟨n+1,hn⟩) (hs0_5 ⟨n+1,hn⟩) (ms0_6 ⟨n+1,hn⟩) (hs0_6 ⟨n+1,hn⟩) (ms0_7 ⟨n+1,hn⟩) (hs0_7 ⟨n+1,hn⟩) (ms0_8 ⟨n+1,hn⟩) (hs0_8 ⟨n+1,hn⟩) (ms0_9 ⟨n+1,hn⟩) (hs0_9 ⟨n+1,hn⟩) (ms0_10 ⟨n+1,hn⟩) (hs0_10 ⟨n+1,hn⟩) (ms0_11 ⟨n+1,hn⟩) (hs0_11 ⟨n+1,hn⟩) (ms0_12 ⟨n+1,hn⟩) (hs0_12 ⟨n+1,hn⟩) (ms0_13 ⟨n+1,hn⟩) (hs0_13 ⟨n+1,hn⟩) (ms0_14 ⟨n+1,hn⟩) (hs0_14 ⟨n+1,hn⟩) (ms0_15 ⟨n+1,hn⟩) (hs0_15 ⟨n+1,hn⟩) (ms0_16 ⟨n+1,hn⟩) (hs0_16 ⟨n+1,hn⟩) (ms0_17 ⟨n+1,hn⟩) (hs0_17 ⟨n+1,hn⟩) (ms0_18 ⟨n+1,hn⟩) (hs0_18 ⟨n+1,hn⟩) (ms0_19 ⟨n+1,hn⟩) (hs0_19 ⟨n+1,hn⟩) (ms0_20 ⟨n+1,hn⟩) (hs0_20 ⟨n+1,hn⟩) (ms0_21 ⟨n+1,hn⟩) (hs0_21 ⟨n+1,hn⟩) (ms0_22 ⟨n+1,hn⟩) (hs0_22 ⟨n+1,hn⟩) (ms0_23 ⟨n+1,hn⟩) (hs0_23 ⟨n+1,hn⟩) scM0_0 (Memref.isWhole_whole _) ((hcond0_0 ⟨n+1,hn⟩).mpr h0) (iblk m c 0 ⟨n+1,hn⟩) (iblk m c 1 ⟨n+1,hn⟩) (iblk m c 2 ⟨n+1,hn⟩) (iblk m c 3 ⟨n+1,hn⟩) (iblk m c 4 ⟨n+1,hn⟩) (iblk m c 5 ⟨n+1,hn⟩) (iblk m c 6 ⟨n+1,hn⟩) (iblk m c 7 ⟨n+1,hn⟩) (iblk m c 8 ⟨n+1,hn⟩) (iblk m c 9 ⟨n+1,hn⟩) (iblk m c 10 ⟨n+1,hn⟩) (iblk m c 11 ⟨n+1,hn⟩) (iblk m c 12 ⟨n+1,hn⟩) (iblk m c 13 ⟨n+1,hn⟩), out0_A_23 c (grid0.coords ⟨n+1,hn⟩) (ms0_0 ⟨n+1,hn⟩) (hs0_0 ⟨n+1,hn⟩) (ms0_1 ⟨n+1,hn⟩) (hs0_1 ⟨n+1,hn⟩) (ms0_2 ⟨n+1,hn⟩) (hs0_2 ⟨n+1,hn⟩) (ms0_3 ⟨n+1,hn⟩) (hs0_3 ⟨n+1,hn⟩) (ms0_4 ⟨n+1,hn⟩) (hs0_4 ⟨n+1,hn⟩) (ms0_5 ⟨n+1,hn⟩) (hs0_5 ⟨n+1,hn⟩) (ms0_6 ⟨n+1,hn⟩) (hs0_6 ⟨n+1,hn⟩) (ms0_7 ⟨n+1,hn⟩) (hs0_7 ⟨n+1,hn⟩) (ms0_8 ⟨n+1,hn⟩) (hs0_8 ⟨n+1,hn⟩) (ms0_9 ⟨n+1,hn⟩) (hs0_9 ⟨n+1,hn⟩) (ms0_10 ⟨n+1,hn⟩) (hs0_10 ⟨n+1,hn⟩) (ms0_11 ⟨n+1,hn⟩) (hs0_11 ⟨n+1,hn⟩) (ms0_12 ⟨n+1,hn⟩) (hs0_12 ⟨n+1,hn⟩) (ms0_13 ⟨n+1,hn⟩) (hs0_13 ⟨n+1,hn⟩) (ms0_14 ⟨n+1,hn⟩) (hs0_14 ⟨n+1,hn⟩) (ms0_15 ⟨n+1,hn⟩) (hs0_15 ⟨n+1,hn⟩) (ms0_16 ⟨n+1,hn⟩) (hs0_16 ⟨n+1,hn⟩) (ms0_17 ⟨n+1,hn⟩) (hs0_17 ⟨n+1,hn⟩) (ms0_18 ⟨n+1,hn⟩) (hs0_18 ⟨n+1,hn⟩) (ms0_19 ⟨n+1,hn⟩) (hs0_19 ⟨n+1,hn⟩) (ms0_20 ⟨n+1,hn⟩) (hs0_20 ⟨n+1,hn⟩) (ms0_21 ⟨n+1,hn⟩) (hs0_21 ⟨n+1,hn⟩) (ms0_22 ⟨n+1,hn⟩) (hs0_22 ⟨n+1,hn⟩) (ms0_23 ⟨n+1,hn⟩) (hs0_23 ⟨n+1,hn⟩) scM0_0 (Memref.isWhole_whole _) ((hcond0_0 ⟨n+1,hn⟩).mpr h0) (iblk m c 0 ⟨n+1,hn⟩) (iblk m c 1 ⟨n+1,hn⟩) (iblk m c 2 ⟨n+1,hn⟩) (iblk m c 3 ⟨n+1,hn⟩) (iblk m c 4 ⟨n+1,hn⟩) (iblk m c 5 ⟨n+1,hn⟩) (iblk m c 6 ⟨n+1,hn⟩) (iblk m c 7 ⟨n+1,hn⟩) (iblk m c 8 ⟨n+1,hn⟩) (iblk m c 9 ⟨n+1,hn⟩) (iblk m c 10 ⟨n+1,hn⟩) (iblk m c 11 ⟨n+1,hn⟩) (iblk m c 12 ⟨n+1,hn⟩) (iblk m c 13 ⟨n+1,hn⟩), sout0_A_0 c (grid0.coords ⟨n+1,hn⟩) (ms0_0 ⟨n+1,hn⟩) (hs0_0 ⟨n+1,hn⟩) (ms0_1 ⟨n+1,hn⟩) (hs0_1 ⟨n+1,hn⟩) (ms0_2 ⟨n+1,hn⟩) (hs0_2 ⟨n+1,hn⟩) (ms0_3 ⟨n+1,hn⟩) (hs0_3 ⟨n+1,hn⟩) (ms0_4 ⟨n+1,hn⟩) (hs0_4 ⟨n+1,hn⟩) (ms0_5 ⟨n+1,hn⟩) (hs0_5 ⟨n+1,hn⟩) (ms0_6 ⟨n+1,hn⟩) (hs0_6 ⟨n+1,hn⟩) (ms0_7 ⟨n+1,hn⟩) (hs0_7 ⟨n+1,hn⟩) (ms0_8 ⟨n+1,hn⟩) (hs0_8 ⟨n+1,hn⟩) (ms0_9 ⟨n+1,hn⟩) (hs0_9 ⟨n+1,hn⟩) (ms0_10 ⟨n+1,hn⟩) (hs0_10 ⟨n+1,hn⟩) (ms0_11 ⟨n+1,hn⟩) (hs0_11 ⟨n+1,hn⟩) (ms0_12 ⟨n+1,hn⟩) (hs0_12 ⟨n+1,hn⟩) (ms0_13 ⟨n+1,hn⟩) (hs0_13 ⟨n+1,hn⟩) (ms0_14 ⟨n+1,hn⟩) (hs0_14 ⟨n+1,hn⟩) (ms0_15 ⟨n+1,hn⟩) (hs0_15 ⟨n+1,hn⟩) (ms0_16 ⟨n+1,hn⟩) (hs0_16 ⟨n+1,hn⟩) (ms0_17 ⟨n+1,hn⟩) (hs0_17 ⟨n+1,hn⟩) (ms0_18 ⟨n+1,hn⟩) (hs0_18 ⟨n+1,hn⟩) (ms0_19 ⟨n+1,hn⟩) (hs0_19 ⟨n+1,hn⟩) (ms0_20 ⟨n+1,hn⟩) (hs0_20 ⟨n+1,hn⟩) (ms0_21 ⟨n+1,hn⟩) (hs0_21 ⟨n+1,hn⟩) (ms0_22 ⟨n+1,hn⟩) (hs0_22 ⟨n+1,hn⟩) (ms0_23 ⟨n+1,hn⟩) (hs0_23 ⟨n+1,hn⟩) scM0_0 (Memref.isWhole_whole _) ((hcond0_0 ⟨n+1,hn⟩).mpr h0) (iblk m c 0 ⟨n+1,hn⟩) (iblk m c 1 ⟨n+1,hn⟩) (iblk m c 2 ⟨n+1,hn⟩) (iblk m c 3 ⟨n+1,hn⟩) (iblk m c 4 ⟨n+1,hn⟩) (iblk m c 5 ⟨n+1,hn⟩) (iblk m c 6 ⟨n+1,hn⟩) (iblk m c 7 ⟨n+1,hn⟩) (iblk m c 8 ⟨n+1,hn⟩) (iblk m c 9 ⟨n+1,hn⟩) (iblk m c 10 ⟨n+1,hn⟩) (iblk m c 11 ⟨n+1,hn⟩) (iblk m c 12 ⟨n+1,hn⟩) (iblk m c 13 ⟨n+1,hn⟩))
    else
      (out0_B_14 c (grid0.coords ⟨n+1,hn⟩) (ms0_0 ⟨n+1,hn⟩) (hs0_0 ⟨n+1,hn⟩) (ms0_1 ⟨n+1,hn⟩) (hs0_1 ⟨n+1,hn⟩) (ms0_2 ⟨n+1,hn⟩) (hs0_2 ⟨n+1,hn⟩) (ms0_3 ⟨n+1,hn⟩) (hs0_3 ⟨n+1,hn⟩) (ms0_4 ⟨n+1,hn⟩) (hs0_4 ⟨n+1,hn⟩) (ms0_5 ⟨n+1,hn⟩) (hs0_5 ⟨n+1,hn⟩) (ms0_6 ⟨n+1,hn⟩) (hs0_6 ⟨n+1,hn⟩) (ms0_7 ⟨n+1,hn⟩) (hs0_7 ⟨n+1,hn⟩) (ms0_8 ⟨n+1,hn⟩) (hs0_8 ⟨n+1,hn⟩) (ms0_9 ⟨n+1,hn⟩) (hs0_9 ⟨n+1,hn⟩) (ms0_10 ⟨n+1,hn⟩) (hs0_10 ⟨n+1,hn⟩) (ms0_11 ⟨n+1,hn⟩) (hs0_11 ⟨n+1,hn⟩) (ms0_12 ⟨n+1,hn⟩) (hs0_12 ⟨n+1,hn⟩) (ms0_13 ⟨n+1,hn⟩) (hs0_13 ⟨n+1,hn⟩) (ms0_14 ⟨n+1,hn⟩) (hs0_14 ⟨n+1,hn⟩) (ms0_15 ⟨n+1,hn⟩) (hs0_15 ⟨n+1,hn⟩) (ms0_16 ⟨n+1,hn⟩) (hs0_16 ⟨n+1,hn⟩) (ms0_17 ⟨n+1,hn⟩) (hs0_17 ⟨n+1,hn⟩) (ms0_18 ⟨n+1,hn⟩) (hs0_18 ⟨n+1,hn⟩) (ms0_19 ⟨n+1,hn⟩) (hs0_19 ⟨n+1,hn⟩) (ms0_20 ⟨n+1,hn⟩) (hs0_20 ⟨n+1,hn⟩) (ms0_21 ⟨n+1,hn⟩) (hs0_21 ⟨n+1,hn⟩) (ms0_22 ⟨n+1,hn⟩) (hs0_22 ⟨n+1,hn⟩) (ms0_23 ⟨n+1,hn⟩) (hs0_23 ⟨n+1,hn⟩) scM0_0 (Memref.isWhole_whole _) (fun h => h0 ((hcond0_0 ⟨n+1,hn⟩).mp h)) (iblk m c 0 ⟨n+1,hn⟩) (iblk m c 1 ⟨n+1,hn⟩) (iblk m c 2 ⟨n+1,hn⟩) (iblk m c 3 ⟨n+1,hn⟩) (iblk m c 4 ⟨n+1,hn⟩) (iblk m c 5 ⟨n+1,hn⟩) (iblk m c 6 ⟨n+1,hn⟩) (iblk m c 7 ⟨n+1,hn⟩) (iblk m c 8 ⟨n+1,hn⟩) (iblk m c 9 ⟨n+1,hn⟩) (iblk m c 10 ⟨n+1,hn⟩) (iblk m c 11 ⟨n+1,hn⟩) (iblk m c 12 ⟨n+1,hn⟩) (iblk m c 13 ⟨n+1,hn⟩) (outsAt0 c n (Nat.lt_of_succ_lt hn)).2.2.2.2.2.2.2.2.2.2, out0_B_15 c (grid0.coords ⟨n+1,hn⟩) (ms0_0 ⟨n+1,hn⟩) (hs0_0 ⟨n+1,hn⟩) (ms0_1 ⟨n+1,hn⟩) (hs0_1 ⟨n+1,hn⟩) (ms0_2 ⟨n+1,hn⟩) (hs0_2 ⟨n+1,hn⟩) (ms0_3 ⟨n+1,hn⟩) (hs0_3 ⟨n+1,hn⟩) (ms0_4 ⟨n+1,hn⟩) (hs0_4 ⟨n+1,hn⟩) (ms0_5 ⟨n+1,hn⟩) (hs0_5 ⟨n+1,hn⟩) (ms0_6 ⟨n+1,hn⟩) (hs0_6 ⟨n+1,hn⟩) (ms0_7 ⟨n+1,hn⟩) (hs0_7 ⟨n+1,hn⟩) (ms0_8 ⟨n+1,hn⟩) (hs0_8 ⟨n+1,hn⟩) (ms0_9 ⟨n+1,hn⟩) (hs0_9 ⟨n+1,hn⟩) (ms0_10 ⟨n+1,hn⟩) (hs0_10 ⟨n+1,hn⟩) (ms0_11 ⟨n+1,hn⟩) (hs0_11 ⟨n+1,hn⟩) (ms0_12 ⟨n+1,hn⟩) (hs0_12 ⟨n+1,hn⟩) (ms0_13 ⟨n+1,hn⟩) (hs0_13 ⟨n+1,hn⟩) (ms0_14 ⟨n+1,hn⟩) (hs0_14 ⟨n+1,hn⟩) (ms0_15 ⟨n+1,hn⟩) (hs0_15 ⟨n+1,hn⟩) (ms0_16 ⟨n+1,hn⟩) (hs0_16 ⟨n+1,hn⟩) (ms0_17 ⟨n+1,hn⟩) (hs0_17 ⟨n+1,hn⟩) (ms0_18 ⟨n+1,hn⟩) (hs0_18 ⟨n+1,hn⟩) (ms0_19 ⟨n+1,hn⟩) (hs0_19 ⟨n+1,hn⟩) (ms0_20 ⟨n+1,hn⟩) (hs0_20 ⟨n+1,hn⟩) (ms0_21 ⟨n+1,hn⟩) (hs0_21 ⟨n+1,hn⟩) (ms0_22 ⟨n+1,hn⟩) (hs0_22 ⟨n+1,hn⟩) (ms0_23 ⟨n+1,hn⟩) (hs0_23 ⟨n+1,hn⟩) scM0_0 (Memref.isWhole_whole _) (fun h => h0 ((hcond0_0 ⟨n+1,hn⟩).mp h)) (iblk m c 0 ⟨n+1,hn⟩) (iblk m c 1 ⟨n+1,hn⟩) (iblk m c 2 ⟨n+1,hn⟩) (iblk m c 3 ⟨n+1,hn⟩) (iblk m c 4 ⟨n+1,hn⟩) (iblk m c 5 ⟨n+1,hn⟩) (iblk m c 6 ⟨n+1,hn⟩) (iblk m c 7 ⟨n+1,hn⟩) (iblk m c 8 ⟨n+1,hn⟩) (iblk m c 9 ⟨n+1,hn⟩) (iblk m c 10 ⟨n+1,hn⟩) (iblk m c 11 ⟨n+1,hn⟩) (iblk m c 12 ⟨n+1,hn⟩) (iblk m c 13 ⟨n+1,hn⟩) (outsAt0 c n (Nat.lt_of_succ_lt hn)).2.2.2.2.2.2.2.2.2.2, out0_B_16 c (grid0.coords ⟨n+1,hn⟩) (ms0_0 ⟨n+1,hn⟩) (hs0_0 ⟨n+1,hn⟩) (ms0_1 ⟨n+1,hn⟩) (hs0_1 ⟨n+1,hn⟩) (ms0_2 ⟨n+1,hn⟩) (hs0_2 ⟨n+1,hn⟩) (ms0_3 ⟨n+1,hn⟩) (hs0_3 ⟨n+1,hn⟩) (ms0_4 ⟨n+1,hn⟩) (hs0_4 ⟨n+1,hn⟩) (ms0_5 ⟨n+1,hn⟩) (hs0_5 ⟨n+1,hn⟩) (ms0_6 ⟨n+1,hn⟩) (hs0_6 ⟨n+1,hn⟩) (ms0_7 ⟨n+1,hn⟩) (hs0_7 ⟨n+1,hn⟩) (ms0_8 ⟨n+1,hn⟩) (hs0_8 ⟨n+1,hn⟩) (ms0_9 ⟨n+1,hn⟩) (hs0_9 ⟨n+1,hn⟩) (ms0_10 ⟨n+1,hn⟩) (hs0_10 ⟨n+1,hn⟩) (ms0_11 ⟨n+1,hn⟩) (hs0_11 ⟨n+1,hn⟩) (ms0_12 ⟨n+1,hn⟩) (hs0_12 ⟨n+1,hn⟩) (ms0_13 ⟨n+1,hn⟩) (hs0_13 ⟨n+1,hn⟩) (ms0_14 ⟨n+1,hn⟩) (hs0_14 ⟨n+1,hn⟩) (ms0_15 ⟨n+1,hn⟩) (hs0_15 ⟨n+1,hn⟩) (ms0_16 ⟨n+1,hn⟩) (hs0_16 ⟨n+1,hn⟩) (ms0_17 ⟨n+1,hn⟩) (hs0_17 ⟨n+1,hn⟩) (ms0_18 ⟨n+1,hn⟩) (hs0_18 ⟨n+1,hn⟩) (ms0_19 ⟨n+1,hn⟩) (hs0_19 ⟨n+1,hn⟩) (ms0_20 ⟨n+1,hn⟩) (hs0_20 ⟨n+1,hn⟩) (ms0_21 ⟨n+1,hn⟩) (hs0_21 ⟨n+1,hn⟩) (ms0_22 ⟨n+1,hn⟩) (hs0_22 ⟨n+1,hn⟩) (ms0_23 ⟨n+1,hn⟩) (hs0_23 ⟨n+1,hn⟩) scM0_0 (Memref.isWhole_whole _) (fun h => h0 ((hcond0_0 ⟨n+1,hn⟩).mp h)) (iblk m c 0 ⟨n+1,hn⟩) (iblk m c 1 ⟨n+1,hn⟩) (iblk m c 2 ⟨n+1,hn⟩) (iblk m c 3 ⟨n+1,hn⟩) (iblk m c 4 ⟨n+1,hn⟩) (iblk m c 5 ⟨n+1,hn⟩) (iblk m c 6 ⟨n+1,hn⟩) (iblk m c 7 ⟨n+1,hn⟩) (iblk m c 8 ⟨n+1,hn⟩) (iblk m c 9 ⟨n+1,hn⟩) (iblk m c 10 ⟨n+1,hn⟩) (iblk m c 11 ⟨n+1,hn⟩) (iblk m c 12 ⟨n+1,hn⟩) (iblk m c 13 ⟨n+1,hn⟩) (outsAt0 c n (Nat.lt_of_succ_lt hn)).2.2.2.2.2.2.2.2.2.2, out0_B_17 c (grid0.coords ⟨n+1,hn⟩) (ms0_0 ⟨n+1,hn⟩) (hs0_0 ⟨n+1,hn⟩) (ms0_1 ⟨n+1,hn⟩) (hs0_1 ⟨n+1,hn⟩) (ms0_2 ⟨n+1,hn⟩) (hs0_2 ⟨n+1,hn⟩) (ms0_3 ⟨n+1,hn⟩) (hs0_3 ⟨n+1,hn⟩) (ms0_4 ⟨n+1,hn⟩) (hs0_4 ⟨n+1,hn⟩) (ms0_5 ⟨n+1,hn⟩) (hs0_5 ⟨n+1,hn⟩) (ms0_6 ⟨n+1,hn⟩) (hs0_6 ⟨n+1,hn⟩) (ms0_7 ⟨n+1,hn⟩) (hs0_7 ⟨n+1,hn⟩) (ms0_8 ⟨n+1,hn⟩) (hs0_8 ⟨n+1,hn⟩) (ms0_9 ⟨n+1,hn⟩) (hs0_9 ⟨n+1,hn⟩) (ms0_10 ⟨n+1,hn⟩) (hs0_10 ⟨n+1,hn⟩) (ms0_11 ⟨n+1,hn⟩) (hs0_11 ⟨n+1,hn⟩) (ms0_12 ⟨n+1,hn⟩) (hs0_12 ⟨n+1,hn⟩) (ms0_13 ⟨n+1,hn⟩) (hs0_13 ⟨n+1,hn⟩) (ms0_14 ⟨n+1,hn⟩) (hs0_14 ⟨n+1,hn⟩) (ms0_15 ⟨n+1,hn⟩) (hs0_15 ⟨n+1,hn⟩) (ms0_16 ⟨n+1,hn⟩) (hs0_16 ⟨n+1,hn⟩) (ms0_17 ⟨n+1,hn⟩) (hs0_17 ⟨n+1,hn⟩) (ms0_18 ⟨n+1,hn⟩) (hs0_18 ⟨n+1,hn⟩) (ms0_19 ⟨n+1,hn⟩) (hs0_19 ⟨n+1,hn⟩) (ms0_20 ⟨n+1,hn⟩) (hs0_20 ⟨n+1,hn⟩) (ms0_21 ⟨n+1,hn⟩) (hs0_21 ⟨n+1,hn⟩) (ms0_22 ⟨n+1,hn⟩) (hs0_22 ⟨n+1,hn⟩) (ms0_23 ⟨n+1,hn⟩) (hs0_23 ⟨n+1,hn⟩) scM0_0 (Memref.isWhole_whole _) (fun h => h0 ((hcond0_0 ⟨n+1,hn⟩).mp h)) (iblk m c 0 ⟨n+1,hn⟩) (iblk m c 1 ⟨n+1,hn⟩) (iblk m c 2 ⟨n+1,hn⟩) (iblk m c 3 ⟨n+1,hn⟩) (iblk m c 4 ⟨n+1,hn⟩) (iblk m c 5 ⟨n+1,hn⟩) (iblk m c 6 ⟨n+1,hn⟩) (iblk m c 7 ⟨n+1,hn⟩) (iblk m c 8 ⟨n+1,hn⟩) (iblk m c 9 ⟨n+1,hn⟩) (iblk m c 10 ⟨n+1,hn⟩) (iblk m c 11 ⟨n+1,hn⟩) (iblk m c 12 ⟨n+1,hn⟩) (iblk m c 13 ⟨n+1,hn⟩) (outsAt0 c n (Nat.lt_of_succ_lt hn)).2.2.2.2.2.2.2.2.2.2, out0_B_18 c (grid0.coords ⟨n+1,hn⟩) (ms0_0 ⟨n+1,hn⟩) (hs0_0 ⟨n+1,hn⟩) (ms0_1 ⟨n+1,hn⟩) (hs0_1 ⟨n+1,hn⟩) (ms0_2 ⟨n+1,hn⟩) (hs0_2 ⟨n+1,hn⟩) (ms0_3 ⟨n+1,hn⟩) (hs0_3 ⟨n+1,hn⟩) (ms0_4 ⟨n+1,hn⟩) (hs0_4 ⟨n+1,hn⟩) (ms0_5 ⟨n+1,hn⟩) (hs0_5 ⟨n+1,hn⟩) (ms0_6 ⟨n+1,hn⟩) (hs0_6 ⟨n+1,hn⟩) (ms0_7 ⟨n+1,hn⟩) (hs0_7 ⟨n+1,hn⟩) (ms0_8 ⟨n+1,hn⟩) (hs0_8 ⟨n+1,hn⟩) (ms0_9 ⟨n+1,hn⟩) (hs0_9 ⟨n+1,hn⟩) (ms0_10 ⟨n+1,hn⟩) (hs0_10 ⟨n+1,hn⟩) (ms0_11 ⟨n+1,hn⟩) (hs0_11 ⟨n+1,hn⟩) (ms0_12 ⟨n+1,hn⟩) (hs0_12 ⟨n+1,hn⟩) (ms0_13 ⟨n+1,hn⟩) (hs0_13 ⟨n+1,hn⟩) (ms0_14 ⟨n+1,hn⟩) (hs0_14 ⟨n+1,hn⟩) (ms0_15 ⟨n+1,hn⟩) (hs0_15 ⟨n+1,hn⟩) (ms0_16 ⟨n+1,hn⟩) (hs0_16 ⟨n+1,hn⟩) (ms0_17 ⟨n+1,hn⟩) (hs0_17 ⟨n+1,hn⟩) (ms0_18 ⟨n+1,hn⟩) (hs0_18 ⟨n+1,hn⟩) (ms0_19 ⟨n+1,hn⟩) (hs0_19 ⟨n+1,hn⟩) (ms0_20 ⟨n+1,hn⟩) (hs0_20 ⟨n+1,hn⟩) (ms0_21 ⟨n+1,hn⟩) (hs0_21 ⟨n+1,hn⟩) (ms0_22 ⟨n+1,hn⟩) (hs0_22 ⟨n+1,hn⟩) (ms0_23 ⟨n+1,hn⟩) (hs0_23 ⟨n+1,hn⟩) scM0_0 (Memref.isWhole_whole _) (fun h => h0 ((hcond0_0 ⟨n+1,hn⟩).mp h)) (iblk m c 0 ⟨n+1,hn⟩) (iblk m c 1 ⟨n+1,hn⟩) (iblk m c 2 ⟨n+1,hn⟩) (iblk m c 3 ⟨n+1,hn⟩) (iblk m c 4 ⟨n+1,hn⟩) (iblk m c 5 ⟨n+1,hn⟩) (iblk m c 6 ⟨n+1,hn⟩) (iblk m c 7 ⟨n+1,hn⟩) (iblk m c 8 ⟨n+1,hn⟩) (iblk m c 9 ⟨n+1,hn⟩) (iblk m c 10 ⟨n+1,hn⟩) (iblk m c 11 ⟨n+1,hn⟩) (iblk m c 12 ⟨n+1,hn⟩) (iblk m c 13 ⟨n+1,hn⟩) (outsAt0 c n (Nat.lt_of_succ_lt hn)).2.2.2.2.2.2.2.2.2.2, out0_B_19 c (grid0.coords ⟨n+1,hn⟩) (ms0_0 ⟨n+1,hn⟩) (hs0_0 ⟨n+1,hn⟩) (ms0_1 ⟨n+1,hn⟩) (hs0_1 ⟨n+1,hn⟩) (ms0_2 ⟨n+1,hn⟩) (hs0_2 ⟨n+1,hn⟩) (ms0_3 ⟨n+1,hn⟩) (hs0_3 ⟨n+1,hn⟩) (ms0_4 ⟨n+1,hn⟩) (hs0_4 ⟨n+1,hn⟩) (ms0_5 ⟨n+1,hn⟩) (hs0_5 ⟨n+1,hn⟩) (ms0_6 ⟨n+1,hn⟩) (hs0_6 ⟨n+1,hn⟩) (ms0_7 ⟨n+1,hn⟩) (hs0_7 ⟨n+1,hn⟩) (ms0_8 ⟨n+1,hn⟩) (hs0_8 ⟨n+1,hn⟩) (ms0_9 ⟨n+1,hn⟩) (hs0_9 ⟨n+1,hn⟩) (ms0_10 ⟨n+1,hn⟩) (hs0_10 ⟨n+1,hn⟩) (ms0_11 ⟨n+1,hn⟩) (hs0_11 ⟨n+1,hn⟩) (ms0_12 ⟨n+1,hn⟩) (hs0_12 ⟨n+1,hn⟩) (ms0_13 ⟨n+1,hn⟩) (hs0_13 ⟨n+1,hn⟩) (ms0_14 ⟨n+1,hn⟩) (hs0_14 ⟨n+1,hn⟩) (ms0_15 ⟨n+1,hn⟩) (hs0_15 ⟨n+1,hn⟩) (ms0_16 ⟨n+1,hn⟩) (hs0_16 ⟨n+1,hn⟩) (ms0_17 ⟨n+1,hn⟩) (hs0_17 ⟨n+1,hn⟩) (ms0_18 ⟨n+1,hn⟩) (hs0_18 ⟨n+1,hn⟩) (ms0_19 ⟨n+1,hn⟩) (hs0_19 ⟨n+1,hn⟩) (ms0_20 ⟨n+1,hn⟩) (hs0_20 ⟨n+1,hn⟩) (ms0_21 ⟨n+1,hn⟩) (hs0_21 ⟨n+1,hn⟩) (ms0_22 ⟨n+1,hn⟩) (hs0_22 ⟨n+1,hn⟩) (ms0_23 ⟨n+1,hn⟩) (hs0_23 ⟨n+1,hn⟩) scM0_0 (Memref.isWhole_whole _) (fun h => h0 ((hcond0_0 ⟨n+1,hn⟩).mp h)) (iblk m c 0 ⟨n+1,hn⟩) (iblk m c 1 ⟨n+1,hn⟩) (iblk m c 2 ⟨n+1,hn⟩) (iblk m c 3 ⟨n+1,hn⟩) (iblk m c 4 ⟨n+1,hn⟩) (iblk m c 5 ⟨n+1,hn⟩) (iblk m c 6 ⟨n+1,hn⟩) (iblk m c 7 ⟨n+1,hn⟩) (iblk m c 8 ⟨n+1,hn⟩) (iblk m c 9 ⟨n+1,hn⟩) (iblk m c 10 ⟨n+1,hn⟩) (iblk m c 11 ⟨n+1,hn⟩) (iblk m c 12 ⟨n+1,hn⟩) (iblk m c 13 ⟨n+1,hn⟩) (outsAt0 c n (Nat.lt_of_succ_lt hn)).2.2.2.2.2.2.2.2.2.2, out0_B_20 c (grid0.coords ⟨n+1,hn⟩) (ms0_0 ⟨n+1,hn⟩) (hs0_0 ⟨n+1,hn⟩) (ms0_1 ⟨n+1,hn⟩) (hs0_1 ⟨n+1,hn⟩) (ms0_2 ⟨n+1,hn⟩) (hs0_2 ⟨n+1,hn⟩) (ms0_3 ⟨n+1,hn⟩) (hs0_3 ⟨n+1,hn⟩) (ms0_4 ⟨n+1,hn⟩) (hs0_4 ⟨n+1,hn⟩) (ms0_5 ⟨n+1,hn⟩) (hs0_5 ⟨n+1,hn⟩) (ms0_6 ⟨n+1,hn⟩) (hs0_6 ⟨n+1,hn⟩) (ms0_7 ⟨n+1,hn⟩) (hs0_7 ⟨n+1,hn⟩) (ms0_8 ⟨n+1,hn⟩) (hs0_8 ⟨n+1,hn⟩) (ms0_9 ⟨n+1,hn⟩) (hs0_9 ⟨n+1,hn⟩) (ms0_10 ⟨n+1,hn⟩) (hs0_10 ⟨n+1,hn⟩) (ms0_11 ⟨n+1,hn⟩) (hs0_11 ⟨n+1,hn⟩) (ms0_12 ⟨n+1,hn⟩) (hs0_12 ⟨n+1,hn⟩) (ms0_13 ⟨n+1,hn⟩) (hs0_13 ⟨n+1,hn⟩) (ms0_14 ⟨n+1,hn⟩) (hs0_14 ⟨n+1,hn⟩) (ms0_15 ⟨n+1,hn⟩) (hs0_15 ⟨n+1,hn⟩) (ms0_16 ⟨n+1,hn⟩) (hs0_16 ⟨n+1,hn⟩) (ms0_17 ⟨n+1,hn⟩) (hs0_17 ⟨n+1,hn⟩) (ms0_18 ⟨n+1,hn⟩) (hs0_18 ⟨n+1,hn⟩) (ms0_19 ⟨n+1,hn⟩) (hs0_19 ⟨n+1,hn⟩) (ms0_20 ⟨n+1,hn⟩) (hs0_20 ⟨n+1,hn⟩) (ms0_21 ⟨n+1,hn⟩) (hs0_21 ⟨n+1,hn⟩) (ms0_22 ⟨n+1,hn⟩) (hs0_22 ⟨n+1,hn⟩) (ms0_23 ⟨n+1,hn⟩) (hs0_23 ⟨n+1,hn⟩) scM0_0 (Memref.isWhole_whole _) (fun h => h0 ((hcond0_0 ⟨n+1,hn⟩).mp h)) (iblk m c 0 ⟨n+1,hn⟩) (iblk m c 1 ⟨n+1,hn⟩) (iblk m c 2 ⟨n+1,hn⟩) (iblk m c 3 ⟨n+1,hn⟩) (iblk m c 4 ⟨n+1,hn⟩) (iblk m c 5 ⟨n+1,hn⟩) (iblk m c 6 ⟨n+1,hn⟩) (iblk m c 7 ⟨n+1,hn⟩) (iblk m c 8 ⟨n+1,hn⟩) (iblk m c 9 ⟨n+1,hn⟩) (iblk m c 10 ⟨n+1,hn⟩) (iblk m c 11 ⟨n+1,hn⟩) (iblk m c 12 ⟨n+1,hn⟩) (iblk m c 13 ⟨n+1,hn⟩) (outsAt0 c n (Nat.lt_of_succ_lt hn)).2.2.2.2.2.2.2.2.2.2, out0_B_21 c (grid0.coords ⟨n+1,hn⟩) (ms0_0 ⟨n+1,hn⟩) (hs0_0 ⟨n+1,hn⟩) (ms0_1 ⟨n+1,hn⟩) (hs0_1 ⟨n+1,hn⟩) (ms0_2 ⟨n+1,hn⟩) (hs0_2 ⟨n+1,hn⟩) (ms0_3 ⟨n+1,hn⟩) (hs0_3 ⟨n+1,hn⟩) (ms0_4 ⟨n+1,hn⟩) (hs0_4 ⟨n+1,hn⟩) (ms0_5 ⟨n+1,hn⟩) (hs0_5 ⟨n+1,hn⟩) (ms0_6 ⟨n+1,hn⟩) (hs0_6 ⟨n+1,hn⟩) (ms0_7 ⟨n+1,hn⟩) (hs0_7 ⟨n+1,hn⟩) (ms0_8 ⟨n+1,hn⟩) (hs0_8 ⟨n+1,hn⟩) (ms0_9 ⟨n+1,hn⟩) (hs0_9 ⟨n+1,hn⟩) (ms0_10 ⟨n+1,hn⟩) (hs0_10 ⟨n+1,hn⟩) (ms0_11 ⟨n+1,hn⟩) (hs0_11 ⟨n+1,hn⟩) (ms0_12 ⟨n+1,hn⟩) (hs0_12 ⟨n+1,hn⟩) (ms0_13 ⟨n+1,hn⟩) (hs0_13 ⟨n+1,hn⟩) (ms0_14 ⟨n+1,hn⟩) (hs0_14 ⟨n+1,hn⟩) (ms0_15 ⟨n+1,hn⟩) (hs0_15 ⟨n+1,hn⟩) (ms0_16 ⟨n+1,hn⟩) (hs0_16 ⟨n+1,hn⟩) (ms0_17 ⟨n+1,hn⟩) (hs0_17 ⟨n+1,hn⟩) (ms0_18 ⟨n+1,hn⟩) (hs0_18 ⟨n+1,hn⟩) (ms0_19 ⟨n+1,hn⟩) (hs0_19 ⟨n+1,hn⟩) (ms0_20 ⟨n+1,hn⟩) (hs0_20 ⟨n+1,hn⟩) (ms0_21 ⟨n+1,hn⟩) (hs0_21 ⟨n+1,hn⟩) (ms0_22 ⟨n+1,hn⟩) (hs0_22 ⟨n+1,hn⟩) (ms0_23 ⟨n+1,hn⟩) (hs0_23 ⟨n+1,hn⟩) scM0_0 (Memref.isWhole_whole _) (fun h => h0 ((hcond0_0 ⟨n+1,hn⟩).mp h)) (iblk m c 0 ⟨n+1,hn⟩) (iblk m c 1 ⟨n+1,hn⟩) (iblk m c 2 ⟨n+1,hn⟩) (iblk m c 3 ⟨n+1,hn⟩) (iblk m c 4 ⟨n+1,hn⟩) (iblk m c 5 ⟨n+1,hn⟩) (iblk m c 6 ⟨n+1,hn⟩) (iblk m c 7 ⟨n+1,hn⟩) (iblk m c 8 ⟨n+1,hn⟩) (iblk m c 9 ⟨n+1,hn⟩) (iblk m c 10 ⟨n+1,hn⟩) (iblk m c 11 ⟨n+1,hn⟩) (iblk m c 12 ⟨n+1,hn⟩) (iblk m c 13 ⟨n+1,hn⟩) (outsAt0 c n (Nat.lt_of_succ_lt hn)).2.2.2.2.2.2.2.2.2.2, out0_B_22 c (grid0.coords ⟨n+1,hn⟩) (ms0_0 ⟨n+1,hn⟩) (hs0_0 ⟨n+1,hn⟩) (ms0_1 ⟨n+1,hn⟩) (hs0_1 ⟨n+1,hn⟩) (ms0_2 ⟨n+1,hn⟩) (hs0_2 ⟨n+1,hn⟩) (ms0_3 ⟨n+1,hn⟩) (hs0_3 ⟨n+1,hn⟩) (ms0_4 ⟨n+1,hn⟩) (hs0_4 ⟨n+1,hn⟩) (ms0_5 ⟨n+1,hn⟩) (hs0_5 ⟨n+1,hn⟩) (ms0_6 ⟨n+1,hn⟩) (hs0_6 ⟨n+1,hn⟩) (ms0_7 ⟨n+1,hn⟩) (hs0_7 ⟨n+1,hn⟩) (ms0_8 ⟨n+1,hn⟩) (hs0_8 ⟨n+1,hn⟩) (ms0_9 ⟨n+1,hn⟩) (hs0_9 ⟨n+1,hn⟩) (ms0_10 ⟨n+1,hn⟩) (hs0_10 ⟨n+1,hn⟩) (ms0_11 ⟨n+1,hn⟩) (hs0_11 ⟨n+1,hn⟩) (ms0_12 ⟨n+1,hn⟩) (hs0_12 ⟨n+1,hn⟩) (ms0_13 ⟨n+1,hn⟩) (hs0_13 ⟨n+1,hn⟩) (ms0_14 ⟨n+1,hn⟩) (hs0_14 ⟨n+1,hn⟩) (ms0_15 ⟨n+1,hn⟩) (hs0_15 ⟨n+1,hn⟩) (ms0_16 ⟨n+1,hn⟩) (hs0_16 ⟨n+1,hn⟩) (ms0_17 ⟨n+1,hn⟩) (hs0_17 ⟨n+1,hn⟩) (ms0_18 ⟨n+1,hn⟩) (hs0_18 ⟨n+1,hn⟩) (ms0_19 ⟨n+1,hn⟩) (hs0_19 ⟨n+1,hn⟩) (ms0_20 ⟨n+1,hn⟩) (hs0_20 ⟨n+1,hn⟩) (ms0_21 ⟨n+1,hn⟩) (hs0_21 ⟨n+1,hn⟩) (ms0_22 ⟨n+1,hn⟩) (hs0_22 ⟨n+1,hn⟩) (ms0_23 ⟨n+1,hn⟩) (hs0_23 ⟨n+1,hn⟩) scM0_0 (Memref.isWhole_whole _) (fun h => h0 ((hcond0_0 ⟨n+1,hn⟩).mp h)) (iblk m c 0 ⟨n+1,hn⟩) (iblk m c 1 ⟨n+1,hn⟩) (iblk m c 2 ⟨n+1,hn⟩) (iblk m c 3 ⟨n+1,hn⟩) (iblk m c 4 ⟨n+1,hn⟩) (iblk m c 5 ⟨n+1,hn⟩) (iblk m c 6 ⟨n+1,hn⟩) (iblk m c 7 ⟨n+1,hn⟩) (iblk m c 8 ⟨n+1,hn⟩) (iblk m c 9 ⟨n+1,hn⟩) (iblk m c 10 ⟨n+1,hn⟩) (iblk m c 11 ⟨n+1,hn⟩) (iblk m c 12 ⟨n+1,hn⟩) (iblk m c 13 ⟨n+1,hn⟩) (outsAt0 c n (Nat.lt_of_succ_lt hn)).2.2.2.2.2.2.2.2.2.2, out0_B_23 c (grid0.coords ⟨n+1,hn⟩) (ms0_0 ⟨n+1,hn⟩) (hs0_0 ⟨n+1,hn⟩) (ms0_1 ⟨n+1,hn⟩) (hs0_1 ⟨n+1,hn⟩) (ms0_2 ⟨n+1,hn⟩) (hs0_2 ⟨n+1,hn⟩) (ms0_3 ⟨n+1,hn⟩) (hs0_3 ⟨n+1,hn⟩) (ms0_4 ⟨n+1,hn⟩) (hs0_4 ⟨n+1,hn⟩) (ms0_5 ⟨n+1,hn⟩) (hs0_5 ⟨n+1,hn⟩) (ms0_6 ⟨n+1,hn⟩) (hs0_6 ⟨n+1,hn⟩) (ms0_7 ⟨n+1,hn⟩) (hs0_7 ⟨n+1,hn⟩) (ms0_8 ⟨n+1,hn⟩) (hs0_8 ⟨n+1,hn⟩) (ms0_9 ⟨n+1,hn⟩) (hs0_9 ⟨n+1,hn⟩) (ms0_10 ⟨n+1,hn⟩) (hs0_10 ⟨n+1,hn⟩) (ms0_11 ⟨n+1,hn⟩) (hs0_11 ⟨n+1,hn⟩) (ms0_12 ⟨n+1,hn⟩) (hs0_12 ⟨n+1,hn⟩) (ms0_13 ⟨n+1,hn⟩) (hs0_13 ⟨n+1,hn⟩) (ms0_14 ⟨n+1,hn⟩) (hs0_14 ⟨n+1,hn⟩) (ms0_15 ⟨n+1,hn⟩) (hs0_15 ⟨n+1,hn⟩) (ms0_16 ⟨n+1,hn⟩) (hs0_16 ⟨n+1,hn⟩) (ms0_17 ⟨n+1,hn⟩) (hs0_17 ⟨n+1,hn⟩) (ms0_18 ⟨n+1,hn⟩) (hs0_18 ⟨n+1,hn⟩) (ms0_19 ⟨n+1,hn⟩) (hs0_19 ⟨n+1,hn⟩) (ms0_20 ⟨n+1,hn⟩) (hs0_20 ⟨n+1,hn⟩) (ms0_21 ⟨n+1,hn⟩) (hs0_21 ⟨n+1,hn⟩) (ms0_22 ⟨n+1,hn⟩) (hs0_22 ⟨n+1,hn⟩) (ms0_23 ⟨n+1,hn⟩) (hs0_23 ⟨n+1,hn⟩) scM0_0 (Memref.isWhole_whole _) (fun h => h0 ((hcond0_0 ⟨n+1,hn⟩).mp h)) (iblk m c 0 ⟨n+1,hn⟩) (iblk m c 1 ⟨n+1,hn⟩) (iblk m c 2 ⟨n+1,hn⟩) (iblk m c 3 ⟨n+1,hn⟩) (iblk m c 4 ⟨n+1,hn⟩) (iblk m c 5 ⟨n+1,hn⟩) (iblk m c 6 ⟨n+1,hn⟩) (iblk m c 7 ⟨n+1,hn⟩) (iblk m c 8 ⟨n+1,hn⟩) (iblk m c 9 ⟨n+1,hn⟩) (iblk m c 10 ⟨n+1,hn⟩) (iblk m c 11 ⟨n+1,hn⟩) (iblk m c 12 ⟨n+1,hn⟩) (iblk m c 13 ⟨n+1,hn⟩) (outsAt0 c n (Nat.lt_of_succ_lt hn)).2.2.2.2.2.2.2.2.2.2, sout0_B_0 c (grid0.coords ⟨n+1,hn⟩) (ms0_0 ⟨n+1,hn⟩) (hs0_0 ⟨n+1,hn⟩) (ms0_1 ⟨n+1,hn⟩) (hs0_1 ⟨n+1,hn⟩) (ms0_2 ⟨n+1,hn⟩) (hs0_2 ⟨n+1,hn⟩) (ms0_3 ⟨n+1,hn⟩) (hs0_3 ⟨n+1,hn⟩) (ms0_4 ⟨n+1,hn⟩) (hs0_4 ⟨n+1,hn⟩) (ms0_5 ⟨n+1,hn⟩) (hs0_5 ⟨n+1,hn⟩) (ms0_6 ⟨n+1,hn⟩) (hs0_6 ⟨n+1,hn⟩) (ms0_7 ⟨n+1,hn⟩) (hs0_7 ⟨n+1,hn⟩) (ms0_8 ⟨n+1,hn⟩) (hs0_8 ⟨n+1,hn⟩) (ms0_9 ⟨n+1,hn⟩) (hs0_9 ⟨n+1,hn⟩) (ms0_10 ⟨n+1,hn⟩) (hs0_10 ⟨n+1,hn⟩) (ms0_11 ⟨n+1,hn⟩) (hs0_11 ⟨n+1,hn⟩) (ms0_12 ⟨n+1,hn⟩) (hs0_12 ⟨n+1,hn⟩) (ms0_13 ⟨n+1,hn⟩) (hs0_13 ⟨n+1,hn⟩) (ms0_14 ⟨n+1,hn⟩) (hs0_14 ⟨n+1,hn⟩) (ms0_15 ⟨n+1,hn⟩) (hs0_15 ⟨n+1,hn⟩) (ms0_16 ⟨n+1,hn⟩) (hs0_16 ⟨n+1,hn⟩) (ms0_17 ⟨n+1,hn⟩) (hs0_17 ⟨n+1,hn⟩) (ms0_18 ⟨n+1,hn⟩) (hs0_18 ⟨n+1,hn⟩) (ms0_19 ⟨n+1,hn⟩) (hs0_19 ⟨n+1,hn⟩) (ms0_20 ⟨n+1,hn⟩) (hs0_20 ⟨n+1,hn⟩) (ms0_21 ⟨n+1,hn⟩) (hs0_21 ⟨n+1,hn⟩) (ms0_22 ⟨n+1,hn⟩) (hs0_22 ⟨n+1,hn⟩) (ms0_23 ⟨n+1,hn⟩) (hs0_23 ⟨n+1,hn⟩) scM0_0 (Memref.isWhole_whole _) (fun h => h0 ((hcond0_0 ⟨n+1,hn⟩).mp h)) (iblk m c 0 ⟨n+1,hn⟩) (iblk m c 1 ⟨n+1,hn⟩) (iblk m c 2 ⟨n+1,hn⟩) (iblk m c 3 ⟨n+1,hn⟩) (iblk m c 4 ⟨n+1,hn⟩) (iblk m c 5 ⟨n+1,hn⟩) (iblk m c 6 ⟨n+1,hn⟩) (iblk m c 7 ⟨n+1,hn⟩) (iblk m c 8 ⟨n+1,hn⟩) (iblk m c 9 ⟨n+1,hn⟩) (iblk m c 10 ⟨n+1,hn⟩) (iblk m c 11 ⟨n+1,hn⟩) (iblk m c 12 ⟨n+1,hn⟩) (iblk m c 13 ⟨n+1,hn⟩) (outsAt0 c n (Nat.lt_of_succ_lt hn)).2.2.2.2.2.2.2.2.2.2)

/-- `outsAt0` at a point of case A: that case's contents. -/
theorem outsAt0_A (c : Dev nD) (t : Fin cfg0.N) (h0 : t.val % 65 = 0) :
    outsAt0 m c t.val t.isLt = (out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t), out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t), out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t), out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t), out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t), out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t), out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t), out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t), out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t), out0_A_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 65 = 0) :
    outsAt0 m c t.val t.isLt = (out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2.2.2.2.2.2.2.2.2.2, out0_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2.2.2.2.2.2.2.2.2.2, out0_B_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2.2.2.2.2.2.2.2.2.2, out0_B_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2.2.2.2.2.2.2.2.2.2, out0_B_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2.2.2.2.2.2.2.2.2.2, out0_B_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2.2.2.2.2.2.2.2.2.2, out0_B_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2.2.2.2.2.2.2.2.2.2, out0_B_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2.2.2.2.2.2.2.2.2.2, out0_B_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2.2.2.2.2.2.2.2.2.2, out0_B_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2.2.2.2.2.2.2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2.2.2.2.2.2.2.2.2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class (every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.2.2.2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2.2.2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => (outsAt0 m c t.val t.isLt).1
    | ⟨15, _⟩ => (outsAt0 m c t.val t.isLt).2.1
    | ⟨16, _⟩ => (outsAt0 m c t.val t.isLt).2.2.1
    | ⟨17, _⟩ => (outsAt0 m c t.val t.isLt).2.2.2.1
    | ⟨18, _⟩ => (outsAt0 m c t.val t.isLt).2.2.2.2.1
    | ⟨19, _⟩ => (outsAt0 m c t.val t.isLt).2.2.2.2.2.1
    | ⟨20, _⟩ => (outsAt0 m c t.val t.isLt).2.2.2.2.2.2.1
    | ⟨21, _⟩ => (outsAt0 m c t.val t.isLt).2.2.2.2.2.2.2.1
    | ⟨22, _⟩ => (outsAt0 m c t.val t.isLt).2.2.2.2.2.2.2.2.1
    | ⟨23, _⟩ => (outsAt0 m c t.val t.isLt).2.2.2.2.2.2.2.2.2.1
    | ⟨_ + 24, h⟩ => absurd h (Nat.not_lt.2 (Nat.le_add_left _ _))
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = (outsAt0 m c t.val t.isLt).1 := by dsimp only [dats]
theorem after0_15 (c : Dev nD) (t : Fin cfg0.N) : (dats m 0 c).after 15 t = (outsAt0 m c t.val t.isLt).2.1 := by dsimp only [dats]
theorem after0_16 (c : Dev nD) (t : Fin cfg0.N) : (dats m 0 c).after 16 t = (outsAt0 m c t.val t.isLt).2.2.1 := by dsimp only [dats]
theorem after0_17 (c : Dev nD) (t : Fin cfg0.N) : (dats m 0 c).after 17 t = (outsAt0 m c t.val t.isLt).2.2.2.1 := by dsimp only [dats]
theorem after0_18 (c : Dev nD) (t : Fin cfg0.N) : (dats m 0 c).after 18 t = (outsAt0 m c t.val t.isLt).2.2.2.2.1 := by dsimp only [dats]
theorem after0_19 (c : Dev nD) (t : Fin cfg0.N) : (dats m 0 c).after 19 t = (outsAt0 m c t.val t.isLt).2.2.2.2.2.1 := by dsimp only [dats]
theorem after0_20 (c : Dev nD) (t : Fin cfg0.N) : (dats m 0 c).after 20 t = (outsAt0 m c t.val t.isLt).2.2.2.2.2.2.1 := by dsimp only [dats]
theorem after0_21 (c : Dev nD) (t : Fin cfg0.N) : (dats m 0 c).after 21 t = (outsAt0 m c t.val t.isLt).2.2.2.2.2.2.2.1 := by dsimp only [dats]
theorem after0_22 (c : Dev nD) (t : Fin cfg0.N) : (dats m 0 c).after 22 t = (outsAt0 m c t.val t.isLt).2.2.2.2.2.2.2.2.1 := by dsimp only [dats]
theorem after0_23 (c : Dev nD) (t : Fin cfg0.N) : (dats m 0 c).after 23 t = (outsAt0 m c t.val t.isLt).2.2.2.2.2.2.2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d

/-! ## The body obligation, at a generic point -/

/-- What the body is called with at point `t` (the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t))

set_option maxHeartbeats 19200000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23]
  rw [show (dats m 0 c).Φ t.succ = PhiS m c (t.val + 1) t.isLt from rfl, PhiS_succ]
  have hN : t.val < 65 := lt_of_lt_of_eq t.isLt (show cfg0.N = 65 from N_0)
  by_cases h0 : t.val % 65 = 0
  · by_cases hz : t.val = 0
    · rw [PhiS_castSucc m c t, PhiS_zero m c _ _ hz, PhiA0_eq]
      rw [outsAt0_A m c t h0]
      unfold out0_A_14 out0_A_15 out0_A_16 out0_A_17 out0_A_18 out0_A_19 out0_A_20 out0_A_21 out0_A_22 out0_A_23 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
      iapply ((kernelRun0_A c (grid0.coords t) _ _ _ _ _ _ _ _ _ _ _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)).2.2.2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [H20]; · iexists _; iexact H20
      isplitl [H21]; · iexists _; iexact H21
      isplitl [H22]; · iexists _; iexact H22
      isplitl [H23]; · iexists _; iexact H23
      isplitl [HS0]; · iexact HS0
      iintro ⟨H0, H1, H2, H3, H4, H5, H6, H7, H8, H9, H10, H11, H12, H13, ⟨%e14, H14⟩, ⟨%e15, H15⟩, ⟨%e16, H16⟩, ⟨%e17, H17⟩, ⟨%e18, H18⟩, ⟨%e19, H19⟩, ⟨%e20, H20⟩, ⟨%e21, H21⟩, ⟨%e22, H22⟩, ⟨%e23, H23⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]
      · unfold owns; iexists _; isplitr
        swap; · iexact H14
        ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H15]
      · unfold owns; iexists _; isplitr
        swap; · iexact H15
        ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H16]
      · unfold owns; iexists _; isplitr
        swap; · iexact H16
        ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H17]
      · unfold owns; iexists _; isplitr
        swap; · iexact H17
        ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H18]
      · unfold owns; iexists _; isplitr
        swap; · iexact H18
        ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H19]
      · unfold owns; iexists _; isplitr
        swap; · iexact H19
        ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H20]
      · unfold owns; iexists _; isplitr
        swap; · iexact H20
        ipureintro; exact View.read_writes_of_cover _ _ _ _ _ (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H21]
      · unfold owns; iexists _; isplitr
        swap; · iexact H21
        ipureintro; exact View.read_writes_of_cover _ _ _ _ _ (cover0_A_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H22]
      · unfold owns; iexists _; isplitr
        swap; · iexact H22
        ipureintro; exact View.read_writes_of_cover _ _ _ _ _ (cover0_A_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H23
      ipureintro; exact View.read_writes_of_cover _ _ _ _ _ (cover0_A_23 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    · exfalso; have hN : t.val < 65 := lt_of_lt_of_eq t.isLt (show cfg0.N = 65 from N_0); omega
  · by_cases hz : t.val = 0
    · exfalso; have hN : t.val < 65 := lt_of_lt_of_eq t.isLt (show cfg0.N = 65 from N_0); omega
    · rw [PhiS_castSucc m c t, PhiS_pos m c _ _ hz]
      rw [outsAt0_B m c t h0]
      unfold out0_B_14 out0_B_15 out0_B_16 out0_B_17 out0_B_18 out0_B_19 out0_B_20 out0_B_21 out0_B_22 out0_B_23 sout0_B_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
      iapply ((kernelRun0_B c (grid0.coords t) _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _).2.2.2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [H20]; · iexists _; iexact H20
      isplitl [H21]; · iexists _; iexact H21
      isplitl [H22]; · iexists _; iexact H22
      isplitl [H23]; · iexists _; iexact H23
      isplitl [HS0]; · iexact HS0
      iintro ⟨H0, H1, H2, H3, H4, H5, H6, H7, H8, H9, H10, H11, H12, H13, ⟨%e14, H14⟩, ⟨%e15, H15⟩, ⟨%e16, H16⟩, ⟨%e17, H17⟩, ⟨%e18, H18⟩, ⟨%e19, H19⟩, ⟨%e20, H20⟩, ⟨%e21, H21⟩, ⟨%e22, H22⟩, ⟨%e23, H23⟩, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]
      · unfold owns; iexists _; isplitr
        swap; · iexact H14
        ipureintro; exact View.read_writes_of_cover _ _ _ _ _ (cover0_B_14 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H15]
      · unfold owns; iexists _; isplitr
        swap; · iexact H15
        ipureintro; exact View.read_writes_of_cover _ _ _ _ _ (cover0_B_15 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H16]
      · unfold owns; iexists _; isplitr
        swap; · iexact H16
        ipureintro; exact View.read_writes_of_cover _ _ _ _ _ (cover0_B_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H17]
      · unfold owns; iexists _; isplitr
        swap; · iexact H17
        ipureintro; exact View.read_writes_of_cover _ _ _ _ _ (cover0_B_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H18]
      · unfold owns; iexists _; isplitr
        swap; · iexact H18
        ipureintro; exact View.read_writes_of_cover _ _ _ _ _ (cover0_B_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H19]
      · unfold owns; iexists _; isplitr
        swap; · iexact H19
        ipureintro; exact View.read_writes_of_cover _ _ _ _ _ (cover0_B_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H20]
      · unfold owns; iexists _; isplitr
        swap; · iexact H20
        ipureintro; exact View.read_writes_of_cover _ _ _ _ _ (cover0_B_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H21]
      · unfold owns; iexists _; isplitr
        swap; · iexact H21
        ipureintro; exact View.read_writes_of_cover _ _ _ _ _ (cover0_B_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H22]
      · unfold owns; iexists _; isplitr
        swap; · iexact H22
        ipureintro; exact View.read_writes_of_cover _ _ _ _ _ (cover0_B_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H23
      ipureintro; exact View.read_writes_of_cover _ _ _ _ _ (cover0_B_23 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 8000000 in
/-- The body meets its obligation at every grid point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 65 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

/-- The program ends without fault, keeps its arguments and has every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_main_quiescent m ρ))

end Cert.InProjIdeal.Gen

end
-- ==== Proof.InProjRef.lean ====
/-
  The input projection's reference: each result as a term of the argument arrays.
-/
module

public import proofs.«01_k».proof.Proof.Gen.InProjRefIdeal.Run
public import proofs.«01_k».proof.Proof.Sums

@[expose] public section

set_option maxRecDepth 16384

noncomputable section

namespace Cert.InProjRefIdeal.RefValue

open Cert.InProjRefIdeal Cert.InProjRefIdeal.Gen Idealize.ShloMosaic

/-- An intermediate array of the reference as one term of its arguments. -/
def r_v11 (a0 : FVec Ideal S16384x2048 .f32) (a1 : FVec Ideal S1x2048 .f32) : FVec Ideal S16384x2048 .f32 :=
  mulf (mulf a0 (broadcastInDim S16384x2048 ![0, 1] bcast_S16384x1_S16384x2048_0_1 (Host.rsqrt (addf (Host.divf (broadcastInDim S16384x1 ![0] bcast_S16384_S16384x1_0 (Host.reduceAdd (mulf a0 a0) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 a1)

/-- An intermediate array of the reference as one term of its arguments. -/
def r_v14 (a0 : FVec Ideal S16384x2048 .f32) (a1 : FVec Ideal S1x2048 .f32) (a2 : FVec Ideal S2048x4096 .bf16) : FVec Ideal S16384x1024 .f32 :=
  Host.dotGeneral dot_S16384x2048_S2048x1024_S16384x1024_1_0_0_1_n_n none (r_v11 a0 a1) (extf .f32 (extractStridedSlice S2048x1024 ![0, 3072] a2 slices_S2048x4096_S2048x1024_0_3072) bitsLt_bf16_f32)

/-- An intermediate array of the reference as one term of its arguments. -/
def r_v23 (a0 : FVec Ideal S16384x2048 .f32) (a1 : FVec Ideal S1x2048 .f32) (a3 : FVec Ideal S2048x128 .bf16) : FVec Ideal S16384x128 .f32 :=
  Host.dotGeneral dot_S16384x2048_S2048x128_S16384x128_1_0_0_1_n_n none (r_v11 a0 a1) (extf .f32 a3 bitsLt_bf16_f32)

/-- An intermediate array of the reference as one term of its arguments. -/
def r_v30 (a0 : FVec Ideal S16384x2048 .f32) (a1 : FVec Ideal S1x2048 .f32) (a3 : FVec Ideal S2048x128 .bf16) (a7 : FVec Ideal S1x128 .f32) : FVec Ideal S16384x16 .f32 :=
  addf (extractStridedSlice S16384x16 ![0, 0] (r_v23 a0 a1 a3) slices_S16384x128_S16384x16_0_0) (broadcastInDim S16384x16 ![0, 1] bcast_S1x16_S16384x16_0_1 (extractStridedSlice S1x16 ![0, 0] a7 slices_S1x128_S1x16_0_0))

/-- An intermediate array of the reference as one term of its arguments. -/
def r_call0_cst : FVec Ideal S_ .f32 :=
  constant S_ .f32 0x00000000#32

/-- An intermediate array of the reference as one term of its arguments. -/
def r_call0_v3 (a0 : FVec Ideal S16384x2048 .f32) (a1 : FVec Ideal S1x2048 .f32) (a3 : FVec Ideal S2048x128 .bf16) (a7 : FVec Ideal S1x128 .f32) : FVec Ideal S16384x16 .f32 :=
  subf (r_v30 a0 a1 a3 a7) (broadcastInDim S16384x16 ![] bcast_S_S16384x16 (r_call0_cst))

/-- An intermediate array of the reference as one term of its arguments. -/
def r_v34 (a0 : FVec Ideal S16384x2048 .f32) (a1 : FVec Ideal S1x2048 .f32) (a3 : FVec Ideal S2048x128 .bf16) (a6 : FVec Ideal S1x128 .f32) (a7 : FVec Ideal S1x128 .f32) : FVec Ideal S256x64x16 .f32 :=
  shapeCast _ (mulf (broadcastInDim S16384x16 ![0, 1] bcast_S1x16_S16384x16_0_1 (Host.negf (Host.exp (extractStridedSlice S1x16 ![0, 0] a6 slices_S1x128_S1x16_0_0)))) (select (cmpf .une (r_call0_v3 a0 a1 a3 a7) (r_call0_v3 a0 a1 a3 a7)) (addf (r_v30 a0 a1 a3 a7) (broadcastInDim S16384x16 ![] bcast_S_S16384x16 (r_call0_cst))) (addf (maximumf (r_v30 a0 a1 a3 a7) (broadcastInDim S16384x16 ![] bcast_S_S16384x16 (r_call0_cst))) (Host.log1p (Host.exp (Host.negf (Host.absf (r_call0_v3 a0 a1 a3 a7)))))))) shapeCasts_S16384x16_S256x64x16

/-- An intermediate array of the reference as one term of its arguments. -/
def r_v55 (a0 : FVec Ideal S16384x2048 .f32) (a1 : FVec Ideal S1x2048 .f32) (a4 : FVec Ideal S2048x2304 .bf16) : FVec Ideal S16384x2304 .f32 :=
  Host.dotGeneral dot_S16384x2048_S2048x2304_S16384x2304_1_0_0_1_n_n none (r_v11 a0 a1) (extf .f32 a4 bitsLt_bf16_f32)

/-- An intermediate array of the reference as one term of its arguments. -/
def r_v57 (a0 : FVec Ideal S16384x2048 .f32) (a1 : FVec Ideal S1x2048 .f32) (a4 : FVec Ideal S2048x2304 .bf16) : FVec Ideal S8x2048x8x64 .f32 :=
  shapeCast _ (extractStridedSlice S16384x512 ![0, 0] (r_v55 a0 a1 a4) slices_S16384x2304_S16384x512_0_0) shapeCasts_S16384x512_S8x2048x8x64

/-- An intermediate array of the reference as one term of its arguments. -/
def r_v71 (a0 : FVec Ideal S16384x2048 .f32) (a1 : FVec Ideal S1x2048 .f32) (a4 : FVec Ideal S2048x2304 .bf16) (a8 : FVec Ideal S1x512 .f32) : FVec Ideal S8x2048x8x64 .f32 :=
  mulf (mulf (r_v57 a0 a1 a4) (broadcastInDim S8x2048x8x64 ![0, 1, 2, 3] bcast_S8x2048x8x1_S8x2048x8x64_0_1_2_3 (Host.rsqrt (addf (Host.divf (broadcastInDim S8x2048x8x1 ![0, 1, 2] bcast_S8x2048x8_S8x2048x8x1_0_1_2 (Host.reduceAdd (mulf (r_v57 a0 a1 a4) (r_v57 a0 a1 a4)) (constant S_ .f32 0x00000000#32) reducesTo_S8x2048x8x64_S8x2048x8_d3 h_S_)) (broadcastInDim S8x2048x8x1 ![] bcast_S_S8x2048x8x1 (constant S_ .f32 0x42800000#32))) (broadcastInDim S8x2048x8x1 ![] bcast_S_S8x2048x8x1 (constant S_ .f32 0x358637BD#32)))))) (broadcastInDim S8x2048x8x64 ![0, 1, 2, 3] bcast_S1x1x8x64_S8x2048x8x64_0_1_2_3 (broadcastInDim S1x1x8x64 ![2, 3] bcast_S8x64_S1x1x8x64_2_3 (shapeCast _ a8 shapeCasts_S1x512_S8x64)))

/-- An intermediate array of the reference as one term of its arguments. -/
def r_v87 : FVec Ideal S2048x32 .f32 :=
  mulf (broadcastInDim S2048x32 ![0, 1] bcast_S2048x1_S2048x32_0_1 (broadcastInDim S2048x1 ![0] bcast_S2048_S2048x1_0 (sitofp .f32 (iotaInDim S2048 32 0)))) (broadcastInDim S2048x32 ![0, 1] bcast_S1x32_S2048x32_0_1 (broadcastInDim S1x32 ![1] bcast_S32_S1x32_1 (Host.powf (broadcastInDim S32 ![] bcast_S_S32 (constant S_ .f32 0x461C4000#32)) (Host.divf (Host.negf (addf (broadcastInDim S32 ![] bcast_S_S32 (constant S_ .f32 0x00000000#32)) (mulf (broadcastInDim S32 ![] bcast_S_S32 (constant S_ .f32 0x40000000#32)) (sitofp .f32 (iotaInDim S32 32 0))))) (broadcastInDim S32 ![] bcast_S_S32 (constant S_ .f32 0x42800000#32))))))

/-- An intermediate array of the reference as one term of its arguments. -/
def r_v89 : FVec Ideal S1x2048x1x32 .f32 :=
  broadcastInDim S1x2048x1x32 ![1, 3] bcast_S2048x32_S1x2048x1x32_1_3 (Host.cos (r_v87))

/-- An intermediate array of the reference as one term of its arguments. -/
def r_v91 : FVec Ideal S1x2048x1x32 .f32 :=
  broadcastInDim S1x2048x1x32 ![1, 3] bcast_S2048x32_S1x2048x1x32_1_3 (Host.sin (r_v87))

/-- An intermediate array of the reference as one term of its arguments. -/
def r_v92 (a0 : FVec Ideal S16384x2048 .f32) (a1 : FVec Ideal S1x2048 .f32) (a4 : FVec Ideal S2048x2304 .bf16) (a8 : FVec Ideal S1x512 .f32) : FVec Ideal S8x2048x8x32 .f32 :=
  extractStridedSlice S8x2048x8x32 ![0, 0, 0, 0] (r_v71 a0 a1 a4 a8) slices_S8x2048x8x64_S8x2048x8x32_0_0_0_0

/-- An intermediate array of the reference as one term of its arguments. -/
def r_v93 (a0 : FVec Ideal S16384x2048 .f32) (a1 : FVec Ideal S1x2048 .f32) (a4 : FVec Ideal S2048x2304 .bf16) (a8 : FVec Ideal S1x512 .f32) : FVec Ideal S8x2048x8x32 .f32 :=
  extractStridedSlice S8x2048x8x32 ![0, 0, 0, 32] (r_v71 a0 a1 a4 a8) slices_S8x2048x8x64_S8x2048x8x32_0_0_0_32

/-- An intermediate array of the reference as one term of its arguments. -/
def r_v107 (a0 : FVec Ideal S16384x2048 .f32) (a1 : FVec Ideal S1x2048 .f32) (a4 : FVec Ideal S2048x2304 .bf16) : FVec Ideal S8x2048x2x64 .f32 :=
  shapeCast _ (extractStridedSlice S16384x128 ![0, 512] (r_v55 a0 a1 a4) slices_S16384x2304_S16384x128_0_512) shapeCasts_S16384x128_S8x2048x2x64

/-- An intermediate array of the reference as one term of its arguments. -/
def r_v121 (a0 : FVec Ideal S16384x2048 .f32) (a1 : FVec Ideal S1x2048 .f32) (a4 : FVec Ideal S2048x2304 .bf16) (a9 : FVec Ideal S1x128 .f32) : FVec Ideal S8x2048x2x64 .f32 :=
  mulf (mulf (r_v107 a0 a1 a4) (broadcastInDim S8x2048x2x64 ![0, 1, 2, 3] bcast_S8x2048x2x1_S8x2048x2x64_0_1_2_3 (Host.rsqrt (addf (Host.divf (broadcastInDim S8x2048x2x1 ![0, 1, 2] bcast_S8x2048x2_S8x2048x2x1_0_1_2 (Host.reduceAdd (mulf (r_v107 a0 a1 a4) (r_v107 a0 a1 a4)) (constant S_ .f32 0x00000000#32) reducesTo_S8x2048x2x64_S8x2048x2_d3 h_S_)) (broadcastInDim S8x2048x2x1 ![] bcast_S_S8x2048x2x1 (constant S_ .f32 0x42800000#32))) (broadcastInDim S8x2048x2x1 ![] bcast_S_S8x2048x2x1 (constant S_ .f32 0x358637BD#32)))))) (broadcastInDim S8x2048x2x64 ![0, 1, 2, 3] bcast_S1x1x2x64_S8x2048x2x64_0_1_2_3 (broadcastInDim S1x1x2x64 ![2, 3] bcast_S2x64_S1x1x2x64_2_3 (shapeCast _ a9 shapeCasts_S1x128_S2x64)))

/-- An intermediate array of the reference as one term of its arguments. -/
def r_v137 : FVec Ideal S2048x32 .f32 :=
  mulf (broadcastInDim S2048x32 ![0, 1] bcast_S2048x1_S2048x32_0_1 (broadcastInDim S2048x1 ![0] bcast_S2048_S2048x1_0 (sitofp .f32 (iotaInDim S2048 32 0)))) (broadcastInDim S2048x32 ![0, 1] bcast_S1x32_S2048x32_0_1 (broadcastInDim S1x32 ![1] bcast_S32_S1x32_1 (Host.powf (broadcastInDim S32 ![] bcast_S_S32 (constant S_ .f32 0x461C4000#32)) (Host.divf (Host.negf (addf (broadcastInDim S32 ![] bcast_S_S32 (constant S_ .f32 0x00000000#32)) (mulf (broadcastInDim S32 ![] bcast_S_S32 (constant S_ .f32 0x40000000#32)) (sitofp .f32 (iotaInDim S32 32 0))))) (broadcastInDim S32 ![] bcast_S_S32 (constant S_ .f32 0x42800000#32))))))

/-- An intermediate array of the reference as one term of its arguments. -/
def r_v139 : FVec Ideal S1x2048x1x32 .f32 :=
  broadcastInDim S1x2048x1x32 ![1, 3] bcast_S2048x32_S1x2048x1x32_1_3 (Host.cos (r_v137))

/-- An intermediate array of the reference as one term of its arguments. -/
def r_v141 : FVec Ideal S1x2048x1x32 .f32 :=
  broadcastInDim S1x2048x1x32 ![1, 3] bcast_S2048x32_S1x2048x1x32_1_3 (Host.sin (r_v137))

/-- An intermediate array of the reference as one term of its arguments. -/
def r_v142 (a0 : FVec Ideal S16384x2048 .f32) (a1 : FVec Ideal S1x2048 .f32) (a4 : FVec Ideal S2048x2304 .bf16) (a9 : FVec Ideal S1x128 .f32) : FVec Ideal S8x2048x2x32 .f32 :=
  extractStridedSlice S8x2048x2x32 ![0, 0, 0, 0] (r_v121 a0 a1 a4 a9) slices_S8x2048x2x64_S8x2048x2x32_0_0_0_0

/-- An intermediate array of the reference as one term of its arguments. -/
def r_v143 (a0 : FVec Ideal S16384x2048 .f32) (a1 : FVec Ideal S1x2048 .f32) (a4 : FVec Ideal S2048x2304 .bf16) (a9 : FVec Ideal S1x128 .f32) : FVec Ideal S8x2048x2x32 .f32 :=
  extractStridedSlice S8x2048x2x32 ![0, 0, 0, 32] (r_v121 a0 a1 a4 a9) slices_S8x2048x2x64_S8x2048x2x32_0_0_0_32

/-- An intermediate array of the reference as one term of its arguments. -/
def r_v157 (a0 : FVec Ideal S16384x2048 .f32) (a1 : FVec Ideal S1x2048 .f32) (a4 : FVec Ideal S2048x2304 .bf16) : FVec Ideal S16384x512 .f32 :=
  extractStridedSlice S16384x512 ![0, 768] (r_v55 a0 a1 a4) slices_S16384x2304_S16384x512_0_768

/-- An intermediate array of the reference as one term of its arguments. -/
def r_v166 (a0 : FVec Ideal S16384x2048 .f32) (a1 : FVec Ideal S1x2048 .f32) (a4 : FVec Ideal S2048x2304 .bf16) : FVec Ideal S16384x4x128 .f32 :=
  shapeCast _ (extractStridedSlice S16384x512 ![0, 1280] (r_v55 a0 a1 a4) slices_S16384x2304_S16384x512_0_1280) shapeCasts_S16384x512_S16384x4x128

/-- An intermediate array of the reference as one term of its arguments. -/
def r_v182 (a0 : FVec Ideal S16384x2048 .f32) (a1 : FVec Ideal S1x2048 .f32) (a4 : FVec Ideal S2048x2304 .bf16) : FVec Ideal S16384x512 .f32 :=
  extractStridedSlice S16384x512 ![0, 1792] (r_v55 a0 a1 a4) slices_S16384x2304_S16384x512_0_1792

/-- The reference's result 0 as one term of its arguments. -/
def REF0 (a0 : FVec Ideal S16384x2048 .f32) (a1 : FVec Ideal S1x2048 .f32) (a2 : FVec Ideal S2048x4096 .bf16) : FVec Ideal S16384x1024 .bf16 :=
  truncf .bf16 (mulf (r_v14 a0 a1 a2) (Host.divf (broadcastInDim S16384x1024 ![] bcast_S_S16384x1024 (constant S_ .f32 0x3F800000#32)) (addf (broadcastInDim S16384x1024 ![] bcast_S_S16384x1024 (constant S_ .f32 0x3F800000#32)) (Host.exp (Host.negf (r_v14 a0 a1 a2)))))) bitsLt_bf16_f32

/-- The reference's result 1 as one term of its arguments. -/
def REF1 (a0 : FVec Ideal S16384x2048 .f32) (a1 : FVec Ideal S1x2048 .f32) (a3 : FVec Ideal S2048x128 .bf16) (a6 : FVec Ideal S1x128 .f32) (a7 : FVec Ideal S1x128 .f32) : FVec Ideal S16384x128 .f32 :=
  (concatenate S16384x128 1 [⟨S16384x8, ((shapeCast _ (Host.reduceWindowAdd ![1, 64, 1] ![1, 1, 1] ![0, 63, 0] ![0, 0, 0] (extractStridedSlice S256x64x8 ![0, 0, 0] (r_v34 a0 a1 a3 a6 a7) slices_S256x64x16_S256x64x8_0_0_0) (broadcastInDim S_ ![] bcast_S_S_ (constant S_ .f32 0x00000000#32)) reduceWindows_S256x64x8_S256x64x8_w1s1p0_0_w64s1p63_0_w1s1p0_0 h_S_) shapeCasts_S256x64x8_S16384x8) : FVec Ideal S16384x8 .f32)⟩, ⟨S16384x8, ((shapeCast _ (Host.reverse [1] (Host.reduceWindowAdd ![1, 64, 1] ![1, 1, 1] ![0, 63, 0] ![0, 0, 0] (Host.reverse [1] (extractStridedSlice S256x64x8 ![0, 0, 8] (r_v34 a0 a1 a3 a6 a7) slices_S256x64x16_S256x64x8_0_0_8)) (broadcastInDim S_ ![] bcast_S_S_ (constant S_ .f32 0x00000000#32)) reduceWindows_S256x64x8_S256x64x8_w1s1p0_0_w64s1p63_0_w1s1p0_0 h_S_)) shapeCasts_S256x64x8_S16384x8) : FVec Ideal S16384x8 .f32)⟩, ⟨S16384x16, ((Host.divf (broadcastInDim S16384x16 ![] bcast_S_S16384x16 (constant S_ .f32 0x3F800000#32)) (addf (broadcastInDim S16384x16 ![] bcast_S_S16384x16 (constant S_ .f32 0x3F800000#32)) (Host.exp (Host.negf (extractStridedSlice S16384x16 ![0, 16] (r_v23 a0 a1 a3) slices_S16384x128_S16384x16_0_16))))) : FVec Ideal S16384x16 .f32)⟩, ⟨S16384x96, ((broadcastInDim S16384x96 ![] bcast_S_S16384x96 (constant S_ .f32 0x00000000#32)) : FVec Ideal S16384x96 .f32)⟩] concatenates_S16384x8_S16384x8_S16384x16_S16384x96_S16384x128_d1 : FVec Ideal S16384x128 .f32)

/-- The reference's result 2 as one term of its arguments. -/
def REF2 (a0 : FVec Ideal S16384x2048 .f32) (a1 : FVec Ideal S1x2048 .f32) (a3 : FVec Ideal S2048x128 .bf16) (a6 : FVec Ideal S1x128 .f32) (a7 : FVec Ideal S1x128 .f32) : FVec Ideal S64x128x256 .f32 :=
  transpose S64x128x256 [0, 2, 1] (shapeCast _ ((concatenate S16384x128 1 [⟨S16384x8, ((shapeCast _ (Host.reduceWindowAdd ![1, 64, 1] ![1, 1, 1] ![0, 63, 0] ![0, 0, 0] (extractStridedSlice S256x64x8 ![0, 0, 0] (r_v34 a0 a1 a3 a6 a7) slices_S256x64x16_S256x64x8_0_0_0) (broadcastInDim S_ ![] bcast_S_S_ (constant S_ .f32 0x00000000#32)) reduceWindows_S256x64x8_S256x64x8_w1s1p0_0_w64s1p63_0_w1s1p0_0 h_S_) shapeCasts_S256x64x8_S16384x8) : FVec Ideal S16384x8 .f32)⟩, ⟨S16384x8, ((shapeCast _ (Host.reverse [1] (Host.reduceWindowAdd ![1, 64, 1] ![1, 1, 1] ![0, 63, 0] ![0, 0, 0] (Host.reverse [1] (extractStridedSlice S256x64x8 ![0, 0, 8] (r_v34 a0 a1 a3 a6 a7) slices_S256x64x16_S256x64x8_0_0_8)) (broadcastInDim S_ ![] bcast_S_S_ (constant S_ .f32 0x00000000#32)) reduceWindows_S256x64x8_S256x64x8_w1s1p0_0_w64s1p63_0_w1s1p0_0 h_S_)) shapeCasts_S256x64x8_S16384x8) : FVec Ideal S16384x8 .f32)⟩, ⟨S16384x16, ((Host.divf (broadcastInDim S16384x16 ![] bcast_S_S16384x16 (constant S_ .f32 0x3F800000#32)) (addf (broadcastInDim S16384x16 ![] bcast_S_S16384x16 (constant S_ .f32 0x3F800000#32)) (Host.exp (Host.negf (extractStridedSlice S16384x16 ![0, 16] (r_v23 a0 a1 a3) slices_S16384x128_S16384x16_0_16))))) : FVec Ideal S16384x16 .f32)⟩, ⟨S16384x96, ((broadcastInDim S16384x96 ![] bcast_S_S16384x96 (constant S_ .f32 0x00000000#32)) : FVec Ideal S16384x96 .f32)⟩] concatenates_S16384x8_S16384x8_S16384x16_S16384x96_S16384x128_d1 : FVec Ideal S16384x128 .f32)) shapeCasts_S16384x128_S64x256x128) transposes_S64x256x128_S64x128x256_0_2_1

/-- The reference's result 3 as one term of its arguments. -/
def REF3 (a0 : FVec Ideal S16384x2048 .f32) (a1 : FVec Ideal S1x2048 .f32) (a4 : FVec Ideal S2048x2304 .bf16) (a8 : FVec Ideal S1x512 .f32) : FVec Ideal S16384x512 .bf16 :=
  truncf .bf16 (shapeCast _ (concatenate S8x2048x8x64 3 [⟨S8x2048x8x32, (subf (mulf (r_v92 a0 a1 a4 a8) (broadcastInDim S8x2048x8x32 ![0, 1, 2, 3] bcast_S1x2048x1x32_S8x2048x8x32_0_1_2_3 (r_v89))) (mulf (r_v93 a0 a1 a4 a8) (broadcastInDim S8x2048x8x32 ![0, 1, 2, 3] bcast_S1x2048x1x32_S8x2048x8x32_0_1_2_3 (r_v91))))⟩, ⟨S8x2048x8x32, (addf (mulf (r_v93 a0 a1 a4 a8) (broadcastInDim S8x2048x8x32 ![0, 1, 2, 3] bcast_S1x2048x1x32_S8x2048x8x32_0_1_2_3 (r_v89))) (mulf (r_v92 a0 a1 a4 a8) (broadcastInDim S8x2048x8x32 ![0, 1, 2, 3] bcast_S1x2048x1x32_S8x2048x8x32_0_1_2_3 (r_v91))))⟩] concatenates_S8x2048x8x32_S8x2048x8x32_S8x2048x8x64_d3) shapeCasts_S8x2048x8x64_S16384x512) bitsLt_bf16_f32

/-- The reference's result 4 as one term of its arguments. -/
def REF4 (a0 : FVec Ideal S16384x2048 .f32) (a1 : FVec Ideal S1x2048 .f32) (a4 : FVec Ideal S2048x2304 .bf16) (a9 : FVec Ideal S1x128 .f32) : FVec Ideal S16384x128 .bf16 :=
  truncf .bf16 (shapeCast _ (concatenate S8x2048x2x64 3 [⟨S8x2048x2x32, (subf (mulf (r_v142 a0 a1 a4 a9) (broadcastInDim S8x2048x2x32 ![0, 1, 2, 3] bcast_S1x2048x1x32_S8x2048x2x32_0_1_2_3 (r_v139))) (mulf (r_v143 a0 a1 a4 a9) (broadcastInDim S8x2048x2x32 ![0, 1, 2, 3] bcast_S1x2048x1x32_S8x2048x2x32_0_1_2_3 (r_v141))))⟩, ⟨S8x2048x2x32, (addf (mulf (r_v143 a0 a1 a4 a9) (broadcastInDim S8x2048x2x32 ![0, 1, 2, 3] bcast_S1x2048x1x32_S8x2048x2x32_0_1_2_3 (r_v139))) (mulf (r_v142 a0 a1 a4 a9) (broadcastInDim S8x2048x2x32 ![0, 1, 2, 3] bcast_S1x2048x1x32_S8x2048x2x32_0_1_2_3 (r_v141))))⟩] concatenates_S8x2048x2x32_S8x2048x2x32_S8x2048x2x64_d3) shapeCasts_S8x2048x2x64_S16384x128) bitsLt_bf16_f32

/-- The reference's result 5 as one term of its arguments. -/
def REF5 (a0 : FVec Ideal S16384x2048 .f32) (a1 : FVec Ideal S1x2048 .f32) (a4 : FVec Ideal S2048x2304 .bf16) : FVec Ideal S16384x128 .bf16 :=
  truncf .bf16 (extractStridedSlice S16384x128 ![0, 640] (r_v55 a0 a1 a4) slices_S16384x2304_S16384x128_0_640) bitsLt_bf16_f32

/-- The reference's result 6 as one term of its arguments. -/
def REF6 (a0 : FVec Ideal S16384x2048 .f32) (a1 : FVec Ideal S1x2048 .f32) (a4 : FVec Ideal S2048x2304 .bf16) : FVec Ideal S16384x512 .bf16 :=
  truncf .bf16 (mulf (r_v157 a0 a1 a4) (Host.divf (broadcastInDim S16384x512 ![] bcast_S_S16384x512 (constant S_ .f32 0x3F800000#32)) (addf (broadcastInDim S16384x512 ![] bcast_S_S16384x512 (constant S_ .f32 0x3F800000#32)) (Host.exp (Host.negf (r_v157 a0 a1 a4)))))) bitsLt_bf16_f32

/-- The reference's result 7 as one term of its arguments. -/
def REF7 (a0 : FVec Ideal S16384x2048 .f32) (a1 : FVec Ideal S1x2048 .f32) (a4 : FVec Ideal S2048x2304 .bf16) (a10 : FVec Ideal S1x512 .f32) : FVec Ideal S16384x512 .bf16 :=
  truncf .bf16 (shapeCast _ (mulf (mulf (r_v166 a0 a1 a4) (broadcastInDim S16384x4x128 ![0, 1, 2] bcast_S16384x4x1_S16384x4x128_0_1_2 (Host.rsqrt (addf (Host.divf (broadcastInDim S16384x4x1 ![0, 1] bcast_S16384x4_S16384x4x1_0_1 (Host.reduceAdd (mulf (r_v166 a0 a1 a4) (r_v166 a0 a1 a4)) (constant S_ .f32 0x00000000#32) reducesTo_S16384x4x128_S16384x4_d2 h_S_)) (broadcastInDim S16384x4x1 ![] bcast_S_S16384x4x1 (constant S_ .f32 0x43000000#32))) (broadcastInDim S16384x4x1 ![] bcast_S_S16384x4x1 (constant S_ .f32 0x358637BD#32)))))) (broadcastInDim S16384x4x128 ![0, 1, 2] bcast_S1x4x128_S16384x4x128_0_1_2 (broadcastInDim S1x4x128 ![1, 2] bcast_S4x128_S1x4x128_1_2 (shapeCast _ a10 shapeCasts_S1x512_S4x128)))) shapeCasts_S16384x4x128_S16384x512) bitsLt_bf16_f32

/-- The reference's result 8 as one term of its arguments. -/
def REF8 (a0 : FVec Ideal S16384x2048 .f32) (a1 : FVec Ideal S1x2048 .f32) (a4 : FVec Ideal S2048x2304 .bf16) : FVec Ideal S16384x512 .bf16 :=
  truncf .bf16 (mulf (r_v182 a0 a1 a4) (Host.divf (broadcastInDim S16384x512 ![] bcast_S_S16384x512 (constant S_ .f32 0x3F800000#32)) (addf (broadcastInDim S16384x512 ![] bcast_S_S16384x512 (constant S_ .f32 0x3F800000#32)) (Host.exp (Host.negf (r_v182 a0 a1 a4)))))) bitsLt_bf16_f32

end Cert.InProjRefIdeal.RefValue
end
-- ==== Proof.InProjBase.lean ====
/-
  The input projection: rows of the normalised input, their products with the weights, and where each window's block stands.
-/
module

public import proofs.«01_k».proof.Proof.InProjIdealFrame
public import Idealize.ShloMosaic.Lib.Pipeline.Value
public import proofs.«01_k».proof.Proof.InProjRef
public import proofs.«01_k».proof.Proof.Sums

@[expose] public section

set_option maxRecDepth 16384
set_option maxHeartbeats 1000000

noncomputable section

namespace Cert.InProjIdeal.RefValue

open Cert.InProjIdeal Cert.InProjIdeal.Gen Idealize.ShloMosaic Idealize.ShloMosaic.TcCoe Idealize.SL.Sem
open Idealize.ShloMosaic.Pipeline (Dat)
open Cert.InProjRefIdeal.RefValue

variable (m : (ℓ : Loc nD τ sig) → Buf (Elt Ideal) ℓ)

/-- Entry `k` of the normalised row `r`: the input row over its root mean square, times the norm's weight. -/
def hnS (a0 : S16384x2048.Idx → EReal) (a1 : S1x2048.Idx → EReal) (r : Fin 16384) (k : Fin 2048) : EReal :=
  a0 (ix2 r k) * Ideal.rsqrt (Ideal.div (∑ x : Fin 2048, a0 (ix2 r x) * a0 (ix2 r x)) (Ideal.ofBits FTy.f32 1157627904#32) +
    Ideal.ofBits FTy.f32 897988541#32) * a1 (ix2 0 k)

/-- The reference's normalised row, entry by entry. -/
theorem r_v11_apply (a0 : FVec Ideal S16384x2048 .f32) (a1 : FVec Ideal S1x2048 .f32) (r : Fin 16384) (k : Fin 2048) :
    r_v11 a0 a1 (ix2 r k) = hnS a0 a1 r k := by
  pointwise [r_v11, hnS]

/-- The reference's product with the second weight array. -/
theorem r_v55_apply (a0 : FVec Ideal S16384x2048 .f32) (a1 : FVec Ideal S1x2048 .f32) (a4 : FVec Ideal S2048x2304 .bf16) (r : Fin 16384) (j : Fin 2304) :
    r_v55 a0 a1 a4 (ix2 r j) = ∑ x : Fin 2048, hnS a0 a1 r x * a4 (ix2 x j) := by
  pointwise [r_v55]
  simp only [r_v11_apply]

/-- The reference's product with the gate weights. -/
theorem r_v23_apply (a0 : FVec Ideal S16384x2048 .f32) (a1 : FVec Ideal S1x2048 .f32) (a3 : FVec Ideal S2048x128 .bf16) (r : Fin 16384) (j : Fin 128) :
    r_v23 a0 a1 a3 (ix2 r j) = ∑ x : Fin 2048, hnS a0 a1 r x * a3 (ix2 x j) := by
  pointwise [r_v23]
  simp only [r_v11_apply]

/-- The reference's product with the last part of the first weight array. -/
theorem r_v14_apply (a0 : FVec Ideal S16384x2048 .f32) (a1 : FVec Ideal S1x2048 .f32) (a2 : FVec Ideal S2048x4096 .bf16) (r : Fin 16384) (j : Fin 1024) :
    r_v14 a0 a1 a2 (ix2 r j) = ∑ x : Fin 2048, hnS a0 a1 r x * a2 (ix2 x ⟨3072 + j.val, by omega⟩) := by
  pointwise [r_v14]
  simp only [r_v11_apply]

/-- The row of the arrays that row `y` of grid point `t`'s blocks is. -/
def rowOf (t : Fin cfg0.N) (y : Fin 256) : Fin 16384 := ⟨min t.val 63 * 256 + y.val, by omega⟩

/-- Where the windows stand at grid point `t`. -/
theorem idx (t : Fin cfg0.N) : win0_0.index t = ![min t.val 63, 0] ∧ win0_1.index t = ![0, 0] ∧ win0_2.index t = ![0, 0]
    ∧ win0_3.index t = ![0, 0] ∧ win0_4.index t = ![0, 0] ∧ win0_6.index t = ![min t.val 63 % 8, 0] ∧ win0_7.index t = ![min t.val 63 % 8, 0]
    ∧ win0_8.index t = ![0, 0] ∧ win0_9.index t = ![0, 0] ∧ win0_10.index t = ![0, 0] ∧ win0_11.index t = ![0, 0] ∧ win0_12.index t = ![0, 0]
    ∧ win0_13.index t = ![0, 0] ∧ win0_15.index t = ![min t.val 63, 0] ∧ win0_16.index t = ![min t.val 63, 0] ∧ win0_17.index t = ![min t.val 63, 0, 0]
    ∧ win0_18.index t = ![min t.val 63, 0] ∧ win0_19.index t = ![min t.val 63, 0] ∧ win0_20.index t = ![min t.val 63, 0]
    ∧ win0_21.index t = ![min t.val 63, 0] ∧ win0_22.index t = ![min t.val 63, 0] ∧ win0_23.index t = ![min t.val 63, 0] :=
  (by decide +kernel : ∀ t : Fin grid0.N, win0_0.index t = ![min t.val 63, 0] ∧ win0_1.index t = ![0, 0] ∧ win0_2.index t = ![0, 0]
    ∧ win0_3.index t = ![0, 0] ∧ win0_4.index t = ![0, 0] ∧ win0_6.index t = ![min t.val 63 % 8, 0] ∧ win0_7.index t = ![min t.val 63 % 8, 0]
    ∧ win0_8.index t = ![0, 0] ∧ win0_9.index t = ![0, 0] ∧ win0_10.index t = ![0, 0] ∧ win0_11.index t = ![0, 0] ∧ win0_12.index t = ![0, 0]
    ∧ win0_13.index t = ![0, 0] ∧ win0_15.index t = ![min t.val 63, 0] ∧ win0_16.index t = ![min t.val 63, 0] ∧ win0_17.index t = ![min t.val 63, 0, 0]
    ∧ win0_18.index t = ![min t.val 63, 0] ∧ win0_19.index t = ![min t.val 63, 0] ∧ win0_20.index t = ![min t.val 63, 0]
    ∧ win0_21.index t = ![min t.val 63, 0] ∧ win0_22.index t = ![min t.val 63, 0] ∧ win0_23.index t = ![min t.val 63, 0]) t

/-- An index of a matrix is its two coordinates. -/
theorem ix2_ext {a b : Nat} (e : (⟨2, ![a, b]⟩ : Shape).Idx) (i : Fin a) (j : Fin b) (e0 : (e 0).val = i.val) (e1 : (e 1).val = j.val) : e = ix2 i j := by
  funext k
  apply Fin.ext
  fin_cases k
  · exact e0
  · exact e1

/-- A block row of the input is a row of its array. -/
theorem blk0 (c : Dev nD) (t : Fin cfg0.N) (i : Fin 256) (j : Fin 2048) : iblk m c 0 t (ix2 i j) = m ((c : Thread nD τ).loc main_arg0) (ix2 (rowOf t i) j) := by
  unfold rowOf
  blk_point [iblk, V, idx t]

/-- Window 1's block is its whole array. -/
theorem blk1 (c : Dev nD) (t : Fin cfg0.N) (i : Fin 1) (j : Fin 2048) : iblk m c 1 t (ix2 i j) = m ((c : Thread nD τ).loc main_arg1) (ix2 i j) := by
  blk_point [iblk, V, idx t]

/-- Window 2's block is its whole array. -/
theorem blk2 (c : Dev nD) (t : Fin cfg0.N) (i : Fin 2048) (j : Fin 4096) : iblk m c 2 t (ix2 i j) = m ((c : Thread nD τ).loc main_arg2) (ix2 i j) := by
  blk_point [iblk, V, idx t]

/-- Window 3's block is its whole array. -/
theorem blk3 (c : Dev nD) (t : Fin cfg0.N) (i : Fin 2048) (j : Fin 128) : iblk m c 3 t (ix2 i j) = m ((c : Thread nD τ).loc main_arg3) (ix2 i j) := by
  blk_point [iblk, V, idx t]

/-- Window 4's block is its whole array. -/
theorem blk4 (c : Dev nD) (t : Fin cfg0.N) (i : Fin 2048) (j : Fin 2304) : iblk m c 4 t (ix2 i j) = m ((c : Thread nD τ).loc main_arg4) (ix2 i j) := by
  blk_point [iblk, V, idx t]

/-- Window 8's block is its whole array. -/
theorem blk8 (c : Dev nD) (t : Fin cfg0.N) (i : Fin 1) (j : Fin 128) : iblk m c 8 t (ix2 i j) = m ((c : Thread nD τ).loc main_arg6) (ix2 i j) := by
  blk_point [iblk, V, idx t]

/-- Window 9's block is its whole array. -/
theorem blk9 (c : Dev nD) (t : Fin cfg0.N) (i : Fin 1) (j : Fin 128) : iblk m c 9 t (ix2 i j) = m ((c : Thread nD τ).loc main_arg7) (ix2 i j) := by
  blk_point [iblk, V, idx t]

/-- Window 10's block is its whole array. -/
theorem blk10 (c : Dev nD) (t : Fin cfg0.N) (i : Fin 1) (j : Fin 512) : iblk m c 10 t (ix2 i j) = m ((c : Thread nD τ).loc main_arg8) (ix2 i j) := by
  blk_point [iblk, V, idx t]

/-- Window 11's block is its whole array. -/
theorem blk11 (c : Dev nD) (t : Fin cfg0.N) (i : Fin 1) (j : Fin 128) : iblk m c 11 t (ix2 i j) = m ((c : Thread nD τ).loc main_arg9) (ix2 i j) := by
  blk_point [iblk, V, idx t]

/-- Window 12's block is its whole array. -/
theorem blk12 (c : Dev nD) (t : Fin cfg0.N) (i : Fin 1) (j : Fin 512) : iblk m c 12 t (ix2 i j) = m ((c : Thread nD τ).loc main_arg10) (ix2 i j) := by
  blk_point [iblk, V, idx t]

/-- The kernel's normalised rows are the reference's. -/
theorem k0_pay3_apply (c : Dev nD) (t : Fin cfg0.N) (y : Fin 256) (x : Fin 2048) :
    k0_pay3 (iblk m c 0 t) (iblk m c 1 t) (ix2 y x) = hnS (m ((c : Thread nD τ).loc main_arg0)) (m ((c : Thread nD τ).loc main_arg1)) (rowOf t y) x := by
  pointwise [k0_pay3]
  simp only [blk0, blk1]
  rfl

/-- Where an entry of window 15's block stands in its array. -/
theorem emb15 (t : Fin cfg0.N) (y0 : Fin 256) (y1 : Fin 1024) : ((View.whole main_v37_1).slice (win0_15.rect t)).emb (ix2 y0 y1) = ix2 (rowOf t y0) y1 := by
  have e0 : ((((View.whole main_v37_1).slice (win0_15.rect t)).emb (ix2 y0 y1)) 0).val = min t.val 63 * 256 + y0.val := by blk_simp [idx t]
  have e1 : ((((View.whole main_v37_1).slice (win0_15.rect t)).emb (ix2 y0 y1)) 1).val = y1.val := by blk_simp [idx t]
  exact ix2_ext _ _ _ e0 e1

/-- Where an entry of window 16's block stands in its array. -/
theorem emb16 (t : Fin cfg0.N) (y0 : Fin 256) (y1 : Fin 128) : ((View.whole main_v37_2).slice (win0_16.rect t)).emb (ix2 y0 y1) = ix2 (rowOf t y0) y1 := by
  have e0 : ((((View.whole main_v37_2).slice (win0_16.rect t)).emb (ix2 y0 y1)) 0).val = min t.val 63 * 256 + y0.val := by blk_simp [idx t]
  have e1 : ((((View.whole main_v37_2).slice (win0_16.rect t)).emb (ix2 y0 y1)) 1).val = y1.val := by blk_simp [idx t]
  exact ix2_ext _ _ _ e0 e1

/-- Where an entry of window 18's block stands in its array. -/
theorem emb18 (t : Fin cfg0.N) (y0 : Fin 256) (y1 : Fin 512) : ((View.whole main_v37_4).slice (win0_18.rect t)).emb (ix2 y0 y1) = ix2 (rowOf t y0) y1 := by
  have e0 : ((((View.whole main_v37_4).slice (win0_18.rect t)).emb (ix2 y0 y1)) 0).val = min t.val 63 * 256 + y0.val := by blk_simp [idx t]
  have e1 : ((((View.whole main_v37_4).slice (win0_18.rect t)).emb (ix2 y0 y1)) 1).val = y1.val := by blk_simp [idx t]
  exact ix2_ext _ _ _ e0 e1

/-- Where an entry of window 19's block stands in its array. -/
theorem emb19 (t : Fin cfg0.N) (y0 : Fin 256) (y1 : Fin 128) : ((View.whole main_v37_5).slice (win0_19.rect t)).emb (ix2 y0 y1) = ix2 (rowOf t y0) y1 := by
  have e0 : ((((View.whole main_v37_5).slice (win0_19.rect t)).emb (ix2 y0 y1)) 0).val = min t.val 63 * 256 + y0.val := by blk_simp [idx t]
  have e1 : ((((View.whole main_v37_5).slice (win0_19.rect t)).emb (ix2 y0 y1)) 1).val = y1.val := by blk_simp [idx t]
  exact ix2_ext _ _ _ e0 e1

/-- Where an entry of window 20's block stands in its array. -/
theorem emb20 (t : Fin cfg0.N) (y0 : Fin 256) (y1 : Fin 128) : ((View.whole main_v37_6).slice (win0_20.rect t)).emb (ix2 y0 y1) = ix2 (rowOf t y0) y1 := by
  have e0 : ((((View.whole main_v37_6).slice (win0_20.rect t)).emb (ix2 y0 y1)) 0).val = min t.val 63 * 256 + y0.val := by blk_simp [idx t]
  have e1 : ((((View.whole main_v37_6).slice (win0_20.rect t)).emb (ix2 y0 y1)) 1).val = y1.val := by blk_simp [idx t]
  exact ix2_ext _ _ _ e0 e1

/-- Where an entry of window 21's block stands in its array. -/
theorem emb21 (t : Fin cfg0.N) (y0 : Fin 256) (y1 : Fin 512) : ((View.whole main_v37_7).slice (win0_21.rect t)).emb (ix2 y0 y1) = ix2 (rowOf t y0) y1 := by
  have e0 : ((((View.whole main_v37_7).slice (win0_21.rect t)).emb (ix2 y0 y1)) 0).val = min t.val 63 * 256 + y0.val := by blk_simp [idx t]
  have e1 : ((((View.whole main_v37_7).slice (win0_21.rect t)).emb (ix2 y0 y1)) 1).val = y1.val := by blk_simp [idx t]
  exact ix2_ext _ _ _ e0 e1

/-- Where an entry of window 22's block stands in its array. -/
theorem emb22 (t : Fin cfg0.N) (y0 : Fin 256) (y1 : Fin 512) : ((View.whole main_v37_8).slice (win0_22.rect t)).emb (ix2 y0 y1) = ix2 (rowOf t y0) y1 := by
  have e0 : ((((View.whole main_v37_8).slice (win0_22.rect t)).emb (ix2 y0 y1)) 0).val = min t.val 63 * 256 + y0.val := by blk_simp [idx t]
  have e1 : ((((View.whole main_v37_8).slice (win0_22.rect t)).emb (ix2 y0 y1)) 1).val = y1.val := by blk_simp [idx t]
  exact ix2_ext _ _ _ e0 e1

/-- Where an entry of window 23's block stands in its array. -/
theorem emb23 (t : Fin cfg0.N) (y0 : Fin 256) (y1 : Fin 512) : ((View.whole main_v37_9).slice (win0_23.rect t)).emb (ix2 y0 y1) = ix2 (rowOf t y0) y1 := by
  have e0 : ((((View.whole main_v37_9).slice (win0_23.rect t)).emb (ix2 y0 y1)) 0).val = min t.val 63 * 256 + y0.val := by blk_simp [idx t]
  have e1 : ((((View.whole main_v37_9).slice (win0_23.rect t)).emb (ix2 y0 y1)) 1).val = y1.val := by blk_simp [idx t]
  exact ix2_ext _ _ _ e0 e1

end Cert.InProjIdeal.RefValue
end
-- ==== Proof.InProjGates.lean ====
/-
  The input projection: the gates, the values of the windowed attention and the queries of the cross-attention.
-/
module

public import proofs.«01_k».proof.Proof.InProjBase

@[expose] public section

set_option maxRecDepth 16384
set_option maxHeartbeats 1000000

noncomputable section

namespace Cert.InProjIdeal.RefValue

open Cert.InProjIdeal Cert.InProjIdeal.Gen Idealize.ShloMosaic Idealize.ShloMosaic.TcCoe Idealize.SL.Sem
open Idealize.ShloMosaic.Pipeline (Dat)
open Cert.InProjRefIdeal.RefValue

variable (m : (ℓ : Loc nD τ sig) → Buf (Elt Ideal) ℓ)

/-- The result array of window 23 after the run is the reference's. -/
theorem final23 (c : Dev nD) : (dats m 0 c).arrAt 23 cfg0.N
    = REF8 (m ((c : Thread nD τ).loc main_arg0)) (m ((c : Thread nD τ).loc main_arg1)) (m ((c : Thread nD τ).loc main_arg4)) := by
  refine (dats m 0 c).arrAt_eq_of_covers 23 _ (by decide +kernel) fun t hf y => ?_
  blk_simp
  rw [after0_23]
  by_cases e0 : t.val % 65 = 0
  on_goal 1 => rw [outsAt0_A m c t e0]
  on_goal 2 => rw [outsAt0_B m c t e0]
  all_goals
    dsimp only
    frame_out
    idx_vars y
    rw [emb23]
    pointwise [k0_pay471, REF8, r_v182]
    simp only [k0_pay3_apply, blk4, r_v55_apply]
    try rfl

/-- The result array of window 21 after the run is the reference's. -/
theorem final21 (c : Dev nD) : (dats m 0 c).arrAt 21 cfg0.N
    = REF6 (m ((c : Thread nD τ).loc main_arg0)) (m ((c : Thread nD τ).loc main_arg1)) (m ((c : Thread nD τ).loc main_arg4)) := by
  refine (dats m 0 c).arrAt_eq_of_covers 21 _ (by decide +kernel) fun t hf y => ?_
  blk_simp
  rw [after0_21]
  by_cases e0 : t.val % 65 = 0
  on_goal 1 => rw [outsAt0_A m c t e0]
  on_goal 2 => rw [outsAt0_B m c t e0]
  all_goals
    dsimp only
    frame_out
    idx_vars y
    rw [emb21]
    pointwise [k0_pay398, REF6, r_v157]
    simp only [k0_pay3_apply, blk4, r_v55_apply]
    try rfl

/-- The result array of window 20 after the run is the reference's. -/
theorem final20 (c : Dev nD) : (dats m 0 c).arrAt 20 cfg0.N
    = REF5 (m ((c : Thread nD τ).loc main_arg0)) (m ((c : Thread nD τ).loc main_arg1)) (m ((c : Thread nD τ).loc main_arg4)) := by
  refine (dats m 0 c).arrAt_eq_of_covers 20 _ (by decide +kernel) fun t hf y => ?_
  blk_simp
  rw [after0_20]
  by_cases e0 : t.val % 65 = 0
  on_goal 1 => rw [outsAt0_A m c t e0]
  on_goal 2 => rw [outsAt0_B m c t e0]
  all_goals
    dsimp only
    frame_out
    idx_vars y
    rw [emb20]
    pointwise [k0_pay380, k0_pay378, REF5]
    have e : (⟨512 + (128 + y1.val), by omega⟩ : Fin 2304) = ⟨640 + y1.val, by omega⟩ := Fin.ext (by simp only []; omega)
    simp only [k0_pay3_apply, blk4, r_v55_apply, e]
    try rfl

end Cert.InProjIdeal.RefValue
end
-- ==== Proof.InProjResults.lean ====
/-
  The input projection's reference: what its run leaves in its nine results, as terms of the argument arrays.
-/
module

public import proofs.«01_k».proof.Proof.InProjRef

@[expose] public section

set_option maxRecDepth 16384
set_option maxHeartbeats 1000000

noncomputable section

namespace Cert.InProjRefIdeal.RefValue

open Cert.InProjRefIdeal Cert.InProjRefIdeal.Gen Idealize.ShloMosaic Idealize.ShloMosaic.TcCoe Idealize.SL.Sem

variable (m : (ℓ : Loc nD τ sig) → Buf (Elt Ideal) ℓ) (c : Dev nD)

/-- An intermediate array of the reference, from the memory it starts from. -/
theorem at_v11 : Value.res_main_v11 (StableHlo.launchContents m c) = r_v11 (m ((c : Thread nD τ).loc main_arg0)) (m ((c : Thread nD τ).loc main_arg1)) := by
  unfold Value.res_main_v11 r_v11
  rfl

/-- An intermediate array of the reference, from the memory it starts from. -/
theorem at_v14 : Value.res_main_v14 (StableHlo.launchContents m c) = r_v14 (m ((c : Thread nD τ).loc main_arg0)) (m ((c : Thread nD τ).loc main_arg1)) (m ((c : Thread nD τ).loc main_arg2)) := by
  unfold Value.res_main_v14 r_v14
  simp only [at_v11]
  try rfl

/-- An intermediate array of the reference, from the memory it starts from. -/
theorem at_v23 : Value.res_main_v23 (StableHlo.launchContents m c) = r_v23 (m ((c : Thread nD τ).loc main_arg0)) (m ((c : Thread nD τ).loc main_arg1)) (m ((c : Thread nD τ).loc main_arg3)) := by
  unfold Value.res_main_v23 r_v23
  simp only [at_v11]
  try rfl

/-- An intermediate array of the reference, from the memory it starts from. -/
theorem at_v30 : Value.res_main_v30 (StableHlo.launchContents m c) = r_v30 (m ((c : Thread nD τ).loc main_arg0)) (m ((c : Thread nD τ).loc main_arg1)) (m ((c : Thread nD τ).loc main_arg3)) (m ((c : Thread nD τ).loc main_arg7)) := by
  unfold Value.res_main_v30 r_v30
  simp only [at_v23]
  try rfl

/-- An intermediate array of the reference, from the memory it starts from. -/
theorem at_call0_cst : Value.res_main_call0_cst (StableHlo.launchContents m c) = r_call0_cst  := by
  unfold Value.res_main_call0_cst r_call0_cst
  rfl

/-- An intermediate array of the reference, from the memory it starts from. -/
theorem at_call0_v3 : Value.res_main_call0_v3 (StableHlo.launchContents m c) = r_call0_v3 (m ((c : Thread nD τ).loc main_arg0)) (m ((c : Thread nD τ).loc main_arg1)) (m ((c : Thread nD τ).loc main_arg3)) (m ((c : Thread nD τ).loc main_arg7)) := by
  unfold Value.res_main_call0_v3 r_call0_v3
  simp only [at_v30, at_call0_cst]
  try rfl

/-- An intermediate array of the reference, from the memory it starts from. -/
theorem at_v34 : Value.res_main_v34 (StableHlo.launchContents m c) = r_v34 (m ((c : Thread nD τ).loc main_arg0)) (m ((c : Thread nD τ).loc main_arg1)) (m ((c : Thread nD τ).loc main_arg3)) (m ((c : Thread nD τ).loc main_arg6)) (m ((c : Thread nD τ).loc main_arg7)) := by
  unfold Value.res_main_v34 r_v34
  simp only [at_v30, at_call0_cst, at_call0_v3]
  try rfl

/-- An intermediate array of the reference, from the memory it starts from. -/
theorem at_v55 : Value.res_main_v55 (StableHlo.launchContents m c) = r_v55 (m ((c : Thread nD τ).loc main_arg0)) (m ((c : Thread nD τ).loc main_arg1)) (m ((c : Thread nD τ).loc main_arg4)) := by
  unfold Value.res_main_v55 r_v55
  simp only [at_v11]
  try rfl

/-- An intermediate array of the reference, from the memory it starts from. -/
theorem at_v57 : Value.res_main_v57 (StableHlo.launchContents m c) = r_v57 (m ((c : Thread nD τ).loc main_arg0)) (m ((c : Thread nD τ).loc main_arg1)) (m ((c : Thread nD τ).loc main_arg4)) := by
  unfold Value.res_main_v57 r_v57
  simp only [at_v55]
  try rfl

/-- An intermediate array of the reference, from the memory it starts from. -/
theorem at_v71 : Value.res_main_v71 (StableHlo.launchContents m c) = r_v71 (m ((c : Thread nD τ).loc main_arg0)) (m ((c : Thread nD τ).loc main_arg1)) (m ((c : Thread nD τ).loc main_arg4)) (m ((c : Thread nD τ).loc main_arg8)) := by
  unfold Value.res_main_v71 r_v71
  simp only [at_v57]
  try rfl

/-- An intermediate array of the reference, from the memory it starts from. -/
theorem at_v87 : Value.res_main_v87 (StableHlo.launchContents m c) = r_v87  := by
  unfold Value.res_main_v87 r_v87
  rfl

/-- An intermediate array of the reference, from the memory it starts from. -/
theorem at_v89 : Value.res_main_v89 (StableHlo.launchContents m c) = r_v89  := by
  unfold Value.res_main_v89 r_v89
  simp only [at_v87]
  try rfl

/-- An intermediate array of the reference, from the memory it starts from. -/
theorem at_v91 : Value.res_main_v91 (StableHlo.launchContents m c) = r_v91  := by
  unfold Value.res_main_v91 r_v91
  simp only [at_v87]
  try rfl

/-- An intermediate array of the reference, from the memory it starts from. -/
theorem at_v92 : Value.res_main_v92 (StableHlo.launchContents m c) = r_v92 (m ((c : Thread nD τ).loc main_arg0)) (m ((c : Thread nD τ).loc main_arg1)) (m ((c : Thread nD τ).loc main_arg4)) (m ((c : Thread nD τ).loc main_arg8)) := by
  unfold Value.res_main_v92 r_v92
  simp only [at_v71]
  try rfl

/-- An intermediate array of the reference, from the memory it starts from. -/
theorem at_v93 : Value.res_main_v93 (StableHlo.launchContents m c) = r_v93 (m ((c : Thread nD τ).loc main_arg0)) (m ((c : Thread nD τ).loc main_arg1)) (m ((c : Thread nD τ).loc main_arg4)) (m ((c : Thread nD τ).loc main_arg8)) := by
  unfold Value.res_main_v93 r_v93
  simp only [at_v71]
  try rfl

/-- An intermediate array of the reference, from the memory it starts from. -/
theorem at_v107 : Value.res_main_v107 (StableHlo.launchContents m c) = r_v107 (m ((c : Thread nD τ).loc main_arg0)) (m ((c : Thread nD τ).loc main_arg1)) (m ((c : Thread nD τ).loc main_arg4)) := by
  unfold Value.res_main_v107 r_v107
  simp only [at_v55]
  try rfl

/-- An intermediate array of the reference, from the memory it starts from. -/
theorem at_v121 : Value.res_main_v121 (StableHlo.launchContents m c) = r_v121 (m ((c : Thread nD τ).loc main_arg0)) (m ((c : Thread nD τ).loc main_arg1)) (m ((c : Thread nD τ).loc main_arg4)) (m ((c : Thread nD τ).loc main_arg9)) := by
  unfold Value.res_main_v121 r_v121
  simp only [at_v107]
  try rfl

/-- An intermediate array of the reference, from the memory it starts from. -/
theorem at_v137 : Value.res_main_v137 (StableHlo.launchContents m c) = r_v137  := by
  unfold Value.res_main_v137 r_v137
  rfl

/-- An intermediate array of the reference, from the memory it starts from. -/
theorem at_v139 : Value.res_main_v139 (StableHlo.launchContents m c) = r_v139  := by
  unfold Value.res_main_v139 r_v139
  simp only [at_v137]
  try rfl

/-- An intermediate array of the reference, from the memory it starts from. -/
theorem at_v141 : Value.res_main_v141 (StableHlo.launchContents m c) = r_v141  := by
  unfold Value.res_main_v141 r_v141
  simp only [at_v137]
  try rfl

/-- An intermediate array of the reference, from the memory it starts from. -/
theorem at_v142 : Value.res_main_v142 (StableHlo.launchContents m c) = r_v142 (m ((c : Thread nD τ).loc main_arg0)) (m ((c : Thread nD τ).loc main_arg1)) (m ((c : Thread nD τ).loc main_arg4)) (m ((c : Thread nD τ).loc main_arg9)) := by
  unfold Value.res_main_v142 r_v142
  simp only [at_v121]
  try rfl

/-- An intermediate array of the reference, from the memory it starts from. -/
theorem at_v143 : Value.res_main_v143 (StableHlo.launchContents m c) = r_v143 (m ((c : Thread nD τ).loc main_arg0)) (m ((c : Thread nD τ).loc main_arg1)) (m ((c : Thread nD τ).loc main_arg4)) (m ((c : Thread nD τ).loc main_arg9)) := by
  unfold Value.res_main_v143 r_v143
  simp only [at_v121]
  try rfl

/-- An intermediate array of the reference, from the memory it starts from. -/
theorem at_v157 : Value.res_main_v157 (StableHlo.launchContents m c) = r_v157 (m ((c : Thread nD τ).loc main_arg0)) (m ((c : Thread nD τ).loc main_arg1)) (m ((c : Thread nD τ).loc main_arg4)) := by
  unfold Value.res_main_v157 r_v157
  simp only [at_v55]
  try rfl

/-- An intermediate array of the reference, from the memory it starts from. -/
theorem at_v166 : Value.res_main_v166 (StableHlo.launchContents m c) = r_v166 (m ((c : Thread nD τ).loc main_arg0)) (m ((c : Thread nD τ).loc main_arg1)) (m ((c : Thread nD τ).loc main_arg4)) := by
  unfold Value.res_main_v166 r_v166
  simp only [at_v55]
  try rfl

/-- An intermediate array of the reference, from the memory it starts from. -/
theorem at_v182 : Value.res_main_v182 (StableHlo.launchContents m c) = r_v182 (m ((c : Thread nD τ).loc main_arg0)) (m ((c : Thread nD τ).loc main_arg1)) (m ((c : Thread nD τ).loc main_arg4)) := by
  unfold Value.res_main_v182 r_v182
  simp only [at_v55]
  try rfl

/-- The reference's result 0 from the memory it starts from. -/
theorem out0 : (truncf .bf16 (mulf (Value.res_main_v14 (StableHlo.launchContents m c)) (Host.divf (broadcastInDim S16384x1024 ![] bcast_S_S16384x1024 (constant S_ .f32 0x3F800000#32)) (addf (broadcastInDim S16384x1024 ![] bcast_S_S16384x1024 (constant S_ .f32 0x3F800000#32)) (Host.exp (Host.negf (Value.res_main_v14 (StableHlo.launchContents m c))))))) bitsLt_bf16_f32)
    = REF0 (m ((c : Thread nD τ).loc main_arg0)) (m ((c : Thread nD τ).loc main_arg1)) (m ((c : Thread nD τ).loc main_arg2)) := by
  simp only [at_v14]
  rfl

/-- The reference's result 1 from the memory it starts from. -/
theorem out1 : ((concatenate S16384x128 1 [⟨S16384x8, ((shapeCast _ (Host.reduceWindowAdd ![1, 64, 1] ![1, 1, 1] ![0, 63, 0] ![0, 0, 0] (extractStridedSlice S256x64x8 ![0, 0, 0] (Value.res_main_v34 (StableHlo.launchContents m c)) slices_S256x64x16_S256x64x8_0_0_0) (broadcastInDim S_ ![] bcast_S_S_ (constant S_ .f32 0x00000000#32)) reduceWindows_S256x64x8_S256x64x8_w1s1p0_0_w64s1p63_0_w1s1p0_0 h_S_) shapeCasts_S256x64x8_S16384x8) : FVec Ideal S16384x8 .f32)⟩, ⟨S16384x8, ((shapeCast _ (Host.reverse [1] (Host.reduceWindowAdd ![1, 64, 1] ![1, 1, 1] ![0, 63, 0] ![0, 0, 0] (Host.reverse [1] (extractStridedSlice S256x64x8 ![0, 0, 8] (Value.res_main_v34 (StableHlo.launchContents m c)) slices_S256x64x16_S256x64x8_0_0_8)) (broadcastInDim S_ ![] bcast_S_S_ (constant S_ .f32 0x00000000#32)) reduceWindows_S256x64x8_S256x64x8_w1s1p0_0_w64s1p63_0_w1s1p0_0 h_S_)) shapeCasts_S256x64x8_S16384x8) : FVec Ideal S16384x8 .f32)⟩, ⟨S16384x16, ((Host.divf (broadcastInDim S16384x16 ![] bcast_S_S16384x16 (constant S_ .f32 0x3F800000#32)) (addf (broadcastInDim S16384x16 ![] bcast_S_S16384x16 (constant S_ .f32 0x3F800000#32)) (Host.exp (Host.negf (extractStridedSlice S16384x16 ![0, 16] (Value.res_main_v23 (StableHlo.launchContents m c)) slices_S16384x128_S16384x16_0_16))))) : FVec Ideal S16384x16 .f32)⟩, ⟨S16384x96, ((broadcastInDim S16384x96 ![] bcast_S_S16384x96 (constant S_ .f32 0x00000000#32)) : FVec Ideal S16384x96 .f32)⟩] concatenates_S16384x8_S16384x8_S16384x16_S16384x96_S16384x128_d1 : FVec Ideal S16384x128 .f32))
    = REF1 (m ((c : Thread nD τ).loc main_arg0)) (m ((c : Thread nD τ).loc main_arg1)) (m ((c : Thread nD τ).loc main_arg3)) (m ((c : Thread nD τ).loc main_arg6)) (m ((c : Thread nD τ).loc main_arg7)) := by
  simp only [at_v23, at_v34]
  rfl

/-- The reference's result 2 from the memory it starts from. -/
theorem out2 : (transpose S64x128x256 [0, 2, 1] (shapeCast _ ((concatenate S16384x128 1 [⟨S16384x8, ((shapeCast _ (Host.reduceWindowAdd ![1, 64, 1] ![1, 1, 1] ![0, 63, 0] ![0, 0, 0] (extractStridedSlice S256x64x8 ![0, 0, 0] (Value.res_main_v34 (StableHlo.launchContents m c)) slices_S256x64x16_S256x64x8_0_0_0) (broadcastInDim S_ ![] bcast_S_S_ (constant S_ .f32 0x00000000#32)) reduceWindows_S256x64x8_S256x64x8_w1s1p0_0_w64s1p63_0_w1s1p0_0 h_S_) shapeCasts_S256x64x8_S16384x8) : FVec Ideal S16384x8 .f32)⟩, ⟨S16384x8, ((shapeCast _ (Host.reverse [1] (Host.reduceWindowAdd ![1, 64, 1] ![1, 1, 1] ![0, 63, 0] ![0, 0, 0] (Host.reverse [1] (extractStridedSlice S256x64x8 ![0, 0, 8] (Value.res_main_v34 (StableHlo.launchContents m c)) slices_S256x64x16_S256x64x8_0_0_8)) (broadcastInDim S_ ![] bcast_S_S_ (constant S_ .f32 0x00000000#32)) reduceWindows_S256x64x8_S256x64x8_w1s1p0_0_w64s1p63_0_w1s1p0_0 h_S_)) shapeCasts_S256x64x8_S16384x8) : FVec Ideal S16384x8 .f32)⟩, ⟨S16384x16, ((Host.divf (broadcastInDim S16384x16 ![] bcast_S_S16384x16 (constant S_ .f32 0x3F800000#32)) (addf (broadcastInDim S16384x16 ![] bcast_S_S16384x16 (constant S_ .f32 0x3F800000#32)) (Host.exp (Host.negf (extractStridedSlice S16384x16 ![0, 16] (Value.res_main_v23 (StableHlo.launchContents m c)) slices_S16384x128_S16384x16_0_16))))) : FVec Ideal S16384x16 .f32)⟩, ⟨S16384x96, ((broadcastInDim S16384x96 ![] bcast_S_S16384x96 (constant S_ .f32 0x00000000#32)) : FVec Ideal S16384x96 .f32)⟩] concatenates_S16384x8_S16384x8_S16384x16_S16384x96_S16384x128_d1 : FVec Ideal S16384x128 .f32)) shapeCasts_S16384x128_S64x256x128) transposes_S64x256x128_S64x128x256_0_2_1)
    = REF2 (m ((c : Thread nD τ).loc main_arg0)) (m ((c : Thread nD τ).loc main_arg1)) (m ((c : Thread nD τ).loc main_arg3)) (m ((c : Thread nD τ).loc main_arg6)) (m ((c : Thread nD τ).loc main_arg7)) := by
  simp only [at_v23, at_v34]
  rfl

/-- The reference's result 3 from the memory it starts from. -/
theorem out3 : (truncf .bf16 (shapeCast _ (concatenate S8x2048x8x64 3 [⟨S8x2048x8x32, (subf (mulf (Value.res_main_v92 (StableHlo.launchContents m c)) (broadcastInDim S8x2048x8x32 ![0, 1, 2, 3] bcast_S1x2048x1x32_S8x2048x8x32_0_1_2_3 (Value.res_main_v89 (StableHlo.launchContents m c)))) (mulf (Value.res_main_v93 (StableHlo.launchContents m c)) (broadcastInDim S8x2048x8x32 ![0, 1, 2, 3] bcast_S1x2048x1x32_S8x2048x8x32_0_1_2_3 (Value.res_main_v91 (StableHlo.launchContents m c)))))⟩, ⟨S8x2048x8x32, (addf (mulf (Value.res_main_v93 (StableHlo.launchContents m c)) (broadcastInDim S8x2048x8x32 ![0, 1, 2, 3] bcast_S1x2048x1x32_S8x2048x8x32_0_1_2_3 (Value.res_main_v89 (StableHlo.launchContents m c)))) (mulf (Value.res_main_v92 (StableHlo.launchContents m c)) (broadcastInDim S8x2048x8x32 ![0, 1, 2, 3] bcast_S1x2048x1x32_S8x2048x8x32_0_1_2_3 (Value.res_main_v91 (StableHlo.launchContents m c)))))⟩] concatenates_S8x2048x8x32_S8x2048x8x32_S8x2048x8x64_d3) shapeCasts_S8x2048x8x64_S16384x512) bitsLt_bf16_f32)
    = REF3 (m ((c : Thread nD τ).loc main_arg0)) (m ((c : Thread nD τ).loc main_arg1)) (m ((c : Thread nD τ).loc main_arg4)) (m ((c : Thread nD τ).loc main_arg8)) := by
  simp only [at_v89, at_v91, at_v92, at_v93]
  rfl

/-- The reference's result 4 from the memory it starts from. -/
theorem out4 : (truncf .bf16 (shapeCast _ (concatenate S8x2048x2x64 3 [⟨S8x2048x2x32, (subf (mulf (Value.res_main_v142 (StableHlo.launchContents m c)) (broadcastInDim S8x2048x2x32 ![0, 1, 2, 3] bcast_S1x2048x1x32_S8x2048x2x32_0_1_2_3 (Value.res_main_v139 (StableHlo.launchContents m c)))) (mulf (Value.res_main_v143 (StableHlo.launchContents m c)) (broadcastInDim S8x2048x2x32 ![0, 1, 2, 3] bcast_S1x2048x1x32_S8x2048x2x32_0_1_2_3 (Value.res_main_v141 (StableHlo.launchContents m c)))))⟩, ⟨S8x2048x2x32, (addf (mulf (Value.res_main_v143 (StableHlo.launchContents m c)) (broadcastInDim S8x2048x2x32 ![0, 1, 2, 3] bcast_S1x2048x1x32_S8x2048x2x32_0_1_2_3 (Value.res_main_v139 (StableHlo.launchContents m c)))) (mulf (Value.res_main_v142 (StableHlo.launchContents m c)) (broadcastInDim S8x2048x2x32 ![0, 1, 2, 3] bcast_S1x2048x1x32_S8x2048x2x32_0_1_2_3 (Value.res_main_v141 (StableHlo.launchContents m c)))))⟩] concatenates_S8x2048x2x32_S8x2048x2x32_S8x2048x2x64_d3) shapeCasts_S8x2048x2x64_S16384x128) bitsLt_bf16_f32)
    = REF4 (m ((c : Thread nD τ).loc main_arg0)) (m ((c : Thread nD τ).loc main_arg1)) (m ((c : Thread nD τ).loc main_arg4)) (m ((c : Thread nD τ).loc main_arg9)) := by
  simp only [at_v139, at_v141, at_v142, at_v143]
  rfl

/-- The reference's result 5 from the memory it starts from. -/
theorem out5 : (truncf .bf16 (extractStridedSlice S16384x128 ![0, 640] (Value.res_main_v55 (StableHlo.launchContents m c)) slices_S16384x2304_S16384x128_0_640) bitsLt_bf16_f32)
    = REF5 (m ((c : Thread nD τ).loc main_arg0)) (m ((c : Thread nD τ).loc main_arg1)) (m ((c : Thread nD τ).loc main_arg4)) := by
  simp only [at_v55]
  rfl

/-- The reference's result 6 from the memory it starts from. -/
theorem out6 : (truncf .bf16 (mulf (Value.res_main_v157 (StableHlo.launchContents m c)) (Host.divf (broadcastInDim S16384x512 ![] bcast_S_S16384x512 (constant S_ .f32 0x3F800000#32)) (addf (broadcastInDim S16384x512 ![] bcast_S_S16384x512 (constant S_ .f32 0x3F800000#32)) (Host.exp (Host.negf (Value.res_main_v157 (StableHlo.launchContents m c))))))) bitsLt_bf16_f32)
    = REF6 (m ((c : Thread nD τ).loc main_arg0)) (m ((c : Thread nD τ).loc main_arg1)) (m ((c : Thread nD τ).loc main_arg4)) := by
  simp only [at_v157]
  rfl

/-- The reference's result 7 from the memory it starts from. -/
theorem out7 : (truncf .bf16 (shapeCast _ (mulf (mulf (Value.res_main_v166 (StableHlo.launchContents m c)) (broadcastInDim S16384x4x128 ![0, 1, 2] bcast_S16384x4x1_S16384x4x128_0_1_2 (Host.rsqrt (addf (Host.divf (broadcastInDim S16384x4x1 ![0, 1] bcast_S16384x4_S16384x4x1_0_1 (Host.reduceAdd (mulf (Value.res_main_v166 (StableHlo.launchContents m c)) (Value.res_main_v166 (StableHlo.launchContents m c))) (constant S_ .f32 0x00000000#32) reducesTo_S16384x4x128_S16384x4_d2 h_S_)) (broadcastInDim S16384x4x1 ![] bcast_S_S16384x4x1 (constant S_ .f32 0x43000000#32))) (broadcastInDim S16384x4x1 ![] bcast_S_S16384x4x1 (constant S_ .f32 0x358637BD#32)))))) (broadcastInDim S16384x4x128 ![0, 1, 2] bcast_S1x4x128_S16384x4x128_0_1_2 (broadcastInDim S1x4x128 ![1, 2] bcast_S4x128_S1x4x128_1_2 (shapeCast _ ((StableHlo.launchContents m c) (Proc.devRef .tc main_arg10)) shapeCasts_S1x512_S4x128)))) shapeCasts_S16384x4x128_S16384x512) bitsLt_bf16_f32)
    = REF7 (m ((c : Thread nD τ).loc main_arg0)) (m ((c : Thread nD τ).loc main_arg1)) (m ((c : Thread nD τ).loc main_arg4)) (m ((c : Thread nD τ).loc main_arg10)) := by
  simp only [at_v166]
  rfl

/-- The reference's result 8 from the memory it starts from. -/
theorem out8 : (truncf .bf16 (mulf (Value.res_main_v182 (StableHlo.launchContents m c)) (Host.divf (broadcastInDim S16384x512 ![] bcast_S_S16384x512 (constant S_ .f32 0x3F800000#32)) (addf (broadcastInDim S16384x512 ![] bcast_S_S16384x512 (constant S_ .f32 0x3F800000#32)) (Host.exp (Host.negf (Value.res_main_v182 (StableHlo.launchContents m c))))))) bitsLt_bf16_f32)
    = REF8 (m ((c : Thread nD τ).loc main_arg0)) (m ((c : Thread nD τ).loc main_arg1)) (m ((c : Thread nD τ).loc main_arg4)) := by
  simp only [at_v182]
  rfl

/-- What a run of the reference leaves in its nine results. -/
theorem run_ref (ρ : Dev nD → PrngReg) :
    θ_run (defs (F := Ideal)) (onTc (τ := τ) (main (F := Ideal))) ⟨m, fun _ => 0, ρ⟩ (fun r => ∀ c : Dev nD,
      r.2.mem ((c.tc : Thread nD τ).loc main_v190) = REF0 (m ((c : Thread nD τ).loc main_arg0)) (m ((c : Thread nD τ).loc main_arg1)) (m ((c : Thread nD τ).loc main_arg2))
      ∧ r.2.mem ((c.tc : Thread nD τ).loc main_v51) = REF1 (m ((c : Thread nD τ).loc main_arg0)) (m ((c : Thread nD τ).loc main_arg1)) (m ((c : Thread nD τ).loc main_arg3)) (m ((c : Thread nD τ).loc main_arg6)) (m ((c : Thread nD τ).loc main_arg7))
      ∧ r.2.mem ((c.tc : Thread nD τ).loc main_v53) = REF2 (m ((c : Thread nD τ).loc main_arg0)) (m ((c : Thread nD τ).loc main_arg1)) (m ((c : Thread nD τ).loc main_arg3)) (m ((c : Thread nD τ).loc main_arg6)) (m ((c : Thread nD τ).loc main_arg7))
      ∧ r.2.mem ((c.tc : Thread nD τ).loc main_v191) = REF3 (m ((c : Thread nD τ).loc main_arg0)) (m ((c : Thread nD τ).loc main_arg1)) (m ((c : Thread nD τ).loc main_arg4)) (m ((c : Thread nD τ).loc main_arg8))
      ∧ r.2.mem ((c.tc : Thread nD τ).loc main_v192) = REF4 (m ((c : Thread nD τ).loc main_arg0)) (m ((c : Thread nD τ).loc main_arg1)) (m ((c : Thread nD τ).loc main_arg4)) (m ((c : Thread nD τ).loc main_arg9))
      ∧ r.2.mem ((c.tc : Thread nD τ).loc main_v193) = REF5 (m ((c : Thread nD τ).loc main_arg0)) (m ((c : Thread nD τ).loc main_arg1)) (m ((c : Thread nD τ).loc main_arg4))
      ∧ r.2.mem ((c.tc : Thread nD τ).loc main_v194) = REF6 (m ((c : Thread nD τ).loc main_arg0)) (m ((c : Thread nD τ).loc main_arg1)) (m ((c : Thread nD τ).loc main_arg4))
      ∧ r.2.mem ((c.tc : Thread nD τ).loc main_v195) = REF7 (m ((c : Thread nD τ).loc main_arg0)) (m ((c : Thread nD τ).loc main_arg1)) (m ((c : Thread nD τ).loc main_arg4)) (m ((c : Thread nD τ).loc main_arg10))
      ∧ r.2.mem ((c.tc : Thread nD τ).loc main_v196) = REF8 (m ((c : Thread nD τ).loc main_arg0)) (m ((c : Thread nD τ).loc main_arg1)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c).1.trans (out0 m c), (h c).2.1.trans (out1 m c), (h c).2.2.1.trans (out2 m c), (h c).2.2.2.1.trans (out3 m c), (h c).2.2.2.2.1.trans (out4 m c), (h c).2.2.2.2.2.1.trans (out5 m c), (h c).2.2.2.2.2.2.1.trans (out6 m c), (h c).2.2.2.2.2.2.2.1.trans (out7 m c), (h c).2.2.2.2.2.2.2.2.1.trans (out8 m c), (h c).2.2.2.2.2.2.2.2.2⟩)
    (Value.run (F := Ideal) m ρ)

end Cert.InProjRefIdeal.RefValue
end
-- ==== Proof.InProjOutGate.lean ====
/-
  The input projection: the output gate.
-/
module

public import proofs.«01_k».proof.Proof.InProjBase

@[expose] public section

set_option maxRecDepth 16384
set_option maxHeartbeats 1000000

noncomputable section

namespace Cert.InProjIdeal.RefValue

open Cert.InProjIdeal Cert.InProjIdeal.Gen Idealize.ShloMosaic Idealize.ShloMosaic.TcCoe Idealize.SL.Sem
open Idealize.ShloMosaic.Pipeline (Dat)
open Cert.InProjRefIdeal.RefValue

variable (m : (ℓ : Loc nD τ sig) → Buf (Elt Ideal) ℓ)

/-- The result array of window 15 after the run is the reference's. -/
theorem final15 (c : Dev nD) : (dats m 0 c).arrAt 15 cfg0.N
    = REF0 (m ((c : Thread nD τ).loc main_arg0)) (m ((c : Thread nD τ).loc main_arg1)) (m ((c : Thread nD τ).loc main_arg2)) := by
  refine (dats m 0 c).arrAt_eq_of_covers 15 _ (by decide +kernel) fun t hf y => ?_
  blk_simp
  rw [after0_15]
  by_cases e0 : t.val % 65 = 0
  on_goal 1 => rw [outsAt0_A m c t e0]
  on_goal 2 => rw [outsAt0_B m c t e0]
  all_goals
    dsimp only
    frame_out
    canon_tiles x hf
    case piece0 =>
      idx_vars x
      idx_vars y
      have q0 : y0 = x0 := Fin.ext hf0
      have q1 : y1 = ⟨512 + x1.val, by clear * -; omega⟩ := Fin.ext (by first | exact hf1 | exact hf1.trans (Nat.zero_add _).symm)
      subst q0
      subst q1
      rw [emb15]
      have e : (⟨3072 + (512 + x1.val), by clear * -; omega⟩ : Fin 4096) = ⟨3584 + x1.val, by clear * -; omega⟩ := Fin.ext (by simp only []; omega)
      pointwise [k0_pay263, REF0, r_v14_apply]
      simp only [k0_pay3_apply, blk2, e]
      rfl
    case piece1 =>
      idx_vars x
      idx_vars y
      have q0 : y0 = x0 := Fin.ext hf0
      have q1 : y1 = ⟨0 + x1.val, by clear * -; omega⟩ := Fin.ext (by first | exact hf1 | exact hf1.trans (Nat.zero_add _).symm)
      subst q0
      subst q1
      rw [emb15]
      skip
      pointwise [k0_pay229, REF0, r_v14_apply]
      simp only [k0_pay3_apply, blk2]
      rfl

end Cert.InProjIdeal.RefValue
end
-- ==== Proof.InProjCross.lean ====
/-
  The input projection: the normalised queries of the cross-attention.
-/
module

public import proofs.«01_k».proof.Proof.InProjBase

@[expose] public section

set_option maxRecDepth 16384
set_option maxHeartbeats 1000000

noncomputable section

namespace Cert.InProjIdeal.RefValue

open Cert.InProjIdeal Cert.InProjIdeal.Gen Idealize.ShloMosaic Idealize.ShloMosaic.TcCoe Idealize.SL.Sem
open Idealize.ShloMosaic.Pipeline (Dat)
open Cert.InProjRefIdeal.RefValue

variable (m : (ℓ : Loc nD τ sig) → Buf (Elt Ideal) ℓ)

/-- The result array of window 22 after the run is the reference's. -/
theorem final22 (c : Dev nD) : (dats m 0 c).arrAt 22 cfg0.N
    = REF7 (m ((c : Thread nD τ).loc main_arg0)) (m ((c : Thread nD τ).loc main_arg1)) (m ((c : Thread nD τ).loc main_arg4)) (m ((c : Thread nD τ).loc main_arg10)) := by
  refine (dats m 0 c).arrAt_eq_of_covers 22 _ (by decide +kernel) fun t hf y => ?_
  blk_simp
  rw [after0_22]
  by_cases e0 : t.val % 65 = 0
  on_goal 1 => rw [outsAt0_A m c t e0]
  on_goal 2 => rw [outsAt0_B m c t e0]
  all_goals
    dsimp only
    frame_out
    canon_tiles x hf
    case piece0 =>
      idx_vars x
      idx_vars y
      have q0 : y0 = x0 := Fin.ext hf0
      have q1 : y1 = ⟨384 + x1.val, by clear * -; omega⟩ := Fin.ext (by first | exact hf1 | exact hf1.trans (Nat.zero_add _).symm)
      subst q0
      subst q1
      rw [emb22]
      have ec : ∀ x : Fin 128, (⟨1280 + ((384 + x1.val) / 128 * 128 + x.val), by clear * -; omega⟩ : Fin 2304) = ⟨1280 + (384 + x.val), by clear * -; omega⟩ := fun x => Fin.ext (by clear * -; simp only []; omega)
      have ez : ∀ x : Fin 128, (⟨1280 + (0 + x.val), by clear * -; omega⟩ : Fin 2304) = ⟨1280 + x.val, by clear * -; omega⟩ := fun x => Fin.ext (by clear * -; simp only []; omega)
      have ew : (⟨(384 + x1.val) / 128 * 128 + x1.val, by clear * -; omega⟩ : Fin 512) = ⟨384 + x1.val, by clear * -; omega⟩ := Fin.ext (by clear * -; simp only []; omega)
      pointwise [k0_pay435, k0_pay429, REF7, r_v166, r_v55_apply]
      simp only [k0_pay3_apply, blk4, blk12, ec, ew]
      try rfl
    case piece1 =>
      idx_vars x
      idx_vars y
      have q0 : y0 = x0 := Fin.ext hf0
      have q1 : y1 = ⟨256 + x1.val, by clear * -; omega⟩ := Fin.ext (by first | exact hf1 | exact hf1.trans (Nat.zero_add _).symm)
      subst q0
      subst q1
      rw [emb22]
      have ec : ∀ x : Fin 128, (⟨1280 + ((256 + x1.val) / 128 * 128 + x.val), by clear * -; omega⟩ : Fin 2304) = ⟨1280 + (256 + x.val), by clear * -; omega⟩ := fun x => Fin.ext (by clear * -; simp only []; omega)
      have ez : ∀ x : Fin 128, (⟨1280 + (0 + x.val), by clear * -; omega⟩ : Fin 2304) = ⟨1280 + x.val, by clear * -; omega⟩ := fun x => Fin.ext (by clear * -; simp only []; omega)
      have ew : (⟨(256 + x1.val) / 128 * 128 + x1.val, by clear * -; omega⟩ : Fin 512) = ⟨256 + x1.val, by clear * -; omega⟩ := Fin.ext (by clear * -; simp only []; omega)
      pointwise [k0_pay434, k0_pay429, REF7, r_v166, r_v55_apply]
      simp only [k0_pay3_apply, blk4, blk12, ec, ew]
      try rfl
    case piece2 =>
      idx_vars x
      idx_vars y
      have q0 : y0 = x0 := Fin.ext hf0
      have q1 : y1 = ⟨128 + x1.val, by clear * -; omega⟩ := Fin.ext (by first | exact hf1 | exact hf1.trans (Nat.zero_add _).symm)
      subst q0
      subst q1
      rw [emb22]
      have ec : ∀ x : Fin 128, (⟨1280 + ((128 + x1.val) / 128 * 128 + x.val), by clear * -; omega⟩ : Fin 2304) = ⟨1280 + (128 + x.val), by clear * -; omega⟩ := fun x => Fin.ext (by clear * -; simp only []; omega)
      have ez : ∀ x : Fin 128, (⟨1280 + (0 + x.val), by clear * -; omega⟩ : Fin 2304) = ⟨1280 + x.val, by clear * -; omega⟩ := fun x => Fin.ext (by clear * -; simp only []; omega)
      have ew : (⟨(128 + x1.val) / 128 * 128 + x1.val, by clear * -; omega⟩ : Fin 512) = ⟨128 + x1.val, by clear * -; omega⟩ := Fin.ext (by clear * -; simp only []; omega)
      pointwise [k0_pay433, k0_pay432, k0_pay431, k0_pay429, REF7, r_v166, r_v55_apply]
      simp only [k0_pay3_apply, blk4, blk12, ec, ew]
      try rfl
    case piece3 =>
      idx_vars x
      idx_vars y
      have q0 : y0 = x0 := Fin.ext hf0
      have q1 : y1 = ⟨0 + x1.val, by clear * -; omega⟩ := Fin.ext (by first | exact hf1 | exact hf1.trans (Nat.zero_add _).symm)
      subst q0
      subst q1
      rw [emb22]
      have ec : ∀ x : Fin 128, (⟨1280 + (x1.val / 128 * 128 + x.val), by clear * -; omega⟩ : Fin 2304) = ⟨1280 + x.val, by clear * -; omega⟩ := fun x => Fin.ext (by clear * -; simp only []; omega)
      have ed : (⟨1280 + (x1.val / 128 * 128 + x1.val % 128), by clear * -; omega⟩ : Fin 2304) = ⟨1280 + x1.val, by clear * -; omega⟩ := Fin.ext (by clear * -; simp only []; omega)
      have ew : (⟨x1.val / 128 * 128 + x1.val % 128, by clear * -; omega⟩ : Fin 512) = ⟨x1.val, by clear * -; omega⟩ := Fin.ext (by clear * -; simp only []; omega)
      pointwise [k0_pay430, k0_pay429, REF7, r_v166, r_v55_apply]
      simp only [k0_pay3_apply, blk4, blk12, ec, ed, ew]
      try rfl

end Cert.InProjIdeal.RefValue
end
-- ==== Proof.InProjRope.lean ====
/-
  The input projection: normalised heads and their rotation.
-/
module

public import proofs.«01_k».proof.Proof.InProjBase

@[expose] public section

set_option maxRecDepth 16384
set_option maxHeartbeats 1000000

noncomputable section

namespace Cert.InProjIdeal.RefValue

open Cert.InProjIdeal Cert.InProjIdeal.Gen Idealize.ShloMosaic Idealize.ShloMosaic.TcCoe Idealize.SL.Sem
open Idealize.ShloMosaic.Pipeline (Dat)
open Cert.InProjRefIdeal.RefValue

variable (m : (ℓ : Loc nD τ sig) → Buf (Elt Ideal) ℓ)

/-- The angle of frequency `d` at position `p`. -/
def angle (p d : ℕ) : EReal :=
  (FloatOps.sitofp (F := Ideal) FTy.f32 (BitVec.ofNat 32 p) : EReal) *
    Ideal.pow (Ideal.ofBits FTy.f32 1176256512#32)
      (Ideal.div (-(Ideal.ofBits FTy.f32 1073741824#32 * (FloatOps.sitofp (F := Ideal) FTy.f32 (BitVec.ofNat 32 d) : EReal)))
        (Ideal.ofBits FTy.f32 1115684864#32))

/-- The table of cosines. -/
def cosS (p l : ℕ) : EReal := if l % 64 < 32 then Ideal.cos (angle p (l % 64)) else Ideal.cos (angle p (l % 64 - 32))

/-- The table of sines, with the sign of the first half of each head turned. -/
def sinS (p l : ℕ) : EReal := if l % 64 < 32 then -Ideal.sin (angle p (l % 64)) else Ideal.sin (angle p (l % 64 - 32))

/-- The block of cosines. -/
theorem blk6 (c : Dev nD) (t : Fin cfg0.N) (y : Fin 256) (l : Fin 128) :
    iblk m c 6 t (ix2 y l) = cosS ((rowOf t y).val % 2048) l.val := by
  have e0 : ((((View.whole main_v23).slice (win0_6.rect t)).emb (ix2 y l)) 0).val = (rowOf t y).val % 2048 := by
    have : ((((View.whole main_v23).slice (win0_6.rect t)).emb (ix2 y l)) 0).val = min t.val 63 % 8 * 256 + y.val := by blk_simp [idx t]
    rw [this]; simp only [rowOf]; omega
  have e1 : ((((View.whole main_v23).slice (win0_6.rect t)).emb (ix2 y l)) 1).val = l.val := by blk_simp [idx t]
  blk_simp [iblk, idx t]
  entry_read
  pointwise
  simp only [e0, e1]
  simp only [cosS, angle]
  split <;> rfl

/-- The block of sines. -/
theorem blk7 (c : Dev nD) (t : Fin cfg0.N) (y : Fin 256) (l : Fin 128) :
    iblk m c 7 t (ix2 y l) = sinS ((rowOf t y).val % 2048) l.val := by
  have e0 : ((((View.whole main_v26).slice (win0_7.rect t)).emb (ix2 y l)) 0).val = (rowOf t y).val % 2048 := by
    have : ((((View.whole main_v26).slice (win0_7.rect t)).emb (ix2 y l)) 0).val = min t.val 63 % 8 * 256 + y.val := by blk_simp [idx t]
    rw [this]; simp only [rowOf]; omega
  have e1 : ((((View.whole main_v26).slice (win0_7.rect t)).emb (ix2 y l)) 1).val = l.val := by blk_simp [idx t]
  blk_simp [iblk, idx t]
  entry_read
  pointwise
  simp only [e0, e1]
  simp only [sinS, angle]
  split <;> rfl

/-- The word comparison of two block numbers, as an indicator. -/
theorem indicator64 (i j : Fin 512) : (FloatOps.uitofp (F := Ideal) FTy.f32
      (IntOp.cmpi CmpIPredicate.eq (IntOp.divsi ArithUnit.host (BitVec.ofNat 32 i.val) 64#32)
        (IntOp.divsi ArithUnit.host (BitVec.ofNat 32 j.val) 64#32)) : EReal)
    = if i.val / 64 = j.val / 64 then 1 else 0 := by
  have h : ∀ i : Fin 512, IntOp.divsi ArithUnit.host (BitVec.ofNat 32 i.val) 64#32 = BitVec.ofNat 32 (i.val / 64) := by
    decide +kernel
  have h2 : ∀ a b : Fin 8, (IntOp.cmpi CmpIPredicate.eq (BitVec.ofNat 32 a.val) (BitVec.ofNat 32 b.val)) = if a.val = b.val then 1#1 else 0#1 := by
    decide +kernel
  rw [h, h, h2 ⟨i.val / 64, by omega⟩ ⟨j.val / 64, by omega⟩]
  dsimp only
  split
  · simp [FloatOps.uitofp]
  · simp [FloatOps.uitofp]

/-- The indicator matrix of the heads. -/
theorem blk13 (c : Dev nD) (t : Fin cfg0.N) (i j : Fin 512) :
    iblk m c 13 t (ix2 i j) = if i.val / 64 = j.val / 64 then (1 : EReal) else 0 := by
  have e0 : ((((View.whole main_v36).slice (win0_13.rect t)).emb (ix2 i j)) 0).val = i.val := by blk_simp [idx t]
  have e1 : ((((View.whole main_v36).slice (win0_13.rect t)).emb (ix2 i j)) 1).val = j.val := by blk_simp [idx t]
  blk_simp [iblk, idx t]
  entry_read
  pointwise
  simp only [e0, e1]
  exact indicator64 i j

/-- One slab of two heads, each normalised. -/
def headNorm (s : FVec Ideal S256x128 .f32) (w : FVec Ideal S1x128 .f32) : FVec Ideal S256x128 .f32 :=
  mulf (mulf s (rsqrt (addf (mulf (select k0_pay332
      (broadcastTo S256x128 (shapeCast S256x1 (shapeCast S256x1 (multiReduction .add [1] S256 (select k0_pay332 (mulf s s) (broadcast S256x128 (Scalar.ofBits .f32 0x00000000#32))) 0x00000000#32 reduces_S256x128_S256 (.inl rfl) rfl) shapeCasts_S256_S256x1) shapeCasts_S256x1_S256x1) broadcasts_S256x1_S256x128)
      (broadcastTo S256x128 (shapeCast S256x1 (shapeCast S256x1 (multiReduction .add [1] S256 (select k0_pay332 (broadcast S256x128 (Scalar.ofBits .f32 0x00000000#32)) (mulf s s)) 0x00000000#32 reduces_S256x128_S256 (.inl rfl) rfl) shapeCasts_S256_S256x1) shapeCasts_S256x1_S256x1) broadcasts_S256x1_S256x128))
      (broadcast S256x128 (Scalar.ofBits .f32 0x3C800000#32))) (broadcast S256x128 (Scalar.ofBits .f32 0x358637BD#32)))))
    (broadcastTo S256x128 w broadcasts_S1x128_S256x128)

/-- A slab rotated by the position's angles. -/
def headTurn (s cs sn : FVec Ideal S256x128 .f32) : FVec Ideal S256x128 .bf16 :=
  truncf .bf16 (addf (mulf s (shapeCast S256x128 cs shapeCasts_S256x128_S256x128)) (mulf (select (cmpi .slt k0_pay344 (broadcast S256x128 32#32)) (dynamicRotate 1 96#32 none s rotates_S256x128_d1)
    (dynamicRotate 1 32#32 none s rotates_S256x128_d1)) (shapeCast S256x128 sn shapeCasts_S256x128_S256x128))) bitsLt_bf16_f32

/-- A sum over the lanes of the first head. -/
theorem sum_first (f : Fin 128 → EReal) : (∑ x : Fin 128, if x.val < 64 then f x else 0) = ∑ d : Fin 64, f ⟨d.val, by omega⟩ := by
  rw [Fin.sum_univ_add (a := 64) (b := 64) (fun x : Fin 128 => if x.val < 64 then f x else 0)]
  rw [Finset.sum_congr rfl (fun x _ => if_pos (show (Fin.castAdd 64 x).val < 64 from x.isLt))]
  rw [Finset.sum_congr rfl (fun x _ => if_neg (show ¬ (Fin.natAdd 64 x).val < 64 from by simp))]
  rw [Finset.sum_const_zero, add_zero]
  rfl

/-- A sum over the lanes of the second head. -/
theorem sum_second (f : Fin 128 → EReal) : (∑ x : Fin 128, if x.val < 64 then 0 else f x) = ∑ d : Fin 64, f ⟨64 + d.val, by omega⟩ := by
  rw [Fin.sum_univ_add (a := 64) (b := 64) (fun x : Fin 128 => if x.val < 64 then 0 else f x)]
  rw [Finset.sum_congr rfl (fun x _ => if_pos (show (Fin.castAdd 64 x).val < 64 from x.isLt))]
  rw [Finset.sum_congr rfl (fun x _ => if_neg (show ¬ (Fin.natAdd 64 x).val < 64 from by simp))]
  rw [Finset.sum_const_zero, zero_add]
  rfl

/-- A choice by the head of a lane. -/
theorem mask_select (y : Fin 256) (l : Fin 128) (a b : EReal) :
    Scalar.select (k0_pay332 (ix2 y l)) a b = if l.val < 64 then a else b := by
  have h : ∀ l : Fin 128, (IntOp.cmpi CmpIPredicate.slt (BitVec.ofNat 32 l.val) 64#32) = if l.val < 64 then 1#1 else 0#1 := by
    decide +kernel
  pointwise [k0_pay332]
  rw [h]
  split <;> simp [Scalar.select]

/-- A choice by the half of a head a lane lies in. -/
theorem half_select (y : Fin 256) (l : Fin 128) (a b : EReal) :
    Scalar.select (cmpi .slt k0_pay344 (broadcast S256x128 32#32) (ix2 y l)) a b = if l.val % 64 < 32 then a else b := by
  have h : ∀ l : Fin 128, (IntOp.cmpi CmpIPredicate.slt
            (Scalar.select
              (IntOp.andi
                (IntOp.xori
                  (IntOp.cmpi CmpIPredicate.slt
                    (IntOp.remsi ArithUnit.vector (BitVec.ofNat 32 l.val)
                      (Scalar.select (Scalar.cmpi CmpIPredicate.eq 64#32 0#32) 1#32 64#32))
                    0#32)
                  (Scalar.cmpi CmpIPredicate.slt (Scalar.select (Scalar.cmpi CmpIPredicate.eq 64#32 0#32) 1#32 64#32)
                    0#32))
                (IntOp.cmpi CmpIPredicate.ne
                  (IntOp.remsi ArithUnit.vector (BitVec.ofNat 32 l.val)
                    (Scalar.select (Scalar.cmpi CmpIPredicate.eq 64#32 0#32) 1#32 64#32))
                  0#32))
              (IntOp.addi
                (IntOp.remsi ArithUnit.vector (BitVec.ofNat 32 l.val)
                  (Scalar.select (Scalar.cmpi CmpIPredicate.eq 64#32 0#32) 1#32 64#32))
                (Scalar.select (Scalar.cmpi CmpIPredicate.eq 64#32 0#32) 1#32 64#32))
              (IntOp.remsi ArithUnit.vector (BitVec.ofNat 32 l.val)
                (Scalar.select (Scalar.cmpi CmpIPredicate.eq 64#32 0#32) 1#32 64#32)))
            32#32) = if l.val % 64 < 32 then 1#1 else 0#1 := by
    decide +kernel
  pointwise [k0_pay344]
  rw [h]
  split <;> simp [Scalar.select]

/-- A normalised entry: the entry over the root mean square of its head, times the weight. -/
theorem headNorm_apply (s : FVec Ideal S256x128 .f32) (w : FVec Ideal S1x128 .f32) (y : Fin 256) (l : Fin 128) :
    headNorm s w (ix2 y l) = s (ix2 y l) * Ideal.rsqrt (Ideal.div (∑ d : Fin 64, s (ix2 y ⟨64 * (l.val / 64) + d.val, by omega⟩) * s (ix2 y ⟨64 * (l.val / 64) + d.val, by omega⟩))
      (Ideal.ofBits FTy.f32 1115684864#32) + Ideal.ofBits FTy.f32 897988541#32) * w (ix2 0 l) := by
  pointwise [headNorm]
  simp only [mask_select]
  rw [sum_first (fun x => s (ix2 y x) * s (ix2 y x)), sum_second (fun x => s (ix2 y x) * s (ix2 y x)), Cert.Proof.Sums.div_64]
  congr 5
  split
  · refine Finset.sum_congr rfl fun d _ => ?_
    have e : (⟨d.val, by omega⟩ : Fin 128) = ⟨64 * (l.val / 64) + d.val, by omega⟩ := Fin.ext (by simp only []; omega)
    rw [e]
  · refine Finset.sum_congr rfl fun d _ => ?_
    have e : (⟨64 + d.val, by omega⟩ : Fin 128) = ⟨64 * (l.val / 64) + d.val, by omega⟩ := Fin.ext (by simp only []; omega)
    rw [e]

/-- A rotated entry. -/
theorem headTurn_apply (s cs sn : FVec Ideal S256x128 .f32) (y : Fin 256) (l : Fin 128) :
    headTurn s cs sn (ix2 y l) = s (ix2 y l) * cs (ix2 y l) +
      (if l.val % 64 < 32 then s (ix2 y ⟨(l.val + 32) % 128, by omega⟩) else s (ix2 y ⟨(l.val + 96) % 128, by omega⟩)) * sn (ix2 y l) := by
  pointwise [headTurn]
  rw [show ∀ a b : EReal, Scalar.select (IntOp.cmpi CmpIPredicate.slt (k0_pay344 (ix2 y l)) 32#32) a b = if l.val % 64 < 32 then a else b from half_select y l]
  congr 2

/-- A head's entry over the head's root mean square, times the weight. -/
def normS {n : ℕ} (v w : Fin (64 * n) → EReal) (j : Fin (64 * n)) : EReal :=
  v j * Ideal.rsqrt (Ideal.div (∑ d : Fin 64, v ⟨64 * (j.val / 64) + d.val, by omega⟩ * v ⟨64 * (j.val / 64) + d.val, by omega⟩)
      (Ideal.ofBits FTy.f32 1115684864#32) + Ideal.ofBits FTy.f32 897988541#32) * w j

/-- A head's entry rotated against its partner in the other half of the head. -/
def turnS {n : ℕ} (u : Fin (64 * n) → EReal) (p : ℕ) (j : Fin (64 * n)) : EReal :=
  u j * cosS p j.val + (if h : j.val % 64 < 32 then u ⟨j.val + 32, by omega⟩ else u ⟨j.val - 32, by omega⟩) * sinS p j.val

/-- A normalised slab holds the normalised entries of its two heads. -/
theorem slab_norm {n : ℕ} (v w : Fin (64 * n) → EReal) (o : ℕ) (ho : 128 * o + 128 ≤ 64 * n) (s : FVec Ideal S256x128 .f32) (wv : FVec Ideal S1x128 .f32)
    (y : Fin 256) (hs : ∀ l : Fin 128, s (ix2 y l) = v ⟨128 * o + l.val, by omega⟩) (hw : ∀ l : Fin 128, wv (ix2 0 l) = w ⟨128 * o + l.val, by omega⟩) (l : Fin 128) :
    headNorm s wv (ix2 y l) = normS v w ⟨128 * o + l.val, by omega⟩ := by
  rw [headNorm_apply]
  simp only [hs, hw, normS]
  congr 5
  refine Finset.sum_congr rfl fun d _ => ?_
  have e : (⟨128 * o + (64 * (l.val / 64) + d.val), by omega⟩ : Fin (64 * n)) = ⟨64 * ((128 * o + l.val) / 64) + d.val, by omega⟩ := Fin.ext (by simp only []; omega)
  rw [e]

/-- A rotated slab holds the rotated entries of its two heads. -/
theorem slab_turn {n : ℕ} (u : Fin (64 * n) → EReal) (o p : ℕ) (ho : 128 * o + 128 ≤ 64 * n) (s cs sn : FVec Ideal S256x128 .f32)
    (y : Fin 256) (hs : ∀ l : Fin 128, s (ix2 y l) = u ⟨128 * o + l.val, by omega⟩) (l : Fin 128) (hc : cs (ix2 y l) = cosS p l.val) (hn : sn (ix2 y l) = sinS p l.val) :
    headTurn s cs sn (ix2 y l) = turnS u p ⟨128 * o + l.val, by omega⟩ := by
  rw [headTurn_apply]
  simp only [hs, hc, hn, turnS]
  have em : (128 * o + l.val) % 64 = l.val % 64 := by omega
  have ec : cosS p (128 * o + l.val) = cosS p l.val := by unfold cosS; rw [em]
  have es : sinS p (128 * o + l.val) = sinS p l.val := by unfold sinS; rw [em]
  rw [ec, es]
  by_cases h : l.val % 64 < 32
  · rw [if_pos h, dif_pos (by omega)]
    have e : (⟨128 * o + (l.val + 32) % 128, by omega⟩ : Fin (64 * n)) = ⟨128 * o + l.val + 32, by omega⟩ := Fin.ext (by simp only []; omega)
    rw [e]
  · rw [if_neg h, dif_neg (by omega)]
    have e : (⟨128 * o + (l.val + 96) % 128, by omega⟩ : Fin (64 * n)) = ⟨128 * o + l.val - 32, by omega⟩ := Fin.ext (by simp only []; omega)
    rw [e]

/-- One column of the product with the second weight array. -/
def tail (a0 : S16384x2048.Idx → EReal) (a1 : S1x2048.Idx → EReal) (a4 : S2048x2304.Idx → EReal) (r : Fin 16384) (j : Fin 2304) : EReal :=
  ∑ x : Fin 2048, hnS a0 a1 r x * a4 (ix2 x j)

/-- The reference's normalised query heads. -/
theorem r_v71_apply (a0 : FVec Ideal S16384x2048 .f32) (a1 : FVec Ideal S1x2048 .f32) (a4 : FVec Ideal S2048x2304 .bf16) (a8 : FVec Ideal S1x512 .f32)
    (b : Fin 8) (p : Fin 2048) (h : Fin 8) (d : Fin 64) (r : Fin 16384) (hr : r.val = b.val * 2048 + p.val) (j : Fin 512) (hj : j.val = h.val * 64 + d.val) :
    r_v71 a0 a1 a4 a8 (ix4 b p h d) = normS (n := 8) (fun j => tail a0 a1 a4 r ⟨j.val, by omega⟩) (fun j => a8 (ix2 0 j)) j := by
  pointwise [r_v71, r_v57, r_v55_apply]
  have er : (⟨b.val * 2048 + p.val, by omega⟩ : Fin 16384) = r := Fin.ext hr.symm
  have ej : (⟨h.val * 64 + d.val, by omega⟩ : Fin 512) = j := Fin.ext hj.symm
  have ej2 : (⟨h.val * 64 + d.val, by omega⟩ : Fin 2304) = ⟨j.val, by omega⟩ := Fin.ext hj.symm
  have es : ∀ x : Fin 64, (⟨h.val * 64 + x.val, by omega⟩ : Fin 2304) = ⟨64 * (j.val / 64) + x.val, by omega⟩ := fun x => Fin.ext (by simp only []; omega)
  simp only [er, ej, ej2, es]
  rfl

/-- The reference's normalised key heads. -/
theorem r_v121_apply (a0 : FVec Ideal S16384x2048 .f32) (a1 : FVec Ideal S1x2048 .f32) (a4 : FVec Ideal S2048x2304 .bf16) (a9 : FVec Ideal S1x128 .f32)
    (b : Fin 8) (p : Fin 2048) (h : Fin 2) (d : Fin 64) (r : Fin 16384) (hr : r.val = b.val * 2048 + p.val) (j : Fin 128) (hj : j.val = h.val * 64 + d.val) :
    r_v121 a0 a1 a4 a9 (ix4 b p h d) = normS (n := 2) (fun j => tail a0 a1 a4 r ⟨512 + j.val, by omega⟩) (fun j => a9 (ix2 0 j)) j := by
  pointwise [r_v121, r_v107, r_v55_apply]
  have er : (⟨b.val * 2048 + p.val, by omega⟩ : Fin 16384) = r := Fin.ext hr.symm
  have ej : (⟨h.val * 64 + d.val, by omega⟩ : Fin 128) = j := Fin.ext hj.symm
  have ej2 : (⟨512 + (h.val * 64 + d.val), by omega⟩ : Fin 2304) = ⟨512 + j.val, by omega⟩ := Fin.ext (by simp only []; omega)
  have es : ∀ x : Fin 64, (⟨512 + (h.val * 64 + x.val), by omega⟩ : Fin 2304) = ⟨512 + (64 * (j.val / 64) + x.val), by omega⟩ := fun x => Fin.ext (by simp only []; omega)
  simp only [er, ej, ej2, es]
  rfl

/-- A rotated entry in the first half of a head. -/
theorem turnS_low {n : ℕ} (u : Fin (64 * n) → EReal) (p : ℕ) (j : Fin (64 * n)) (h : j.val % 64 < 32) :
    turnS u p j = u j * Ideal.cos (angle p (j.val % 64)) - u ⟨j.val + 32, by omega⟩ * Ideal.sin (angle p (j.val % 64)) := by
  unfold turnS cosS sinS
  rw [dif_pos h, if_pos h, if_pos h, mul_neg, ← sub_eq_add_neg]

/-- A rotated entry in the second half of a head. -/
theorem turnS_high {n : ℕ} (u : Fin (64 * n) → EReal) (p : ℕ) (j : Fin (64 * n)) (h : ¬ j.val % 64 < 32) :
    turnS u p j = u j * Ideal.cos (angle p (j.val % 64 - 32)) + u ⟨j.val - 32, by omega⟩ * Ideal.sin (angle p (j.val % 64 - 32)) := by
  unfold turnS cosS sinS
  rw [dif_neg h, if_neg h, if_neg h]

/-- The reference's queries. -/
theorem REF3_apply (a0 : FVec Ideal S16384x2048 .f32) (a1 : FVec Ideal S1x2048 .f32) (a4 : FVec Ideal S2048x2304 .bf16) (a8 : FVec Ideal S1x512 .f32) (r : Fin 16384) (j : Fin 512) :
    REF3 a0 a1 a4 a8 (ix2 r j) = turnS (n := 8) (normS (n := 8) (fun j => tail a0 a1 a4 r ⟨j.val, by omega⟩) (fun j => a8 (ix2 0 j))) (r.val % 2048) j := by
  by_cases h : j.val % 64 < 32
  · refine Eq.trans ?_ (turnS_low (n := 8) _ _ _ h).symm
    pointwise [REF3, r_v92, r_v93, r_v89, r_v91, r_v87]
    rw [dif_pos h]
    rw [r_v71_apply a0 a1 a4 a8 _ _ _ _ r (by simp only []; omega) j (by simp only []; omega), r_v71_apply a0 a1 a4 a8 _ _ _ _ r (by simp only []; omega) ⟨j.val + 32, by omega⟩ (by simp only []; omega)]
    rfl
  · refine Eq.trans ?_ (turnS_high (n := 8) _ _ _ h).symm
    pointwise [REF3, r_v92, r_v93, r_v89, r_v91, r_v87]
    rw [dif_neg h]
    rw [r_v71_apply a0 a1 a4 a8 _ _ _ _ r (by simp only []; omega) j (by simp only []; omega), r_v71_apply a0 a1 a4 a8 _ _ _ _ r (by simp only []; omega) ⟨j.val - 32, by omega⟩ (by simp only []; omega)]
    rfl

/-- The reference's keys. -/
theorem REF4_apply (a0 : FVec Ideal S16384x2048 .f32) (a1 : FVec Ideal S1x2048 .f32) (a4 : FVec Ideal S2048x2304 .bf16) (a9 : FVec Ideal S1x128 .f32) (r : Fin 16384) (j : Fin 128) :
    REF4 a0 a1 a4 a9 (ix2 r j) = turnS (n := 2) (normS (n := 2) (fun j => tail a0 a1 a4 r ⟨512 + j.val, by omega⟩) (fun j => a9 (ix2 0 j))) (r.val % 2048) j := by
  by_cases h : j.val % 64 < 32
  · refine Eq.trans ?_ (turnS_low (n := 2) _ _ _ h).symm
    pointwise [REF4, r_v142, r_v143, r_v139, r_v141, r_v137]
    rw [dif_pos h]
    rw [r_v121_apply a0 a1 a4 a9 _ _ _ _ r (by simp only []; omega) j (by simp only []; omega), r_v121_apply a0 a1 a4 a9 _ _ _ _ r (by simp only []; omega) ⟨j.val + 32, by omega⟩ (by simp only []; omega)]
    rfl
  · refine Eq.trans ?_ (turnS_high (n := 2) _ _ _ h).symm
    pointwise [REF4, r_v142, r_v143, r_v139, r_v141, r_v137]
    rw [dif_neg h]
    rw [r_v121_apply a0 a1 a4 a9 _ _ _ _ r (by simp only []; omega) j (by simp only []; omega), r_v121_apply a0 a1 a4 a9 _ _ _ _ r (by simp only []; omega) ⟨j.val - 32, by omega⟩ (by simp only []; omega)]
    rfl

end Cert.InProjIdeal.RefValue
end
-- ==== Proof.InProjHeads.lean ====
/-
  The input projection: the queries and keys of the windowed attention.
-/
module

public import proofs.«01_k».proof.Proof.InProjRope

@[expose] public section

set_option maxRecDepth 16384
set_option maxHeartbeats 400000

noncomputable section

namespace Cert.InProjIdeal.RefValue

open Cert.InProjIdeal Cert.InProjIdeal.Gen Idealize.ShloMosaic Idealize.ShloMosaic.TcCoe Idealize.SL.Sem
open Idealize.ShloMosaic.Pipeline (Dat)
open Cert.InProjRefIdeal.RefValue

variable (m : (ℓ : Loc nD τ sig) → Buf (Elt Ideal) ℓ)

/-- The queries' columns, one slab of two heads at a time. -/
theorem q_slab (c : Dev nD) (t : Fin cfg0.N) (y : Fin 256) (j : Fin 512) :
    k0_pay331 (k0_pay3 (iblk m c 0 t) (iblk m c 1 t)) (View.ld (iblk m c 4 t) (Rect.unit ![0, 0] ![2048, 512] inb_S2048x2304_S2048x512_0_0)) (ix2 y j)
      = tail (m ((c : Thread nD τ).loc main_arg0)) (m ((c : Thread nD τ).loc main_arg1)) (m ((c : Thread nD τ).loc main_arg4)) (rowOf t y) ⟨j.val, by omega⟩ := by
  pointwise [k0_pay331]
  simp only [k0_pay3_apply, blk4]
  rfl

/-- A slab of the queries, normalised and rotated, is the reference's. -/
theorem q_piece (c : Dev nD) (t : Fin cfg0.N) (y : Fin 256) (l : Fin 128) (o : ℕ) (ho : 128 * o + 128 ≤ 512)
    (s : FVec Ideal S256x128 .f32) (wv : FVec Ideal S1x128 .f32)
    (hs : ∀ l : Fin 128, s (ix2 y l) = tail (m ((c : Thread nD τ).loc main_arg0)) (m ((c : Thread nD τ).loc main_arg1)) (m ((c : Thread nD τ).loc main_arg4)) (rowOf t y) ⟨128 * o + l.val, by omega⟩)
    (hw : ∀ l : Fin 128, wv (ix2 0 l) = m ((c : Thread nD τ).loc main_arg8) (ix2 0 ⟨128 * o + l.val, by omega⟩)) :
    headTurn (headNorm s wv) (iblk m c 6 t) (iblk m c 7 t) (ix2 y l)
      = REF3 (m ((c : Thread nD τ).loc main_arg0)) (m ((c : Thread nD τ).loc main_arg1)) (m ((c : Thread nD τ).loc main_arg4)) (m ((c : Thread nD τ).loc main_arg8)) (ix2 (rowOf t y) ⟨128 * o + l.val, by omega⟩) := by
  rw [REF3_apply]
  exact slab_turn (n := 8) _ o _ (by omega) _ _ _ y (slab_norm (n := 8) (fun j => tail (m ((c : Thread nD τ).loc main_arg0)) (m ((c : Thread nD τ).loc main_arg1)) (m ((c : Thread nD τ).loc main_arg4)) (rowOf t y) ⟨j.val, by omega⟩) (fun j => m ((c : Thread nD τ).loc main_arg8) (ix2 0 j)) o (by omega) s wv y hs hw) l (blk6 m c t y l) (blk7 m c t y l)

/-- The keys' slab of two heads, each normalised by the indicator matrix. -/
def keyNorm (s : FVec Ideal S256x128 .f32) (e : FVec Ideal S128x128 .bf16) (w : FVec Ideal S1x128 .f32) : FVec Ideal S256x128 .f32 :=
  mulf (mulf s (rsqrt (addf (mulf (matmul dot_S256x128_S128x128_S256x128_1_0_0_1_n_n none (truncf .bf16 (mulf s s) bitsLt_bf16_f32) (shapeCast S128x128 e shapeCasts_S128x128_S128x128) (constant S256x128 .f32 0x00000000#32))
      (broadcast S256x128 (Scalar.ofBits .f32 0x3C800000#32))) (broadcast S256x128 (Scalar.ofBits .f32 0x358637BD#32)))))
    (broadcastTo S256x128 w broadcasts_S1x128_S256x128)

/-- The keys' slab normalised is the slab normalised head by head. -/
theorem keyNorm_apply (s : FVec Ideal S256x128 .f32) (e : FVec Ideal S128x128 .bf16) (w : FVec Ideal S1x128 .f32)
    (he : ∀ i j : Fin 128, e (ix2 i j) = if i.val / 64 = j.val / 64 then (1 : EReal) else 0) (y : Fin 256) (l : Fin 128) :
    keyNorm s e w (ix2 y l) = headNorm s w (ix2 y l) := by
  rw [headNorm_apply]
  pointwise [keyNorm]
  simp only [he]
  rw [Cert.Proof.Sums.sum_block 2 64 (by norm_num) (fun x => s (ix2 y x) * s (ix2 y x)) (l.val / 64) (by omega), Cert.Proof.Sums.div_64]
  have ec : ∀ d : Fin 64, (⟨l.val / 64 * 64 + d.val, by omega⟩ : Fin 128) = ⟨64 * (l.val / 64) + d.val, by omega⟩ := fun d => Fin.ext (by simp only []; omega)
  simp only [ec]

/-- The slab of the queries from column 0. -/
theorem q_slab_0 (A : FVec Ideal S256x2048 .bf16) (B : FVec Ideal S2048x512 .bf16) (w : FVec Ideal S1x128 .f32) (cs sn : FVec Ideal S256x128 .f32) :
    k0_pay334 (k0_pay329 cs) (k0_pay330 sn) (k0_pay333 A B) w
      = headTurn (headNorm (extractStridedSlice S256x128 ![0, 0] (k0_pay331 A B) slices_S256x512_o0_0_S256x128) w) cs sn := rfl

/-- The slab of the queries from column 128. -/
theorem q_slab_128 (A : FVec Ideal S256x2048 .bf16) (B : FVec Ideal S2048x512 .bf16) (w : FVec Ideal S1x128 .f32) (cs sn : FVec Ideal S256x128 .f32) :
    k0_pay337 (k0_pay329 cs) (k0_pay330 sn) (k0_pay335 (k0_pay331 A B)) (k0_pay336 (k0_pay331 A B) k0_pay332) w
      = headTurn (headNorm (extractStridedSlice S256x128 ![0, 128] (k0_pay331 A B) slices_S256x512_o0_128_S256x128) w) cs sn := rfl

/-- The slab of the queries from column 256. -/
theorem q_slab_256 (A : FVec Ideal S256x2048 .bf16) (B : FVec Ideal S2048x512 .bf16) (w : FVec Ideal S1x128 .f32) (cs sn : FVec Ideal S256x128 .f32) :
    k0_pay341 (k0_pay329 cs) (k0_pay330 sn) k0_pay332 (k0_pay338 (k0_pay331 A B)) (k0_pay339 (k0_pay331 A B)) (k0_pay340 (k0_pay331 A B) k0_pay332) w
      = headTurn (headNorm (extractStridedSlice S256x128 ![0, 256] (k0_pay331 A B) slices_S256x512_o0_256_S256x128) w) cs sn := rfl

/-- The slab of the queries from column 384. -/
theorem q_slab_384 (A : FVec Ideal S256x2048 .bf16) (B : FVec Ideal S2048x512 .bf16) (w : FVec Ideal S1x128 .f32) (cs sn : FVec Ideal S256x128 .f32) :
    k0_pay345 (k0_pay330 sn) (k0_pay342 (k0_pay331 A B) k0_pay332 w) (k0_pay343 (k0_pay329 cs) (k0_pay331 A B) k0_pay332 w) k0_pay344 (32#32)
      = headTurn (headNorm (extractStridedSlice S256x128 ![0, 384] (k0_pay331 A B) slices_S256x512_o0_384_S256x128) w) cs sn := rfl

/-- The slab of the keys. -/
theorem k_slab (A : FVec Ideal S256x2048 .bf16) (B : FVec Ideal S2048x256 .bf16) (e : FVec Ideal S128x128 .bf16) (w : FVec Ideal S1x128 .f32) (cs sn : FVec Ideal S256x128 .f32) :
    k0_pay379 A (k0_pay329 cs) (k0_pay330 sn) B (constant S256x256 .f32 0x00000000#32) e w
      = headTurn (keyNorm (extractStridedSlice S256x128 ![0, 0] (k0_pay378 A B (constant S256x256 .f32 0x00000000#32)) slices_S256x256_o0_0_S256x128) e w) cs sn := rfl

end Cert.InProjIdeal.RefValue
end
-- ==== Proof.InProjSlabs.lean ====
/-
  The input projection: the slabs of queries and keys as the kernel writes them.
-/
module

public import proofs.«01_k».proof.Proof.InProjHeads

@[expose] public section

set_option maxRecDepth 16384
set_option maxHeartbeats 1000000

noncomputable section

namespace Cert.InProjIdeal.RefValue

open Cert.InProjIdeal Cert.InProjIdeal.Gen Idealize.ShloMosaic Idealize.ShloMosaic.TcCoe Idealize.SL.Sem
open Idealize.ShloMosaic.Pipeline (Dat)
open Cert.InProjRefIdeal.RefValue

variable (m : (ℓ : Loc nD τ sig) → Buf (Elt Ideal) ℓ)

/-- The slab from column 0's weight. -/
theorem q_weight_0 (c : Dev nD) (t : Fin cfg0.N) (l : Fin 128) :
    (View.ld (iblk m c 10 t) (Rect.unit ![0, 0] ![1, 128] inb_S1x512_S1x128_0_0)) (ix2 0 l) = (m ((c : Thread nD τ).loc main_arg8)) (ix2 0 ⟨128 * 0 + l.val, by omega⟩) := by
  have e : (⟨l.val, by omega⟩ : Fin 512) = ⟨128 * 0 + l.val, by omega⟩ := Fin.ext (by first | (simp only []; done) | (simp only []; omega))
  pointwise
  first | (rw [blk10]; done) | rw [blk10, e]

/-- The slab from column 0 before normalisation. -/
theorem q_cols_0 (c : Dev nD) (t : Fin cfg0.N) (y : Fin 256) (l : Fin 128) :
    extractStridedSlice S256x128 ![0, 0] (k0_pay331 (k0_pay3 (iblk m c 0 t) (iblk m c 1 t)) (View.ld (iblk m c 4 t) (Rect.unit ![0, 0] ![2048, 512] inb_S2048x2304_S2048x512_0_0))) slices_S256x512_o0_0_S256x128 (ix2 y l)
      = tail (m ((c : Thread nD τ).loc main_arg0)) (m ((c : Thread nD τ).loc main_arg1)) (m ((c : Thread nD τ).loc main_arg4)) (rowOf t y) ⟨128 * 0 + l.val, by omega⟩ := by
  have e : (⟨l.val, by omega⟩ : Fin 512) = ⟨128 * 0 + l.val, by omega⟩ := Fin.ext (by first | (simp only []; done) | (simp only []; omega))
  pointwise
  first | (rw [q_slab]; done) | rw [e, q_slab]

/-- The slab of queries from column 0 is the reference's. -/
theorem q_out_0 (c : Dev nD) (t : Fin cfg0.N) (y : Fin 256) (l : Fin 128) :
    k0_pay334 (k0_pay329 (iblk m c 6 t)) (k0_pay330 (iblk m c 7 t)) (k0_pay333 (k0_pay3 (iblk m c 0 t) (iblk m c 1 t)) (View.ld (iblk m c 4 t) (Rect.unit ![0, 0] ![2048, 512] inb_S2048x2304_S2048x512_0_0))) (View.ld (iblk m c 10 t) (Rect.unit ![0, 0] ![1, 128] inb_S1x512_S1x128_0_0)) (ix2 y l)
      = REF3 (m ((c : Thread nD τ).loc main_arg0)) (m ((c : Thread nD τ).loc main_arg1)) (m ((c : Thread nD τ).loc main_arg4)) (m ((c : Thread nD τ).loc main_arg8)) (ix2 (rowOf t y) ⟨128 * 0 + l.val, by omega⟩) := by
  rw [q_slab_0]
  exact q_piece m c t y l 0 (by decide) _ _ (q_cols_0 m c t y) (q_weight_0 m c t)

/-- The slab from column 128's weight. -/
theorem q_weight_128 (c : Dev nD) (t : Fin cfg0.N) (l : Fin 128) :
    (View.ld (iblk m c 10 t) (Rect.unit ![0, 128] ![1, 128] inb_S1x512_S1x128_0_128)) (ix2 0 l) = (m ((c : Thread nD τ).loc main_arg8)) (ix2 0 ⟨128 * 1 + l.val, by omega⟩) := by
  have e : (⟨128 + l.val, by omega⟩ : Fin 512) = ⟨128 * 1 + l.val, by omega⟩ := Fin.ext (by first | (simp only []; done) | (simp only []; omega))
  pointwise
  first | (rw [blk10]; done) | rw [blk10, e]

/-- The slab from column 128 before normalisation. -/
theorem q_cols_128 (c : Dev nD) (t : Fin cfg0.N) (y : Fin 256) (l : Fin 128) :
    extractStridedSlice S256x128 ![0, 128] (k0_pay331 (k0_pay3 (iblk m c 0 t) (iblk m c 1 t)) (View.ld (iblk m c 4 t) (Rect.unit ![0, 0] ![2048, 512] inb_S2048x2304_S2048x512_0_0))) slices_S256x512_o0_128_S256x128 (ix2 y l)
      = tail (m ((c : Thread nD τ).loc main_arg0)) (m ((c : Thread nD τ).loc main_arg1)) (m ((c : Thread nD τ).loc main_arg4)) (rowOf t y) ⟨128 * 1 + l.val, by omega⟩ := by
  have e : (⟨128 + l.val, by omega⟩ : Fin 512) = ⟨128 * 1 + l.val, by omega⟩ := Fin.ext (by first | (simp only []; done) | (simp only []; omega))
  pointwise
  first | (rw [q_slab]; done) | rw [e, q_slab]

/-- The slab of queries from column 128 is the reference's. -/
theorem q_out_128 (c : Dev nD) (t : Fin cfg0.N) (y : Fin 256) (l : Fin 128) :
    k0_pay337 (k0_pay329 (iblk m c 6 t)) (k0_pay330 (iblk m c 7 t)) (k0_pay335 (k0_pay331 (k0_pay3 (iblk m c 0 t) (iblk m c 1 t)) (View.ld (iblk m c 4 t) (Rect.unit ![0, 0] ![2048, 512] inb_S2048x2304_S2048x512_0_0)))) (k0_pay336 (k0_pay331 (k0_pay3 (iblk m c 0 t) (iblk m c 1 t)) (View.ld (iblk m c 4 t) (Rect.unit ![0, 0] ![2048, 512] inb_S2048x2304_S2048x512_0_0))) k0_pay332) (View.ld (iblk m c 10 t) (Rect.unit ![0, 128] ![1, 128] inb_S1x512_S1x128_0_128)) (ix2 y l)
      = REF3 (m ((c : Thread nD τ).loc main_arg0)) (m ((c : Thread nD τ).loc main_arg1)) (m ((c : Thread nD τ).loc main_arg4)) (m ((c : Thread nD τ).loc main_arg8)) (ix2 (rowOf t y) ⟨128 * 1 + l.val, by omega⟩) := by
  rw [q_slab_128]
  exact q_piece m c t y l 1 (by decide) _ _ (q_cols_128 m c t y) (q_weight_128 m c t)

/-- The slab from column 256's weight. -/
theorem q_weight_256 (c : Dev nD) (t : Fin cfg0.N) (l : Fin 128) :
    (View.ld (iblk m c 10 t) (Rect.unit ![0, 256] ![1, 128] inb_S1x512_S1x128_0_256)) (ix2 0 l) = (m ((c : Thread nD τ).loc main_arg8)) (ix2 0 ⟨128 * 2 + l.val, by omega⟩) := by
  have e : (⟨256 + l.val, by omega⟩ : Fin 512) = ⟨128 * 2 + l.val, by omega⟩ := Fin.ext (by first | (simp only []; done) | (simp only []; omega))
  pointwise
  first | (rw [blk10]; done) | rw [blk10, e]

/-- The slab from column 256 before normalisation. -/
theorem q_cols_256 (c : Dev nD) (t : Fin cfg0.N) (y : Fin 256) (l : Fin 128) :
    extractStridedSlice S256x128 ![0, 256] (k0_pay331 (k0_pay3 (iblk m c 0 t) (iblk m c 1 t)) (View.ld (iblk m c 4 t) (Rect.unit ![0, 0] ![2048, 512] inb_S2048x2304_S2048x512_0_0))) slices_S256x512_o0_256_S256x128 (ix2 y l)
      = tail (m ((c : Thread nD τ).loc main_arg0)) (m ((c : Thread nD τ).loc main_arg1)) (m ((c : Thread nD τ).loc main_arg4)) (rowOf t y) ⟨128 * 2 + l.val, by omega⟩ := by
  have e : (⟨256 + l.val, by omega⟩ : Fin 512) = ⟨128 * 2 + l.val, by omega⟩ := Fin.ext (by first | (simp only []; done) | (simp only []; omega))
  pointwise
  first | (rw [q_slab]; done) | rw [e, q_slab]

/-- The slab of queries from column 256 is the reference's. -/
theorem q_out_256 (c : Dev nD) (t : Fin cfg0.N) (y : Fin 256) (l : Fin 128) :
    k0_pay341 (k0_pay329 (iblk m c 6 t)) (k0_pay330 (iblk m c 7 t)) k0_pay332 (k0_pay338 (k0_pay331 (k0_pay3 (iblk m c 0 t) (iblk m c 1 t)) (View.ld (iblk m c 4 t) (Rect.unit ![0, 0] ![2048, 512] inb_S2048x2304_S2048x512_0_0)))) (k0_pay339 (k0_pay331 (k0_pay3 (iblk m c 0 t) (iblk m c 1 t)) (View.ld (iblk m c 4 t) (Rect.unit ![0, 0] ![2048, 512] inb_S2048x2304_S2048x512_0_0)))) (k0_pay340 (k0_pay331 (k0_pay3 (iblk m c 0 t) (iblk m c 1 t)) (View.ld (iblk m c 4 t) (Rect.unit ![0, 0] ![2048, 512] inb_S2048x2304_S2048x512_0_0))) k0_pay332) (View.ld (iblk m c 10 t) (Rect.unit ![0, 256] ![1, 128] inb_S1x512_S1x128_0_256)) (ix2 y l)
      = REF3 (m ((c : Thread nD τ).loc main_arg0)) (m ((c : Thread nD τ).loc main_arg1)) (m ((c : Thread nD τ).loc main_arg4)) (m ((c : Thread nD τ).loc main_arg8)) (ix2 (rowOf t y) ⟨128 * 2 + l.val, by omega⟩) := by
  rw [q_slab_256]
  exact q_piece m c t y l 2 (by decide) _ _ (q_cols_256 m c t y) (q_weight_256 m c t)

/-- The slab from column 384's weight. -/
theorem q_weight_384 (c : Dev nD) (t : Fin cfg0.N) (l : Fin 128) :
    (View.ld (iblk m c 10 t) (Rect.unit ![0, 384] ![1, 128] inb_S1x512_S1x128_0_384)) (ix2 0 l) = (m ((c : Thread nD τ).loc main_arg8)) (ix2 0 ⟨128 * 3 + l.val, by omega⟩) := by
  have e : (⟨384 + l.val, by omega⟩ : Fin 512) = ⟨128 * 3 + l.val, by omega⟩ := Fin.ext (by first | (simp only []; done) | (simp only []; omega))
  pointwise
  first | (rw [blk10]; done) | rw [blk10, e]

/-- The slab from column 384 before normalisation. -/
theorem q_cols_384 (c : Dev nD) (t : Fin cfg0.N) (y : Fin 256) (l : Fin 128) :
    extractStridedSlice S256x128 ![0, 384] (k0_pay331 (k0_pay3 (iblk m c 0 t) (iblk m c 1 t)) (View.ld (iblk m c 4 t) (Rect.unit ![0, 0] ![2048, 512] inb_S2048x2304_S2048x512_0_0))) slices_S256x512_o0_384_S256x128 (ix2 y l)
      = tail (m ((c : Thread nD τ).loc main_arg0)) (m ((c : Thread nD τ).loc main_arg1)) (m ((c : Thread nD τ).loc main_arg4)) (rowOf t y) ⟨128 * 3 + l.val, by omega⟩ := by
  have e : (⟨384 + l.val, by omega⟩ : Fin 512) = ⟨128 * 3 + l.val, by omega⟩ := Fin.ext (by first | (simp only []; done) | (simp only []; omega))
  pointwise
  first | (rw [q_slab]; done) | rw [e, q_slab]

/-- The slab of queries from column 384 is the reference's. -/
theorem q_out_384 (c : Dev nD) (t : Fin cfg0.N) (y : Fin 256) (l : Fin 128) :
    k0_pay345 (k0_pay330 (iblk m c 7 t)) (k0_pay342 (k0_pay331 (k0_pay3 (iblk m c 0 t) (iblk m c 1 t)) (View.ld (iblk m c 4 t) (Rect.unit ![0, 0] ![2048, 512] inb_S2048x2304_S2048x512_0_0))) k0_pay332 (View.ld (iblk m c 10 t) (Rect.unit ![0, 384] ![1, 128] inb_S1x512_S1x128_0_384))) (k0_pay343 (k0_pay329 (iblk m c 6 t)) (k0_pay331 (k0_pay3 (iblk m c 0 t) (iblk m c 1 t)) (View.ld (iblk m c 4 t) (Rect.unit ![0, 0] ![2048, 512] inb_S2048x2304_S2048x512_0_0))) k0_pay332 (View.ld (iblk m c 10 t) (Rect.unit ![0, 384] ![1, 128] inb_S1x512_S1x128_0_384))) k0_pay344 (32#32) (ix2 y l)
      = REF3 (m ((c : Thread nD τ).loc main_arg0)) (m ((c : Thread nD τ).loc main_arg1)) (m ((c : Thread nD τ).loc main_arg4)) (m ((c : Thread nD τ).loc main_arg8)) (ix2 (rowOf t y) ⟨128 * 3 + l.val, by omega⟩) := by
  rw [q_slab_384]
  exact q_piece m c t y l 3 (by decide) _ _ (q_cols_384 m c t y) (q_weight_384 m c t)

/-- The slab of keys is the reference's. -/
theorem k_out (c : Dev nD) (t : Fin cfg0.N) (y : Fin 256) (l : Fin 128) :
    k0_pay379 (k0_pay3 (iblk m c 0 t) (iblk m c 1 t)) (k0_pay329 (iblk m c 6 t)) (k0_pay330 (iblk m c 7 t)) (View.ld (iblk m c 4 t) (Rect.unit ![0, 512] ![2048, 256] inb_S2048x2304_S2048x256_0_512)) (constant S256x256 .f32 0x00000000#32) (View.ld (iblk m c 13 t) (Rect.unit ![0, 0] ![128, 128] inb_S512x512_S128x128_0_0)) (iblk m c 11 t) (ix2 y l)
      = REF4 (m ((c : Thread nD τ).loc main_arg0)) (m ((c : Thread nD τ).loc main_arg1)) (m ((c : Thread nD τ).loc main_arg4)) (m ((c : Thread nD τ).loc main_arg9)) (ix2 (rowOf t y) l) := by
  rw [k_slab, REF4_apply]
  have ee : ∀ i j : Fin 128, (View.ld (iblk m c 13 t) (Rect.unit ![0, 0] ![128, 128] inb_S512x512_S128x128_0_0)) (ix2 i j) = if i.val / 64 = j.val / 64 then (1 : EReal) else 0 := by
    intro i j
    pointwise
    rw [blk13]
  have es : ∀ l : Fin 128, extractStridedSlice S256x128 ![0, 0] (k0_pay378 (k0_pay3 (iblk m c 0 t) (iblk m c 1 t)) (View.ld (iblk m c 4 t) (Rect.unit ![0, 512] ![2048, 256] inb_S2048x2304_S2048x256_0_512)) (constant S256x256 .f32 0x00000000#32)) slices_S256x256_o0_0_S256x128 (ix2 y l)
      = tail (m ((c : Thread nD τ).loc main_arg0)) (m ((c : Thread nD τ).loc main_arg1)) (m ((c : Thread nD τ).loc main_arg4)) (rowOf t y) ⟨512 + (128 * 0 + l.val), by omega⟩ := by
    intro l
    have e : (⟨512 + l.val, by omega⟩ : Fin 2304) = ⟨512 + (128 * 0 + l.val), by omega⟩ := Fin.ext (by simp only []; omega)
    pointwise [k0_pay378]
    simp only [k0_pay3_apply, blk4, e]
    rfl
  have ew : ∀ l : Fin 128, iblk m c 11 t (ix2 0 l) = (m ((c : Thread nD τ).loc main_arg9)) (ix2 0 ⟨128 * 0 + l.val, by omega⟩) := by
    intro l
    have e : l = ⟨128 * 0 + l.val, by omega⟩ := Fin.ext (by first | (simp only []; done) | (simp only []; omega))
    rw [blk11, ← e]
  have h := slab_turn (n := 2) _ 0 ((rowOf t y).val % 2048) (by decide) _ _ _ y (fun l => (keyNorm_apply _ _ _ ee y l).trans
    (slab_norm (n := 2) (fun j => tail (m ((c : Thread nD τ).loc main_arg0)) (m ((c : Thread nD τ).loc main_arg1)) (m ((c : Thread nD τ).loc main_arg4)) (rowOf t y) ⟨512 + j.val, by omega⟩) (fun j => (m ((c : Thread nD τ).loc main_arg9)) (ix2 0 j)) 0 (by decide) _ _ y es ew l)) l (blk6 m c t y l) (blk7 m c t y l)
  have e : (⟨128 * 0 + l.val, by omega⟩ : Fin 128) = l := Fin.ext (by simp only []; omega)
  rw [h, e]

end Cert.InProjIdeal.RefValue
end
-- ==== Proof.InProjQueries.lean ====
/-
  The input projection: the queries and keys of the windowed attention.
-/
module

public import proofs.«01_k».proof.Proof.InProjSlabs

@[expose] public section

set_option maxRecDepth 16384
set_option maxHeartbeats 1000000

noncomputable section

namespace Cert.InProjIdeal.RefValue

open Cert.InProjIdeal Cert.InProjIdeal.Gen Idealize.ShloMosaic Idealize.ShloMosaic.TcCoe Idealize.SL.Sem
open Idealize.ShloMosaic.Pipeline (Dat)
open Cert.InProjRefIdeal.RefValue

variable (m : (ℓ : Loc nD τ sig) → Buf (Elt Ideal) ℓ)

/-- The result array of window 18 after the run is the reference's. -/
theorem final18 (c : Dev nD) : (dats m 0 c).arrAt 18 cfg0.N
    = REF3 (m ((c : Thread nD τ).loc main_arg0)) (m ((c : Thread nD τ).loc main_arg1)) (m ((c : Thread nD τ).loc main_arg4)) (m ((c : Thread nD τ).loc main_arg8)) := by
  refine (dats m 0 c).arrAt_eq_of_covers 18 _ (by decide +kernel) fun t hf y => ?_
  blk_simp
  rw [after0_18]
  by_cases e0 : t.val % 65 = 0
  on_goal 1 => rw [outsAt0_A m c t e0]
  on_goal 2 => rw [outsAt0_B m c t e0]
  all_goals
    dsimp only
    frame_out
    canon_tiles x hf
    case piece0 =>
      idx_vars x
      idx_vars y
      have q0 : y0 = x0 := Fin.ext hf0
      have q1 : y1 = ⟨384 + x1.val, by clear * -; omega⟩ := Fin.ext (by first | exact hf1 | exact hf1.trans (Nat.zero_add _).symm)
      subst q0
      subst q1
      rw [emb18]
      have e : (⟨384 + x1.val, by clear * -; omega⟩ : Fin 512) = ⟨128 * 3 + x1.val, by clear * -; omega⟩ := Fin.ext (by simp only [])
      rw [e, ← q_out_384]
      first | done | rfl
    case piece1 =>
      idx_vars x
      idx_vars y
      have q0 : y0 = x0 := Fin.ext hf0
      have q1 : y1 = ⟨256 + x1.val, by clear * -; omega⟩ := Fin.ext (by first | exact hf1 | exact hf1.trans (Nat.zero_add _).symm)
      subst q0
      subst q1
      rw [emb18]
      have e : (⟨256 + x1.val, by clear * -; omega⟩ : Fin 512) = ⟨128 * 2 + x1.val, by clear * -; omega⟩ := Fin.ext (by simp only [])
      rw [e, ← q_out_256]
      first | done | rfl
    case piece2 =>
      idx_vars x
      idx_vars y
      have q0 : y0 = x0 := Fin.ext hf0
      have q1 : y1 = ⟨128 + x1.val, by clear * -; omega⟩ := Fin.ext (by first | exact hf1 | exact hf1.trans (Nat.zero_add _).symm)
      subst q0
      subst q1
      rw [emb18]
      have e : (⟨128 + x1.val, by clear * -; omega⟩ : Fin 512) = ⟨128 * 1 + x1.val, by clear * -; omega⟩ := Fin.ext (by simp only [])
      rw [e, ← q_out_128]
      first | done | rfl
    case piece3 =>
      idx_vars x
      idx_vars y
      have q0 : y0 = x0 := Fin.ext hf0
      have q1 : y1 = ⟨0 + x1.val, by clear * -; omega⟩ := Fin.ext (by first | exact hf1 | exact hf1.trans (Nat.zero_add _).symm)
      subst q0
      subst q1
      rw [emb18]
      have e : (⟨0 + x1.val, by clear * -; omega⟩ : Fin 512) = ⟨128 * 0 + x1.val, by clear * -; omega⟩ := Fin.ext (by simp only [])
      rw [e, ← q_out_0]
      first | done | rfl

/-- The result array of window 19 after the run is the reference's. -/
theorem final19 (c : Dev nD) : (dats m 0 c).arrAt 19 cfg0.N
    = REF4 (m ((c : Thread nD τ).loc main_arg0)) (m ((c : Thread nD τ).loc main_arg1)) (m ((c : Thread nD τ).loc main_arg4)) (m ((c : Thread nD τ).loc main_arg9)) := by
  refine (dats m 0 c).arrAt_eq_of_covers 19 _ (by decide +kernel) fun t hf y => ?_
  blk_simp
  rw [after0_19]
  by_cases e0 : t.val % 65 = 0
  on_goal 1 => rw [outsAt0_A m c t e0]
  on_goal 2 => rw [outsAt0_B m c t e0]
  all_goals
    dsimp only
    frame_out
    idx_vars y
    rw [emb19, ← k_out]
    first | done | rfl

end Cert.InProjIdeal.RefValue
end
-- ==== Proof.InProjScan.lean ====
/-
  The input projection: running sums within blocks of 64 rows, by doubling and by window.
-/
module

public import proofs.«01_k».proof.Proof.InProjBase

@[expose] public section

set_option maxRecDepth 16384
set_option maxHeartbeats 1000000

noncomputable section

namespace Cert.InProjIdeal.RefValue

open Cert.InProjIdeal Cert.InProjIdeal.Gen Idealize.ShloMosaic Idealize.ShloMosaic.TcCoe Idealize.SL.Sem
open Idealize.ShloMosaic.Pipeline (Dat)
open Cert.InProjRefIdeal.RefValue

/-- Column `l` of a block, zero outside its rows. -/
def colS (g : S256x128.Idx → EReal) (l : Fin 128) (y : ℕ) : EReal := if h : y < 256 then g (ix2 ⟨y, h⟩ l) else 0

/-- The sum of the last `n` entries up to row `y`, inside its block of 64 rows. -/
def preS (G : ℕ → EReal) (n y : ℕ) : EReal := ∑ j ∈ Finset.range (min n (y % 64 + 1)), G (y - j)

/-- The sum of the next `n` entries from row `y`, inside its block of 64 rows. -/
def sufS (G : ℕ → EReal) (n y : ℕ) : EReal := ∑ j ∈ Finset.range (min n (64 - y % 64)), G (y + j)

/-- A running sum doubles its reach by adding the one `k` rows above. -/
theorem preS_double (G : ℕ → EReal) (k y : ℕ) (hk : k ≤ 32) : preS G k y + (if k ≤ y % 64 then preS G k (y - k) else 0) = preS G (2 * k) y := by
  unfold preS
  split
  · rename_i h
    have e1 : min k (y % 64 + 1) = k := by omega
    have e2 : min (2 * k) (y % 64 + 1) = k + min k ((y - k) % 64 + 1) := by omega
    rw [e1, e2, Finset.sum_range_add]
    congr 1
    refine Finset.sum_congr rfl fun j _ => ?_
    rw [Nat.sub_sub]
  · rename_i h
    have e1 : min (2 * k) (y % 64 + 1) = min k (y % 64 + 1) := by omega
    rw [e1, add_zero]

/-- A running sum from below doubles its reach by adding the one `k` rows below. -/
theorem sufS_double (G : ℕ → EReal) (k y : ℕ) (hk : k ≤ 32) : sufS G k y + (if y % 64 < 64 - k then sufS G k (y + k) else 0) = sufS G (2 * k) y := by
  unfold sufS
  split
  · rename_i h
    have e1 : min k (64 - y % 64) = k := by omega
    have e2 : min (2 * k) (64 - y % 64) = k + min k (64 - (y + k) % 64) := by omega
    rw [e1, e2, Finset.sum_range_add]
    congr 1
    refine Finset.sum_congr rfl fun j _ => ?_
    rw [Nat.add_assoc]
  · rename_i h
    have e1 : min (2 * k) (64 - y % 64) = min k (64 - y % 64) := by omega
    rw [e1, add_zero]

/-- The row's place in its block of 64, as the kernel computes it. -/
def posV : IVec S256x128 32 := k0_pay300 (iota .tc S256x128 32 [0] iota_S256x128_d0_w32) 64#32 0#1 1#32

/-- One doubling step from above. -/
def stepUp (k : BitVec 32) (s : FVec Ideal S256x128 .f32) : FVec Ideal S256x128 .f32 :=
  addf s (select (cmpi .sge posV (broadcast S256x128 k)) (dynamicRotate 0 k none s rotates_S256x128_d0) (broadcast S256x128 (Scalar.ofBits .f32 0x00000000#32)))

/-- One doubling step from below. -/
def stepDown (b k : BitVec 32) (s : FVec Ideal S256x128 .f32) : FVec Ideal S256x128 .f32 :=
  addf s (select (cmpi .slt posV (broadcast S256x128 b)) (dynamicRotate 0 k none s rotates_S256x128_d0) (broadcast S256x128 (Scalar.ofBits .f32 0x00000000#32)))

/-- The row's place in its block of 64. -/
theorem posV_apply (y : Fin 256) (l : Fin 128) : posV (ix2 y l) = BitVec.ofNat 32 (y.val % 64) := by
  have h : ∀ y : Fin 256,
            (Scalar.select
              (IntOp.andi
                (IntOp.xori
                  (IntOp.cmpi CmpIPredicate.slt
                    (IntOp.remsi ArithUnit.vector (BitVec.ofNat 32 y.val)
                      (Scalar.select 0#1 1#32 64#32))
                    0#32)
                  (Scalar.cmpi CmpIPredicate.slt (Scalar.select 0#1 1#32 64#32)
                    0#32))
                (IntOp.cmpi CmpIPredicate.ne
                  (IntOp.remsi ArithUnit.vector (BitVec.ofNat 32 y.val)
                    (Scalar.select 0#1 1#32 64#32))
                  0#32))
              (IntOp.addi
                (IntOp.remsi ArithUnit.vector (BitVec.ofNat 32 y.val)
                  (Scalar.select 0#1 1#32 64#32))
                (Scalar.select 0#1 1#32 64#32))
              (IntOp.remsi ArithUnit.vector (BitVec.ofNat 32 y.val)
                (Scalar.select 0#1 1#32 64#32))) = BitVec.ofNat 32 (y.val % 64) := by
    decide +kernel
  pointwise [posV, k0_pay300]
  exact h y

/-- A doubling step from above carries the sums of reach `k` to reach `2 k`. -/
theorem stepUp_apply (k : ℕ) (hk : k = 1 ∨ k = 2 ∨ k = 4 ∨ k = 8 ∨ k = 16 ∨ k = 32) (s : FVec Ideal S256x128 .f32) (G : ℕ → EReal) (l : Fin 128)
    (hs : ∀ y : Fin 256, s (ix2 y l) = preS G k y.val) (y : Fin 256) : stepUp (BitVec.ofNat 32 k) s (ix2 y l) = preS G (2 * k) y.val := by
  have hm : ∀ p : Fin 64, ∀ k : Fin 33, (IntOp.cmpi CmpIPredicate.sge (BitVec.ofNat 32 p.val) (BitVec.ofNat 32 k.val)) = if k.val ≤ p.val then 1#1 else 0#1 := by
    decide +kernel
  have hm' := hm ⟨y.val % 64, by omega⟩ ⟨k, by omega⟩
  rw [← preS_double G k y.val (by omega)]
  rcases hk with rfl | rfl | rfl | rfl | rfl | rfl
  all_goals
    pointwise [stepUp]
    rw [posV_apply, hs, hs]
    simp only [] at hm'
    first | rw [hm'] | erw [hm']
    split
    · rename_i h
      simp only [Scalar.select]
      refine congrArg₂ (· + ·) rfl ((if_pos (by decide)).trans (congrArg _ ?_))
      omega
    · simp [Scalar.select]

/-- A doubling step from below carries the sums of reach `k` to reach `2 k`. -/
theorem stepDown_apply (k : ℕ) (hk : k = 1 ∨ k = 2 ∨ k = 4 ∨ k = 8 ∨ k = 16 ∨ k = 32) (s : FVec Ideal S256x128 .f32) (G : ℕ → EReal) (l : Fin 128)
    (hs : ∀ y : Fin 256, s (ix2 y l) = sufS G k y.val) (y : Fin 256) : stepDown (BitVec.ofNat 32 (64 - k)) (BitVec.ofNat 32 (256 - k)) s (ix2 y l) = sufS G (2 * k) y.val := by
  have hm : ∀ p : Fin 64, ∀ k : Fin 65, (IntOp.cmpi CmpIPredicate.slt (BitVec.ofNat 32 p.val) (BitVec.ofNat 32 k.val)) = if p.val < k.val then 1#1 else 0#1 := by
    decide +kernel
  have hm' := hm ⟨y.val % 64, by omega⟩ ⟨64 - k, by omega⟩
  rw [← sufS_double G k y.val (by omega)]
  rcases hk with rfl | rfl | rfl | rfl | rfl | rfl
  all_goals
    pointwise [stepDown]
    rw [posV_apply, hs, hs]
    simp only [] at hm'
    first | rw [hm'] | erw [hm']
    split
    · rename_i h
      simp only [Scalar.select]
      refine congrArg₂ (· + ·) rfl ((if_pos (by decide)).trans (congrArg _ ?_))
      omega
    · simp [Scalar.select]

/-- All doubling steps from above. -/
def scanUp (g : FVec Ideal S256x128 .f32) : FVec Ideal S256x128 .f32 :=
  stepUp 32#32 (stepUp 16#32 (stepUp 8#32 (stepUp 4#32 (stepUp 2#32 (stepUp 1#32 g)))))

/-- All doubling steps from below. -/
def scanDown (g : FVec Ideal S256x128 .f32) : FVec Ideal S256x128 .f32 :=
  stepDown 32#32 224#32 (stepDown 48#32 240#32 (stepDown 56#32 248#32 (stepDown 60#32 252#32 (stepDown 62#32 254#32 (stepDown 63#32 255#32 g)))))

/-- The running sums from above. -/
theorem scanUp_apply (g : FVec Ideal S256x128 .f32) (y : Fin 256) (l : Fin 128) : scanUp g (ix2 y l) = preS (colS g l) 64 y.val := by
  have h0 : ∀ y : Fin 256, g (ix2 y l) = preS (colS g l) 1 y.val := fun y => by
    unfold preS colS
    rw [show min 1 (y.val % 64 + 1) = 1 by omega, Finset.sum_range_one, Nat.sub_zero, dif_pos y.isLt]
  exact stepUp_apply 32 (by decide) _ _ l (stepUp_apply 16 (by decide) _ _ l (stepUp_apply 8 (by decide) _ _ l (stepUp_apply 4 (by decide) _ _ l
    (stepUp_apply 2 (by decide) _ _ l (stepUp_apply 1 (by decide) _ _ l h0))))) y

/-- The running sums from below. -/
theorem scanDown_apply (g : FVec Ideal S256x128 .f32) (y : Fin 256) (l : Fin 128) : scanDown g (ix2 y l) = sufS (colS g l) 64 y.val := by
  have h0 : ∀ y : Fin 256, g (ix2 y l) = sufS (colS g l) 1 y.val := fun y => by
    unfold sufS colS
    rw [show min 1 (64 - y.val % 64) = 1 by omega, Finset.sum_range_one, Nat.add_zero, dif_pos y.isLt]
  exact stepDown_apply 32 (by decide) _ _ l (stepDown_apply 16 (by decide) _ _ l (stepDown_apply 8 (by decide) _ _ l (stepDown_apply 4 (by decide) _ _ l
    (stepDown_apply 2 (by decide) _ _ l (stepDown_apply 1 (by decide) _ _ l h0))))) y

/-- The array of running sums and gates as the kernel puts it together. -/
theorem ab_kernel (g : FVec Ideal S256x128 .f32) :
    k0_pay308 (iota .tc S256x128 32 [1] iota_S256x128_d1_w32) g
      (k0_pay305 (k0_pay300 (iota .tc S256x128 32 [0] iota_S256x128_d0_w32) 64#32 0#1 1#32) (k0_pay302 g (iota .tc S256x128 32 [0] iota_S256x128_d0_w32) 64#32 0#1 1#32))
      (k0_pay306 (k0_pay300 (iota .tc S256x128 32 [0] iota_S256x128_d0_w32) 64#32 0#1 1#32) (k0_pay301 g (iota .tc S256x128 32 [0] iota_S256x128_d0_w32) 64#32 0#1 1#32)
        (k0_pay303 (iota .tc S256x128 32 [0] iota_S256x128_d0_w32) 64#32 0#1 1#32) (k0_pay304 g (iota .tc S256x128 32 [0] iota_S256x128_d0_w32) 64#32 0#1 1#32) (FloatOps.ofBits .f32 0#32))
      (k0_pay307 (k0_pay300 (iota .tc S256x128 32 [0] iota_S256x128_d0_w32) 64#32 0#1 1#32))
      = select (cmpi .slt (iota .tc S256x128 32 [1] iota_S256x128_d1_w32) (broadcast S256x128 8#32)) (scanUp g)
          (select (cmpi .slt (iota .tc S256x128 32 [1] iota_S256x128_d1_w32) (broadcast S256x128 16#32)) (scanDown g) g) := rfl

/-- A fold that adds is a sum. -/
theorem foldl_sum {ι : Type} (f : ι → EReal) (l : List ι) (v : EReal) : l.foldl (fun r n => r + f n) v = v + (l.map f).sum := by
  induction l generalizing v with
  | nil => simp
  | cons a l ih => simp only [List.foldl_cons, List.map_cons, List.sum_cons, ih, add_assoc]

/-- A sum over a window of 64 that ends at row `p` is the sum of the rows up to `p`. -/
theorem window_sum (X : ℕ → EReal) (p : ℕ) (hp : p < 64) :
    (∑ n : Fin 64, if 63 ≤ p + n.val then X (p + n.val - 63) else 0) = ∑ j ∈ Finset.range (p + 1), X (p - j) := by
  rw [Finset.sum_range (n := p + 1)]
  rw [← Finset.sum_range (fun n => if 63 ≤ p + n then X (p + n - 63) else 0), ← Finset.sum_range_reflect,
    ← Finset.sum_range (fun j => X (p - j))]
  rw [← Finset.sum_subset (Finset.range_subset_range.mpr (show p + 1 ≤ 64 by omega))]
  · refine Finset.sum_congr rfl fun j hj => ?_
    have := Finset.mem_range.mp hj
    rw [if_pos (by omega)]
    congr 1
    omega
  · intro j hj hn
    have h1 := Finset.mem_range.mp hj
    rw [Finset.mem_range] at hn
    rw [if_neg (by omega)]

end Cert.InProjIdeal.RefValue
end
-- ==== Proof.InProjWindow.lean ====
/-
  The reference's running sums: a window of 64 rows ending at the row.
-/
module

public import proofs.«01_k».proof.Proof.InProjScan

@[expose] public section

set_option maxRecDepth 16384
set_option maxHeartbeats 1000000

noncomputable section

namespace Cert.InProjIdeal.RefValue

open Idealize.ShloMosaic Idealize.ShloMosaic.TcCoe Idealize.SL.Sem
open Cert.InProjRefIdeal.RefValue

/-- The positions of the window, in order. -/
theorem window_pos (n : Fin (⟨3, ![1, 64, 1]⟩ : Shape).numel) :
    ((⟨3, ![1, 64, 1]⟩ : Shape).rowMajor.symm n 0).val = 0 ∧ ((⟨3, ![1, 64, 1]⟩ : Shape).rowMajor.symm n 1).val = n.val
      ∧ ((⟨3, ![1, 64, 1]⟩ : Shape).rowMajor.symm n 2).val = 0 :=
  (by decide +kernel : ∀ n : Fin (⟨3, ![1, 64, 1]⟩ : Shape).numel, ((⟨3, ![1, 64, 1]⟩ : Shape).rowMajor.symm n 0).val = 0 ∧ ((⟨3, ![1, 64, 1]⟩ : Shape).rowMajor.symm n 1).val = n.val
      ∧ ((⟨3, ![1, 64, 1]⟩ : Shape).rowMajor.symm n 2).val = 0) n

/-- The reference's running sum, written out. -/
theorem window_apply (x : FVec Ideal Cert.InProjRefIdeal.S256x64x8 .f32) (v : FVec Ideal Cert.InProjRefIdeal.S_ .f32) (hv : ∀ i, v i = (0 : EReal)) (i : Fin 256) (p : Fin 64) (j : Fin 8) :
    Host.reduceWindowAdd ![1, 64, 1] ![1, 1, 1] ![0, 63, 0] ![0, 0, 0] x v
        Cert.InProjRefIdeal.Gen.reduceWindows_S256x64x8_S256x64x8_w1s1p0_0_w64s1p63_0_w1s1p0_0 Cert.InProjRefIdeal.Gen.h_S_ (ix3 i p j)
      = ∑ k ∈ Finset.range (p.val + 1), (if h : p.val - k < 64 then x (ix3 i ⟨p.val - k, h⟩ j) else 0) := by
  rw [← window_sum (fun n => if h : n < 64 then x (ix3 i ⟨n, h⟩ j) else 0) p.val p.isLt]
  show Ideal.hostReduceWindowAdd ![1, 64, 1] ![1, 1, 1] ![0, 63, 0] ![0, 0, 0] Cert.InProjRefIdeal.Gen.reduceWindows_S256x64x8_S256x64x8_w1s1p0_0_w64s1p63_0_w1s1p0_0 x (v (Shape.Idx.first Cert.InProjRefIdeal.Gen.h_S_)) (ix3 i p j) = _
  unfold Ideal.hostReduceWindowAdd Host.reduceWindow
  dsimp only
  rw [hv]
  rw [foldl_sum, zero_add, ← Fin.sum_univ_def]
  refine Finset.sum_congr rfl fun n _ => ?_
  obtain ⟨w0, w1, w2⟩ := window_pos n
  by_cases h : 63 ≤ p.val + n.val
  · have hl : p.val + n.val - 63 < 64 := by have := n.isLt; have : n.val < 64 := n.isLt; omega
    rw [if_pos h, dif_pos hl, dif_pos]
    · congr 1
      funext a
      apply Fin.ext
      fin_cases a
      · show i.val * 1 + ((⟨3, ![1, 64, 1]⟩ : Shape).rowMajor.symm n 0).val - 0 = i.val
        rw [w0]; omega
      · show p.val * 1 + ((⟨3, ![1, 64, 1]⟩ : Shape).rowMajor.symm n 1).val - 63 = p.val + n.val - 63
        rw [w1]; omega
      · show j.val * 1 + ((⟨3, ![1, 64, 1]⟩ : Shape).rowMajor.symm n 2).val - 0 = j.val
        rw [w2]; omega
    · intro a
      fin_cases a
      · show 0 ≤ i.val * 1 + ((⟨3, ![1, 64, 1]⟩ : Shape).rowMajor.symm n 0).val ∧ i.val * 1 + ((⟨3, ![1, 64, 1]⟩ : Shape).rowMajor.symm n 0).val - 0 < 256
        rw [w0]; omega
      · show 63 ≤ p.val * 1 + ((⟨3, ![1, 64, 1]⟩ : Shape).rowMajor.symm n 1).val ∧ p.val * 1 + ((⟨3, ![1, 64, 1]⟩ : Shape).rowMajor.symm n 1).val - 63 < 64
        rw [w1]; omega
      · show 0 ≤ j.val * 1 + ((⟨3, ![1, 64, 1]⟩ : Shape).rowMajor.symm n 2).val ∧ j.val * 1 + ((⟨3, ![1, 64, 1]⟩ : Shape).rowMajor.symm n 2).val - 0 < 8
        rw [w2]; omega
  · rw [if_neg h, dif_neg]
    intro hin
    have := (hin 1).1
    change 63 ≤ p.val * 1 + ((⟨3, ![1, 64, 1]⟩ : Shape).rowMajor.symm n 1).val at this
    rw [w1] at this
    omega

/-- The same at coordinates given up to equality. -/
theorem window_at (x : FVec Ideal Cert.InProjRefIdeal.S256x64x8 .f32) (v : FVec Ideal Cert.InProjRefIdeal.S_ .f32) (hv : ∀ i, v i = (0 : EReal)) (i' i : Fin 256) (p' p : Fin 64) (j' j : Fin 8)
    (hi : i' = i) (hp : p' = p) (hj : j' = j) :
    Host.reduceWindowAdd ![1, 64, 1] ![1, 1, 1] ![0, 63, 0] ![0, 0, 0] x v
        Cert.InProjRefIdeal.Gen.reduceWindows_S256x64x8_S256x64x8_w1s1p0_0_w64s1p63_0_w1s1p0_0 Cert.InProjRefIdeal.Gen.h_S_ (ix3 i' p' j')
      = ∑ k ∈ Finset.range (p.val + 1), (if h : p.val - k < 64 then x (ix3 i ⟨p.val - k, h⟩ j) else 0) := by
  subst hi hp hj
  exact window_apply x v hv _ _ _

/-- The rows of each chunk in reverse. -/
theorem reverse_rows (x : FVec Ideal Cert.InProjRefIdeal.S256x64x8 .f32) (i : Fin 256) (p : Fin 64) (j : Fin 8) :
    Host.reverse [1] x (ix3 i p j) = x (ix3 i ⟨64 - (p.val + 1), by omega⟩ j) := by
  unfold Host.reverse
  congr 1
  funext a
  fin_cases a <;> rfl

/-- The decay of row `r` and head `j`: minus the exponential of its log rate, times the softplus of its projection. -/
def decayS (a0 : FVec Ideal Cert.InProjRefIdeal.S16384x2048 .f32) (a1 : FVec Ideal Cert.InProjRefIdeal.S1x2048 .f32) (a3 : FVec Ideal Cert.InProjRefIdeal.S2048x128 .bf16)
    (a6 a7 : FVec Ideal Cert.InProjRefIdeal.S1x128 .f32) (r : Fin 16384) (j : Fin 128) : EReal :=
  -Ideal.exp (a6 (ix2 0 j)) * (max ((∑ x : Fin 2048, hnS a0 a1 r x * a3 (ix2 x j)) + a7 (ix2 0 j)) 0
    + Ideal.log1p (Ideal.exp (-(FloatOps.absf (F := Ideal) (φ := FTy.f32) ((∑ x : Fin 2048, hnS a0 a1 r x * a3 (ix2 x j)) + a7 (ix2 0 j))))))

/-- The reference's decays. -/
theorem r_v34_apply (a0 : FVec Ideal Cert.InProjRefIdeal.S16384x2048 .f32) (a1 : FVec Ideal Cert.InProjRefIdeal.S1x2048 .f32) (a3 : FVec Ideal Cert.InProjRefIdeal.S2048x128 .bf16)
    (a6 a7 : FVec Ideal Cert.InProjRefIdeal.S1x128 .f32) (i : Fin 256) (p : Fin 64) (j : Fin 16) :
    r_v34 a0 a1 a3 a6 a7 (ix3 i p j) = decayS a0 a1 a3 a6 a7 ⟨i.val * 64 + p.val, by omega⟩ ⟨j.val, by omega⟩ := by
  pointwise [r_v34, r_call0_v3, r_v30, r_call0_cst, r_v23_apply]
  rw [if_neg (fun h => h rfl)]
  rfl

/-- Lanes below 8. -/
theorem lane_slt8 (l : Fin 128) : IntOp.cmpi CmpIPredicate.slt (BitVec.ofNat 32 l.val) 8#32 = if l.val < 8 then 1#1 else 0#1 :=
  (by decide +kernel : ∀ l : Fin 128, IntOp.cmpi CmpIPredicate.slt (BitVec.ofNat 32 l.val) 8#32 = if l.val < 8 then 1#1 else 0#1) l

/-- Lanes below 16. -/
theorem lane_slt16 (l : Fin 128) : IntOp.cmpi CmpIPredicate.slt (BitVec.ofNat 32 l.val) 16#32 = if l.val < 16 then 1#1 else 0#1 :=
  (by decide +kernel : ∀ l : Fin 128, IntOp.cmpi CmpIPredicate.slt (BitVec.ofNat 32 l.val) 16#32 = if l.val < 16 then 1#1 else 0#1) l

/-- Lanes below 32. -/
theorem lane_slt32 (l : Fin 128) : IntOp.cmpi CmpIPredicate.slt (BitVec.ofNat 32 l.val) 32#32 = if l.val < 32 then 1#1 else 0#1 :=
  (by decide +kernel : ∀ l : Fin 128, IntOp.cmpi CmpIPredicate.slt (BitVec.ofNat 32 l.val) 32#32 = if l.val < 32 then 1#1 else 0#1) l

/-- The kernel's decays and gates before the running sums. -/
theorem k0_pay299_apply (m : (ℓ : Loc Cert.InProjIdeal.nD Cert.InProjIdeal.τ Cert.InProjIdeal.sig) → Buf (Elt Ideal) ℓ) (c : Dev Cert.InProjIdeal.nD) (t : Fin Cert.InProjIdeal.cfg0.N) (y : Fin 256) (l : Fin 128) :
    Cert.InProjIdeal.Gen.k0_pay299 (Cert.InProjIdeal.Gen.k0_pay3 (Cert.InProjIdeal.Gen.iblk m c 0 t) (Cert.InProjIdeal.Gen.iblk m c 1 t)) (Cert.InProjIdeal.Gen.iblk m c 3 t) (Cert.InProjIdeal.Gen.iblk m c 8 t) (Cert.InProjIdeal.Gen.iblk m c 9 t) (ix2 y l)
      = if l.val < 16 then decayS (m ((c : Thread Cert.InProjIdeal.nD Cert.InProjIdeal.τ).loc Cert.InProjIdeal.main_arg0)) (m ((c : Thread Cert.InProjIdeal.nD Cert.InProjIdeal.τ).loc Cert.InProjIdeal.main_arg1)) (m ((c : Thread Cert.InProjIdeal.nD Cert.InProjIdeal.τ).loc Cert.InProjIdeal.main_arg3))
          (m ((c : Thread Cert.InProjIdeal.nD Cert.InProjIdeal.τ).loc Cert.InProjIdeal.main_arg6)) (m ((c : Thread Cert.InProjIdeal.nD Cert.InProjIdeal.τ).loc Cert.InProjIdeal.main_arg7)) (rowOf t y) l
        else if l.val < 32 then Ideal.logistic (∑ x : Fin 2048, hnS (m ((c : Thread Cert.InProjIdeal.nD Cert.InProjIdeal.τ).loc Cert.InProjIdeal.main_arg0)) (m ((c : Thread Cert.InProjIdeal.nD Cert.InProjIdeal.τ).loc Cert.InProjIdeal.main_arg1)) (rowOf t y) x * m ((c : Thread Cert.InProjIdeal.nD Cert.InProjIdeal.τ).loc Cert.InProjIdeal.main_arg3) (ix2 x l))
        else 0 := by
  pointwise [Cert.InProjIdeal.Gen.k0_pay299]
  simp only [k0_pay3_apply, blk3, blk8, blk9, lane_slt16, lane_slt32, zero_sub]
  by_cases h16 : l.val < 16
  · rw [if_pos h16, if_pos h16, if_pos (by omega : l.val < 32)]
    rfl
  · rw [if_neg h16, if_neg h16]
    by_cases h32 : l.val < 32
    · rw [if_pos h32, if_pos h32]
      rfl
    · rw [if_neg h32, if_neg h32]
      rfl

/-- A function of the rows, zero beyond them. -/
def rowsD (f : Fin 16384 → EReal) (n : ℕ) : EReal := if h : n < 16384 then f ⟨n, h⟩ else 0

/-- Running sums of the decays within the chunk, from its start and from its end, and the gates. -/
def abS (a0 : FVec Ideal Cert.InProjRefIdeal.S16384x2048 .f32) (a1 : FVec Ideal Cert.InProjRefIdeal.S1x2048 .f32) (a3 : FVec Ideal Cert.InProjRefIdeal.S2048x128 .bf16)
    (a6 a7 : FVec Ideal Cert.InProjRefIdeal.S1x128 .f32) (r : Fin 16384) (l : Fin 128) : EReal :=
  if l.val < 8 then ∑ k ∈ Finset.range (r.val % 64 + 1), rowsD (fun r => decayS a0 a1 a3 a6 a7 r l) (r.val - k)
  else if l.val < 16 then ∑ k ∈ Finset.range (64 - r.val % 64), rowsD (fun r => decayS a0 a1 a3 a6 a7 r l) (r.val + k)
  else if l.val < 32 then Ideal.logistic (∑ x : Fin 2048, hnS a0 a1 r x * a3 (ix2 x l))
  else 0

/-- The kernel's array of running sums and gates. -/
theorem ab_apply (g : FVec Ideal Cert.InProjIdeal.S256x128 .f32) (a0 : FVec Ideal Cert.InProjRefIdeal.S16384x2048 .f32) (a1 : FVec Ideal Cert.InProjRefIdeal.S1x2048 .f32) (a3 : FVec Ideal Cert.InProjRefIdeal.S2048x128 .bf16)
    (a6 a7 : FVec Ideal Cert.InProjRefIdeal.S1x128 .f32) (t : Fin Cert.InProjIdeal.cfg0.N)
    (hg : ∀ (y : Fin 256) (l : Fin 128), g (ix2 y l) = if l.val < 16 then decayS a0 a1 a3 a6 a7 (rowOf t y) l
        else if l.val < 32 then Ideal.logistic (∑ x : Fin 2048, hnS a0 a1 (rowOf t y) x * a3 (ix2 x l)) else 0) (y : Fin 256) (l : Fin 128) :
    select (cmpi .slt (iota .tc Cert.InProjIdeal.S256x128 32 [1] Cert.InProjIdeal.Gen.iota_S256x128_d1_w32) (broadcast Cert.InProjIdeal.S256x128 8#32)) (scanUp g)
          (select (cmpi .slt (iota .tc Cert.InProjIdeal.S256x128 32 [1] Cert.InProjIdeal.Gen.iota_S256x128_d1_w32) (broadcast Cert.InProjIdeal.S256x128 16#32)) (scanDown g) g) (ix2 y l)
      = abS a0 a1 a3 a6 a7 (rowOf t y) l := by
  pointwise [abS]
  rw [lane_slt8, lane_slt16, scanUp_apply, scanDown_apply]
  have hr : (rowOf t y).val = min t.val 63 * 256 + y.val := rfl
  have hm : (rowOf t y).val % 64 = y.val % 64 := by rw [hr]; omega
  have hy := y.isLt
  by_cases h8 : l.val < 8
  · rw [if_pos h8, if_pos h8]
    show preS (colS g l) 64 y.val = _
    unfold preS
    rw [hm, show min 64 (y.val % 64 + 1) = y.val % 64 + 1 by omega]
    refine Finset.sum_congr rfl fun k hk => ?_
    have hk' := Finset.mem_range.mp hk
    unfold colS rowsD
    rw [dif_pos (by omega : y.val - k < 256), dif_pos (by rw [hr]; omega : (rowOf t y).val - k < 16384), hg, if_pos (by omega : l.val < 16)]
    refine congrArg (fun r => decayS a0 a1 a3 a6 a7 r l) (Fin.ext ?_)
    show min t.val 63 * 256 + (y.val - k) = (rowOf t y).val - k
    rw [hr]; omega
  · rw [if_neg h8, if_neg h8]
    by_cases h16 : l.val < 16
    · rw [if_pos h16, if_pos h16]
      show sufS (colS g l) 64 y.val = _
      unfold sufS
      rw [hm, show min 64 (64 - y.val % 64) = 64 - y.val % 64 by omega]
      refine Finset.sum_congr rfl fun k hk => ?_
      have hk' := Finset.mem_range.mp hk
      unfold colS rowsD
      rw [dif_pos (by omega : y.val + k < 256), dif_pos (by rw [hr]; omega : (rowOf t y).val + k < 16384), hg, if_pos h16]
      refine congrArg (fun r => decayS a0 a1 a3 a6 a7 r l) (Fin.ext ?_)
      show min t.val 63 * 256 + (y.val + k) = (rowOf t y).val + k
      rw [hr]; omega
    · rw [if_neg h16, if_neg h16]
      show g (ix2 y l) = _
      rw [hg, if_neg h16]

/-- The reference's array of running sums and gates. -/
theorem REF1_apply (a0 : FVec Ideal Cert.InProjRefIdeal.S16384x2048 .f32) (a1 : FVec Ideal Cert.InProjRefIdeal.S1x2048 .f32) (a3 : FVec Ideal Cert.InProjRefIdeal.S2048x128 .bf16)
    (a6 a7 : FVec Ideal Cert.InProjRefIdeal.S1x128 .f32) (r : Fin 16384) (l : Fin 128) : REF1 a0 a1 a3 a6 a7 (ix2 r l) = abS a0 a1 a3 a6 a7 r l := by
  have hd : r.val / 64 * 64 + r.val % 64 = r.val := by omega
  pointwise [REF1, r_v23_apply]
  unfold abS
  by_cases h8 : l.val < 8
  · rw [dif_pos h8, if_pos h8, window_apply _ _ (fun i => by pointwise)]
    refine Finset.sum_congr rfl fun k hk => ?_
    have hk' := Finset.mem_range.mp hk
    unfold rowsD
    rw [dif_pos (show r.val % 64 - k < 64 by omega), dif_pos (show r.val - k < 16384 by omega)]
    pointwise [r_v34_apply]
    refine congrArg₂ (fun r j => decayS a0 a1 a3 a6 a7 r j) (Fin.ext ?_) (Fin.ext ?_)
    · show r.val / 64 * 64 + (r.val % 64 - k) = r.val - k
      omega
    · first | rfl | (simp only []; omega)
  · rw [dif_neg h8, if_neg h8]
    by_cases h16 : l.val < 16
    · rw [dif_pos (by omega), if_pos h16]
      refine (window_at _ _ (fun i => by pointwise) _ ⟨r.val / 64, by omega⟩ _ ⟨64 - (r.val % 64 + 1), by omega⟩ _ ⟨l.val - 8, by omega⟩ (if_neg (by decide)) (if_pos (by decide)) (if_neg (by decide))).trans ?_
      rw [show (⟨64 - (r.val % 64 + 1), by omega⟩ : Fin 64).val + 1 = 64 - r.val % 64 by show 64 - (r.val % 64 + 1) + 1 = _; omega]
      refine Finset.sum_congr rfl fun k hk => ?_
      have hk' := Finset.mem_range.mp hk
      unfold rowsD
      rw [dif_pos (show 64 - (r.val % 64 + 1) - k < 64 by omega), dif_pos (show r.val + k < 16384 by omega)]
      rw [reverse_rows]
      pointwise [r_v34_apply]
      refine congrArg₂ (fun r j => decayS a0 a1 a3 a6 a7 r j) (Fin.ext ?_) (Fin.ext ?_)
      · show r.val / 64 * 64 + (64 - (64 - (r.val % 64 + 1) - k + 1)) = r.val + k
        omega
      · show 8 + (l.val - 8) = l.val
        omega
    · rw [dif_neg (by omega), if_neg h16]
      by_cases h32 : l.val < 32
      · rw [dif_pos (by omega), if_pos h32]
        have e : (⟨16 + (l.val - 8 - 8), by omega⟩ : Fin 128) = l := Fin.ext (by show 16 + (l.val - 8 - 8) = l.val; omega)
        rw [e]
        rfl
      · rw [dif_neg (by omega), if_neg h32]

end Cert.InProjIdeal.RefValue
end
-- ==== Proof.InProjSums.lean ====
/-
  The input projection: the running sums of the decays and the gates, and their transpose.
-/
module

public import proofs.«01_k».proof.Proof.InProjWindow

@[expose] public section

set_option maxRecDepth 16384
set_option maxHeartbeats 1000000

noncomputable section

namespace Cert.InProjIdeal.RefValue

open Cert.InProjIdeal Cert.InProjIdeal.Gen Idealize.ShloMosaic Idealize.ShloMosaic.TcCoe Idealize.SL.Sem
open Idealize.ShloMosaic.Pipeline (Dat)
open Cert.InProjRefIdeal.RefValue

variable (m : (ℓ : Loc nD τ sig) → Buf (Elt Ideal) ℓ)

/-- An index of a rank-3 array is its three coordinates. -/
theorem ix3_ext {a b d : Nat} (e : (⟨3, ![a, b, d]⟩ : Shape).Idx) (i : Fin a) (j : Fin b) (k : Fin d) (e0 : (e 0).val = i.val) (e1 : (e 1).val = j.val) (e2 : (e 2).val = k.val) : e = ix3 i j k := by
  funext q
  apply Fin.ext
  fin_cases q
  · exact e0
  · exact e1
  · exact e2

/-- Where an entry of window 17's block stands in its array. -/
theorem emb17 (t : Fin cfg0.N) (y0 : Fin 1) (y1 : Fin 128) (y2 : Fin 256) : ((View.whole main_v37_3).slice (win0_17.rect t)).emb (ix3 y0 y1 y2) = ix3 ⟨min t.val 63, by omega⟩ y1 y2 := by
  have e0 : ((((View.whole main_v37_3).slice (win0_17.rect t)).emb (ix3 y0 y1 y2)) 0).val = min t.val 63 := by
    have := y0.isLt
    blk_simp [idx t]
    try omega
  have e1 : ((((View.whole main_v37_3).slice (win0_17.rect t)).emb (ix3 y0 y1 y2)) 1).val = y1.val := by blk_simp [idx t]
  have e2 : ((((View.whole main_v37_3).slice (win0_17.rect t)).emb (ix3 y0 y1 y2)) 2).val = y2.val := by blk_simp [idx t]
  exact ix3_ext _ _ _ _ e0 e1 e2

/-- The result array of window 16 after the run is the reference's. -/
theorem final16 (c : Dev nD) : (dats m 0 c).arrAt 16 cfg0.N
    = REF1 (m ((c : Thread nD τ).loc main_arg0)) (m ((c : Thread nD τ).loc main_arg1)) (m ((c : Thread nD τ).loc main_arg3)) (m ((c : Thread nD τ).loc main_arg6)) (m ((c : Thread nD τ).loc main_arg7)) := by
  refine (dats m 0 c).arrAt_eq_of_covers 16 _ (by decide +kernel) fun t hf y => ?_
  blk_simp
  rw [after0_16]
  by_cases e0 : t.val % 65 = 0
  on_goal 1 => rw [outsAt0_A m c t e0]
  on_goal 2 => rw [outsAt0_B m c t e0]
  all_goals
    dsimp only
    frame_out
    idx_vars y
    rw [emb16, REF1_apply, ab_kernel]
    exact ab_apply _ _ _ _ _ _ t (k0_pay299_apply m c t) y0 y1

/-- The transposed block holds the entries of the block. -/
theorem k0_pay309_apply (a : IVec S256x128 32) (g b f : FVec Ideal S256x128 .f32) (d : IVec S256x128 1) (y0 : Fin 1) (y1 : Fin 128) (y2 : Fin 256) :
    k0_pay309 a g b f d (ix3 y0 y1 y2) = k0_pay308 a g b f d (ix2 y2 y1) := by
  unfold k0_pay309
  generalize k0_pay308 a g b f d = z
  pointwise

/-- The transposed array holds the entries of the array. -/
theorem turned_apply (x : FVec Ideal Cert.InProjRefIdeal.S16384x128 .f32) (i : Fin 64) (y1 : Fin 128) (y2 : Fin 256) :
    transpose Cert.InProjRefIdeal.S64x128x256 [0, 2, 1] (shapeCast _ x Cert.InProjRefIdeal.Gen.shapeCasts_S16384x128_S64x256x128 : FVec Ideal Cert.InProjRefIdeal.S64x256x128 .f32)
      Cert.InProjRefIdeal.Gen.transposes_S64x256x128_S64x128x256_0_2_1 (ix3 i y1 y2) = x (ix2 ⟨i.val * 256 + y2.val, by omega⟩ y1) := by
  pointwise

/-- The reference's transposed array of running sums and gates. -/
theorem REF2_apply (a0 : FVec Ideal Cert.InProjRefIdeal.S16384x2048 .f32) (a1 : FVec Ideal Cert.InProjRefIdeal.S1x2048 .f32) (a3 : FVec Ideal Cert.InProjRefIdeal.S2048x128 .bf16)
    (a6 a7 : FVec Ideal Cert.InProjRefIdeal.S1x128 .f32) (i : Fin 64) (y1 : Fin 128) (y2 : Fin 256) :
    REF2 a0 a1 a3 a6 a7 (ix3 i y1 y2) = abS a0 a1 a3 a6 a7 ⟨i.val * 256 + y2.val, by omega⟩ y1 := by
  rw [← REF1_apply]
  exact turned_apply _ _ _ _

/-- The result array of window 17 after the run is the reference's. -/
theorem final17 (c : Dev nD) : (dats m 0 c).arrAt 17 cfg0.N
    = REF2 (m ((c : Thread nD τ).loc main_arg0)) (m ((c : Thread nD τ).loc main_arg1)) (m ((c : Thread nD τ).loc main_arg3)) (m ((c : Thread nD τ).loc main_arg6)) (m ((c : Thread nD τ).loc main_arg7)) := by
  refine (dats m 0 c).arrAt_eq_of_covers 17 _ (by decide +kernel) fun t hf y => ?_
  blk_simp
  rw [after0_17]
  by_cases e0 : t.val % 65 = 0
  on_goal 1 => rw [outsAt0_A m c t e0]
  on_goal 2 => rw [outsAt0_B m c t e0]
  all_goals
    dsimp only
    frame_out
    idx_vars y
    rw [emb17, REF2_apply, k0_pay309_apply, ab_kernel]
    exact ab_apply _ _ _ _ _ _ t (k0_pay299_apply m c t) y2 y1

end Cert.InProjIdeal.RefValue
end
-- ==== Proof.InProjClaims.lean ====
/-
  The input projection: the claims about this call, each from the run of its program.
-/
module

public import proofs.«01_k».proof.Defs
public import proofs.«01_k».proof.Proof.InProjFrame
public import proofs.«01_k».proof.Proof.InProjIdealFrame
public import proofs.«01_k».proof.Proof.Gen.InProjRefIdeal.Run
public import proofs.«01_k».proof.Proof.InProjGates
public import proofs.«01_k».proof.Proof.InProjResults
public import proofs.«01_k».proof.Proof.InProjOutGate
public import proofs.«01_k».proof.Proof.InProjCross
public import proofs.«01_k».proof.Proof.InProjQueries
public import proofs.«01_k».proof.Proof.InProjSums
public import Idealize.ShloMosaic.Lib.Quiescent

@[expose] public section

set_option maxRecDepth 16384
set_option maxHeartbeats 2000000

noncomputable section

namespace Cert.Proof.InProjClaims

open Idealize.ShloMosaic Idealize.ShloMosaic.TcCoe Idealize.SL.Sem

/-- The kernel terminates without fault, keeps its arguments and ends quiescent. -/
theorem frame_kernel : Cert.quiescent_InProj := fun m ρ _ => Cert.InProj.Gen.frame m ρ

/-- The kernel read over the extended reals terminates without fault, keeps its arguments and ends quiescent. -/
theorem frame_ideal : Cert.quiescent_InProjIdeal := fun m ρ _ => Cert.InProjIdeal.Gen.frame m ρ

/-- The reference read over the extended reals terminates without fault, keeps its arguments and ends quiescent. -/
theorem frame_ref : Cert.quiescent_InProjRefIdeal := fun m ρ _ =>
  (θ_run Cert.InProjRefIdeal.defs _ _).mono (fun r h => ⟨fun c => (h c).2.2.2.2.2.2.2.2.2,
      Idealize.ShloMosaic.sem_eq_zero_of_no_sems (by decide) r.2⟩)
    (Cert.InProjRefIdeal.Value.run (F := Ideal) m ρ)

/-- The idealization rewrote no operation. -/
theorem preserves : Cert.preserves_InProj_InProjIdeal := trivial

/-- What a run of the kernel leaves in its result 1. -/
theorem left15 (m : (ℓ : Loc Cert.InProjIdeal.nD Cert.InProjIdeal.τ Cert.InProjIdeal.sig) → Buf (Elt Ideal) ℓ) (r) (h : Pipeline.FramePost Cert.InProjIdeal.cfgs (Cert.InProjIdeal.Gen.dats m) 0 (Cert.InProjIdeal.Gen.V m) r) (c : Dev Cert.InProjIdeal.nD) :
    r.2.mem ((c : Thread Cert.InProjIdeal.nD Cert.InProjIdeal.τ).loc Cert.InProjIdeal.main_v37_1) = (Cert.InProjIdeal.Gen.dats m 0 c).arrAt 15 Cert.InProjIdeal.cfg0.N := (h c).1 15

/-- What a run of the kernel leaves in its result 2. -/
theorem left16 (m : (ℓ : Loc Cert.InProjIdeal.nD Cert.InProjIdeal.τ Cert.InProjIdeal.sig) → Buf (Elt Ideal) ℓ) (r) (h : Pipeline.FramePost Cert.InProjIdeal.cfgs (Cert.InProjIdeal.Gen.dats m) 0 (Cert.InProjIdeal.Gen.V m) r) (c : Dev Cert.InProjIdeal.nD) :
    r.2.mem ((c : Thread Cert.InProjIdeal.nD Cert.InProjIdeal.τ).loc Cert.InProjIdeal.main_v37_2) = (Cert.InProjIdeal.Gen.dats m 0 c).arrAt 16 Cert.InProjIdeal.cfg0.N := (h c).1 16

/-- What a run of the kernel leaves in its result 3. -/
theorem left17 (m : (ℓ : Loc Cert.InProjIdeal.nD Cert.InProjIdeal.τ Cert.InProjIdeal.sig) → Buf (Elt Ideal) ℓ) (r) (h : Pipeline.FramePost Cert.InProjIdeal.cfgs (Cert.InProjIdeal.Gen.dats m) 0 (Cert.InProjIdeal.Gen.V m) r) (c : Dev Cert.InProjIdeal.nD) :
    r.2.mem ((c : Thread Cert.InProjIdeal.nD Cert.InProjIdeal.τ).loc Cert.InProjIdeal.main_v37_3) = (Cert.InProjIdeal.Gen.dats m 0 c).arrAt 17 Cert.InProjIdeal.cfg0.N := (h c).1 17

/-- What a run of the kernel leaves in its result 4. -/
theorem left18 (m : (ℓ : Loc Cert.InProjIdeal.nD Cert.InProjIdeal.τ Cert.InProjIdeal.sig) → Buf (Elt Ideal) ℓ) (r) (h : Pipeline.FramePost Cert.InProjIdeal.cfgs (Cert.InProjIdeal.Gen.dats m) 0 (Cert.InProjIdeal.Gen.V m) r) (c : Dev Cert.InProjIdeal.nD) :
    r.2.mem ((c : Thread Cert.InProjIdeal.nD Cert.InProjIdeal.τ).loc Cert.InProjIdeal.main_v37_4) = (Cert.InProjIdeal.Gen.dats m 0 c).arrAt 18 Cert.InProjIdeal.cfg0.N := (h c).1 18

/-- What a run of the kernel leaves in its result 5. -/
theorem left19 (m : (ℓ : Loc Cert.InProjIdeal.nD Cert.InProjIdeal.τ Cert.InProjIdeal.sig) → Buf (Elt Ideal) ℓ) (r) (h : Pipeline.FramePost Cert.InProjIdeal.cfgs (Cert.InProjIdeal.Gen.dats m) 0 (Cert.InProjIdeal.Gen.V m) r) (c : Dev Cert.InProjIdeal.nD) :
    r.2.mem ((c : Thread Cert.InProjIdeal.nD Cert.InProjIdeal.τ).loc Cert.InProjIdeal.main_v37_5) = (Cert.InProjIdeal.Gen.dats m 0 c).arrAt 19 Cert.InProjIdeal.cfg0.N := (h c).1 19

/-- What a run of the kernel leaves in its result 6. -/
theorem left20 (m : (ℓ : Loc Cert.InProjIdeal.nD Cert.InProjIdeal.τ Cert.InProjIdeal.sig) → Buf (Elt Ideal) ℓ) (r) (h : Pipeline.FramePost Cert.InProjIdeal.cfgs (Cert.InProjIdeal.Gen.dats m) 0 (Cert.InProjIdeal.Gen.V m) r) (c : Dev Cert.InProjIdeal.nD) :
    r.2.mem ((c : Thread Cert.InProjIdeal.nD Cert.InProjIdeal.τ).loc Cert.InProjIdeal.main_v37_6) = (Cert.InProjIdeal.Gen.dats m 0 c).arrAt 20 Cert.InProjIdeal.cfg0.N := (h c).1 20

/-- What a run of the kernel leaves in its result 7. -/
theorem left21 (m : (ℓ : Loc Cert.InProjIdeal.nD Cert.InProjIdeal.τ Cert.InProjIdeal.sig) → Buf (Elt Ideal) ℓ) (r) (h : Pipeline.FramePost Cert.InProjIdeal.cfgs (Cert.InProjIdeal.Gen.dats m) 0 (Cert.InProjIdeal.Gen.V m) r) (c : Dev Cert.InProjIdeal.nD) :
    r.2.mem ((c : Thread Cert.InProjIdeal.nD Cert.InProjIdeal.τ).loc Cert.InProjIdeal.main_v37_7) = (Cert.InProjIdeal.Gen.dats m 0 c).arrAt 21 Cert.InProjIdeal.cfg0.N := (h c).1 21

/-- What a run of the kernel leaves in its result 8. -/
theorem left22 (m : (ℓ : Loc Cert.InProjIdeal.nD Cert.InProjIdeal.τ Cert.InProjIdeal.sig) → Buf (Elt Ideal) ℓ) (r) (h : Pipeline.FramePost Cert.InProjIdeal.cfgs (Cert.InProjIdeal.Gen.dats m) 0 (Cert.InProjIdeal.Gen.V m) r) (c : Dev Cert.InProjIdeal.nD) :
    r.2.mem ((c : Thread Cert.InProjIdeal.nD Cert.InProjIdeal.τ).loc Cert.InProjIdeal.main_v37_8) = (Cert.InProjIdeal.Gen.dats m 0 c).arrAt 22 Cert.InProjIdeal.cfg0.N := (h c).1 22

/-- What a run of the kernel leaves in its result 9. -/
theorem left23 (m : (ℓ : Loc Cert.InProjIdeal.nD Cert.InProjIdeal.τ Cert.InProjIdeal.sig) → Buf (Elt Ideal) ℓ) (r) (h : Pipeline.FramePost Cert.InProjIdeal.cfgs (Cert.InProjIdeal.Gen.dats m) 0 (Cert.InProjIdeal.Gen.V m) r) (c : Dev Cert.InProjIdeal.nD) :
    r.2.mem ((c : Thread Cert.InProjIdeal.nD Cert.InProjIdeal.τ).loc Cert.InProjIdeal.main_v37_9) = (Cert.InProjIdeal.Gen.dats m 0 c).arrAt 23 Cert.InProjIdeal.cfg0.N := (h c).1 23

/-- What a run of the kernel leaves in its nine results. -/
theorem nine (m : (ℓ : Loc Cert.InProjIdeal.nD Cert.InProjIdeal.τ Cert.InProjIdeal.sig) → Buf (Elt Ideal) ℓ) (ρ : Dev Cert.InProjIdeal.nD → PrngReg) :
    θ_run (Cert.InProjIdeal.defs (F := Ideal)) (onTc (τ := Cert.InProjIdeal.τ) (Cert.InProjIdeal.main (F := Ideal))) ⟨m, fun _ => 0, ρ⟩ (fun r => ∀ c : Dev Cert.InProjIdeal.nD,
      r.2.mem ((c : Thread Cert.InProjIdeal.nD Cert.InProjIdeal.τ).loc Cert.InProjIdeal.main_v37_1) = (Cert.InProjIdeal.Gen.dats m 0 c).arrAt 15 Cert.InProjIdeal.cfg0.N
      ∧ r.2.mem ((c : Thread Cert.InProjIdeal.nD Cert.InProjIdeal.τ).loc Cert.InProjIdeal.main_v37_2) = (Cert.InProjIdeal.Gen.dats m 0 c).arrAt 16 Cert.InProjIdeal.cfg0.N
      ∧ r.2.mem ((c : Thread Cert.InProjIdeal.nD Cert.InProjIdeal.τ).loc Cert.InProjIdeal.main_v37_3) = (Cert.InProjIdeal.Gen.dats m 0 c).arrAt 17 Cert.InProjIdeal.cfg0.N
      ∧ r.2.mem ((c : Thread Cert.InProjIdeal.nD Cert.InProjIdeal.τ).loc Cert.InProjIdeal.main_v37_4) = (Cert.InProjIdeal.Gen.dats m 0 c).arrAt 18 Cert.InProjIdeal.cfg0.N
      ∧ r.2.mem ((c : Thread Cert.InProjIdeal.nD Cert.InProjIdeal.τ).loc Cert.InProjIdeal.main_v37_5) = (Cert.InProjIdeal.Gen.dats m 0 c).arrAt 19 Cert.InProjIdeal.cfg0.N
      ∧ r.2.mem ((c : Thread Cert.InProjIdeal.nD Cert.InProjIdeal.τ).loc Cert.InProjIdeal.main_v37_6) = (Cert.InProjIdeal.Gen.dats m 0 c).arrAt 20 Cert.InProjIdeal.cfg0.N
      ∧ r.2.mem ((c : Thread Cert.InProjIdeal.nD Cert.InProjIdeal.τ).loc Cert.InProjIdeal.main_v37_7) = (Cert.InProjIdeal.Gen.dats m 0 c).arrAt 21 Cert.InProjIdeal.cfg0.N
      ∧ r.2.mem ((c : Thread Cert.InProjIdeal.nD Cert.InProjIdeal.τ).loc Cert.InProjIdeal.main_v37_8) = (Cert.InProjIdeal.Gen.dats m 0 c).arrAt 22 Cert.InProjIdeal.cfg0.N
      ∧ r.2.mem ((c : Thread Cert.InProjIdeal.nD Cert.InProjIdeal.τ).loc Cert.InProjIdeal.main_v37_9) = (Cert.InProjIdeal.Gen.dats m 0 c).arrAt 23 Cert.InProjIdeal.cfg0.N) :=
  (θ_run Cert.InProjIdeal.defs _ _).mono (fun r h c => ⟨left15 m r h c, left16 m r h c, left17 m r h c, left18 m r h c, left19 m r h c, left20 m r h c, left21 m r h c, left22 m r h c, left23 m r h c⟩) (Cert.InProjIdeal.Gen.run_main (F := Ideal) m ρ)

/-- From arguments that agree, the kernel and the reference end with the same nine result arrays over the extended reals. -/
theorem algebraic : Cert.algebraic_InProjIdeal_InProjRefIdeal := by
  intro m ρ m' ρ' _ hagree
  refine ⟨fun c => (Cert.InProjIdeal.Gen.dats m 0 c).arrAt 15 Cert.InProjIdeal.cfg0.N, fun c => (Cert.InProjIdeal.Gen.dats m 0 c).arrAt 16 Cert.InProjIdeal.cfg0.N, fun c => (Cert.InProjIdeal.Gen.dats m 0 c).arrAt 17 Cert.InProjIdeal.cfg0.N, fun c => (Cert.InProjIdeal.Gen.dats m 0 c).arrAt 18 Cert.InProjIdeal.cfg0.N, fun c => (Cert.InProjIdeal.Gen.dats m 0 c).arrAt 19 Cert.InProjIdeal.cfg0.N, fun c => (Cert.InProjIdeal.Gen.dats m 0 c).arrAt 20 Cert.InProjIdeal.cfg0.N, fun c => (Cert.InProjIdeal.Gen.dats m 0 c).arrAt 21 Cert.InProjIdeal.cfg0.N, fun c => (Cert.InProjIdeal.Gen.dats m 0 c).arrAt 22 Cert.InProjIdeal.cfg0.N, fun c => (Cert.InProjIdeal.Gen.dats m 0 c).arrAt 23 Cert.InProjIdeal.cfg0.N, ?_, ?_⟩
  · exact (θ_run Cert.InProjIdeal.defs _ _).mono (fun r h c => ⟨(h.1 c).1, (h.1 c).2.1, (h.1 c).2.2.1, (h.1 c).2.2.2.1, (h.1 c).2.2.2.2.1, (h.1 c).2.2.2.2.2.1, (h.1 c).2.2.2.2.2.2.1, (h.1 c).2.2.2.2.2.2.2.1, (h.1 c).2.2.2.2.2.2.2.2, h.2 c⟩)
      (θ_run_and (nine m ρ) (Cert.InProjIdeal.Gen.unchanged (F := Ideal) m ρ))
  · have e0 : ∀ c : Dev Cert.InProjIdeal.nD, Cert.InProjRefIdeal.RefValue.REF0 (m' ((c.tc : Thread Cert.InProjRefIdeal.nD Cert.InProjRefIdeal.τ).loc Cert.InProjRefIdeal.main_arg0)) (m' ((c.tc : Thread Cert.InProjRefIdeal.nD Cert.InProjRefIdeal.τ).loc Cert.InProjRefIdeal.main_arg1)) (m' ((c.tc : Thread Cert.InProjRefIdeal.nD Cert.InProjRefIdeal.τ).loc Cert.InProjRefIdeal.main_arg2))
        = (Cert.InProjIdeal.Gen.dats m 0 c).arrAt 15 Cert.InProjIdeal.cfg0.N := fun c => by
      rw [(hagree c).1, (hagree c).2.1, (hagree c).2.2.1]
      exact (Cert.InProjIdeal.RefValue.final15 m c).symm
    have e1 : ∀ c : Dev Cert.InProjIdeal.nD, Cert.InProjRefIdeal.RefValue.REF1 (m' ((c.tc : Thread Cert.InProjRefIdeal.nD Cert.InProjRefIdeal.τ).loc Cert.InProjRefIdeal.main_arg0)) (m' ((c.tc : Thread Cert.InProjRefIdeal.nD Cert.InProjRefIdeal.τ).loc Cert.InProjRefIdeal.main_arg1)) (m' ((c.tc : Thread Cert.InProjRefIdeal.nD Cert.InProjRefIdeal.τ).loc Cert.InProjRefIdeal.main_arg3)) (m' ((c.tc : Thread Cert.InProjRefIdeal.nD Cert.InProjRefIdeal.τ).loc Cert.InProjRefIdeal.main_arg6)) (m' ((c.tc : Thread Cert.InProjRefIdeal.nD Cert.InProjRefIdeal.τ).loc Cert.InProjRefIdeal.main_arg7))
        = (Cert.InProjIdeal.Gen.dats m 0 c).arrAt 16 Cert.InProjIdeal.cfg0.N := fun c => by
      rw [(hagree c).1, (hagree c).2.1, (hagree c).2.2.2.1, (hagree c).2.2.2.2.2.2.1, (hagree c).2.2.2.2.2.2.2.1]
      exact (Cert.InProjIdeal.RefValue.final16 m c).symm
    have e2 : ∀ c : Dev Cert.InProjIdeal.nD, Cert.InProjRefIdeal.RefValue.REF2 (m' ((c.tc : Thread Cert.InProjRefIdeal.nD Cert.InProjRefIdeal.τ).loc Cert.InProjRefIdeal.main_arg0)) (m' ((c.tc : Thread Cert.InProjRefIdeal.nD Cert.InProjRefIdeal.τ).loc Cert.InProjRefIdeal.main_arg1)) (m' ((c.tc : Thread Cert.InProjRefIdeal.nD Cert.InProjRefIdeal.τ).loc Cert.InProjRefIdeal.main_arg3)) (m' ((c.tc : Thread Cert.InProjRefIdeal.nD Cert.InProjRefIdeal.τ).loc Cert.InProjRefIdeal.main_arg6)) (m' ((c.tc : Thread Cert.InProjRefIdeal.nD Cert.InProjRefIdeal.τ).loc Cert.InProjRefIdeal.main_arg7))
        = (Cert.InProjIdeal.Gen.dats m 0 c).arrAt 17 Cert.InProjIdeal.cfg0.N := fun c => by
      rw [(hagree c).1, (hagree c).2.1, (hagree c).2.2.2.1, (hagree c).2.2.2.2.2.2.1, (hagree c).2.2.2.2.2.2.2.1]
      exact (Cert.InProjIdeal.RefValue.final17 m c).symm
    have e3 : ∀ c : Dev Cert.InProjIdeal.nD, Cert.InProjRefIdeal.RefValue.REF3 (m' ((c.tc : Thread Cert.InProjRefIdeal.nD Cert.InProjRefIdeal.τ).loc Cert.InProjRefIdeal.main_arg0)) (m' ((c.tc : Thread Cert.InProjRefIdeal.nD Cert.InProjRefIdeal.τ).loc Cert.InProjRefIdeal.main_arg1)) (m' ((c.tc : Thread Cert.InProjRefIdeal.nD Cert.InProjRefIdeal.τ).loc Cert.InProjRefIdeal.main_arg4)) (m' ((c.tc : Thread Cert.InProjRefIdeal.nD Cert.InProjRefIdeal.τ).loc Cert.InProjRefIdeal.main_arg8))
        = (Cert.InProjIdeal.Gen.dats m 0 c).arrAt 18 Cert.InProjIdeal.cfg0.N := fun c => by
      rw [(hagree c).1, (hagree c).2.1, (hagree c).2.2.2.2.1, (hagree c).2.2.2.2.2.2.2.2.1]
      exact (Cert.InProjIdeal.RefValue.final18 m c).symm
    have e4 : ∀ c : Dev Cert.InProjIdeal.nD, Cert.InProjRefIdeal.RefValue.REF4 (m' ((c.tc : Thread Cert.InProjRefIdeal.nD Cert.InProjRefIdeal.τ).loc Cert.InProjRefIdeal.main_arg0)) (m' ((c.tc : Thread Cert.InProjRefIdeal.nD Cert.InProjRefIdeal.τ).loc Cert.InProjRefIdeal.main_arg1)) (m' ((c.tc : Thread Cert.InProjRefIdeal.nD Cert.InProjRefIdeal.τ).loc Cert.InProjRefIdeal.main_arg4)) (m' ((c.tc : Thread Cert.InProjRefIdeal.nD Cert.InProjRefIdeal.τ).loc Cert.InProjRefIdeal.main_arg9))
        = (Cert.InProjIdeal.Gen.dats m 0 c).arrAt 19 Cert.InProjIdeal.cfg0.N := fun c => by
      rw [(hagree c).1, (hagree c).2.1, (hagree c).2.2.2.2.1, (hagree c).2.2.2.2.2.2.2.2.2.1]
      exact (Cert.InProjIdeal.RefValue.final19 m c).symm
    have e5 : ∀ c : Dev Cert.InProjIdeal.nD, Cert.InProjRefIdeal.RefValue.REF5 (m' ((c.tc : Thread Cert.InProjRefIdeal.nD Cert.InProjRefIdeal.τ).loc Cert.InProjRefIdeal.main_arg0)) (m' ((c.tc : Thread Cert.InProjRefIdeal.nD Cert.InProjRefIdeal.τ).loc Cert.InProjRefIdeal.main_arg1)) (m' ((c.tc : Thread Cert.InProjRefIdeal.nD Cert.InProjRefIdeal.τ).loc Cert.InProjRefIdeal.main_arg4))
        = (Cert.InProjIdeal.Gen.dats m 0 c).arrAt 20 Cert.InProjIdeal.cfg0.N := fun c => by
      rw [(hagree c).1, (hagree c).2.1, (hagree c).2.2.2.2.1]
      exact (Cert.InProjIdeal.RefValue.final20 m c).symm
    have e6 : ∀ c : Dev Cert.InProjIdeal.nD, Cert.InProjRefIdeal.RefValue.REF6 (m' ((c.tc : Thread Cert.InProjRefIdeal.nD Cert.InProjRefIdeal.τ).loc Cert.InProjRefIdeal.main_arg0)) (m' ((c.tc : Thread Cert.InProjRefIdeal.nD Cert.InProjRefIdeal.τ).loc Cert.InProjRefIdeal.main_arg1)) (m' ((c.tc : Thread Cert.InProjRefIdeal.nD Cert.InProjRefIdeal.τ).loc Cert.InProjRefIdeal.main_arg4))
        = (Cert.InProjIdeal.Gen.dats m 0 c).arrAt 21 Cert.InProjIdeal.cfg0.N := fun c => by
      rw [(hagree c).1, (hagree c).2.1, (hagree c).2.2.2.2.1]
      exact (Cert.InProjIdeal.RefValue.final21 m c).symm
    have e7 : ∀ c : Dev Cert.InProjIdeal.nD, Cert.InProjRefIdeal.RefValue.REF7 (m' ((c.tc : Thread Cert.InProjRefIdeal.nD Cert.InProjRefIdeal.τ).loc Cert.InProjRefIdeal.main_arg0)) (m' ((c.tc : Thread Cert.InProjRefIdeal.nD Cert.InProjRefIdeal.τ).loc Cert.InProjRefIdeal.main_arg1)) (m' ((c.tc : Thread Cert.InProjRefIdeal.nD Cert.InProjRefIdeal.τ).loc Cert.InProjRefIdeal.main_arg4)) (m' ((c.tc : Thread Cert.InProjRefIdeal.nD Cert.InProjRefIdeal.τ).loc Cert.InProjRefIdeal.main_arg10))
        = (Cert.InProjIdeal.Gen.dats m 0 c).arrAt 22 Cert.InProjIdeal.cfg0.N := fun c => by
      rw [(hagree c).1, (hagree c).2.1, (hagree c).2.2.2.2.1, (hagree c).2.2.2.2.2.2.2.2.2.2]
      exact (Cert.InProjIdeal.RefValue.final22 m c).symm
    have e8 : ∀ c : Dev Cert.InProjIdeal.nD, Cert.InProjRefIdeal.RefValue.REF8 (m' ((c.tc : Thread Cert.InProjRefIdeal.nD Cert.InProjRefIdeal.τ).loc Cert.InProjRefIdeal.main_arg0)) (m' ((c.tc : Thread Cert.InProjRefIdeal.nD Cert.InProjRefIdeal.τ).loc Cert.InProjRefIdeal.main_arg1)) (m' ((c.tc : Thread Cert.InProjRefIdeal.nD Cert.InProjRefIdeal.τ).loc Cert.InProjRefIdeal.main_arg4))
        = (Cert.InProjIdeal.Gen.dats m 0 c).arrAt 23 Cert.InProjIdeal.cfg0.N := fun c => by
      rw [(hagree c).1, (hagree c).2.1, (hagree c).2.2.2.2.1]
      exact (Cert.InProjIdeal.RefValue.final23 m c).symm
    refine (θ_run Cert.InProjRefIdeal.defs _ _).mono (fun _ h c => ?_) (Cert.InProjRefIdeal.RefValue.run_ref m' ρ')
    obtain ⟨h0, h1, h2, h3, h4, h5, h6, h7, h8, hr⟩ := h c
    exact ⟨h0.trans (e0 c), h1.trans (e1 c), h2.trans (e2 c), h3.trans (e3 c), h4.trans (e4 c), h5.trans (e5 c), h6.trans (e6 c), h7.trans (e7 c), h8.trans (e8 c), hr⟩

end Cert.Proof.InProjClaims

end
-- ==== Proof.MemProjBlocks.lean ====
/-
  The memory's keys and values: what one grid point's blocks are, as rows of the argument arrays, and what the kernel's
  two result arrays hold after the run.
-/
module

public import proofs.«01_k».proof.Proof.Gen.MemProjIdeal.Value
public import proofs.«01_k».proof.Proof.Gen.MemProjRefIdeal.Run
public import proofs.«01_k».proof.Proof.Sums

@[expose] public section

set_option maxRecDepth 16384

noncomputable section

namespace Cert.MemProjRefIdeal.RefValue

open Cert.MemProjRefIdeal Cert.MemProjRefIdeal.Gen Idealize.ShloMosaic

/-- The reference's result 0 as one term of its arguments. -/
abbrev REF0 (a0 : FVec Ideal S2048x2048 .f32) (a1 : FVec Ideal S1x2048 .f32) (a2 : FVec Ideal S2048x1024 .bf16) (a3 : FVec Ideal S1x512 .f32) : FVec Ideal S2048x512 .bf16 :=
  truncf .bf16 (shapeCast _ (mulf (mulf (shapeCast _ (extractStridedSlice S2048x512 ![0, 0] (Host.dotGeneral dot_S2048x2048_S2048x1024_S2048x1024_1_0_0_1_n_n none (mulf (mulf a0 (broadcastInDim S2048x2048 ![0, 1] bcast_S2048x1_S2048x2048_0_1 (Host.rsqrt (addf (Host.divf (broadcastInDim S2048x1 ![0] bcast_S2048_S2048x1_0 (Host.reduceAdd (mulf a0 a0) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 a1)) (extf .f32 a2 bitsLt_bf16_f32)) slices_S2048x1024_S2048x512_0_0) shapeCasts_S2048x512_S2048x4x128) (broadcastInDim S2048x4x128 ![0, 1, 2] bcast_S2048x4x1_S2048x4x128_0_1_2 (Host.rsqrt (addf (Host.divf (broadcastInDim S2048x4x1 ![0, 1] bcast_S2048x4_S2048x4x1_0_1 (Host.reduceAdd (mulf (shapeCast _ (extractStridedSlice S2048x512 ![0, 0] (Host.dotGeneral dot_S2048x2048_S2048x1024_S2048x1024_1_0_0_1_n_n none (mulf (mulf a0 (broadcastInDim S2048x2048 ![0, 1] bcast_S2048x1_S2048x2048_0_1 (Host.rsqrt (addf (Host.divf (broadcastInDim S2048x1 ![0] bcast_S2048_S2048x1_0 (Host.reduceAdd (mulf a0 a0) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 a1)) (extf .f32 a2 bitsLt_bf16_f32)) slices_S2048x1024_S2048x512_0_0) shapeCasts_S2048x512_S2048x4x128) (shapeCast _ (extractStridedSlice S2048x512 ![0, 0] (Host.dotGeneral dot_S2048x2048_S2048x1024_S2048x1024_1_0_0_1_n_n none (mulf (mulf a0 (broadcastInDim S2048x2048 ![0, 1] bcast_S2048x1_S2048x2048_0_1 (Host.rsqrt (addf (Host.divf (broadcastInDim S2048x1 ![0] bcast_S2048_S2048x1_0 (Host.reduceAdd (mulf a0 a0) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 a1)) (extf .f32 a2 bitsLt_bf16_f32)) slices_S2048x1024_S2048x512_0_0) shapeCasts_S2048x512_S2048x4x128)) (constant S_ .f32 0x00000000#32) reducesTo_S2048x4x128_S2048x4_d2 h_S_)) (broadcastInDim S2048x4x1 ![] bcast_S_S2048x4x1 (constant S_ .f32 0x43000000#32))) (broadcastInDim S2048x4x1 ![] bcast_S_S2048x4x1 (constant S_ .f32 0x358637BD#32)))))) (broadcastInDim S2048x4x128 ![0, 1, 2] bcast_S1x4x128_S2048x4x128_0_1_2 (broadcastInDim S1x4x128 ![1, 2] bcast_S4x128_S1x4x128_1_2 (shapeCast _ a3 shapeCasts_S1x512_S4x128)))) shapeCasts_S2048x4x128_S2048x512) bitsLt_bf16_f32

/-- The reference's result 1 as one term of its arguments. -/
abbrev REF1 (a0 : FVec Ideal S2048x2048 .f32) (a1 : FVec Ideal S1x2048 .f32) (a2 : FVec Ideal S2048x1024 .bf16) (a3 : FVec Ideal S1x512 .f32) : FVec Ideal S2048x512 .bf16 :=
  truncf .bf16 (extractStridedSlice S2048x512 ![0, 512] (Host.dotGeneral dot_S2048x2048_S2048x1024_S2048x1024_1_0_0_1_n_n none (mulf (mulf a0 (broadcastInDim S2048x2048 ![0, 1] bcast_S2048x1_S2048x2048_0_1 (Host.rsqrt (addf (Host.divf (broadcastInDim S2048x1 ![0] bcast_S2048_S2048x1_0 (Host.reduceAdd (mulf a0 a0) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 a1)) (extf .f32 a2 bitsLt_bf16_f32)) slices_S2048x1024_S2048x512_0_512) bitsLt_bf16_f32

end Cert.MemProjRefIdeal.RefValue

namespace Cert.MemProjIdeal.RefValue

open Cert.MemProjIdeal Cert.MemProjIdeal.Gen Idealize.ShloMosaic Idealize.ShloMosaic.TcCoe Idealize.SL.Sem
open Idealize.ShloMosaic.Pipeline (Dat)
open Cert.MemProjRefIdeal.RefValue (REF0 REF1)

variable (m : (ℓ : Loc nD τ sig) → Buf (Elt Ideal) ℓ)

/-- Where the seven windows stand at grid point `t`. -/
theorem idx (t : Fin cfg0.N) : win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val, 0] :=
  (by decide +kernel : ∀ t : Fin grid0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val, 0]) t

/-- The fifth operand is the indicator of two columns lying in one head's block of 128. -/
theorem E_apply (c : Dev nD) (t : Fin cfg0.N) (i j : Fin 512) :
    iblk m c 4 t (ix2 i j) = if i.val / 128 = j.val / 128 then (1 : EReal) else 0 := by
  rw [← Cert.Proof.Sums.block_indicator]
  blk_simp [iblk, idx t]
  entry_read
  pointwise
  have e0 : ((((View.whole main_v9).slice (win0_4.rect t)).emb (ix2 i j)) 0).val = i.val := by blk_simp [idx t]
  have e1 : ((((View.whole main_v9).slice (win0_4.rect t)).emb (ix2 i j)) 1).val = j.val := by blk_simp [idx t]
  rw [e0, e1]

/-- The first result array after the run is the reference's normalised keys. -/
theorem final5 (c : Dev nD) : (dats m 0 c).arrAt 5 cfg0.N
    = REF0 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  idx_vars y
  pointwise [k0_pay2, k0_pay1]
  simp only [E_apply]
  rw [Cert.Proof.Sums.sum_block 4 128 rfl _ (y1.val / 128) (by omega)]
  pointwise [REF0]
  rw [Cert.Proof.Sums.div_128]
  blk_point [iblk, V, idx t]

/-- The second result array after the run is the reference's values. -/
theorem final6 (c : Dev nD) : (dats m 0 c).arrAt 6 cfg0.N
    = REF1 (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6]
  frame_out
  idx_vars y
  pointwise [k0_pay3, k0_pay1, REF1]
  blk_point [iblk, V, idx t]

end Cert.MemProjIdeal.RefValue
end
-- ==== Proof.MemProjClaims.lean ====
/-
  The memory's keys and values: the claims about this call, each from the run of its program.
-/
module

public import proofs.«01_k».proof.Defs
public import proofs.«01_k».proof.Proof.Gen.MemProj.Frame
public import proofs.«01_k».proof.Proof.MemProjBlocks
public import Idealize.ShloMosaic.Lib.Quiescent

@[expose] public section

noncomputable section

namespace Cert.Proof.MemProjClaims

open Idealize.ShloMosaic Idealize.ShloMosaic.TcCoe Idealize.SL.Sem

/-- The kernel terminates without fault, keeps its arguments and ends quiescent. -/
theorem frame_kernel : Cert.quiescent_MemProj := fun m ρ _ => Cert.MemProj.Gen.frame m ρ

/-- The kernel read over the extended reals terminates without fault, keeps its arguments and ends quiescent. -/
theorem frame_ideal : Cert.quiescent_MemProjIdeal := fun m ρ _ => Cert.MemProjIdeal.Gen.frame m ρ

/-- The reference read over the extended reals terminates without fault, keeps its arguments and ends quiescent. -/
theorem frame_ref : Cert.quiescent_MemProjRefIdeal := fun m ρ _ =>
  (θ_run Cert.MemProjRefIdeal.defs _ _).mono (fun r h => ⟨fun c => (h c).2.2,
      Idealize.ShloMosaic.sem_eq_zero_of_no_sems (by decide) r.2⟩)
    (Cert.MemProjRefIdeal.Value.run (F := Ideal) m ρ)

/-- The idealization rewrote no operation. -/
theorem preserves : Cert.preserves_MemProj_MemProjIdeal := trivial

/-- From arguments that agree, the kernel and the reference end with the same two result arrays over the extended reals. -/
theorem algebraic : Cert.algebraic_MemProjIdeal_MemProjRefIdeal := by
  intro m ρ m' ρ' _ hagree
  refine ⟨fun c => (Cert.MemProjIdeal.Gen.dats m 0 c).arrAt 5 Cert.MemProjIdeal.cfg0.N,
    fun c => (Cert.MemProjIdeal.Gen.dats m 0 c).arrAt 6 Cert.MemProjIdeal.cfg0.N, ?_, ?_⟩
  · exact Cert.MemProjIdeal.Value.run_blocks (F := Ideal) m ρ
  · refine (θ_run Cert.MemProjRefIdeal.defs _ _).mono (fun _ h c => ⟨(h c).1.trans ?_, (h c).2.1.trans ?_, (h c).2.2⟩)
      (Cert.MemProjRefIdeal.Value.run (F := Ideal) m' ρ')
    · rw [(hagree c).1, (hagree c).2.1, (hagree c).2.2.1, (hagree c).2.2.2]
      exact (Cert.MemProjIdeal.RefValue.final5 m c).symm
    · rw [(hagree c).1, (hagree c).2.1, (hagree c).2.2.1]
      exact (Cert.MemProjIdeal.RefValue.final6 m c).symm

end Cert.Proof.MemProjClaims

end
-- ==== Proof.OutProjBlocks.lean ====
/-
  The output projection: what one grid point's blocks are, as rows of the argument arrays, and what one block of the
  kernel's result computes.
-/
module

public import proofs.«01_k».proof.Proof.Gen.OutProjIdeal.Value
public import proofs.«01_k».proof.Proof.Gen.OutProjRefIdeal.Run
public import Idealize.ShloMosaic.Lib.Pipeline.ValueKit
public import Idealize.ShloMosaic.Lib.Pointwise

@[expose] public section

set_option maxRecDepth 16384

noncomputable section

namespace Cert.OutProjIdeal.RefValue

open Cert.OutProjIdeal Cert.OutProjIdeal.Gen Idealize.ShloMosaic Idealize.ShloMosaic.TcCoe Idealize.SL.Sem
open Idealize.ShloMosaic.Pipeline (Dat)

variable (m : (ℓ : Loc nD τ sig) → Buf (Elt Ideal) ℓ)

/-- The value the reference gives at row `r` and column `l`: the residual entry plus the product of the two halves of
    the row with the weight's column. -/
def outAt (x : S16384x2048.Idx → EReal) (a b : S16384x1024.Idx → EReal) (w : S2048x2048.Idx → EReal)
    (j : S16384x2048.Idx) : EReal :=
  x j + ((∑ k : Fin 1024, a (ix2 (j 0) k) * w (ix2 (⟨k.val, by omega⟩ : Fin 2048) (j 1)))
    + ∑ k : Fin 1024, b (ix2 (j 0) k) * w (ix2 (⟨1024 + k.val, by omega⟩ : Fin 2048) (j 1)))

/-- The reference's composed term is `outAt`. -/
theorem ref_apply (x : S16384x2048.Idx → EReal) (a b : S16384x1024.Idx → EReal) (w : S2048x2048.Idx → EReal) :
    addf (F := Ideal) (s := S16384x2048) (φ := .f32) x (Host.dotGeneral (F := Ideal) Cert.OutProjRefIdeal.dot_S16384x2048_S2048x2048_S16384x2048_1_0_0_1_n_n none
      (concatenate S16384x2048 1 [⟨S16384x1024, (extf (F := Ideal) (φ := .bf16) .f32 a Cert.OutProjRefIdeal.Gen.bitsLt_bf16_f32)⟩, ⟨S16384x1024, (extf (F := Ideal) (φ := .bf16) .f32 b Cert.OutProjRefIdeal.Gen.bitsLt_bf16_f32)⟩]
        Cert.OutProjRefIdeal.Gen.concatenates_S16384x1024_S16384x1024_S16384x2048_d1)
      (extf (F := Ideal) (φ := .bf16) .f32 w Cert.OutProjRefIdeal.Gen.bitsLt_bf16_f32)) = outAt x a b w := by
  funext j
  idx_vars j
  pointwise [outAt]

/-- Where the six windows stand at grid point `t`. -/
theorem idx (t : Fin cfg0.N) : win0_0.index t = ![t.val, 0] ∧ win0_1.index t = ![t.val, 0] ∧ win0_2.index t = ![t.val, 0]
    ∧ win0_3.index t = ![0, 0] ∧ win0_4.index t = ![1, 0] ∧ win0_5.index t = ![t.val, 0] :=
  (by decide +kernel : ∀ t : Fin grid0.N, win0_0.index t = ![t.val, 0] ∧ win0_1.index t = ![t.val, 0] ∧ win0_2.index t = ![t.val, 0]
    ∧ win0_3.index t = ![0, 0] ∧ win0_4.index t = ![1, 0] ∧ win0_5.index t = ![t.val, 0]) t

/-- The result array after the run holds `outAt` of the arguments. -/
theorem final (c : Dev nD) : (dats m 0 c).arrAt 5 cfg0.N
    = outAt (m ((c : Thread nD τ).loc main_arg0)) (m ((c : Thread nD τ).loc main_arg1))
        (m ((c : Thread nD τ).loc main_arg2)) (m ((c : Thread nD τ).loc main_arg3)) := by
  refine (dats m 0 c).arrAt_eq_of_covers 5 _ (by decide +kernel) fun t hf y => ?_
  blk_simp
  rw [after0_5]
  frame_out
  idx_vars y
  pointwise [k0_pay1, outAt]
  rw [add_assoc]
  blk_point [iblk, V, idx t]

end Cert.OutProjIdeal.RefValue
end
-- ==== Proof.OutProjClaims.lean ====
/-
  The output projection: the claims about this call, each from the run of its program.
-/
module

public import proofs.«01_k».proof.Defs
public import proofs.«01_k».proof.Proof.Gen.OutProj.Frame
public import proofs.«01_k».proof.Proof.OutProjBlocks
public import Idealize.ShloMosaic.Lib.Quiescent

@[expose] public section

noncomputable section

namespace Cert.Proof.OutProjClaims

open Idealize.ShloMosaic Idealize.ShloMosaic.TcCoe Idealize.SL.Sem

/-- The kernel terminates without fault, keeps its arguments and ends quiescent. -/
theorem frame_kernel : Cert.quiescent_OutProj := fun m ρ _ => Cert.OutProj.Gen.frame m ρ

/-- The kernel read over the extended reals terminates without fault, keeps its arguments and ends quiescent. -/
theorem frame_ideal : Cert.quiescent_OutProjIdeal := fun m ρ _ => Cert.OutProjIdeal.Gen.frame m ρ

/-- The reference read over the extended reals terminates without fault, keeps its arguments and ends quiescent. -/
theorem frame_ref : Cert.quiescent_OutProjRefIdeal := fun m ρ _ =>
  (θ_run Cert.OutProjRefIdeal.defs _ _).mono (fun r h => ⟨fun c => (h c).2,
      Idealize.ShloMosaic.sem_eq_zero_of_no_sems (by decide) r.2⟩)
    (Cert.OutProjRefIdeal.Value.run (F := Ideal) m ρ)

/-- The idealization rewrote no operation. -/
theorem preserves : Cert.preserves_OutProj_OutProjIdeal := trivial

/-- From arguments that agree, the kernel and the reference end with the same result array over the extended reals. -/
theorem algebraic : Cert.algebraic_OutProjIdeal_OutProjRefIdeal := by
  intro m ρ m' ρ' _ hagree
  refine ⟨fun c => Cert.OutProjIdeal.RefValue.outAt (m ((c.tc : Thread Cert.OutProjIdeal.nD Cert.OutProjIdeal.τ).loc Cert.OutProjIdeal.main_arg0))
      (m ((c.tc : Thread Cert.OutProjIdeal.nD Cert.OutProjIdeal.τ).loc Cert.OutProjIdeal.main_arg1)) (m ((c.tc : Thread Cert.OutProjIdeal.nD Cert.OutProjIdeal.τ).loc Cert.OutProjIdeal.main_arg2))
      (m ((c.tc : Thread Cert.OutProjIdeal.nD Cert.OutProjIdeal.τ).loc Cert.OutProjIdeal.main_arg3)), ?_, ?_⟩
  · exact (θ_run Cert.OutProjIdeal.defs _ _).mono
      (fun _ h c => ⟨(h c).1.trans (Cert.OutProjIdeal.RefValue.final m c), (h c).2⟩)
      (Cert.OutProjIdeal.Value.run_blocks (F := Ideal) m ρ)
  · refine (θ_run Cert.OutProjRefIdeal.defs _ _).mono (fun _ h c => ⟨(h c).1.trans ?_, (h c).2⟩)
      (Cert.OutProjRefIdeal.Value.run (F := Ideal) m' ρ')
    rw [(hagree c).1, (hagree c).2.1, (hagree c).2.2.1, (hagree c).2.2.2]
    exact Cert.OutProjIdeal.RefValue.ref_apply _ _ _ _

end Cert.Proof.OutProjClaims

end
-- ==== Proof.lean ====
/-
  The proof of the certificate: the claims about each call, in the order the certificate states them.
-/
module

public import proofs.«01_k».proof.Defs
public import proofs.«01_k».proof.Proof.Gen.Attn
public import proofs.«01_k».proof.Proof.Gen.AttnIdeal
public import proofs.«01_k».proof.Proof.Gen.AttnRefIdeal
public import proofs.«01_k».proof.Proof.Gen.OutProj
public import proofs.«01_k».proof.Proof.Gen.OutProjIdeal
public import proofs.«01_k».proof.Proof.Gen.OutProjRefIdeal
public import proofs.«01_k».proof.Proof.Gen.MemProj
public import proofs.«01_k».proof.Proof.Gen.MemProjIdeal
public import proofs.«01_k».proof.Proof.Gen.MemProjRefIdeal
public import proofs.«01_k».proof.Proof.Gen.InProj
public import proofs.«01_k».proof.Proof.Gen.InProjIdeal
public import proofs.«01_k».proof.Proof.Gen.InProjRefIdeal
public import proofs.«01_k».proof.Proof.AttnClaims
public import proofs.«01_k».proof.Proof.InProjClaims
public import proofs.«01_k».proof.Proof.MemProjClaims
public import proofs.«01_k».proof.Proof.OutProjClaims
public import Idealize.ShloMosaic.Adequacy
public import Idealize.ShloMosaic.Init

@[expose] public section

noncomputable section

namespace Cert.Proof

/-- Every claim of the certificate holds. -/
theorem claim : Cert.Claim :=
  ⟨Cert.Attn.Gen.facts, Cert.AttnIdeal.Gen.facts, Cert.AttnRefIdeal.Gen.facts, Cert.OutProj.Gen.facts, Cert.OutProjIdeal.Gen.facts, Cert.OutProjRefIdeal.Gen.facts, Cert.MemProj.Gen.facts, Cert.MemProjIdeal.Gen.facts, Cert.MemProjRefIdeal.Gen.facts, Cert.InProj.Gen.facts, Cert.InProjIdeal.Gen.facts, Cert.InProjRefIdeal.Gen.facts, Cert.Pre_finite_logits.Gen.facts,
    AttnClaims.frame_kernel,
    AttnClaims.frame_ideal,
    AttnClaims.frame_ideal_pre,
    AttnClaims.frame_ref,
    AttnClaims.frame_ref_pre,
    OutProjClaims.frame_kernel,
    OutProjClaims.frame_ideal,
    OutProjClaims.frame_ref,
    MemProjClaims.frame_kernel,
    MemProjClaims.frame_ideal,
    MemProjClaims.frame_ref,
    InProjClaims.frame_kernel,
    InProjClaims.frame_ideal,
    InProjClaims.frame_ref,
    AttnClaims.preserves,
    AttnClaims.algebraic,
    OutProjClaims.preserves,
    OutProjClaims.algebraic,
    MemProjClaims.preserves,
    MemProjClaims.algebraic,
    InProjClaims.preserves,
    InProjClaims.algebraic⟩

end Cert.Proof

end
